-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_finite_ffn [hPre_finite_ffn : Cert.Pre_finite_ffn.Facts] (m : (ℓ : Loc Cert.FfnIdeal.nD Cert.FfnIdeal.τ Cert.FfnIdeal.sig) → Buf (Elt Ideal) ℓ) : Prop :=
  ∀ c : Dev Cert.FfnIdeal.nD,
    (Cert.Pre_finite_ffn.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_finite_ffn [hPre_finite_ffn : Cert.Pre_finite_ffn.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_finite_ffn.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_in [hPre_finite_in : Cert.Pre_finite_in.Facts] (m : (ℓ : Loc Cert.InProjIdeal.nD Cert.InProjIdeal.τ Cert.InProjIdeal.sig) → Buf (Elt Ideal) ℓ) : Prop :=
  ∀ c : Dev Cert.InProjIdeal.nD,
    (Cert.Pre_finite_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6)) (m ((c.tc : Thread Cert.InProjIdeal.nD Cert.InProjIdeal.τ).loc Cert.InProjIdeal.main_arg7)) (m ((c.tc : Thread Cert.InProjIdeal.nD Cert.InProjIdeal.τ).loc Cert.InProjIdeal.main_arg8)) (m ((c.tc : Thread Cert.InProjIdeal.nD Cert.InProjIdeal.τ).loc Cert.InProjIdeal.main_arg9)) (m ((c.tc : Thread Cert.InProjIdeal.nD Cert.InProjIdeal.τ).loc Cert.InProjIdeal.main_arg10))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_in [hPre_finite_in : Cert.Pre_finite_in.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_in.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6)) (m ((c.tc : Thread Cert.InProjRefIdeal.nD Cert.InProjRefIdeal.τ).loc Cert.InProjRefIdeal.main_arg7)) (m ((c.tc : Thread Cert.InProjRefIdeal.nD Cert.InProjRefIdeal.τ).loc Cert.InProjRefIdeal.main_arg8)) (m ((c.tc : Thread Cert.InProjRefIdeal.nD Cert.InProjRefIdeal.τ).loc Cert.InProjRefIdeal.main_arg9)) (m ((c.tc : Thread Cert.InProjRefIdeal.nD Cert.InProjRefIdeal.τ).loc Cert.InProjRefIdeal.main_arg10))) = (fun _ => 1#1)

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_InF (m : (ℓ : Loc Cert.InF.nD Cert.InF.τ Cert.InF.sig) → Buf (Elt Bits) ℓ) : Prop :=
  True

def Pre_InFIdeal (m : (ℓ : Loc Cert.InFIdeal.nD Cert.InFIdeal.τ Cert.InFIdeal.sig) → Buf (Elt Ideal) ℓ) : Prop :=
  True

def Pre_InFRefIdeal (m : (ℓ : Loc Cert.InFRefIdeal.nD Cert.InFRefIdeal.τ Cert.InFRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFIdeal_finite_ffn_fwd [hPre_finite_ffn_fwd : Cert.Pre_finite_ffn_fwd.Facts] (m : (ℓ : Loc Cert.FfnFIdeal.nD Cert.FfnFIdeal.τ Cert.FfnFIdeal.sig) → Buf (Elt Ideal) ℓ) : Prop :=
  ∀ c : Dev Cert.FfnFIdeal.nD,
    (Cert.Pre_finite_ffn_fwd.fn (F := Ideal) (m ((c.tc : Thread Cert.FfnFIdeal.nD Cert.FfnFIdeal.τ).loc Cert.FfnFIdeal.main_arg0)) (m ((c.tc : Thread Cert.FfnFIdeal.nD Cert.FfnFIdeal.τ).loc Cert.FfnFIdeal.main_arg1)) (m ((c.tc : Thread Cert.FfnFIdeal.nD Cert.FfnFIdeal.τ).loc Cert.FfnFIdeal.main_arg2)) (m ((c.tc : Thread Cert.FfnFIdeal.nD Cert.FfnFIdeal.τ).loc Cert.FfnFIdeal.main_arg3)) (m ((c.tc : Thread Cert.FfnFIdeal.nD Cert.FfnFIdeal.τ).loc Cert.FfnFIdeal.main_arg4)) (m ((c.tc : Thread Cert.FfnFIdeal.nD Cert.FfnFIdeal.τ).loc Cert.FfnFIdeal.main_arg5)) (m ((c.tc : Thread Cert.FfnFIdeal.nD Cert.FfnFIdeal.τ).loc Cert.FfnFIdeal.main_arg6))) = (fun _ => 1#1)

def Pre_FfnFRefIdeal (m : (ℓ : Loc Cert.FfnFRefIdeal.nD Cert.FfnFRefIdeal.τ Cert.FfnFRefIdeal.sig) → Buf (Elt Ideal) ℓ) : Prop :=
  True

def Pre_FfnFRefIdeal_finite_ffn_fwd [hPre_finite_ffn_fwd : Cert.Pre_finite_ffn_fwd.Facts] (m : (ℓ : Loc Cert.FfnFRefIdeal.nD Cert.FfnFRefIdeal.τ Cert.FfnFRefIdeal.sig) → Buf (Elt Ideal) ℓ) : Prop :=
  ∀ c : Dev Cert.FfnFRefIdeal.nD,
    (Cert.Pre_finite_ffn_fwd.fn (F := Ideal) (m ((c.tc : Thread Cert.FfnFRefIdeal.nD Cert.FfnFRefIdeal.τ).loc Cert.FfnFRefIdeal.main_arg0)) (m ((c.tc : Thread Cert.FfnFRefIdeal.nD Cert.FfnFRefIdeal.τ).loc Cert.FfnFRefIdeal.main_arg1)) (m ((c.tc : Thread Cert.FfnFRefIdeal.nD Cert.FfnFRefIdeal.τ).loc Cert.FfnFRefIdeal.main_arg2)) (m ((c.tc : Thread Cert.FfnFRefIdeal.nD Cert.FfnFRefIdeal.τ).loc Cert.FfnFRefIdeal.main_arg3)) (m ((c.tc : Thread Cert.FfnFRefIdeal.nD Cert.FfnFRefIdeal.τ).loc Cert.FfnFRefIdeal.main_arg4)) (m ((c.tc : Thread Cert.FfnFRefIdeal.nD Cert.FfnFRefIdeal.τ).loc Cert.FfnFRefIdeal.main_arg5)) (m ((c.tc : Thread Cert.FfnFRefIdeal.nD Cert.FfnFRefIdeal.τ).loc Cert.FfnFRefIdeal.main_arg6))) = (fun _ => 1#1)

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DwPair (m : (ℓ : Loc Cert.DwPair.nD Cert.DwPair.τ Cert.DwPair.sig) → Buf (Elt Bits) ℓ) : Prop :=
  True

def Pre_DwPairIdeal (m : (ℓ : Loc Cert.DwPairIdeal.nD Cert.DwPairIdeal.τ Cert.DwPairIdeal.sig) → Buf (Elt Ideal) ℓ) : Prop :=
  True

def Pre_DwPairRefIdeal (m : (ℓ : Loc Cert.DwPairRefIdeal.nD Cert.DwPairRefIdeal.τ Cert.DwPairRefIdeal.sig) → Buf (Elt Ideal) ℓ) : Prop :=
  True

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_finite_ffn [hFfnIdeal : Cert.FfnIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_finite_ffn m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_finite_ffn [hFfnRefIdeal : Cert.FfnRefIdeal.Facts] [hPre_finite_ffn : Cert.Pre_finite_ffn.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_finite_ffn m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9)
      ∧ r.2.mem ((c.tc : Thread Cert.InProj.nD Cert.InProj.τ).loc Cert.InProj.main_arg10) = m ((c.tc : Thread Cert.InProj.nD Cert.InProj.τ).loc Cert.InProj.main_arg10))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjIdeal_pre_finite_in [hInProjIdeal : Cert.InProjIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_InProjRefIdeal_pre_finite_in [hInProjRefIdeal : Cert.InProjRefIdeal.Facts] [hPre_finite_in : Cert.Pre_finite_in.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_in m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7)
      ∧ r.2.mem ((c.tc : Thread Cert.InProjRefIdeal.nD Cert.InProjRefIdeal.τ).loc Cert.InProjRefIdeal.main_arg8) = m ((c.tc : Thread Cert.InProjRefIdeal.nD Cert.InProjRefIdeal.τ).loc Cert.InProjRefIdeal.main_arg8)
      ∧ r.2.mem ((c.tc : Thread Cert.InProjRefIdeal.nD Cert.InProjRefIdeal.τ).loc Cert.InProjRefIdeal.main_arg9) = m ((c.tc : Thread Cert.InProjRefIdeal.nD Cert.InProjRefIdeal.τ).loc Cert.InProjRefIdeal.main_arg9)
      ∧ r.2.mem ((c.tc : Thread Cert.InProjRefIdeal.nD Cert.InProjRefIdeal.τ).loc Cert.InProjRefIdeal.main_arg10) = m ((c.tc : Thread Cert.InProjRefIdeal.nD Cert.InProjRefIdeal.τ).loc Cert.InProjRefIdeal.main_arg10))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1)
      ∧ r.2.mem ((c.tc : Thread Cert.DwGate.nD Cert.DwGate.τ).loc Cert.DwGate.main_arg2) = m ((c.tc : Thread Cert.DwGate.nD Cert.DwGate.τ).loc Cert.DwGate.main_arg2))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
      ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1)
      ∧ r.2.mem ((c.tc : Thread Cert.DwGateRefIdeal.nD Cert.DwGateRefIdeal.τ).loc Cert.DwGateRefIdeal.main_arg2) = m ((c.tc : Thread Cert.DwGateRefIdeal.nD Cert.DwGateRefIdeal.τ).loc Cert.DwGateRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_InF [hInF : Cert.InF.Facts] : Prop :=
  ∀ (m : (ℓ : Loc Cert.InF.nD Cert.InF.τ Cert.InF.sig) → Buf (Elt Bits) ℓ) (g : Dev Cert.InF.nD → PrngReg), Pre_InF m →
    θ_run (Cert.InF.defs (F := Bits)) (onTc (τ := Cert.InF.τ) (Cert.InF.main (F := Bits))) ⟨m, fun _ => 0, g⟩ (fun r => (∀ c : Dev Cert.InF.nD,
      r.2.mem ((c.tc : Thread Cert.InF.nD Cert.InF.τ).loc Cert.InF.main_arg0) = m ((c.tc : Thread Cert.InF.nD Cert.InF.τ).loc Cert.InF.main_arg0)
      ∧ r.2.mem ((c.tc : Thread Cert.InF.nD Cert.InF.τ).loc Cert.InF.main_arg1) = m ((c.tc : Thread Cert.InF.nD Cert.InF.τ).loc Cert.InF.main_arg1)
      ∧ r.2.mem ((c.tc : Thread Cert.InF.nD Cert.InF.τ).loc Cert.InF.main_arg2) = m ((c.tc : Thread Cert.InF.nD Cert.InF.τ).loc Cert.InF.main_arg2))
      ∧ r.2.sem = fun _ => 0)

def quiescent_InFIdeal [hInFIdeal : Cert.InFIdeal.Facts] : Prop :=
  ∀ (m : (ℓ : Loc Cert.InFIdeal.nD Cert.InFIdeal.τ Cert.InFIdeal.sig) → Buf (Elt Ideal) ℓ) (g : Dev Cert.InFIdeal.nD → PrngReg), Pre_InFIdeal m →
    θ_run (Cert.InFIdeal.defs (F := Ideal)) (onTc (τ := Cert.InFIdeal.τ) (Cert.InFIdeal.main (F := Ideal))) ⟨m, fun _ => 0, g⟩ (fun r => (∀ c : Dev Cert.InFIdeal.nD,
      r.2.mem ((c.tc : Thread Cert.InFIdeal.nD Cert.InFIdeal.τ).loc Cert.InFIdeal.main_arg0) = m ((c.tc : Thread Cert.InFIdeal.nD Cert.InFIdeal.τ).loc Cert.InFIdeal.main_arg0)
      ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
      ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ r.2.sem = fun _ => 0)

def quiescent_InFRefIdeal [hInFRefIdeal : Cert.InFRefIdeal.Facts] : Prop :=
  ∀ (m : (ℓ : Loc Cert.InFRefIdeal.nD Cert.InFRefIdeal.τ Cert.InFRefIdeal.sig) → Buf (Elt Ideal) ℓ) (g : Dev Cert.InFRefIdeal.nD → PrngReg), Pre_InFRefIdeal m →
    θ_run (Cert.InFRefIdeal.defs (F := Ideal)) (onTc (τ := Cert.InFRefIdeal.τ) (Cert.InFRefIdeal.main (F := Ideal))) ⟨m, fun _ => 0, g⟩ (fun r => (∀ c : Dev Cert.InFRefIdeal.nD,
      r.2.mem ((c.tc : Thread Cert.InFRefIdeal.nD Cert.InFRefIdeal.τ).loc Cert.InFRefIdeal.main_arg0) = m ((c.tc : Thread Cert.InFRefIdeal.nD Cert.InFRefIdeal.τ).loc Cert.InFRefIdeal.main_arg0)
      ∧ r.2.mem ((c.tc : Thread Cert.InFRefIdeal.nD Cert.InFRefIdeal.τ).loc Cert.InFRefIdeal.main_arg1) = m ((c.tc : Thread Cert.InFRefIdeal.nD Cert.InFRefIdeal.τ).loc Cert.InFRefIdeal.main_arg1)
      ∧ r.2.mem ((c.tc : Thread Cert.InFRefIdeal.nD Cert.InFRefIdeal.τ).loc Cert.InFRefIdeal.main_arg2) = m ((c.tc : Thread Cert.InFRefIdeal.nD Cert.InFRefIdeal.τ).loc Cert.InFRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6)
      ∧ r.2.mem ((c.tc : Thread Cert.MixOut.nD Cert.MixOut.τ).loc Cert.MixOut.main_arg7) = m ((c.tc : Thread Cert.MixOut.nD Cert.MixOut.τ).loc Cert.MixOut.main_arg7)
      ∧ r.2.mem ((c.tc : Thread Cert.MixOut.nD Cert.MixOut.τ).loc Cert.MixOut.main_arg8) = m ((c.tc : Thread Cert.MixOut.nD Cert.MixOut.τ).loc Cert.MixOut.main_arg8))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
      ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
      ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6)
      ∧ r.2.mem ((c.tc : Thread Cert.MixOutRefIdeal.nD Cert.MixOutRefIdeal.τ).loc Cert.MixOutRefIdeal.main_arg7) = m ((c.tc : Thread Cert.MixOutRefIdeal.nD Cert.MixOutRefIdeal.τ).loc Cert.MixOutRefIdeal.main_arg7)
      ∧ r.2.mem ((c.tc : Thread Cert.MixOutRefIdeal.nD Cert.MixOutRefIdeal.τ).loc Cert.MixOutRefIdeal.main_arg8) = m ((c.tc : Thread Cert.MixOutRefIdeal.nD Cert.MixOutRefIdeal.τ).loc Cert.MixOutRefIdeal.main_arg8))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2)
      ∧ r.2.mem ((c.tc : Thread Cert.FfnF.nD Cert.FfnF.τ).loc Cert.FfnF.main_arg3) = m ((c.tc : Thread Cert.FfnF.nD Cert.FfnF.τ).loc Cert.FfnF.main_arg3)
      ∧ r.2.mem ((c.tc : Thread Cert.FfnF.nD Cert.FfnF.τ).loc Cert.FfnF.main_arg4) = m ((c.tc : Thread Cert.FfnF.nD Cert.FfnF.τ).loc Cert.FfnF.main_arg4)
      ∧ r.2.mem ((c.tc : Thread Cert.FfnF.nD Cert.FfnF.τ).loc Cert.FfnF.main_arg5) = m ((c.tc : Thread Cert.FfnF.nD Cert.FfnF.τ).loc Cert.FfnF.main_arg5)
      ∧ r.2.mem ((c.tc : Thread Cert.FfnF.nD Cert.FfnF.τ).loc Cert.FfnF.main_arg6) = m ((c.tc : Thread Cert.FfnF.nD Cert.FfnF.τ).loc Cert.FfnF.main_arg6))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4)
      ∧ r.2.mem ((c.tc : Thread Cert.FfnFIdeal.nD Cert.FfnFIdeal.τ).loc Cert.FfnFIdeal.main_arg5) = m ((c.tc : Thread Cert.FfnFIdeal.nD Cert.FfnFIdeal.τ).loc Cert.FfnFIdeal.main_arg5)
      ∧ r.2.mem ((c.tc : Thread Cert.FfnFIdeal.nD Cert.FfnFIdeal.τ).loc Cert.FfnFIdeal.main_arg6) = m ((c.tc : Thread Cert.FfnFIdeal.nD Cert.FfnFIdeal.τ).loc Cert.FfnFIdeal.main_arg6))
      ∧ r.2.sem = fun _ => 0)

def quiescent_FfnFIdeal_pre_finite_ffn_fwd [hFfnFIdeal : Cert.FfnFIdeal.Facts] [hPre_finite_ffn_fwd : Cert.Pre_finite_ffn_fwd.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal_finite_ffn_fwd m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
      ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4)
      ∧ r.2.mem ((c.tc : Thread Cert.FfnFIdeal.nD Cert.FfnFIdeal.τ).loc Cert.FfnFIdeal.main_arg5) = m ((c.tc : Thread Cert.FfnFIdeal.nD Cert.FfnFIdeal.τ).loc Cert.FfnFIdeal.main_arg5)
      ∧ r.2.mem ((c.tc : Thread Cert.FfnFIdeal.nD Cert.FfnFIdeal.τ).loc Cert.FfnFIdeal.main_arg6) = m ((c.tc : Thread Cert.FfnFIdeal.nD Cert.FfnFIdeal.τ).loc Cert.FfnFIdeal.main_arg6))
      ∧ r.2.sem = fun _ => 0)

def quiescent_FfnFRefIdeal [hFfnFRefIdeal : Cert.FfnFRefIdeal.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3)
      ∧ r.2.mem ((c.tc : Thread Cert.FfnFRefIdeal.nD Cert.FfnFRefIdeal.τ).loc Cert.FfnFRefIdeal.main_arg4) = m ((c.tc : Thread Cert.FfnFRefIdeal.nD Cert.FfnFRefIdeal.τ).loc Cert.FfnFRefIdeal.main_arg4)
      ∧ r.2.mem ((c.tc : Thread Cert.FfnFRefIdeal.nD Cert.FfnFRefIdeal.τ).loc Cert.FfnFRefIdeal.main_arg5) = m ((c.tc : Thread Cert.FfnFRefIdeal.nD Cert.FfnFRefIdeal.τ).loc Cert.FfnFRefIdeal.main_arg5)
      ∧ r.2.mem ((c.tc : Thread Cert.FfnFRefIdeal.nD Cert.FfnFRefIdeal.τ).loc Cert.FfnFRefIdeal.main_arg6) = m ((c.tc : Thread Cert.FfnFRefIdeal.nD Cert.FfnFRefIdeal.τ).loc Cert.FfnFRefIdeal.main_arg6))
      ∧ r.2.sem = fun _ => 0)

def quiescent_FfnFRefIdeal_pre_finite_ffn_fwd [hFfnFRefIdeal : Cert.FfnFRefIdeal.Facts] [hPre_finite_ffn_fwd : Cert.Pre_finite_ffn_fwd.Facts] : Prop :=
  ∀ (m : (ℓ : Loc Cert.FfnFRefIdeal.nD Cert.FfnFRefIdeal.τ Cert.FfnFRefIdeal.sig) → Buf (Elt Ideal) ℓ) (g : Dev Cert.FfnFRefIdeal.nD → PrngReg), Pre_FfnFRefIdeal_finite_ffn_fwd m →
    θ_run (Cert.FfnFRefIdeal.defs (F := Ideal)) (onTc (τ := Cert.FfnFRefIdeal.τ) (Cert.FfnFRefIdeal.main (F := Ideal))) ⟨m, fun _ => 0, g⟩ (fun r => (∀ c : Dev Cert.FfnFRefIdeal.nD,
      r.2.mem ((c.tc : Thread Cert.FfnFRefIdeal.nD Cert.FfnFRefIdeal.τ).loc Cert.FfnFRefIdeal.main_arg0) = m ((c.tc : Thread Cert.FfnFRefIdeal.nD Cert.FfnFRefIdeal.τ).loc Cert.FfnFRefIdeal.main_arg0)
      ∧ r.2.mem ((c.tc : Thread Cert.FfnFRefIdeal.nD Cert.FfnFRefIdeal.τ).loc Cert.FfnFRefIdeal.main_arg1) = m ((c.tc : Thread Cert.FfnFRefIdeal.nD Cert.FfnFRefIdeal.τ).loc Cert.FfnFRefIdeal.main_arg1)
      ∧ r.2.mem ((c.tc : Thread Cert.FfnFRefIdeal.nD Cert.FfnFRefIdeal.τ).loc Cert.FfnFRefIdeal.main_arg2) = m ((c.tc : Thread Cert.FfnFRefIdeal.nD Cert.FfnFRefIdeal.τ).loc Cert.FfnFRefIdeal.main_arg2)
      ∧ r.2.mem ((c.tc : Thread Cert.FfnFRefIdeal.nD Cert.FfnFRefIdeal.τ).loc Cert.FfnFRefIdeal.main_arg3) = m ((c.tc : Thread Cert.FfnFRefIdeal.nD Cert.FfnFRefIdeal.τ).loc Cert.FfnFRefIdeal.main_arg3)
      ∧ r.2.mem ((c.tc : Thread Cert.FfnFRefIdeal.nD Cert.FfnFRefIdeal.τ).loc Cert.FfnFRefIdeal.main_arg4) = m ((c.tc : Thread Cert.FfnFRefIdeal.nD Cert.FfnFRefIdeal.τ).loc Cert.FfnFRefIdeal.main_arg4)
      ∧ r.2.mem ((c.tc : Thread Cert.FfnFRefIdeal.nD Cert.FfnFRefIdeal.τ).loc Cert.FfnFRefIdeal.main_arg5) = m ((c.tc : Thread Cert.FfnFRefIdeal.nD Cert.FfnFRefIdeal.τ).loc Cert.FfnFRefIdeal.main_arg5)
      ∧ r.2.mem ((c.tc : Thread Cert.FfnFRefIdeal.nD Cert.FfnFRefIdeal.τ).loc Cert.FfnFRefIdeal.main_arg6) = m ((c.tc : Thread Cert.FfnFRefIdeal.nD Cert.FfnFRefIdeal.τ).loc Cert.FfnFRefIdeal.main_arg6))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2)
      ∧ r.2.mem ((c.tc : Thread Cert.DwOut.nD Cert.DwOut.τ).loc Cert.DwOut.main_arg3) = m ((c.tc : Thread Cert.DwOut.nD Cert.DwOut.τ).loc Cert.DwOut.main_arg3)
      ∧ r.2.mem ((c.tc : Thread Cert.DwOut.nD Cert.DwOut.τ).loc Cert.DwOut.main_arg4) = m ((c.tc : Thread Cert.DwOut.nD Cert.DwOut.τ).loc Cert.DwOut.main_arg4))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
      ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
      ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2)
      ∧ r.2.mem ((c.tc : Thread Cert.DwOutRefIdeal.nD Cert.DwOutRefIdeal.τ).loc Cert.DwOutRefIdeal.main_arg3) = m ((c.tc : Thread Cert.DwOutRefIdeal.nD Cert.DwOutRefIdeal.τ).loc Cert.DwOutRefIdeal.main_arg3)
      ∧ r.2.mem ((c.tc : Thread Cert.DwOutRefIdeal.nD Cert.DwOutRefIdeal.τ).loc Cert.DwOutRefIdeal.main_arg4) = m ((c.tc : Thread Cert.DwOutRefIdeal.nD Cert.DwOutRefIdeal.τ).loc Cert.DwOutRefIdeal.main_arg4))
      ∧ r.2.sem = fun _ => 0)

def quiescent_DwPair [hDwPair : Cert.DwPair.Facts] : Prop :=
  ∀ (m : (ℓ : Loc Cert.DwPair.nD Cert.DwPair.τ Cert.DwPair.sig) → Buf (Elt Bits) ℓ) (g : Dev Cert.DwPair.nD → PrngReg), Pre_DwPair m →
    θ_run (Cert.DwPair.defs (F := Bits)) (onTc (τ := Cert.DwPair.τ) (Cert.DwPair.main (F := Bits))) ⟨m, fun _ => 0, g⟩ (fun r => (∀ c : Dev Cert.DwPair.nD,
      r.2.mem ((c.tc : Thread Cert.DwPair.nD Cert.DwPair.τ).loc Cert.DwPair.main_arg0) = m ((c.tc : Thread Cert.DwPair.nD Cert.DwPair.τ).loc Cert.DwPair.main_arg0)
      ∧ r.2.mem ((c.tc : Thread Cert.DwPair.nD Cert.DwPair.τ).loc Cert.DwPair.main_arg1) = m ((c.tc : Thread Cert.DwPair.nD Cert.DwPair.τ).loc Cert.DwPair.main_arg1)
      ∧ r.2.mem ((c.tc : Thread Cert.DwPair.nD Cert.DwPair.τ).loc Cert.DwPair.main_arg2) = m ((c.tc : Thread Cert.DwPair.nD Cert.DwPair.τ).loc Cert.DwPair.main_arg2)
      ∧ r.2.mem ((c.tc : Thread Cert.DwPair.nD Cert.DwPair.τ).loc Cert.DwPair.main_arg3) = m ((c.tc : Thread Cert.DwPair.nD Cert.DwPair.τ).loc Cert.DwPair.main_arg3)
      ∧ r.2.mem ((c.tc : Thread Cert.DwPair.nD Cert.DwPair.τ).loc Cert.DwPair.main_arg4) = m ((c.tc : Thread Cert.DwPair.nD Cert.DwPair.τ).loc Cert.DwPair.main_arg4))
      ∧ r.2.sem = fun _ => 0)

def quiescent_DwPairIdeal [hDwPairIdeal : Cert.DwPairIdeal.Facts] : Prop :=
  ∀ (m : (ℓ : Loc Cert.DwPairIdeal.nD Cert.DwPairIdeal.τ Cert.DwPairIdeal.sig) → Buf (Elt Ideal) ℓ) (g : Dev Cert.DwPairIdeal.nD → PrngReg), Pre_DwPairIdeal m →
    θ_run (Cert.DwPairIdeal.defs (F := Ideal)) (onTc (τ := Cert.DwPairIdeal.τ) (Cert.DwPairIdeal.main (F := Ideal))) ⟨m, fun _ => 0, g⟩ (fun r => (∀ c : Dev Cert.DwPairIdeal.nD,
      r.2.mem ((c.tc : Thread Cert.DwPairIdeal.nD Cert.DwPairIdeal.τ).loc Cert.DwPairIdeal.main_arg0) = m ((c.tc : Thread Cert.DwPairIdeal.nD Cert.DwPairIdeal.τ).loc Cert.DwPairIdeal.main_arg0)
      ∧ r.2.mem ((c.tc : Thread Cert.DwPairIdeal.nD Cert.DwPairIdeal.τ).loc Cert.DwPairIdeal.main_arg1) = m ((c.tc : Thread Cert.DwPairIdeal.nD Cert.DwPairIdeal.τ).loc Cert.DwPairIdeal.main_arg1)
      ∧ r.2.mem ((c.tc : Thread Cert.DwPairIdeal.nD Cert.DwPairIdeal.τ).loc Cert.DwPairIdeal.main_arg2) = m ((c.tc : Thread Cert.DwPairIdeal.nD Cert.DwPairIdeal.τ).loc Cert.DwPairIdeal.main_arg2)
      ∧ r.2.mem ((c.tc : Thread Cert.DwPairIdeal.nD Cert.DwPairIdeal.τ).loc Cert.DwPairIdeal.main_arg3) = m ((c.tc : Thread Cert.DwPairIdeal.nD Cert.DwPairIdeal.τ).loc Cert.DwPairIdeal.main_arg3)
      ∧ r.2.mem ((c.tc : Thread Cert.DwPairIdeal.nD Cert.DwPairIdeal.τ).loc Cert.DwPairIdeal.main_arg4) = m ((c.tc : Thread Cert.DwPairIdeal.nD Cert.DwPairIdeal.τ).loc Cert.DwPairIdeal.main_arg4))
      ∧ r.2.sem = fun _ => 0)

def quiescent_DwPairRefIdeal [hDwPairRefIdeal : Cert.DwPairRefIdeal.Facts] : Prop :=
  ∀ (m : (ℓ : Loc Cert.DwPairRefIdeal.nD Cert.DwPairRefIdeal.τ Cert.DwPairRefIdeal.sig) → Buf (Elt Ideal) ℓ) (g : Dev Cert.DwPairRefIdeal.nD → PrngReg), Pre_DwPairRefIdeal m →
    θ_run (Cert.DwPairRefIdeal.defs (F := Ideal)) (onTc (τ := Cert.DwPairRefIdeal.τ) (Cert.DwPairRefIdeal.main (F := Ideal))) ⟨m, fun _ => 0, g⟩ (fun r => (∀ c : Dev Cert.DwPairRefIdeal.nD,
      r.2.mem ((c.tc : Thread Cert.DwPairRefIdeal.nD Cert.DwPairRefIdeal.τ).loc Cert.DwPairRefIdeal.main_arg0) = m ((c.tc : Thread Cert.DwPairRefIdeal.nD Cert.DwPairRefIdeal.τ).loc Cert.DwPairRefIdeal.main_arg0)
      ∧ r.2.mem ((c.tc : Thread Cert.DwPairRefIdeal.nD Cert.DwPairRefIdeal.τ).loc Cert.DwPairRefIdeal.main_arg1) = m ((c.tc : Thread Cert.DwPairRefIdeal.nD Cert.DwPairRefIdeal.τ).loc Cert.DwPairRefIdeal.main_arg1)
      ∧ r.2.mem ((c.tc : Thread Cert.DwPairRefIdeal.nD Cert.DwPairRefIdeal.τ).loc Cert.DwPairRefIdeal.main_arg2) = m ((c.tc : Thread Cert.DwPairRefIdeal.nD Cert.DwPairRefIdeal.τ).loc Cert.DwPairRefIdeal.main_arg2)
      ∧ r.2.mem ((c.tc : Thread Cert.DwPairRefIdeal.nD Cert.DwPairRefIdeal.τ).loc Cert.DwPairRefIdeal.main_arg3) = m ((c.tc : Thread Cert.DwPairRefIdeal.nD Cert.DwPairRefIdeal.τ).loc Cert.DwPairRefIdeal.main_arg3)
      ∧ r.2.mem ((c.tc : Thread Cert.DwPairRefIdeal.nD Cert.DwPairRefIdeal.τ).loc Cert.DwPairRefIdeal.main_arg4) = m ((c.tc : Thread Cert.DwPairRefIdeal.nD Cert.DwPairRefIdeal.τ).loc Cert.DwPairRefIdeal.main_arg4))
      ∧ r.2.sem = fun _ => 0)

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v23_0)) (v1 : (c : Dev Cert.MixIdeal.nD) → Buf (Elt Ideal) ((c.tc : Thread Cert.MixIdeal.nD Cert.MixIdeal.τ).loc Cert.MixIdeal.main_v23_1)) (v2 : (c : Dev Cert.MixIdeal.nD) → Buf (Elt Ideal) ((c.tc : Thread Cert.MixIdeal.nD Cert.MixIdeal.τ).loc Cert.MixIdeal.main_v23_2)) (v3 : (c : Dev Cert.MixIdeal.nD) → Buf (Elt Ideal) ((c.tc : Thread Cert.MixIdeal.nD Cert.MixIdeal.τ).loc Cert.MixIdeal.main_v23_3)) (v4 : (c : Dev Cert.MixIdeal.nD) → Buf (Elt Ideal) ((c.tc : Thread Cert.MixIdeal.nD Cert.MixIdeal.τ).loc Cert.MixIdeal.main_v23_4)) (v5 : (c : Dev Cert.MixIdeal.nD) → Buf (Elt Ideal) ((c.tc : Thread Cert.MixIdeal.nD Cert.MixIdeal.τ).loc Cert.MixIdeal.main_v23_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v23_0) = v0 c
          ∧ r.2.mem ((c.tc : Thread Cert.MixIdeal.nD Cert.MixIdeal.τ).loc Cert.MixIdeal.main_v23_1) = v1 c
          ∧ r.2.mem ((c.tc : Thread Cert.MixIdeal.nD Cert.MixIdeal.τ).loc Cert.MixIdeal.main_v23_2) = v2 c
          ∧ r.2.mem ((c.tc : Thread Cert.MixIdeal.nD Cert.MixIdeal.τ).loc Cert.MixIdeal.main_v23_3) = v3 c
          ∧ r.2.mem ((c.tc : Thread Cert.MixIdeal.nD Cert.MixIdeal.τ).loc Cert.MixIdeal.main_v23_4) = v4 c
          ∧ r.2.mem ((c.tc : Thread Cert.MixIdeal.nD Cert.MixIdeal.τ).loc Cert.MixIdeal.main_v23_5) = v5 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v49) = v0 c
          ∧ r.2.mem ((c.tc : Thread Cert.MixRefIdeal.nD Cert.MixRefIdeal.τ).loc Cert.MixRefIdeal.main_v51) = v1 c
          ∧ r.2.mem ((c.tc : Thread Cert.MixRefIdeal.nD Cert.MixRefIdeal.τ).loc Cert.MixRefIdeal.main_v53) = v2 c
          ∧ r.2.mem ((c.tc : Thread Cert.MixRefIdeal.nD Cert.MixRefIdeal.τ).loc Cert.MixRefIdeal.main_v55) = v3 c
          ∧ r.2.mem ((c.tc : Thread Cert.MixRefIdeal.nD Cert.MixRefIdeal.τ).loc Cert.MixRefIdeal.main_v57) = v4 c
          ∧ r.2.mem ((c.tc : Thread Cert.MixRefIdeal.nD Cert.MixRefIdeal.τ).loc Cert.MixRefIdeal.main_v58) = v5 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Ffn_FfnIdeal : Prop :=
  True

def algebraic_FfnIdeal_FfnRefIdeal_pre_finite_ffn [hFfnIdeal : Cert.FfnIdeal.Facts] [hFfnRefIdeal : Cert.FfnRefIdeal.Facts] [hPre_finite_ffn : Cert.Pre_finite_ffn.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_finite_ffn m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v27_0)) (v1 : (c : Dev Cert.FfnIdeal.nD) → Buf (Elt Ideal) ((c.tc : Thread Cert.FfnIdeal.nD Cert.FfnIdeal.τ).loc Cert.FfnIdeal.main_v27_1)) (v2 : (c : Dev Cert.FfnIdeal.nD) → Buf (Elt Ideal) ((c.tc : Thread Cert.FfnIdeal.nD Cert.FfnIdeal.τ).loc Cert.FfnIdeal.main_v27_2)) (v3 : (c : Dev Cert.FfnIdeal.nD) → Buf (Elt Ideal) ((c.tc : Thread Cert.FfnIdeal.nD Cert.FfnIdeal.τ).loc Cert.FfnIdeal.main_v27_3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v27_0) = v0 c
          ∧ r.2.mem ((c.tc : Thread Cert.FfnIdeal.nD Cert.FfnIdeal.τ).loc Cert.FfnIdeal.main_v27_1) = v1 c
          ∧ r.2.mem ((c.tc : Thread Cert.FfnIdeal.nD Cert.FfnIdeal.τ).loc Cert.FfnIdeal.main_v27_2) = v2 c
          ∧ r.2.mem ((c.tc : Thread Cert.FfnIdeal.nD Cert.FfnIdeal.τ).loc Cert.FfnIdeal.main_v27_3) = v3 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v50) = v0 c
          ∧ r.2.mem ((c.tc : Thread Cert.FfnRefIdeal.nD Cert.FfnRefIdeal.τ).loc Cert.FfnRefIdeal.main_v52) = v1 c
          ∧ r.2.mem ((c.tc : Thread Cert.FfnRefIdeal.nD Cert.FfnRefIdeal.τ).loc Cert.FfnRefIdeal.main_v53) = v2 c
          ∧ r.2.mem ((c.tc : Thread Cert.FfnRefIdeal.nD Cert.FfnRefIdeal.τ).loc Cert.FfnRefIdeal.main_v54) = v3 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InProj_InProjIdeal : Prop :=
  True

def algebraic_InProjIdeal_InProjRefIdeal_pre_finite_in [hInProjIdeal : Cert.InProjIdeal.Facts] [hInProjRefIdeal : Cert.InProjRefIdeal.Facts] [hPre_finite_in : Cert.Pre_finite_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_in m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)
      ∧ m' ((c.tc : Thread Cert.InProjRefIdeal.nD Cert.InProjRefIdeal.τ).loc Cert.InProjRefIdeal.main_arg8) = m ((c.tc : Thread Cert.InProjIdeal.nD Cert.InProjIdeal.τ).loc Cert.InProjIdeal.main_arg8)
      ∧ m' ((c.tc : Thread Cert.InProjRefIdeal.nD Cert.InProjRefIdeal.τ).loc Cert.InProjRefIdeal.main_arg9) = m ((c.tc : Thread Cert.InProjIdeal.nD Cert.InProjIdeal.τ).loc Cert.InProjIdeal.main_arg9)
      ∧ m' ((c.tc : Thread Cert.InProjRefIdeal.nD Cert.InProjRefIdeal.τ).loc Cert.InProjRefIdeal.main_arg10) = m ((c.tc : Thread Cert.InProjIdeal.nD Cert.InProjIdeal.τ).loc Cert.InProjIdeal.main_arg10)) →
    ∃ (v0 : (c : Dev Cert.InProjIdeal.nD) → Buf (Elt Ideal) ((c.tc : Thread Cert.InProjIdeal.nD Cert.InProjIdeal.τ).loc Cert.InProjIdeal.main_v25_0)) (v1 : (c : Dev Cert.InProjIdeal.nD) → Buf (Elt Ideal) ((c.tc : Thread Cert.InProjIdeal.nD Cert.InProjIdeal.τ).loc Cert.InProjIdeal.main_v25_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v25_0) = v0 c
          ∧ r.2.mem ((c.tc : Thread Cert.InProjIdeal.nD Cert.InProjIdeal.τ).loc Cert.InProjIdeal.main_v25_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v59) = v0 c
          ∧ r.2.mem ((c.tc : Thread Cert.InProjRefIdeal.nD Cert.InProjRefIdeal.τ).loc Cert.InProjRefIdeal.main_v60) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7)
          ∧ r.2.mem ((c.tc : Thread Cert.InProjRefIdeal.nD Cert.InProjRefIdeal.τ).loc Cert.InProjRefIdeal.main_arg8) = m' ((c.tc : Thread Cert.InProjRefIdeal.nD Cert.InProjRefIdeal.τ).loc Cert.InProjRefIdeal.main_arg8)
          ∧ r.2.mem ((c.tc : Thread Cert.InProjRefIdeal.nD Cert.InProjRefIdeal.τ).loc Cert.InProjRefIdeal.main_arg9) = m' ((c.tc : Thread Cert.InProjRefIdeal.nD Cert.InProjRefIdeal.τ).loc Cert.InProjRefIdeal.main_arg9)
          ∧ r.2.mem ((c.tc : Thread Cert.InProjRefIdeal.nD Cert.InProjRefIdeal.τ).loc Cert.InProjRefIdeal.main_arg10) = m' ((c.tc : Thread Cert.InProjRefIdeal.nD Cert.InProjRefIdeal.τ).loc Cert.InProjRefIdeal.main_arg10))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)
      ∧ m' ((c.tc : Thread Cert.DwGateRefIdeal.nD Cert.DwGateRefIdeal.τ).loc Cert.DwGateRefIdeal.main_arg2) = m ((c.tc : Thread Cert.DwGateIdeal.nD Cert.DwGateIdeal.τ).loc Cert.DwGateIdeal.main_arg2)) →
    ∃ (v0 : (c : Dev Cert.DwGateIdeal.nD) → Buf (Elt Ideal) ((c.tc : Thread Cert.DwGateIdeal.nD Cert.DwGateIdeal.τ).loc Cert.DwGateIdeal.main_v17)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v17) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
          ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v18) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1)
          ∧ r.2.mem ((c.tc : Thread Cert.DwGateRefIdeal.nD Cert.DwGateRefIdeal.τ).loc Cert.DwGateRefIdeal.main_arg2) = m' ((c.tc : Thread Cert.DwGateRefIdeal.nD Cert.DwGateRefIdeal.τ).loc Cert.DwGateRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v5)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v5) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v6) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def preserves_InF_InFIdeal : Prop :=
  True

def algebraic_InFIdeal_InFRefIdeal [hInFIdeal : Cert.InFIdeal.Facts] [hInFRefIdeal : Cert.InFRefIdeal.Facts] : Prop :=
  ∀ (m : (ℓ : Loc Cert.InFIdeal.nD Cert.InFIdeal.τ Cert.InFIdeal.sig) → Buf (Elt Ideal) ℓ) (g : Dev Cert.InFIdeal.nD → PrngReg)
    (m' : (ℓ : Loc Cert.InFRefIdeal.nD Cert.InFRefIdeal.τ Cert.InFRefIdeal.sig) → Buf (Elt Ideal) ℓ) (g' : Dev Cert.InFRefIdeal.nD → PrngReg), Pre_InFIdeal m →
    (∀ c : Dev Cert.InFIdeal.nD,
      m' ((c.tc : Thread Cert.InFRefIdeal.nD Cert.InFRefIdeal.τ).loc Cert.InFRefIdeal.main_arg0) = m ((c.tc : Thread Cert.InFIdeal.nD Cert.InFIdeal.τ).loc Cert.InFIdeal.main_arg0)
      ∧ m' ((c.tc : Thread Cert.InFRefIdeal.nD Cert.InFRefIdeal.τ).loc Cert.InFRefIdeal.main_arg1) = m ((c.tc : Thread Cert.InFIdeal.nD Cert.InFIdeal.τ).loc Cert.InFIdeal.main_arg1)
      ∧ m' ((c.tc : Thread Cert.InFRefIdeal.nD Cert.InFRefIdeal.τ).loc Cert.InFRefIdeal.main_arg2) = m ((c.tc : Thread Cert.InFIdeal.nD Cert.InFIdeal.τ).loc Cert.InFIdeal.main_arg2)) →
    ∃ (v0 : (c : Dev Cert.InFIdeal.nD) → Buf (Elt Ideal) ((c.tc : Thread Cert.InFIdeal.nD Cert.InFIdeal.τ).loc Cert.InFIdeal.main_v10_0)) (v1 : (c : Dev Cert.InFIdeal.nD) → Buf (Elt Ideal) ((c.tc : Thread Cert.InFIdeal.nD Cert.InFIdeal.τ).loc Cert.InFIdeal.main_v10_1)) (v2 : (c : Dev Cert.InFIdeal.nD) → Buf (Elt Ideal) ((c.tc : Thread Cert.InFIdeal.nD Cert.InFIdeal.τ).loc Cert.InFIdeal.main_v10_2)) (v3 : (c : Dev Cert.InFIdeal.nD) → Buf (Elt Ideal) ((c.tc : Thread Cert.InFIdeal.nD Cert.InFIdeal.τ).loc Cert.InFIdeal.main_v10_3)) (v4 : (c : Dev Cert.InFIdeal.nD) → Buf (Elt Ideal) ((c.tc : Thread Cert.InFIdeal.nD Cert.InFIdeal.τ).loc Cert.InFIdeal.main_v10_4)),
      θ_run (Cert.InFIdeal.defs (F := Ideal)) (onTc (τ := Cert.InFIdeal.τ) (Cert.InFIdeal.main (F := Ideal))) ⟨m, fun _ => 0, g⟩ (fun r => ∀ c : Dev Cert.InFIdeal.nD,
          r.2.mem ((c.tc : Thread Cert.InFIdeal.nD Cert.InFIdeal.τ).loc Cert.InFIdeal.main_v10_0) = v0 c
          ∧ r.2.mem ((c.tc : Thread Cert.InFIdeal.nD Cert.InFIdeal.τ).loc Cert.InFIdeal.main_v10_1) = v1 c
          ∧ r.2.mem ((c.tc : Thread Cert.InFIdeal.nD Cert.InFIdeal.τ).loc Cert.InFIdeal.main_v10_2) = v2 c
          ∧ r.2.mem ((c.tc : Thread Cert.InFIdeal.nD Cert.InFIdeal.τ).loc Cert.InFIdeal.main_v10_3) = v3 c
          ∧ r.2.mem ((c.tc : Thread Cert.InFIdeal.nD Cert.InFIdeal.τ).loc Cert.InFIdeal.main_v10_4) = v4 c
          ∧ r.2.mem ((c.tc : Thread Cert.InFIdeal.nD Cert.InFIdeal.τ).loc Cert.InFIdeal.main_arg0) = m ((c.tc : Thread Cert.InFIdeal.nD Cert.InFIdeal.τ).loc Cert.InFIdeal.main_arg0)
          ∧ r.2.mem ((c.tc : Thread Cert.InFIdeal.nD Cert.InFIdeal.τ).loc Cert.InFIdeal.main_arg1) = m ((c.tc : Thread Cert.InFIdeal.nD Cert.InFIdeal.τ).loc Cert.InFIdeal.main_arg1)
          ∧ r.2.mem ((c.tc : Thread Cert.InFIdeal.nD Cert.InFIdeal.τ).loc Cert.InFIdeal.main_arg2) = m ((c.tc : Thread Cert.InFIdeal.nD Cert.InFIdeal.τ).loc Cert.InFIdeal.main_arg2))
      ∧ θ_run (Cert.InFRefIdeal.defs (F := Ideal)) (onTc (τ := Cert.InFRefIdeal.τ) (Cert.InFRefIdeal.main (F := Ideal))) ⟨m', fun _ => 0, g'⟩ (fun r => ∀ c : Dev Cert.InFRefIdeal.nD,
          r.2.mem ((c.tc : Thread Cert.InFRefIdeal.nD Cert.InFRefIdeal.τ).loc Cert.InFRefIdeal.main_v45) = v0 c
          ∧ r.2.mem ((c.tc : Thread Cert.InFRefIdeal.nD Cert.InFRefIdeal.τ).loc Cert.InFRefIdeal.main_v36) = v1 c
          ∧ r.2.mem ((c.tc : Thread Cert.InFRefIdeal.nD Cert.InFRefIdeal.τ).loc Cert.InFRefIdeal.main_v46) = v2 c
          ∧ r.2.mem ((c.tc : Thread Cert.InFRefIdeal.nD Cert.InFRefIdeal.τ).loc Cert.InFRefIdeal.main_v47) = v3 c
          ∧ r.2.mem ((c.tc : Thread Cert.InFRefIdeal.nD Cert.InFRefIdeal.τ).loc Cert.InFRefIdeal.main_v48) = v4 c
          ∧ r.2.mem ((c.tc : Thread Cert.InFRefIdeal.nD Cert.InFRefIdeal.τ).loc Cert.InFRefIdeal.main_arg0) = m' ((c.tc : Thread Cert.InFRefIdeal.nD Cert.InFRefIdeal.τ).loc Cert.InFRefIdeal.main_arg0)
          ∧ r.2.mem ((c.tc : Thread Cert.InFRefIdeal.nD Cert.InFRefIdeal.τ).loc Cert.InFRefIdeal.main_arg1) = m' ((c.tc : Thread Cert.InFRefIdeal.nD Cert.InFRefIdeal.τ).loc Cert.InFRefIdeal.main_arg1)
          ∧ r.2.mem ((c.tc : Thread Cert.InFRefIdeal.nD Cert.InFRefIdeal.τ).loc Cert.InFRefIdeal.main_arg2) = m' ((c.tc : Thread Cert.InFRefIdeal.nD Cert.InFRefIdeal.τ).loc Cert.InFRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)
      ∧ m' ((c.tc : Thread Cert.MixOutRefIdeal.nD Cert.MixOutRefIdeal.τ).loc Cert.MixOutRefIdeal.main_arg7) = m ((c.tc : Thread Cert.MixOutIdeal.nD Cert.MixOutIdeal.τ).loc Cert.MixOutIdeal.main_arg7)
      ∧ m' ((c.tc : Thread Cert.MixOutRefIdeal.nD Cert.MixOutRefIdeal.τ).loc Cert.MixOutRefIdeal.main_arg8) = m ((c.tc : Thread Cert.MixOutIdeal.nD Cert.MixOutIdeal.τ).loc Cert.MixOutIdeal.main_arg8)) →
    ∃ (v0 : (c : Dev Cert.MixOutIdeal.nD) → Buf (Elt Ideal) ((c.tc : Thread Cert.MixOutIdeal.nD Cert.MixOutIdeal.τ).loc Cert.MixOutIdeal.main_v18_0)) (v1 : (c : Dev Cert.MixOutIdeal.nD) → Buf (Elt Ideal) ((c.tc : Thread Cert.MixOutIdeal.nD Cert.MixOutIdeal.τ).loc Cert.MixOutIdeal.main_v18_1)) (v2 : (c : Dev Cert.MixOutIdeal.nD) → Buf (Elt Ideal) ((c.tc : Thread Cert.MixOutIdeal.nD Cert.MixOutIdeal.τ).loc Cert.MixOutIdeal.main_v18_2)) (v3 : (c : Dev Cert.MixOutIdeal.nD) → Buf (Elt Ideal) ((c.tc : Thread Cert.MixOutIdeal.nD Cert.MixOutIdeal.τ).loc Cert.MixOutIdeal.main_v18_3)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v18_0) = v0 c
          ∧ r.2.mem ((c.tc : Thread Cert.MixOutIdeal.nD Cert.MixOutIdeal.τ).loc Cert.MixOutIdeal.main_v18_1) = v1 c
          ∧ r.2.mem ((c.tc : Thread Cert.MixOutIdeal.nD Cert.MixOutIdeal.τ).loc Cert.MixOutIdeal.main_v18_2) = v2 c
          ∧ r.2.mem ((c.tc : Thread Cert.MixOutIdeal.nD Cert.MixOutIdeal.τ).loc Cert.MixOutIdeal.main_v18_3) = v3 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6)
          ∧ r.2.mem ((c.tc : Thread Cert.MixOutIdeal.nD Cert.MixOutIdeal.τ).loc Cert.MixOutIdeal.main_arg7) = m ((c.tc : Thread Cert.MixOutIdeal.nD Cert.MixOutIdeal.τ).loc Cert.MixOutIdeal.main_arg7)
          ∧ r.2.mem ((c.tc : Thread Cert.MixOutIdeal.nD Cert.MixOutIdeal.τ).loc Cert.MixOutIdeal.main_arg8) = m ((c.tc : Thread Cert.MixOutIdeal.nD Cert.MixOutIdeal.τ).loc Cert.MixOutIdeal.main_arg8))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v21) = v0 c
          ∧ r.2.mem ((c.tc : Thread Cert.MixOutRefIdeal.nD Cert.MixOutRefIdeal.τ).loc Cert.MixOutRefIdeal.main_v24) = v1 c
          ∧ r.2.mem ((c.tc : Thread Cert.MixOutRefIdeal.nD Cert.MixOutRefIdeal.τ).loc Cert.MixOutRefIdeal.main_v26) = v2 c
          ∧ r.2.mem ((c.tc : Thread Cert.MixOutRefIdeal.nD Cert.MixOutRefIdeal.τ).loc Cert.MixOutRefIdeal.main_v28) = v3 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6)
          ∧ r.2.mem ((c.tc : Thread Cert.MixOutRefIdeal.nD Cert.MixOutRefIdeal.τ).loc Cert.MixOutRefIdeal.main_arg7) = m' ((c.tc : Thread Cert.MixOutRefIdeal.nD Cert.MixOutRefIdeal.τ).loc Cert.MixOutRefIdeal.main_arg7)
          ∧ r.2.mem ((c.tc : Thread Cert.MixOutRefIdeal.nD Cert.MixOutRefIdeal.τ).loc Cert.MixOutRefIdeal.main_arg8) = m' ((c.tc : Thread Cert.MixOutRefIdeal.nD Cert.MixOutRefIdeal.τ).loc Cert.MixOutRefIdeal.main_arg8))

def preserves_FfnF_FfnFIdeal : Prop :=
  True

def algebraic_FfnFIdeal_FfnFRefIdeal_pre_finite_ffn_fwd [hFfnFIdeal : Cert.FfnFIdeal.Facts] [hFfnFRefIdeal : Cert.FfnFRefIdeal.Facts] [hPre_finite_ffn_fwd : Cert.Pre_finite_ffn_fwd.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFRefIdeal.nD Cert.FfnFRefIdeal.τ Cert.FfnFRefIdeal.sig) → Buf (Elt Ideal) ℓ) (g' : Dev Cert.FfnFRefIdeal.nD → PrngReg), Pre_FfnFIdeal_finite_ffn_fwd m →
    (∀ c : Dev Cert.FfnFIdeal.nD,
      m' ((c.tc : Thread Cert.FfnFRefIdeal.nD Cert.FfnFRefIdeal.τ).loc Cert.FfnFRefIdeal.main_arg0) = m ((c.tc : Thread Cert.FfnFIdeal.nD Cert.FfnFIdeal.τ).loc Cert.FfnFIdeal.main_arg0)
      ∧ m' ((c.tc : Thread Cert.FfnFRefIdeal.nD Cert.FfnFRefIdeal.τ).loc Cert.FfnFRefIdeal.main_arg1) = m ((c.tc : Thread Cert.FfnFIdeal.nD Cert.FfnFIdeal.τ).loc Cert.FfnFIdeal.main_arg1)
      ∧ m' ((c.tc : Thread Cert.FfnFRefIdeal.nD Cert.FfnFRefIdeal.τ).loc Cert.FfnFRefIdeal.main_arg2) = m ((c.tc : Thread Cert.FfnFIdeal.nD Cert.FfnFIdeal.τ).loc Cert.FfnFIdeal.main_arg2)
      ∧ m' ((c.tc : Thread Cert.FfnFRefIdeal.nD Cert.FfnFRefIdeal.τ).loc Cert.FfnFRefIdeal.main_arg3) = m ((c.tc : Thread Cert.FfnFIdeal.nD Cert.FfnFIdeal.τ).loc Cert.FfnFIdeal.main_arg3)
      ∧ m' ((c.tc : Thread Cert.FfnFRefIdeal.nD Cert.FfnFRefIdeal.τ).loc Cert.FfnFRefIdeal.main_arg4) = m ((c.tc : Thread Cert.FfnFIdeal.nD Cert.FfnFIdeal.τ).loc Cert.FfnFIdeal.main_arg4)
      ∧ m' ((c.tc : Thread Cert.FfnFRefIdeal.nD Cert.FfnFRefIdeal.τ).loc Cert.FfnFRefIdeal.main_arg5) = m ((c.tc : Thread Cert.FfnFIdeal.nD Cert.FfnFIdeal.τ).loc Cert.FfnFIdeal.main_arg5)
      ∧ m' ((c.tc : Thread Cert.FfnFRefIdeal.nD Cert.FfnFRefIdeal.τ).loc Cert.FfnFRefIdeal.main_arg6) = m ((c.tc : Thread Cert.FfnFIdeal.nD Cert.FfnFIdeal.τ).loc Cert.FfnFIdeal.main_arg6)) →
    ∃ (v0 : (c : Dev Cert.FfnFIdeal.nD) → Buf (Elt Ideal) ((c.tc : Thread Cert.FfnFIdeal.nD Cert.FfnFIdeal.τ).loc Cert.FfnFIdeal.main_v9_0)) (v1 : (c : Dev Cert.FfnFIdeal.nD) → Buf (Elt Ideal) ((c.tc : Thread Cert.FfnFIdeal.nD Cert.FfnFIdeal.τ).loc Cert.FfnFIdeal.main_v9_1)) (v2 : (c : Dev Cert.FfnFIdeal.nD) → Buf (Elt Ideal) ((c.tc : Thread Cert.FfnFIdeal.nD Cert.FfnFIdeal.τ).loc Cert.FfnFIdeal.main_v9_2)) (v3 : (c : Dev Cert.FfnFIdeal.nD) → Buf (Elt Ideal) ((c.tc : Thread Cert.FfnFIdeal.nD Cert.FfnFIdeal.τ).loc Cert.FfnFIdeal.main_v9_3)) (v4 : (c : Dev Cert.FfnFIdeal.nD) → Buf (Elt Ideal) ((c.tc : Thread Cert.FfnFIdeal.nD Cert.FfnFIdeal.τ).loc Cert.FfnFIdeal.main_v9_4)) (v5 : (c : Dev Cert.FfnFIdeal.nD) → Buf (Elt Ideal) ((c.tc : Thread Cert.FfnFIdeal.nD Cert.FfnFIdeal.τ).loc Cert.FfnFIdeal.main_v9_5)) (v6 : (c : Dev Cert.FfnFIdeal.nD) → Buf (Elt Ideal) ((c.tc : Thread Cert.FfnFIdeal.nD Cert.FfnFIdeal.τ).loc Cert.FfnFIdeal.main_v9_6)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v9_0) = v0 c
          ∧ r.2.mem ((c.tc : Thread Cert.FfnFIdeal.nD Cert.FfnFIdeal.τ).loc Cert.FfnFIdeal.main_v9_1) = v1 c
          ∧ r.2.mem ((c.tc : Thread Cert.FfnFIdeal.nD Cert.FfnFIdeal.τ).loc Cert.FfnFIdeal.main_v9_2) = v2 c
          ∧ r.2.mem ((c.tc : Thread Cert.FfnFIdeal.nD Cert.FfnFIdeal.τ).loc Cert.FfnFIdeal.main_v9_3) = v3 c
          ∧ r.2.mem ((c.tc : Thread Cert.FfnFIdeal.nD Cert.FfnFIdeal.τ).loc Cert.FfnFIdeal.main_v9_4) = v4 c
          ∧ r.2.mem ((c.tc : Thread Cert.FfnFIdeal.nD Cert.FfnFIdeal.τ).loc Cert.FfnFIdeal.main_v9_5) = v5 c
          ∧ r.2.mem ((c.tc : Thread Cert.FfnFIdeal.nD Cert.FfnFIdeal.τ).loc Cert.FfnFIdeal.main_v9_6) = v6 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
          ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3)
          ∧ r.2.mem ((c.tc : Thread Cert.FfnFIdeal.nD Cert.FfnFIdeal.τ).loc Cert.FfnFIdeal.main_arg4) = m ((c.tc : Thread Cert.FfnFIdeal.nD Cert.FfnFIdeal.τ).loc Cert.FfnFIdeal.main_arg4)
          ∧ r.2.mem ((c.tc : Thread Cert.FfnFIdeal.nD Cert.FfnFIdeal.τ).loc Cert.FfnFIdeal.main_arg5) = m ((c.tc : Thread Cert.FfnFIdeal.nD Cert.FfnFIdeal.τ).loc Cert.FfnFIdeal.main_arg5)
          ∧ r.2.mem ((c.tc : Thread Cert.FfnFIdeal.nD Cert.FfnFIdeal.τ).loc Cert.FfnFIdeal.main_arg6) = m ((c.tc : Thread Cert.FfnFIdeal.nD Cert.FfnFIdeal.τ).loc Cert.FfnFIdeal.main_arg6))
      ∧ θ_run (Cert.FfnFRefIdeal.defs (F := Ideal)) (onTc (τ := Cert.FfnFRefIdeal.τ) (Cert.FfnFRefIdeal.main (F := Ideal))) ⟨m', fun _ => 0, g'⟩ (fun r => ∀ c : Dev Cert.FfnFRefIdeal.nD,
          r.2.mem ((c.tc : Thread Cert.FfnFRefIdeal.nD Cert.FfnFRefIdeal.τ).loc Cert.FfnFRefIdeal.main_v71) = v0 c
          ∧ r.2.mem ((c.tc : Thread Cert.FfnFRefIdeal.nD Cert.FfnFRefIdeal.τ).loc Cert.FfnFRefIdeal.main_v73) = v1 c
          ∧ r.2.mem ((c.tc : Thread Cert.FfnFRefIdeal.nD Cert.FfnFRefIdeal.τ).loc Cert.FfnFRefIdeal.main_v75) = v2 c
          ∧ r.2.mem ((c.tc : Thread Cert.FfnFRefIdeal.nD Cert.FfnFRefIdeal.τ).loc Cert.FfnFRefIdeal.main_v77) = v3 c
          ∧ r.2.mem ((c.tc : Thread Cert.FfnFRefIdeal.nD Cert.FfnFRefIdeal.τ).loc Cert.FfnFRefIdeal.main_v78) = v4 c
          ∧ r.2.mem ((c.tc : Thread Cert.FfnFRefIdeal.nD Cert.FfnFRefIdeal.τ).loc Cert.FfnFRefIdeal.main_v79) = v5 c
          ∧ r.2.mem ((c.tc : Thread Cert.FfnFRefIdeal.nD Cert.FfnFRefIdeal.τ).loc Cert.FfnFRefIdeal.main_v80) = v6 c
          ∧ r.2.mem ((c.tc : Thread Cert.FfnFRefIdeal.nD Cert.FfnFRefIdeal.τ).loc Cert.FfnFRefIdeal.main_arg0) = m' ((c.tc : Thread Cert.FfnFRefIdeal.nD Cert.FfnFRefIdeal.τ).loc Cert.FfnFRefIdeal.main_arg0)
          ∧ r.2.mem ((c.tc : Thread Cert.FfnFRefIdeal.nD Cert.FfnFRefIdeal.τ).loc Cert.FfnFRefIdeal.main_arg1) = m' ((c.tc : Thread Cert.FfnFRefIdeal.nD Cert.FfnFRefIdeal.τ).loc Cert.FfnFRefIdeal.main_arg1)
          ∧ r.2.mem ((c.tc : Thread Cert.FfnFRefIdeal.nD Cert.FfnFRefIdeal.τ).loc Cert.FfnFRefIdeal.main_arg2) = m' ((c.tc : Thread Cert.FfnFRefIdeal.nD Cert.FfnFRefIdeal.τ).loc Cert.FfnFRefIdeal.main_arg2)
          ∧ r.2.mem ((c.tc : Thread Cert.FfnFRefIdeal.nD Cert.FfnFRefIdeal.τ).loc Cert.FfnFRefIdeal.main_arg3) = m' ((c.tc : Thread Cert.FfnFRefIdeal.nD Cert.FfnFRefIdeal.τ).loc Cert.FfnFRefIdeal.main_arg3)
          ∧ r.2.mem ((c.tc : Thread Cert.FfnFRefIdeal.nD Cert.FfnFRefIdeal.τ).loc Cert.FfnFRefIdeal.main_arg4) = m' ((c.tc : Thread Cert.FfnFRefIdeal.nD Cert.FfnFRefIdeal.τ).loc Cert.FfnFRefIdeal.main_arg4)
          ∧ r.2.mem ((c.tc : Thread Cert.FfnFRefIdeal.nD Cert.FfnFRefIdeal.τ).loc Cert.FfnFRefIdeal.main_arg5) = m' ((c.tc : Thread Cert.FfnFRefIdeal.nD Cert.FfnFRefIdeal.τ).loc Cert.FfnFRefIdeal.main_arg5)
          ∧ r.2.mem ((c.tc : Thread Cert.FfnFRefIdeal.nD Cert.FfnFRefIdeal.τ).loc Cert.FfnFRefIdeal.main_arg6) = m' ((c.tc : Thread Cert.FfnFRefIdeal.nD Cert.FfnFRefIdeal.τ).loc Cert.FfnFRefIdeal.main_arg6))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)
      ∧ m' ((c.tc : Thread Cert.DwOutRefIdeal.nD Cert.DwOutRefIdeal.τ).loc Cert.DwOutRefIdeal.main_arg3) = m ((c.tc : Thread Cert.DwOutIdeal.nD Cert.DwOutIdeal.τ).loc Cert.DwOutIdeal.main_arg3)
      ∧ m' ((c.tc : Thread Cert.DwOutRefIdeal.nD Cert.DwOutRefIdeal.τ).loc Cert.DwOutRefIdeal.main_arg4) = m ((c.tc : Thread Cert.DwOutIdeal.nD Cert.DwOutIdeal.τ).loc Cert.DwOutIdeal.main_arg4)) →
    ∃ (v0 : (c : Dev Cert.DwOutIdeal.nD) → Buf (Elt Ideal) ((c.tc : Thread Cert.DwOutIdeal.nD Cert.DwOutIdeal.τ).loc Cert.DwOutIdeal.main_v18)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v18) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2)
          ∧ r.2.mem ((c.tc : Thread Cert.DwOutIdeal.nD Cert.DwOutIdeal.τ).loc Cert.DwOutIdeal.main_arg3) = m ((c.tc : Thread Cert.DwOutIdeal.nD Cert.DwOutIdeal.τ).loc Cert.DwOutIdeal.main_arg3)
          ∧ r.2.mem ((c.tc : Thread Cert.DwOutIdeal.nD Cert.DwOutIdeal.τ).loc Cert.DwOutIdeal.main_arg4) = m ((c.tc : Thread Cert.DwOutIdeal.nD Cert.DwOutIdeal.τ).loc Cert.DwOutIdeal.main_arg4))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v19) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2)
          ∧ r.2.mem ((c.tc : Thread Cert.DwOutRefIdeal.nD Cert.DwOutRefIdeal.τ).loc Cert.DwOutRefIdeal.main_arg3) = m' ((c.tc : Thread Cert.DwOutRefIdeal.nD Cert.DwOutRefIdeal.τ).loc Cert.DwOutRefIdeal.main_arg3)
          ∧ r.2.mem ((c.tc : Thread Cert.DwOutRefIdeal.nD Cert.DwOutRefIdeal.τ).loc Cert.DwOutRefIdeal.main_arg4) = m' ((c.tc : Thread Cert.DwOutRefIdeal.nD Cert.DwOutRefIdeal.τ).loc Cert.DwOutRefIdeal.main_arg4))

def preserves_DwPair_DwPairIdeal : Prop :=
  True

def algebraic_DwPairIdeal_DwPairRefIdeal [hDwPairIdeal : Cert.DwPairIdeal.Facts] [hDwPairRefIdeal : Cert.DwPairRefIdeal.Facts] : Prop :=
  ∀ (m : (ℓ : Loc Cert.DwPairIdeal.nD Cert.DwPairIdeal.τ Cert.DwPairIdeal.sig) → Buf (Elt Ideal) ℓ) (g : Dev Cert.DwPairIdeal.nD → PrngReg)
    (m' : (ℓ : Loc Cert.DwPairRefIdeal.nD Cert.DwPairRefIdeal.τ Cert.DwPairRefIdeal.sig) → Buf (Elt Ideal) ℓ) (g' : Dev Cert.DwPairRefIdeal.nD → PrngReg), Pre_DwPairIdeal m →
    (∀ c : Dev Cert.DwPairIdeal.nD,
      m' ((c.tc : Thread Cert.DwPairRefIdeal.nD Cert.DwPairRefIdeal.τ).loc Cert.DwPairRefIdeal.main_arg0) = m ((c.tc : Thread Cert.DwPairIdeal.nD Cert.DwPairIdeal.τ).loc Cert.DwPairIdeal.main_arg0)
      ∧ m' ((c.tc : Thread Cert.DwPairRefIdeal.nD Cert.DwPairRefIdeal.τ).loc Cert.DwPairRefIdeal.main_arg1) = m ((c.tc : Thread Cert.DwPairIdeal.nD Cert.DwPairIdeal.τ).loc Cert.DwPairIdeal.main_arg1)
      ∧ m' ((c.tc : Thread Cert.DwPairRefIdeal.nD Cert.DwPairRefIdeal.τ).loc Cert.DwPairRefIdeal.main_arg2) = m ((c.tc : Thread Cert.DwPairIdeal.nD Cert.DwPairIdeal.τ).loc Cert.DwPairIdeal.main_arg2)
      ∧ m' ((c.tc : Thread Cert.DwPairRefIdeal.nD Cert.DwPairRefIdeal.τ).loc Cert.DwPairRefIdeal.main_arg3) = m ((c.tc : Thread Cert.DwPairIdeal.nD Cert.DwPairIdeal.τ).loc Cert.DwPairIdeal.main_arg3)
      ∧ m' ((c.tc : Thread Cert.DwPairRefIdeal.nD Cert.DwPairRefIdeal.τ).loc Cert.DwPairRefIdeal.main_arg4) = m ((c.tc : Thread Cert.DwPairIdeal.nD Cert.DwPairIdeal.τ).loc Cert.DwPairIdeal.main_arg4)) →
    ∃ (v0 : (c : Dev Cert.DwPairIdeal.nD) → Buf (Elt Ideal) ((c.tc : Thread Cert.DwPairIdeal.nD Cert.DwPairIdeal.τ).loc Cert.DwPairIdeal.main_v11_0)) (v1 : (c : Dev Cert.DwPairIdeal.nD) → Buf (Elt Ideal) ((c.tc : Thread Cert.DwPairIdeal.nD Cert.DwPairIdeal.τ).loc Cert.DwPairIdeal.main_v11_1)),
      θ_run (Cert.DwPairIdeal.defs (F := Ideal)) (onTc (τ := Cert.DwPairIdeal.τ) (Cert.DwPairIdeal.main (F := Ideal))) ⟨m, fun _ => 0, g⟩ (fun r => ∀ c : Dev Cert.DwPairIdeal.nD,
          r.2.mem ((c.tc : Thread Cert.DwPairIdeal.nD Cert.DwPairIdeal.τ).loc Cert.DwPairIdeal.main_v11_0) = v0 c
          ∧ r.2.mem ((c.tc : Thread Cert.DwPairIdeal.nD Cert.DwPairIdeal.τ).loc Cert.DwPairIdeal.main_v11_1) = v1 c
          ∧ r.2.mem ((c.tc : Thread Cert.DwPairIdeal.nD Cert.DwPairIdeal.τ).loc Cert.DwPairIdeal.main_arg0) = m ((c.tc : Thread Cert.DwPairIdeal.nD Cert.DwPairIdeal.τ).loc Cert.DwPairIdeal.main_arg0)
          ∧ r.2.mem ((c.tc : Thread Cert.DwPairIdeal.nD Cert.DwPairIdeal.τ).loc Cert.DwPairIdeal.main_arg1) = m ((c.tc : Thread Cert.DwPairIdeal.nD Cert.DwPairIdeal.τ).loc Cert.DwPairIdeal.main_arg1)
          ∧ r.2.mem ((c.tc : Thread Cert.DwPairIdeal.nD Cert.DwPairIdeal.τ).loc Cert.DwPairIdeal.main_arg2) = m ((c.tc : Thread Cert.DwPairIdeal.nD Cert.DwPairIdeal.τ).loc Cert.DwPairIdeal.main_arg2)
          ∧ r.2.mem ((c.tc : Thread Cert.DwPairIdeal.nD Cert.DwPairIdeal.τ).loc Cert.DwPairIdeal.main_arg3) = m ((c.tc : Thread Cert.DwPairIdeal.nD Cert.DwPairIdeal.τ).loc Cert.DwPairIdeal.main_arg3)
          ∧ r.2.mem ((c.tc : Thread Cert.DwPairIdeal.nD Cert.DwPairIdeal.τ).loc Cert.DwPairIdeal.main_arg4) = m ((c.tc : Thread Cert.DwPairIdeal.nD Cert.DwPairIdeal.τ).loc Cert.DwPairIdeal.main_arg4))
      ∧ θ_run (Cert.DwPairRefIdeal.defs (F := Ideal)) (onTc (τ := Cert.DwPairRefIdeal.τ) (Cert.DwPairRefIdeal.main (F := Ideal))) ⟨m', fun _ => 0, g'⟩ (fun r => ∀ c : Dev Cert.DwPairRefIdeal.nD,
          r.2.mem ((c.tc : Thread Cert.DwPairRefIdeal.nD Cert.DwPairRefIdeal.τ).loc Cert.DwPairRefIdeal.main_v12) = v0 c
          ∧ r.2.mem ((c.tc : Thread Cert.DwPairRefIdeal.nD Cert.DwPairRefIdeal.τ).loc Cert.DwPairRefIdeal.main_v15) = v1 c
          ∧ r.2.mem ((c.tc : Thread Cert.DwPairRefIdeal.nD Cert.DwPairRefIdeal.τ).loc Cert.DwPairRefIdeal.main_arg0) = m' ((c.tc : Thread Cert.DwPairRefIdeal.nD Cert.DwPairRefIdeal.τ).loc Cert.DwPairRefIdeal.main_arg0)
          ∧ r.2.mem ((c.tc : Thread Cert.DwPairRefIdeal.nD Cert.DwPairRefIdeal.τ).loc Cert.DwPairRefIdeal.main_arg1) = m' ((c.tc : Thread Cert.DwPairRefIdeal.nD Cert.DwPairRefIdeal.τ).loc Cert.DwPairRefIdeal.main_arg1)
          ∧ r.2.mem ((c.tc : Thread Cert.DwPairRefIdeal.nD Cert.DwPairRefIdeal.τ).loc Cert.DwPairRefIdeal.main_arg2) = m' ((c.tc : Thread Cert.DwPairRefIdeal.nD Cert.DwPairRefIdeal.τ).loc Cert.DwPairRefIdeal.main_arg2)
          ∧ r.2.mem ((c.tc : Thread Cert.DwPairRefIdeal.nD Cert.DwPairRefIdeal.τ).loc Cert.DwPairRefIdeal.main_arg3) = m' ((c.tc : Thread Cert.DwPairRefIdeal.nD Cert.DwPairRefIdeal.τ).loc Cert.DwPairRefIdeal.main_arg3)
          ∧ r.2.mem ((c.tc : Thread Cert.DwPairRefIdeal.nD Cert.DwPairRefIdeal.τ).loc Cert.DwPairRefIdeal.main_arg4) = m' ((c.tc : Thread Cert.DwPairRefIdeal.nD Cert.DwPairRefIdeal.τ).loc Cert.DwPairRefIdeal.main_arg4))

def Claim : Prop :=
  ∃ (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hDwGate : Cert.DwGate.Facts) (hDwGateIdeal : Cert.DwGateIdeal.Facts) (hDwGateRefIdeal : Cert.DwGateRefIdeal.Facts) (hDwDown : Cert.DwDown.Facts) (hDwDownIdeal : Cert.DwDownIdeal.Facts) (hDwDownRefIdeal : Cert.DwDownRefIdeal.Facts) (hInF : Cert.InF.Facts) (hInFIdeal : Cert.InFIdeal.Facts) (hInFRefIdeal : Cert.InFRefIdeal.Facts) (hMixOut : Cert.MixOut.Facts) (hMixOutIdeal : Cert.MixOutIdeal.Facts) (hMixOutRefIdeal : Cert.MixOutRefIdeal.Facts) (hFfnF : Cert.FfnF.Facts) (hFfnFIdeal : Cert.FfnFIdeal.Facts) (hFfnFRefIdeal : Cert.FfnFRefIdeal.Facts) (hDwOut : Cert.DwOut.Facts) (hDwOutIdeal : Cert.DwOutIdeal.Facts) (hDwOutRefIdeal : Cert.DwOutRefIdeal.Facts) (hDwPair : Cert.DwPair.Facts) (hDwPairIdeal : Cert.DwPairIdeal.Facts) (hDwPairRefIdeal : Cert.DwPairRefIdeal.Facts) (hPre_finite_ffn : Cert.Pre_finite_ffn.Facts) (hPre_finite_in : Cert.Pre_finite_in.Facts) (hPre_finite_ffn_fwd : Cert.Pre_finite_ffn_fwd.Facts),
    quiescent_Mix (hMix := hMix)
    ∧ quiescent_MixIdeal (hMixIdeal := hMixIdeal)
    ∧ quiescent_MixRefIdeal (hMixRefIdeal := hMixRefIdeal)
    ∧ quiescent_Ffn (hFfn := hFfn)
    ∧ quiescent_FfnIdeal (hFfnIdeal := hFfnIdeal)
    ∧ quiescent_FfnIdeal_pre_finite_ffn (hFfnIdeal := hFfnIdeal) (hPre_finite_ffn := hPre_finite_ffn)
    ∧ quiescent_FfnRefIdeal (hFfnRefIdeal := hFfnRefIdeal)
    ∧ quiescent_FfnRefIdeal_pre_finite_ffn (hFfnRefIdeal := hFfnRefIdeal) (hPre_finite_ffn := hPre_finite_ffn)
    ∧ quiescent_InProj (hInProj := hInProj)
    ∧ quiescent_InProjIdeal (hInProjIdeal := hInProjIdeal)
    ∧ quiescent_InProjIdeal_pre_finite_in (hInProjIdeal := hInProjIdeal) (hPre_finite_in := hPre_finite_in)
    ∧ quiescent_InProjRefIdeal (hInProjRefIdeal := hInProjRefIdeal)
    ∧ quiescent_InProjRefIdeal_pre_finite_in (hInProjRefIdeal := hInProjRefIdeal) (hPre_finite_in := hPre_finite_in)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_InF (hInF := hInF)
    ∧ quiescent_InFIdeal (hInFIdeal := hInFIdeal)
    ∧ quiescent_InFRefIdeal (hInFRefIdeal := hInFRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FfnF (hFfnF := hFfnF)
    ∧ quiescent_FfnFIdeal (hFfnFIdeal := hFfnFIdeal)
    ∧ quiescent_FfnFIdeal_pre_finite_ffn_fwd (hFfnFIdeal := hFfnFIdeal) (hPre_finite_ffn_fwd := hPre_finite_ffn_fwd)
    ∧ quiescent_FfnFRefIdeal (hFfnFRefIdeal := hFfnFRefIdeal)
    ∧ quiescent_FfnFRefIdeal_pre_finite_ffn_fwd (hFfnFRefIdeal := hFfnFRefIdeal) (hPre_finite_ffn_fwd := hPre_finite_ffn_fwd)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DwPair (hDwPair := hDwPair)
    ∧ quiescent_DwPairIdeal (hDwPairIdeal := hDwPairIdeal)
    ∧ quiescent_DwPairRefIdeal (hDwPairRefIdeal := hDwPairRefIdeal)
    ∧ preserves_Mix_MixIdeal
    ∧ algebraic_MixIdeal_MixRefIdeal (hMixIdeal := hMixIdeal) (hMixRefIdeal := hMixRefIdeal)
    ∧ preserves_Ffn_FfnIdeal
    ∧ algebraic_FfnIdeal_FfnRefIdeal_pre_finite_ffn (hFfnIdeal := hFfnIdeal) (hFfnRefIdeal := hFfnRefIdeal) (hPre_finite_ffn := hPre_finite_ffn)
    ∧ preserves_InProj_InProjIdeal
    ∧ algebraic_InProjIdeal_InProjRefIdeal_pre_finite_in (hInProjIdeal := hInProjIdeal) (hInProjRefIdeal := hInProjRefIdeal) (hPre_finite_in := hPre_finite_in)
    ∧ preserves_DwGate_DwGateIdeal
    ∧ algebraic_DwGateIdeal_DwGateRefIdeal (hDwGateIdeal := hDwGateIdeal) (hDwGateRefIdeal := hDwGateRefIdeal)
    ∧ preserves_DwDown_DwDownIdeal
    ∧ algebraic_DwDownIdeal_DwDownRefIdeal (hDwDownIdeal := hDwDownIdeal) (hDwDownRefIdeal := hDwDownRefIdeal)
    ∧ preserves_InF_InFIdeal
    ∧ algebraic_InFIdeal_InFRefIdeal (hInFIdeal := hInFIdeal) (hInFRefIdeal := hInFRefIdeal)
    ∧ preserves_MixOut_MixOutIdeal
    ∧ algebraic_MixOutIdeal_MixOutRefIdeal (hMixOutIdeal := hMixOutIdeal) (hMixOutRefIdeal := hMixOutRefIdeal)
    ∧ preserves_FfnF_FfnFIdeal
    ∧ algebraic_FfnFIdeal_FfnFRefIdeal_pre_finite_ffn_fwd (hFfnFIdeal := hFfnFIdeal) (hFfnFRefIdeal := hFfnFRefIdeal) (hPre_finite_ffn_fwd := hPre_finite_ffn_fwd)
    ∧ preserves_DwOut_DwOutIdeal
    ∧ algebraic_DwOutIdeal_DwOutRefIdeal (hDwOutIdeal := hDwOutIdeal) (hDwOutRefIdeal := hDwOutRefIdeal)
    ∧ preserves_DwPair_DwPairIdeal
    ∧ algebraic_DwPairIdeal_DwPairRefIdeal (hDwPairIdeal := hDwPairIdeal) (hDwPairRefIdeal := hDwPairRefIdeal)
-- ==== Pre_finite_ffn.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S2x2048x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S2x2048x1024 .f32 := Host.absf main_arg5
  let main_cst_8 : FVec F S_ .f32 := constant S_ .f32 0x7F800000#32
  let main_v25 : FVec F S2x2048x1024 .f32 := broadcastInDim S2x2048x1024 ![] bcast_S_S2x2048x1024 main_cst_8
  let main_v26 : IVec S2x2048x1024 1 := cmpf .olt main_v24 main_v25
  let main_c_9 : IVec S_ 1 := constantI S_ 1 1#1
  let main_v27 : IVec S_ 1 := (fun x v => Host.reduce IntOp.andi x v reducesTo_S2x2048x1024_S_d0_1_2 h_S_) main_v26 main_c_9
  let main_v28 : IVec S_ 1 := andi main_v23 main_v27
  main_v28

def fn {F : FTy → Type} [FloatOps F] (main_arg0 : FVec F S2x2048x1024 .f32) (main_arg1 : FVec F S1024 .f32) (main_arg2 : FVec F S1024x2816 .f32) (main_arg3 : FVec F S1024x2816 .f32) (main_arg4 : FVec F S2816x1024 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_ffn_fwd.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S2x2048x1024 .f32) (main_arg1 : FVec F S1024 .f32) (main_arg2 : FVec F S1024 .f32) (main_arg3 : FVec F S2x2048x1024 .f32) (main_arg4 : FVec F S1024x2816 .f32) (main_arg5 : FVec F S1024x2816 .f32) (main_arg6 : FVec F S2816x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S2x2048x1024 .f32 := Host.absf main_arg3
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_arg4 main_arg5 main_arg6 main_v13 main_v16
-- ==== Pre_finite_in.lean ====
abbrev S2x2048x1024 : Shape := ⟨3, ![2, 2048, 1024]⟩
abbrev S1024 : Shape := ⟨1, ![1024]⟩
abbrev S1024x4104 : Shape := ⟨2, ![1024, 4104]⟩
abbrev S2x2048x512 : Shape := ⟨3, ![2, 2048, 512]⟩
abbrev S2x2048x8 : Shape := ⟨3, ![2, 2048, 8]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x4104 : S_.BroadcastsInDim S1024x4104 (![] : Fin 0 → Fin S1024x4104.rank)
  reducesTo_S1024x4104_S_d0_1 : S1024x4104.ReducesTo [0, 1] S_
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048x8 : S_.BroadcastsInDim S2x2048x8 (![] : Fin 0 → Fin S2x2048x8.rank)
  reducesTo_S2x2048x8_S_d0_1_2 : S2x2048x8.ReducesTo [0, 1, 2] S_

variable [Facts]

def fn_part3 {F : FTy → Type} [FloatOps F] (main_v48 : IVec S_ 1) (main_v49 : FVec F S2x2048x1024 .f32) (main_v50 : FVec F S2x2048x1024 .f32) : IVec S_ 1 :=
  let main_v51 : IVec S2x2048x1024 1 := cmpf .olt main_v49 main_v50
  let main_c_19 : IVec S_ 1 := constantI S_ 1 1#1
  let main_v52 : IVec S_ 1 := (fun x v => Host.reduce IntOp.andi x v reducesTo_S2x2048x1024_S_d0_1_2 h_S_) main_v51 main_c_19
  let main_v53 : IVec S_ 1 := andi main_v48 main_v52
  main_v53

def fn_part2 {F : FTy → Type} [FloatOps F] (main_arg7 : FVec F S2x2048x512 .f32) (main_arg8 : FVec F S2x2048x8 .f32) (main_arg9 : FVec F S2x2048x1024 .f32) (main_arg10 : FVec F S2x2048x1024 .f32) (main_v33 : IVec S_ 1) : IVec S_ 1 :=
  let main_v34 : FVec F S2x2048x512 .f32 := Host.absf main_arg7
  let main_cst_12 : FVec F S_ .f32 := constant S_ .f32 0x7F800000#32
  let main_v35 : FVec F S2x2048x512 .f32 := broadcastInDim S2x2048x512 ![] bcast_S_S2x2048x512 main_cst_12
  let main_v36 : IVec S2x2048x512 1 := cmpf .olt main_v34 main_v35
  let main_c_13 : IVec S_ 1 := constantI S_ 1 1#1
  let main_v37 : IVec S_ 1 := (fun x v => Host.reduce IntOp.andi x v reducesTo_S2x2048x512_S_d0_1_2 h_S_) main_v36 main_c_13
  let main_v38 : IVec S_ 1 := andi main_v33 main_v37
  let main_v39 : FVec F S2x2048x8 .f32 := Host.absf main_arg8
  let main_cst_14 : FVec F S_ .f32 := constant S_ .f32 0x7F800000#32
  let main_v40 : FVec F S2x2048x8 .f32 := broadcastInDim S2x2048x8 ![] bcast_S_S2x2048x8 main_cst_14
  let main_v41 : IVec S2x2048x8 1 := cmpf .olt main_v39 main_v40
  let main_c_15 : IVec S_ 1 := constantI S_ 1 1#1
  let main_v42 : IVec S_ 1 := (fun x v => Host.reduce IntOp.andi x v reducesTo_S2x2048x8_S_d0_1_2 h_S_) main_v41 main_c_15
  let main_v43 : IVec S_ 1 := andi main_v38 main_v42
  let main_v44 : FVec F S2x2048x1024 .f32 := Host.absf main_arg9
  let main_cst_16 : FVec F S_ .f32 := constant S_ .f32 0x7F800000#32
  let main_v45 : FVec F S2x2048x1024 .f32 := broadcastInDim S2x2048x1024 ![] bcast_S_S2x2048x1024 main_cst_16
  let main_v46 : IVec S2x2048x1024 1 := cmpf .olt main_v44 main_v45
  let main_c_17 : IVec S_ 1 := constantI S_ 1 1#1
  let main_v47 : IVec S_ 1 := (fun x v => Host.reduce IntOp.andi x v reducesTo_S2x2048x1024_S_d0_1_2 h_S_) main_v46 main_c_17
  let main_v48 : IVec S_ 1 := andi main_v43 main_v47
  let main_v49 : FVec F S2x2048x1024 .f32 := Host.absf main_arg10
  let main_cst_18 : FVec F S_ .f32 := constant S_ .f32 0x7F800000#32
  let main_v50 : FVec F S2x2048x1024 .f32 := broadcastInDim S2x2048x1024 ![] bcast_S_S2x2048x1024 main_cst_18
  fn_part3 (F := F) main_v48 main_v49 main_v50

def fn_part1 {F : FTy → Type} [FloatOps F] (main_arg4 : FVec F S2x2048x512 .f32) (main_arg5 : FVec F S2x2048x512 .f32) (main_arg6 : FVec F S2x2048x512 .f32) (main_arg7 : FVec F S2x2048x512 .f32) (main_arg8 : FVec F S2x2048x8 .f32) (main_arg9 : FVec F S2x2048x1024 .f32) (main_arg10 : FVec F S2x2048x1024 .f32) (main_v13 : IVec S_ 1) (main_v16 : IVec S2x2048x1024 1) : IVec S_ 1 :=
  let main_c_5 : IVec S_ 1 := constantI S_ 1 1#1
  let main_v17 : IVec S_ 1 := (fun x v => Host.reduce IntOp.andi x v reducesTo_S2x2048x1024_S_d0_1_2 h_S_) main_v16 main_c_5
  let main_v18 : IVec S_ 1 := andi main_v13 main_v17
  let main_v19 : FVec F S2x2048x512 .f32 := Host.absf main_arg4
  let main_cst_6 : FVec F S_ .f32 := constant S_ .f32 0x7F800000#32
  let main_v20 : FVec F S2x2048x512 .f32 := broadcastInDim S2x2048x512 ![] bcast_S_S2x2048x512 main_cst_6
  let main_v21 : IVec S2x2048x512 1 := cmpf .olt main_v19 main_v20
  let main_c_7 : IVec S_ 1 := constantI S_ 1 1#1
  let main_v22 : IVec S_ 1 := (fun x v => Host.reduce IntOp.andi x v reducesTo_S2x2048x512_S_d0_1_2 h_S_) main_v21 main_c_7
  let main_v23 : IVec S_ 1 := andi main_v18 main_v22
  let main_v24 : FVec F S2x2048x512 .f32 := Host.absf main_arg5
  let main_cst_8 : FVec F S_ .f32 := constant S_ .f32 0x7F800000#32
  let main_v25 : FVec F S2x2048x512 .f32 := broadcastInDim S2x2048x512 ![] bcast_S_S2x2048x512 main_cst_8
  let main_v26 : IVec S2x2048x512 1 := cmpf .olt main_v24 main_v25
  let main_c_9 : IVec S_ 1 := constantI S_ 1 1#1
  let main_v27 : IVec S_ 1 := (fun x v => Host.reduce IntOp.andi x v reducesTo_S2x2048x512_S_d0_1_2 h_S_) main_v26 main_c_9
  let main_v28 : IVec S_ 1 := andi main_v23 main_v27
  let main_v29 : FVec F S2x2048x512 .f32 := Host.absf main_arg6
  let main_cst_10 : FVec F S_ .f32 := constant S_ .f32 0x7F800000#32
  let main_v30 : FVec F S2x2048x512 .f32 := broadcastInDim S2x2048x512 ![] bcast_S_S2x2048x512 main_cst_10
  let main_v31 : IVec S2x2048x512 1 := cmpf .olt main_v29 main_v30
  let main_c_11 : IVec S_ 1 := constantI S_ 1 1#1
  let main_v32 : IVec S_ 1 := (fun x v => Host.reduce IntOp.andi x v reducesTo_S2x2048x512_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S2x2048x1024 .f32) (main_arg1 : FVec F S1024 .f32) (main_arg2 : FVec F S1024x4104 .f32) (main_arg3 : FVec F S2x2048x1024 .f32) (main_arg4 : FVec F S2x2048x512 .f32) (main_arg5 : FVec F S2x2048x512 .f32) (main_arg6 : FVec F S2x2048x512 .f32) (main_arg7 : FVec F S2x2048x512 .f32) (main_arg8 : FVec F S2x2048x8 .f32) (main_arg9 : FVec F S2x2048x1024 .f32) (main_arg10 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4104 .f32 := Host.absf main_arg2
  let main_cst_2 : FVec F S_ .f32 := constant S_ .f32 0x7F800000#32
  let main_v10 : FVec F S1024x4104 .f32 := broadcastInDim S1024x4104 ![] bcast_S_S1024x4104 main_cst_2
  let main_v11 : IVec S1024x4104 1 := cmpf .olt main_v9 main_v10
  let main_c_3 : IVec S_ 1 := constantI S_ 1 1#1
  let main_v12 : IVec S_ 1 := (fun x v => Host.reduce IntOp.andi x v reducesTo_S1024x4104_S_d0_1 h_S_) main_v11 main_c_3
  let main_v13 : IVec S_ 1 := andi main_v8 main_v12
  let main_v14 : FVec F S2x2048x1024 .f32 := Host.absf main_arg3
  let main_cst_4 : FVec F S_ .f32 := constant S_ .f32 0x7F800000#32
  let main_v15 : FVec F S2x2048x1024 .f32 := broadcastInDim S2x2048x1024 ![] bcast_S_S2x2048x1024 main_cst_4
  let main_v16 : IVec S2x2048x1024 1 := cmpf .olt main_v14 main_v15
  fn_part1 (F := F) main_arg4 main_arg5 main_arg6 main_arg7 main_arg8 main_arg9 main_arg10 main_v13 main_v16
-- ==== Mix.lean ====
abbrev S2x2048x1024 : Shape := ⟨3, ![2, 2048, 1024]⟩
abbrev S2x2048x512 : Shape := ⟨3, ![2, 2048, 512]⟩
abbrev S512 : Shape := ⟨1, ![512]⟩
abbrev S512x1024 : Shape := ⟨2, ![512, 1024]⟩
abbrev S1024x1024 : Shape := ⟨2, ![1024, 1024]⟩
abbrev S1x1x512 : Shape := ⟨3, ![1, 1, 512]⟩
abbrev S4096x1024 : Shape := ⟨2, ![4096, 1024]⟩
abbrev S2x2048x2048 : Shape := ⟨3, ![2, 2048, 2048]⟩
abbrev S4096x2048 : Shape := ⟨2, ![4096, 2048]⟩
abbrev S4096x512 : Shape := ⟨2, ![4096, 512]⟩
abbrev S1x512 : Shape := ⟨2, ![1, 512]⟩
abbrev S512x8x128 : Shape := ⟨3, ![512, 8, 128]⟩
abbrev S8x512x128 : Shape := ⟨3, ![8, 512, 128]⟩
abbrev S_ : Shape := ⟨0, ![]⟩
abbrev S8x128 : Shape := ⟨2, ![8, 128]⟩
abbrev S512x2048 : Shape := ⟨2, ![512, 2048]⟩
abbrev S512x512 : Shape := ⟨2, ![512, 512]⟩
abbrev S1x512x128 : Shape := ⟨3, ![1, 512, 128]⟩
abbrev S512x128 : Shape := ⟨2, ![512, 128]⟩

abbrev nBuf : Space → Nat
  | .hbm => 39
  | .vmem => 25
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x512, .f32⟩
  | .hbm, ⟨3, _⟩ => ⟨S512, .f32⟩
  | .hbm, ⟨4, _⟩ => ⟨S2x2048x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x2048x1024, .f32⟩
  | .hbm, ⟨9, _⟩ => ⟨S1x1x512, .f32⟩
  | .hbm, ⟨10, _⟩ => ⟨S2x2048x512, .f32⟩
  | .hbm, ⟨11, _⟩ => ⟨S2x2048x512, .f32⟩
  | .hbm, ⟨12, _⟩ => ⟨S2x2048x1024, .f32⟩
  | .hbm, ⟨13, _⟩ => ⟨S4096x1024, .f32⟩
  | .hbm, ⟨14, _⟩ => ⟨S4096x1024, .bf16⟩
  | .hbm, ⟨15, _⟩ => ⟨S2x2048x1024, .f32⟩
  | .hbm, ⟨16, _⟩ => ⟨S4096x1024, .f32⟩
  | .hbm, ⟨17, _⟩ => ⟨S4096x1024, .bf16⟩
  | .hbm, ⟨18, _⟩ => ⟨S2x2048x2048, .f32⟩
  | .hbm, ⟨19, _⟩ => ⟨S4096x2048, .f32⟩
  | .hbm, ⟨20, _⟩ => ⟨S4096x2048, .bf16⟩
  | .hbm, ⟨21, _⟩ => ⟨S4096x1024, .f32⟩
  | .hbm, ⟨22, _⟩ => ⟨S4096x512, .f32⟩
  | .hbm, ⟨23, _⟩ => ⟨S1x512, .f32⟩
  | .hbm, ⟨24, _⟩ => ⟨S1024x1024, .bf16⟩
  | .hbm, ⟨25, _⟩ => ⟨S512x8x128, .f32⟩
  | .hbm, ⟨26, _⟩ => ⟨S8x512x128, .f32⟩
  | .hbm, ⟨27, _⟩ => ⟨S8x512x128, .bf16⟩
  | .hbm, ⟨28, _⟩ => ⟨S512x8x128, .f32⟩
  | .hbm, ⟨29, _⟩ => ⟨S8x512x128, .f32⟩
  | .hbm, ⟨30, _⟩ => ⟨S8x512x128, .bf16⟩
  | .hbm, ⟨31, _⟩ => ⟨S_, .f32⟩
  | .hbm, ⟨32, _⟩ => ⟨S8x128, .f32⟩
  | .hbm, ⟨33, _⟩ => ⟨S4096x2048, .bf16⟩
  | .hbm, ⟨34, _⟩ => ⟨S4096x1024, .bf16⟩
  | .hbm, ⟨35, _⟩ => ⟨S4096x1024, .bf16⟩
  | .hbm, ⟨36, _⟩ => ⟨S4096x512, .bf16⟩
  | .hbm, ⟨37, _⟩ => ⟨S4096x512, .bf16⟩
  | .hbm, ⟨38, _⟩ => ⟨S1x512, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1024x1024, .bf16⟩
  | .local _ .vmem, ⟨12, _⟩ => ⟨S8x512x128, .bf16⟩
  | .local _ .vmem, ⟨13, _⟩ => ⟨S8x512x128, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S1x512, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev main_v23_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x512x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixRefIdeal.lean ====
abbrev S2x2048x1024 : Shape := ⟨3, ![2, 2048, 1024]⟩
abbrev S2x2048x512 : Shape := ⟨3, ![2, 2048, 512]⟩
abbrev S512 : Shape := ⟨1, ![512]⟩
abbrev S512x1024 : Shape := ⟨2, ![512, 1024]⟩
abbrev S1024x1024 : Shape := ⟨2, ![1024, 1024]⟩
abbrev S1x1x512 : Shape := ⟨3, ![1, 1, 512]⟩
abbrev S_ : Shape := ⟨0, ![]⟩
abbrev S2x2048x2048 : Shape := ⟨3, ![2, 2048, 2048]⟩
abbrev S4096x2048 : Shape := ⟨2, ![4096, 2048]⟩
abbrev S4096x1024 : Shape := ⟨2, ![4096, 1024]⟩
abbrev S4096x512 : Shape := ⟨2, ![4096, 512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x512, .f32⟩
  | .hbm, ⟨3, _⟩ => ⟨S512, .f32⟩
  | .hbm, ⟨4, _⟩ => ⟨S2x2048x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x2048x1024, .f32⟩
  | .hbm, ⟨9, _⟩ => ⟨S1x1x512, .f32⟩
  | .hbm, ⟨10, _⟩ => ⟨S2x2048x512, .f32⟩
  | .hbm, ⟨11, _⟩ => ⟨S2x2048x512, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S_, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S2x2048x1024, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S1x1x512, .f32⟩
  | .hbm, ⟨50, _⟩ => ⟨S2x2048x512, .f32⟩
  | .hbm, ⟨51, _⟩ => ⟨S2x2048x512, .f32⟩
  | .hbm, ⟨52, _⟩ => ⟨S2x2048x1024, .f32⟩
  | .hbm, ⟨53, _⟩ => ⟨S2x2048x512, .f32⟩
  | .hbm, ⟨54, _⟩ => ⟨S2x2048x512, .f32⟩
  | .hbm, ⟨55, _⟩ => ⟨S_, .f32⟩
  | .hbm, ⟨56, _⟩ => ⟨S512, .f32⟩
  | .hbm, ⟨57, _⟩ => ⟨S1x1x512, .f32⟩
  | .hbm, ⟨58, _⟩ => ⟨S2x2048x512, .f32⟩
  | .hbm, ⟨59, _⟩ => ⟨S2x2048x512, .f32⟩
  | .hbm, ⟨60, _⟩ => ⟨S_, .f32⟩
  | .hbm, ⟨61, _⟩ => ⟨S512, .f32⟩
  | .hbm, ⟨62, _⟩ => ⟨S2x2048x1024, .f32⟩
  | .hbm, ⟨63, _⟩ => ⟨S2x2048x512, .f32⟩
  | .hbm, ⟨64, _⟩ => ⟨S2x2048x2048, .f32⟩
  | .hbm, ⟨65, _⟩ => ⟨S4096x2048, .f32⟩
  | .hbm, ⟨66, _⟩ => ⟨S4096x2048, .bf16⟩
  | .hbm, ⟨67, _⟩ => ⟨S4096x1024, .f32⟩
  | .hbm, ⟨68, _⟩ => ⟨S4096x1024, .bf16⟩
  | .hbm, ⟨69, _⟩ => ⟨S4096x1024, .f32⟩
  | .hbm, ⟨70, _⟩ => ⟨S4096x1024, .bf16⟩
  | .hbm, ⟨71, _⟩ => ⟨S4096x512, .f32⟩
  | .hbm, ⟨72, _⟩ => ⟨S4096x512, .bf16⟩
  | .hbm, ⟨73, _⟩ => ⟨S4096x512, .f32⟩
  | .hbm, ⟨74, _⟩ => ⟨S4096x512, .bf16⟩
  | .hbm, ⟨75, _⟩ => ⟨S1x512, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== Ffn.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x2816 : Shape := ⟨2, ![4096, 2816]⟩
abbrev S1x1024 : Shape := ⟨2, ![1, 1024]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩

abbrev nBuf : Space → Nat
  | .hbm => 40
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1024, .f32⟩
  | .hbm, ⟨18, _⟩ => ⟨S2x2048x1024, .f32⟩
  | .hbm, ⟨19, _⟩ => ⟨S1x1x1024, .f32⟩
  | .hbm, ⟨20, _⟩ => ⟨S2x2048x1024, .f32⟩
  | .hbm, ⟨21, _⟩ => ⟨S2x2048x1024, .f32⟩
  | .hbm, ⟨22, _⟩ => ⟨S2x2048x2816, .f32⟩
  | .hbm, ⟨23, _⟩ => ⟨S2x2048x2816, .f32⟩
  | .hbm, ⟨24, _⟩ => ⟨S4096x1024, .f32⟩
  | .hbm, ⟨25, _⟩ => ⟨S4096x2816, .f32⟩
  | .hbm, ⟨26, _⟩ => ⟨S4096x2816, .bf16⟩
  | .hbm, ⟨27, _⟩ => ⟨S4096x2816, .f32⟩
  | .hbm, ⟨28, _⟩ => ⟨S4096x2816, .bf16⟩
  | .hbm, ⟨29, _⟩ => ⟨S4096x1024, .f32⟩
  | .hbm, ⟨30, _⟩ => ⟨S1x1024, .f32⟩
  | .hbm, ⟨31, _⟩ => ⟨S2816x1024, .f32⟩
  | .hbm, ⟨32, _⟩ => ⟨S2816x1024, .bf16⟩
  | .hbm, ⟨33, _⟩ => ⟨S2816x1024, .f32⟩
  | .hbm, ⟨34, _⟩ => ⟨S2816x1024, .bf16⟩
  | .hbm, ⟨35, _⟩ => ⟨S2816x1024, .bf16⟩
  | .hbm, ⟨36, _⟩ => ⟨S4096x2816, .bf16⟩
  | .hbm, ⟨37, _⟩ => ⟨S4096x2816, .bf16⟩
  | .hbm, ⟨38, _⟩ => ⟨S4096x1024, .f32⟩
  | .hbm, ⟨39, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27_0 : Ref sig .tc := ⟨.hbm, 36, rfl⟩
abbrev main_v27_1 : Ref sig .tc := ⟨.hbm, 37, rfl⟩
abbrev main_v27_2 : Ref sig .tc := ⟨.hbm, 38, rfl⟩
abbrev main_v27_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnRefIdeal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x2816 : Shape := ⟨2, ![4096, 2816]⟩
abbrev S4096x1024 : Shape := ⟨2, ![4096, 1024]⟩
abbrev S1x1024 : Shape := ⟨2, ![1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S1x1x1024, .f32⟩
  | .hbm, ⟨24, _⟩ => ⟨S2x2048x1024, .f32⟩
  | .hbm, ⟨25, _⟩ => ⟨S2x2048x1024, .f32⟩
  | .hbm, ⟨26, _⟩ => ⟨S2x2048x2816, .f32⟩
  | .hbm, ⟨27, _⟩ => ⟨S2x2048x2816, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S_, .f32⟩
  | .hbm, ⟨34, _⟩ => ⟨S2x2048x2816, .f32⟩
  | .hbm, ⟨35, _⟩ => ⟨S2x2048x2816, .f32⟩
  | .hbm, ⟨36, _⟩ => ⟨S_, .f32⟩
  | .hbm, ⟨37, _⟩ => ⟨S2x2048x2816, .f32⟩
  | .hbm, ⟨38, _⟩ => ⟨S2x2048x2816, .f32⟩
  | .hbm, ⟨39, _⟩ => ⟨S2x2048x2816, .f32⟩
  | .hbm, ⟨40, _⟩ => ⟨S2x2048x2816, .f32⟩
  | .hbm, ⟨41, _⟩ => ⟨S2x2048x2816, .f32⟩
  | .hbm, ⟨42, _⟩ => ⟨S2x2048x1024, .f32⟩
  | .hbm, ⟨43, _⟩ => ⟨S2x2048x2816, .f32⟩
  | .hbm, ⟨44, _⟩ => ⟨S2x2048x2816, .f32⟩
  | .hbm, ⟨45, _⟩ => ⟨S2x2048x2816, .f32⟩
  | .hbm, ⟨46, _⟩ => ⟨S2x2048x2816, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S_, .f32⟩
  | .hbm, ⟨55, _⟩ => ⟨S1024, .f32⟩
  | .hbm, ⟨56, _⟩ => ⟨S1x1x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S1024, .f32⟩
  | .hbm, ⟨61, _⟩ => ⟨S2x2048x1024, .f32⟩
  | .hbm, ⟨62, _⟩ => ⟨S_, .f32⟩
  | .hbm, ⟨63, _⟩ => ⟨S2x2048, .f32⟩
  | .hbm, ⟨64, _⟩ => ⟨S2x2048x1, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1, .f32⟩
  | .hbm, ⟨69, _⟩ => ⟨S_, .f32⟩
  | .hbm, ⟨70, _⟩ => ⟨S2x2048x1, .f32⟩
  | .hbm, ⟨71, _⟩ => ⟨S2x2048x1, .f32⟩
  | .hbm, ⟨72, _⟩ => ⟨S_, .f32⟩
  | .hbm, ⟨73, _⟩ => ⟨S2x2048, .f32⟩
  | .hbm, ⟨74, _⟩ => ⟨S2x2048x1024, .f32⟩
  | .hbm, ⟨75, _⟩ => ⟨S2x2048x1024, .f32⟩
  | .hbm, ⟨76, _⟩ => ⟨S2x2048x1024, .f32⟩
  | .hbm, ⟨77, _⟩ => ⟨S2x2048x1024, .f32⟩
  | .hbm, ⟨78, _⟩ => ⟨S2x2048x1024, .f32⟩
  | .hbm, ⟨79, _⟩ => ⟨S4096x2816, .f32⟩
  | .hbm, ⟨80, _⟩ => ⟨S4096x2816, .bf16⟩
  | .hbm, ⟨81, _⟩ => ⟨S4096x2816, .f32⟩
  | .hbm, ⟨82, _⟩ => ⟨S4096x2816, .bf16⟩
  | .hbm, ⟨83, _⟩ => ⟨S4096x1024, .f32⟩
  | .hbm, ⟨84, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_3 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== InProj.lean ====
abbrev S2x2048x1024 : Shape := ⟨3, ![2, 2048, 1024]⟩
abbrev S1024 : Shape := ⟨1, ![1024]⟩
abbrev S1024x4104 : Shape := ⟨2, ![1024, 4104]⟩
abbrev S2x2048x512 : Shape := ⟨3, ![2, 2048, 512]⟩
abbrev S2x2048x8 : Shape := ⟨3, ![2, 2048, 8]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S4096x512 : Shape := ⟨2, ![4096, 512]⟩
abbrev S4096x8 : Shape := ⟨2, ![4096, 8]⟩
abbrev S4096x128 : Shape := ⟨2, ![4096, 128]⟩
abbrev S2x2048x2048 : Shape := ⟨3, ![2, 2048, 2048]⟩
abbrev S4096x2048 : Shape := ⟨2, ![4096, 2048]⟩
abbrev S4096x1024 : Shape := ⟨2, ![4096, 1024]⟩
abbrev S1x1024 : Shape := ⟨2, ![1, 1024]⟩
abbrev S8x128 : Shape := ⟨2, ![8, 128]⟩
abbrev S512x512 : Shape := ⟨2, ![512, 512]⟩
abbrev S512x128 : Shape := ⟨2, ![512, 128]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩

abbrev nBuf : Space → Nat
  | .hbm => 43
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x4104, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x8, .f32⟩
  | .hbm, ⟨9, _⟩ => ⟨S2x2048x1024, .f32⟩
  | .hbm, ⟨10, _⟩ => ⟨S2x2048x1024, .f32⟩
  | .hbm, ⟨11, _⟩ => ⟨S1024x2048, .f32⟩
  | .hbm, ⟨12, _⟩ => ⟨S1024x2048, .bf16⟩
  | .hbm, ⟨13, _⟩ => ⟨S1024x8, .f32⟩
  | .hbm, ⟨14, _⟩ => ⟨S_, .i32⟩
  | .hbm, ⟨15, _⟩ => ⟨S_, .f32⟩
  | .hbm, ⟨16, _⟩ => ⟨S1024x128, .f32⟩
  | .hbm, ⟨17, _⟩ => ⟨S1024x128, .bf16⟩
  | .hbm, ⟨18, _⟩ => ⟨S1024x2048, .f32⟩
  | .hbm, ⟨19, _⟩ => ⟨S1024x2048, .bf16⟩
  | .hbm, ⟨20, _⟩ => ⟨S4096x512, .f32⟩
  | .hbm, ⟨21, _⟩ => ⟨S4096x512, .bf16⟩
  | .hbm, ⟨22, _⟩ => ⟨S4096x512, .f32⟩
  | .hbm, ⟨23, _⟩ => ⟨S4096x512, .bf16⟩
  | .hbm, ⟨24, _⟩ => ⟨S4096x512, .f32⟩
  | .hbm, ⟨25, _⟩ => ⟨S4096x512, .bf16⟩
  | .hbm, ⟨26, _⟩ => ⟨S4096x512, .f32⟩
  | .hbm, ⟨27, _⟩ => ⟨S4096x512, .bf16⟩
  | .hbm, ⟨28, _⟩ => ⟨S4096x8, .f32⟩
  | .hbm, ⟨29, _⟩ => ⟨S4096x8, .bf16⟩
  | .hbm, ⟨30, _⟩ => ⟨S_, .i32⟩
  | .hbm, ⟨31, _⟩ => ⟨S_, .bf16⟩
  | .hbm, ⟨32, _⟩ => ⟨S4096x128, .bf16⟩
  | .hbm, ⟨33, _⟩ => ⟨S2x2048x2048, .f32⟩
  | .hbm, ⟨34, _⟩ => ⟨S4096x2048, .f32⟩
  | .hbm, ⟨35, _⟩ => ⟨S4096x2048, .bf16⟩
  | .hbm, ⟨36, _⟩ => ⟨S4096x1024, .f32⟩
  | .hbm, ⟨37, _⟩ => ⟨S4096x1024, .f32⟩
  | .hbm, ⟨38, _⟩ => ⟨S1x1024, .f32⟩
  | .hbm, ⟨39, _⟩ => ⟨S_, .f32⟩
  | .hbm, ⟨40, _⟩ => ⟨S8x128, .f32⟩
  | .hbm, ⟨41, _⟩ => ⟨S4096x1024, .f32⟩
  | .hbm, ⟨42, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1024x2048, .bf16⟩
  | .local _ .vmem, ⟨18, _⟩ => ⟨S1024x128, .bf16⟩
  | .local _ .vmem, ⟨19, _⟩ => ⟨S1024x2048, .bf16⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_0 : Ref sig .tc := ⟨.hbm, 30, rfl⟩
abbrev main_call1_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InProjRefIdeal.lean ====
abbrev S2x2048x1024 : Shape := ⟨3, ![2, 2048, 1024]⟩
abbrev S1024 : Shape := ⟨1, ![1024]⟩
abbrev S1024x4104 : Shape := ⟨2, ![1024, 4104]⟩
abbrev S2x2048x512 : Shape := ⟨3, ![2, 2048, 512]⟩
abbrev S2x2048x8 : Shape := ⟨3, ![2, 2048, 8]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x4104 : Shape := ⟨3, ![2, 2048, 4104]⟩
abbrev S4096x1024 : Shape := ⟨2, ![4096, 1024]⟩
abbrev S1x1024 : Shape := ⟨2, ![1, 1024]⟩

abbrev nBuf : Space → Nat
  | .hbm => 88
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x4104, .f32⟩
  | .hbm, ⟨3, _⟩ => ⟨S2x2048x1024, .f32⟩
  | .hbm, ⟨4, _⟩ => ⟨S2x2048x512, .f32⟩
  | .hbm, ⟨5, _⟩ => ⟨S2x2048x512, .f32⟩
  | .hbm, ⟨6, _⟩ => ⟨S2x2048x512, .f32⟩
  | .hbm, ⟨7, _⟩ => ⟨S2x2048x512, .f32⟩
  | .hbm, ⟨8, _⟩ => ⟨S2x2048x8, .f32⟩
  | .hbm, ⟨9, _⟩ => ⟨S2x2048x1024, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1, .f32⟩
  | .hbm, ⟨22, _⟩ => ⟨S2x2048x1, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1024, .f32⟩
  | .hbm, ⟨27, _⟩ => ⟨S2x2048x1024, .f32⟩
  | .hbm, ⟨28, _⟩ => ⟨S1x1x1024, .f32⟩
  | .hbm, ⟨29, _⟩ => ⟨S2x2048x1024, .f32⟩
  | .hbm, ⟨30, _⟩ => ⟨S2x2048x1024, .f32⟩
  | .hbm, ⟨31, _⟩ => ⟨S2x2048x4104, .f32⟩
  | .hbm, ⟨32, _⟩ => ⟨S2x2048x512, .f32⟩
  | .hbm, ⟨33, _⟩ => ⟨S2x2048x512, .f32⟩
  | .hbm, ⟨34, _⟩ => ⟨S2x2048x512, .f32⟩
  | .hbm, ⟨35, _⟩ => ⟨S2x2048x512, .f32⟩
  | .hbm, ⟨36, _⟩ => ⟨S2x2048x8, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x4104, .f32⟩
  | .hbm, ⟨41, _⟩ => ⟨S_, .f32⟩
  | .hbm, ⟨42, _⟩ => ⟨S2x2048x4104, .f32⟩
  | .hbm, ⟨43, _⟩ => ⟨S2x2048x4104, .f32⟩
  | .hbm, ⟨44, _⟩ => ⟨S_, .f32⟩
  | .hbm, ⟨45, _⟩ => ⟨S2x2048x4104, .f32⟩
  | .hbm, ⟨46, _⟩ => ⟨S2x2048x4104, .f32⟩
  | .hbm, ⟨47, _⟩ => ⟨S_, .f32⟩
  | .hbm, ⟨48, _⟩ => ⟨S2x2048x4104, .f32⟩
  | .hbm, ⟨49, _⟩ => ⟨S2x2048x4104, .f32⟩
  | .hbm, ⟨50, _⟩ => ⟨S_, .f32⟩
  | .hbm, ⟨51, _⟩ => ⟨S2x2048x4104, .f32⟩
  | .hbm, ⟨52, _⟩ => ⟨S2x2048x4104, .f32⟩
  | .hbm, ⟨53, _⟩ => ⟨S_, .f32⟩
  | .hbm, ⟨54, _⟩ => ⟨S2x2048x4104, .f32⟩
  | .hbm, ⟨55, _⟩ => ⟨S2x2048x4104, .f32⟩
  | .hbm, ⟨56, _⟩ => ⟨S_, .f32⟩
  | .hbm, ⟨57, _⟩ => ⟨S2x2048x4104, .f32⟩
  | .hbm, ⟨58, _⟩ => ⟨S2x2048x4104, .f32⟩
  | .hbm, ⟨59, _⟩ => ⟨S2x2048x1024, .f32⟩
  | .hbm, ⟨60, _⟩ => ⟨S2x2048x1024, .f32⟩
  | .hbm, ⟨61, _⟩ => ⟨S_, .f32⟩
  | .hbm, ⟨62, _⟩ => ⟨S1024, .f32⟩
  | .hbm, ⟨63, _⟩ => ⟨S1x1x1024, .f32⟩
  | .hbm, ⟨64, _⟩ => ⟨S2x2048x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S2x2048x1024, .f32⟩
  | .hbm, ⟨69, _⟩ => ⟨S_, .f32⟩
  | .hbm, ⟨70, _⟩ => ⟨S2x2048, .f32⟩
  | .hbm, ⟨71, _⟩ => ⟨S2x2048x1, .f32⟩
  | .hbm, ⟨72, _⟩ => ⟨S2x2048x1024, .f32⟩
  | .hbm, ⟨73, _⟩ => ⟨S2x2048x1024, .f32⟩
  | .hbm, ⟨74, _⟩ => ⟨S2x2048x1024, .f32⟩
  | .hbm, ⟨75, _⟩ => ⟨S2x2048x1, .f32⟩
  | .hbm, ⟨76, _⟩ => ⟨S_, .f32⟩
  | .hbm, ⟨77, _⟩ => ⟨S2x2048x1, .f32⟩
  | .hbm, ⟨78, _⟩ => ⟨S2x2048x1, .f32⟩
  | .hbm, ⟨79, _⟩ => ⟨S_, .f32⟩
  | .hbm, ⟨80, _⟩ => ⟨S2x2048, .f32⟩
  | .hbm, ⟨81, _⟩ => ⟨S2x2048x1024, .f32⟩
  | .hbm, ⟨82, _⟩ => ⟨S2x2048x1024, .f32⟩
  | .hbm, ⟨83, _⟩ => ⟨S2x2048x1024, .f32⟩
  | .hbm, ⟨84, _⟩ => ⟨S2x2048x1024, .f32⟩
  | .hbm, ⟨85, _⟩ => ⟨S2x2048x1024, .f32⟩
  | .hbm, ⟨86, _⟩ => ⟨S4096x1024, .f32⟩
  | .hbm, ⟨87, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_cst_6 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_13 : Ref sig .tc := ⟨.hbm, 76, rfl⟩
abbrev main_v51 : Ref sig .tc := ⟨.hbm, 77, rfl⟩
abbrev main_v52 : Ref sig .tc := ⟨.hbm, 78, rfl⟩
abbrev main_cst_14 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩

abbrev nD : Nat := 1
abbrev τ : Topo := Topo.v7x

variable {F : FTy → Type} [FloatOps F]
-- ==== DwGate.lean ====
abbrev S2x2048x1024 : Shape := ⟨3, ![2, 2048, 1024]⟩
abbrev S1024 : Shape := ⟨1, ![1024]⟩
abbrev S2x2048x2816 : Shape := ⟨3, ![2, 2048, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 24
  | .vmem => 7
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x2816, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S4096x2816, .f32⟩
  | .hbm, ⟨20, _⟩ => ⟨S4096x2816, .bf16⟩
  | .hbm, ⟨21, _⟩ => ⟨S4096x1024, .f32⟩
  | .hbm, ⟨22, _⟩ => ⟨S4096x1024, .bf16⟩
  | .hbm, ⟨23, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwGateRefIdeal.lean ====
abbrev S2x2048x1024 : Shape := ⟨3, ![2, 2048, 1024]⟩
abbrev S1024 : Shape := ⟨1, ![1024]⟩
abbrev S2x2048x2816 : Shape := ⟨3, ![2, 2048, 2816]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2816 : Shape := ⟨2, ![1024, 2816]⟩
abbrev S2816x1024 : Shape := ⟨2, ![2816, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S2x2048x2816, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S1024x2816, .f32⟩
  | .hbm, ⟨21, _⟩ => ⟨S2x2048x2816, .f32⟩
  | .hbm, ⟨22, _⟩ => ⟨S2816x1024, .f32⟩
  | .hbm, ⟨23, _⟩ => ⟨S1024x2816, .f32⟩
  | .hbm, ⟨24, _⟩ => ⟨S2816x1024, .f32⟩
  | .hbm, ⟨25, _⟩ => ⟨S2816x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== DwDown.lean ====
abbrev S2x2048x2816 : Shape := ⟨3, ![2, 2048, 2816]⟩
abbrev S2x2048x1024 : Shape := ⟨3, ![2, 2048, 1024]⟩
abbrev S_ : Shape := ⟨0, ![]⟩
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 17
  | .vmem => 7
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x1024, .f32⟩
  | .hbm, ⟨3, _⟩ => ⟨S2x2048x2816, .f32⟩
  | .hbm, ⟨4, _⟩ => ⟨S2x2048x2816, .f32⟩
  | .hbm, ⟨5, _⟩ => ⟨S_, .f32⟩
  | .hbm, ⟨6, _⟩ => ⟨S2x2048x2816, .f32⟩
  | .hbm, ⟨7, _⟩ => ⟨S2x2048x2816, .f32⟩
  | .hbm, ⟨8, _⟩ => ⟨S_, .f32⟩
  | .hbm, ⟨9, _⟩ => ⟨S2x2048x2816, .f32⟩
  | .hbm, ⟨10, _⟩ => ⟨S2x2048x2816, .f32⟩
  | .hbm, ⟨11, _⟩ => ⟨S2x2048x2816, .f32⟩
  | .hbm, ⟨12, _⟩ => ⟨S2x2048x2816, .f32⟩
  | .hbm, ⟨13, _⟩ => ⟨S4096x2816, .f32⟩
  | .hbm, ⟨14, _⟩ => ⟨S4096x2816, .bf16⟩
  | .hbm, ⟨15, _⟩ => ⟨S4096x1024, .f32⟩
  | .hbm, ⟨16, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S2x2048x2816 : Shape := ⟨3, ![2, 2048, 2816]⟩
abbrev S2x2048x1024 : Shape := ⟨3, ![2, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2x2048x2816, .f32⟩
  | .hbm, ⟨2, _⟩ => ⟨S2x2048x1024, .f32⟩
  | .hbm, ⟨3, _⟩ => ⟨S_, .f32⟩
  | .hbm, ⟨4, _⟩ => ⟨S2816x1024, .f32⟩
  | .hbm, ⟨5, _⟩ => ⟨S2x2048x2816, .f32⟩
  | .hbm, ⟨6, _⟩ => ⟨S2x2048x2816, .f32⟩
  | .hbm, ⟨7, _⟩ => ⟨S_, .f32⟩
  | .hbm, ⟨8, _⟩ => ⟨S2x2048x2816, .f32⟩
  | .hbm, ⟨9, _⟩ => ⟨S2x2048x2816, .f32⟩
  | .hbm, ⟨10, _⟩ => ⟨S_, .f32⟩
  | .hbm, ⟨11, _⟩ => ⟨S2x2048x2816, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S2x2048x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== InF.lean ====
abbrev S2x2048x1024 : Shape := ⟨3, ![2, 2048, 1024]⟩
abbrev S1024 : Shape := ⟨1, ![1024]⟩
abbrev S1024x4104 : Shape := ⟨2, ![1024, 4104]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S4096x1024 : Shape := ⟨2, ![4096, 1024]⟩
abbrev S1x1024 : Shape := ⟨2, ![1, 1024]⟩
abbrev S8x128 : Shape := ⟨2, ![8, 128]⟩
abbrev S4096x512 : Shape := ⟨2, ![4096, 512]⟩
abbrev S4096x1536 : Shape := ⟨2, ![4096, 1536]⟩
abbrev S4096x128 : Shape := ⟨2, ![4096, 128]⟩
abbrev S4096x2048 : Shape := ⟨2, ![4096, 2048]⟩
abbrev S512x1024 : Shape := ⟨2, ![512, 1024]⟩
abbrev S512x512 : Shape := ⟨2, ![512, 512]⟩
abbrev S512x1536 : Shape := ⟨2, ![512, 1536]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 21
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x4104, .f32⟩
  | .hbm, ⟨3, _⟩ => ⟨S1024x2048, .f32⟩
  | .hbm, ⟨4, _⟩ => ⟨S1024x2048, .bf16⟩
  | .hbm, ⟨5, _⟩ => ⟨S1024x8, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S1024x128, .bf16⟩
  | .hbm, ⟨10, _⟩ => ⟨S1024x2048, .f32⟩
  | .hbm, ⟨11, _⟩ => ⟨S1024x2048, .bf16⟩
  | .hbm, ⟨12, _⟩ => ⟨S4096x1024, .f32⟩
  | .hbm, ⟨13, _⟩ => ⟨S1x1024, .f32⟩
  | .hbm, ⟨14, _⟩ => ⟨S_, .f32⟩
  | .hbm, ⟨15, _⟩ => ⟨S8x128, .f32⟩
  | .hbm, ⟨16, _⟩ => ⟨S4096x1024, .bf16⟩
  | .hbm, ⟨17, _⟩ => ⟨S4096x512, .f32⟩
  | .hbm, ⟨18, _⟩ => ⟨S4096x1536, .bf16⟩
  | .hbm, ⟨19, _⟩ => ⟨S4096x128, .f32⟩
  | .hbm, ⟨20, _⟩ => ⟨S4096x2048, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S1024x128, .bf16⟩
  | .local _ .vmem, ⟨5, _⟩ => ⟨S1024x2048, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x1536, .bf16⟩
  | .local _ .vmem, ⟨11, _⟩ => ⟨S512x1536, .bf16⟩
  | .local _ .vmem, ⟨12, _⟩ => ⟨S512x128, .f32⟩
  | .local _ .vmem, ⟨13, _⟩ => ⟨S512x128, .f32⟩
  | .local _ .vmem, ⟨14, _⟩ => ⟨S512x2048, .bf16⟩
  | .local _ .vmem, ⟨15, _⟩ => ⟨S512x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InFRefIdeal.lean ====
abbrev S2x2048x1024 : Shape := ⟨3, ![2, 2048, 1024]⟩
abbrev S1024 : Shape := ⟨1, ![1024]⟩
abbrev S1024x4104 : Shape := ⟨2, ![1024, 4104]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S2x2048x4104 : Shape := ⟨3, ![2, 2048, 4104]⟩
abbrev S2x2048x512 : Shape := ⟨3, ![2, 2048, 512]⟩
abbrev S2x2048x8 : Shape := ⟨3, ![2, 2048, 8]⟩
abbrev S4096x512 : Shape := ⟨2, ![4096, 512]⟩
abbrev S4096x8 : Shape := ⟨2, ![4096, 8]⟩
abbrev S4096x1536 : Shape := ⟨2, ![4096, 1536]⟩
abbrev S4096x2048 : Shape := ⟨2, ![4096, 2048]⟩
abbrev S4096x128 : Shape := ⟨2, ![4096, 128]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024x4104, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S4096x1024, .f32⟩
  | .hbm, ⟨20, _⟩ => ⟨S2x2048x1024, .f32⟩
  | .hbm, ⟨21, _⟩ => ⟨S_, .f32⟩
  | .hbm, ⟨22, _⟩ => ⟨S2x2048, .f32⟩
  | .hbm, ⟨23, _⟩ => ⟨S2x2048x1, .f32⟩
  | .hbm, ⟨24, _⟩ => ⟨S_, .f32⟩
  | .hbm, ⟨25, _⟩ => ⟨S2x2048x1, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S2x2048x1, .f32⟩
  | .hbm, ⟨31, _⟩ => ⟨S2x2048x1024, .f32⟩
  | .hbm, ⟨32, _⟩ => ⟨S2x2048x1024, .f32⟩
  | .hbm, ⟨33, _⟩ => ⟨S1x1x1024, .f32⟩
  | .hbm, ⟨34, _⟩ => ⟨S2x2048x1024, .f32⟩
  | .hbm, ⟨35, _⟩ => ⟨S2x2048x1024, .f32⟩
  | .hbm, ⟨36, _⟩ => ⟨S2x2048x4104, .f32⟩
  | .hbm, ⟨37, _⟩ => ⟨S2x2048x512, .f32⟩
  | .hbm, ⟨38, _⟩ => ⟨S2x2048x512, .f32⟩
  | .hbm, ⟨39, _⟩ => ⟨S2x2048x512, .f32⟩
  | .hbm, ⟨40, _⟩ => ⟨S2x2048x512, .f32⟩
  | .hbm, ⟨41, _⟩ => ⟨S2x2048x8, .f32⟩
  | .hbm, ⟨42, _⟩ => ⟨S2x2048x1024, .f32⟩
  | .hbm, ⟨43, _⟩ => ⟨S2x2048x1024, .f32⟩
  | .hbm, ⟨44, _⟩ => ⟨S4096x1024, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x8, .f32⟩
  | .hbm, ⟨50, _⟩ => ⟨S4096x1024, .f32⟩
  | .hbm, ⟨51, _⟩ => ⟨S4096x1024, .f32⟩
  | .hbm, ⟨52, _⟩ => ⟨S4096x1536, .f32⟩
  | .hbm, ⟨53, _⟩ => ⟨S4096x2048, .f32⟩
  | .hbm, ⟨54, _⟩ => ⟨S4096x1024, .bf16⟩
  | .hbm, ⟨55, _⟩ => ⟨S4096x1536, .bf16⟩
  | .hbm, ⟨56, _⟩ => ⟨S_, .i32⟩
  | .hbm, ⟨57, _⟩ => ⟨S_, .f32⟩
  | .hbm, ⟨58, _⟩ => ⟨S4096x128, .f32⟩
  | .hbm, ⟨59, _⟩ => ⟨S4096x2048, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_c : Ref sig .tc := ⟨.hbm, 56, rfl⟩
abbrev main_call0_v0 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== MixOut.lean ====
abbrev S2x2048x1024 : Shape := ⟨3, ![2, 2048, 1024]⟩
abbrev S2x2048x512 : Shape := ⟨3, ![2, 2048, 512]⟩
abbrev S512 : Shape := ⟨1, ![512]⟩
abbrev S512x1024 : Shape := ⟨2, ![512, 1024]⟩
abbrev S1024x1024 : Shape := ⟨2, ![1024, 1024]⟩
abbrev S2x2048x2048 : Shape := ⟨3, ![2, 2048, 2048]⟩
abbrev S4096x2048 : Shape := ⟨2, ![4096, 2048]⟩
abbrev S4096x512 : Shape := ⟨2, ![4096, 512]⟩
abbrev S1x1x512 : Shape := ⟨3, ![1, 1, 512]⟩
abbrev S4096x1024 : Shape := ⟨2, ![4096, 1024]⟩
abbrev S512x8x128 : Shape := ⟨3, ![512, 8, 128]⟩
abbrev S8x512x128 : Shape := ⟨3, ![8, 512, 128]⟩
abbrev S512x512 : Shape := ⟨2, ![512, 512]⟩
abbrev S512x2048 : Shape := ⟨2, ![512, 2048]⟩
abbrev S1x512x128 : Shape := ⟨3, ![1, 512, 128]⟩
abbrev S512x128 : Shape := ⟨2, ![512, 128]⟩

abbrev nBuf : Space → Nat
  | .hbm => 31
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x512, .f32⟩
  | .hbm, ⟨3, _⟩ => ⟨S512, .f32⟩
  | .hbm, ⟨4, _⟩ => ⟨S2x2048x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x2048x1024, .f32⟩
  | .hbm, ⟨9, _⟩ => ⟨S2x2048x2048, .f32⟩
  | .hbm, ⟨10, _⟩ => ⟨S4096x2048, .f32⟩
  | .hbm, ⟨11, _⟩ => ⟨S4096x2048, .bf16⟩
  | .hbm, ⟨12, _⟩ => ⟨S4096x512, .f32⟩
  | .hbm, ⟨13, _⟩ => ⟨S4096x512, .bf16⟩
  | .hbm, ⟨14, _⟩ => ⟨S1x1x512, .f32⟩
  | .hbm, ⟨15, _⟩ => ⟨S2x2048x512, .f32⟩
  | .hbm, ⟨16, _⟩ => ⟨S2x2048x512, .f32⟩
  | .hbm, ⟨17, _⟩ => ⟨S4096x512, .f32⟩
  | .hbm, ⟨18, _⟩ => ⟨S4096x512, .bf16⟩
  | .hbm, ⟨19, _⟩ => ⟨S4096x1024, .f32⟩
  | .hbm, ⟨20, _⟩ => ⟨S512x8x128, .f32⟩
  | .hbm, ⟨21, _⟩ => ⟨S8x512x128, .f32⟩
  | .hbm, ⟨22, _⟩ => ⟨S8x512x128, .bf16⟩
  | .hbm, ⟨23, _⟩ => ⟨S512x8x128, .f32⟩
  | .hbm, ⟨24, _⟩ => ⟨S8x512x128, .f32⟩
  | .hbm, ⟨25, _⟩ => ⟨S8x512x128, .bf16⟩
  | .hbm, ⟨26, _⟩ => ⟨S1024x1024, .bf16⟩
  | .hbm, ⟨27, _⟩ => ⟨S4096x1024, .bf16⟩
  | .hbm, ⟨28, _⟩ => ⟨S4096x1024, .f32⟩
  | .hbm, ⟨29, _⟩ => ⟨S4096x1024, .bf16⟩
  | .hbm, ⟨30, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S8x512x128, .bf16⟩
  | .local _ .vmem, ⟨9, _⟩ => ⟨S8x512x128, .bf16⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixOutRefIdeal.lean ====
abbrev S2x2048x1024 : Shape := ⟨3, ![2, 2048, 1024]⟩
abbrev S2x2048x512 : Shape := ⟨3, ![2, 2048, 512]⟩
abbrev S512 : Shape := ⟨1, ![512]⟩
abbrev S512x1024 : Shape := ⟨2, ![512, 1024]⟩
abbrev S1024x1024 : Shape := ⟨2, ![1024, 1024]⟩
abbrev S1x1x512 : Shape := ⟨3, ![1, 1, 512]⟩
abbrev S_ : Shape := ⟨0, ![]⟩
abbrev S4096x1024 : Shape := ⟨2, ![4096, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x512, .f32⟩
  | .hbm, ⟨3, _⟩ => ⟨S512, .f32⟩
  | .hbm, ⟨4, _⟩ => ⟨S2x2048x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x2048x1024, .f32⟩
  | .hbm, ⟨9, _⟩ => ⟨S1x1x512, .f32⟩
  | .hbm, ⟨10, _⟩ => ⟨S2x2048x512, .f32⟩
  | .hbm, ⟨11, _⟩ => ⟨S2x2048x512, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S_, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S2x2048x1024, .f32⟩
  | .hbm, ⟨33, _⟩ => ⟨S4096x1024, .f32⟩
  | .hbm, ⟨34, _⟩ => ⟨S4096x1024, .bf16⟩
  | .hbm, ⟨35, _⟩ => ⟨S2x2048x1024, .f32⟩
  | .hbm, ⟨36, _⟩ => ⟨S2x2048x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | .hbm, ⟨40, _⟩ => ⟨S4096x1024, .f32⟩
  | .hbm, ⟨41, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== FfnF.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S4096x1024 : Shape := ⟨2, ![4096, 1024]⟩
abbrev S1x1024 : Shape := ⟨2, ![1, 1024]⟩
abbrev S4096x2816 : Shape := ⟨2, ![4096, 2816]⟩
abbrev S8x128 : Shape := ⟨2, ![8, 128]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩
abbrev S1x1 : Shape := ⟨2, ![1, 1]⟩

abbrev nBuf : Space → Nat
  | .hbm => 23
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S2x2048x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S2816x1024, .bf16⟩
  | .hbm, ⟨16, _⟩ => ⟨S4096x1024, .bf16⟩
  | .hbm, ⟨17, _⟩ => ⟨S4096x2816, .bf16⟩
  | .hbm, ⟨18, _⟩ => ⟨S4096x2816, .bf16⟩
  | .hbm, ⟨19, _⟩ => ⟨S4096x2816, .bf16⟩
  | .hbm, ⟨20, _⟩ => ⟨S4096x1024, .f32⟩
  | .hbm, ⟨21, _⟩ => ⟨S8x128, .f32⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x1024, .f32⟩
  | .local _ .vmem, ⟨18, _⟩ => ⟨S512x1024, .f32⟩
  | .local _ .vmem, ⟨19, _⟩ => ⟨S8x128, .f32⟩
  | .local _ .vmem, ⟨20, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev main_v9_4 : Ref sig .tc := ⟨.hbm, 20, rfl⟩
abbrev main_v9_5 : Ref sig .tc := ⟨.hbm, 21, rfl⟩
abbrev main_v9_6 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnFRefIdeal.lean ====
abbrev S2x2048x1024 : Shape := ⟨3, ![2, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2816 : Shape := ⟨3, ![2, 2048, 2816]⟩
abbrev S4096x1024 : Shape := ⟨2, ![4096, 1024]⟩
abbrev S4096x2816 : Shape := ⟨2, ![4096, 2816]⟩
abbrev S8x128 : Shape := ⟨2, ![8, 128]⟩
abbrev S1x1024 : Shape := ⟨2, ![1, 1024]⟩

abbrev nBuf : Space → Nat
  | .hbm => 116
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S1024, .f32⟩
  | .hbm, ⟨3, _⟩ => ⟨S2x2048x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S2x2048x2816, .f32⟩
  | .hbm, ⟨27, _⟩ => ⟨S_, .f32⟩
  | .hbm, ⟨28, _⟩ => ⟨S2x2048x2816, .f32⟩
  | .hbm, ⟨29, _⟩ => ⟨S2x2048x2816, .f32⟩
  | .hbm, ⟨30, _⟩ => ⟨S_, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S_, .f32⟩
  | .hbm, ⟨42, _⟩ => ⟨S2x2048x1, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S2x2048x1, .f32⟩
  | .hbm, ⟨48, _⟩ => ⟨S2x2048x1, .f32⟩
  | .hbm, ⟨49, _⟩ => ⟨S_, .f32⟩
  | .hbm, ⟨50, _⟩ => ⟨S2x2048x1, .f32⟩
  | .hbm, ⟨51, _⟩ => ⟨S2x2048x1, .f32⟩
  | .hbm, ⟨52, _⟩ => ⟨S2x2048x1024, .f32⟩
  | .hbm, ⟨53, _⟩ => ⟨S2x2048x1024, .f32⟩
  | .hbm, ⟨54, _⟩ => ⟨S1x1x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S2x2048x1024, .f32⟩
  | .hbm, ⟨61, _⟩ => ⟨S2x2048x1024, .f32⟩
  | .hbm, ⟨62, _⟩ => ⟨S_, .f32⟩
  | .hbm, ⟨63, _⟩ => ⟨S2x2048, .f32⟩
  | .hbm, ⟨64, _⟩ => ⟨S_, .f32⟩
  | .hbm, ⟨65, _⟩ => ⟨S2x2048, .f32⟩
  | .hbm, ⟨66, _⟩ => ⟨S2x2048, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S2x2048, .f32⟩
  | .hbm, ⟨75, _⟩ => ⟨S_, .f32⟩
  | .hbm, ⟨76, _⟩ => ⟨S2x2048, .f32⟩
  | .hbm, ⟨77, _⟩ => ⟨S2x2048, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S_, .f32⟩
  | .hbm, ⟨82, _⟩ => ⟨S1024, .f32⟩
  | .hbm, ⟨83, _⟩ => ⟨S1x1x1024, .f32⟩
  | .hbm, ⟨84, _⟩ => ⟨S2x2048x1024, .f32⟩
  | .hbm, ⟨85, _⟩ => ⟨S2x2048x1024, .f32⟩
  | .hbm, ⟨86, _⟩ => ⟨S_, .f32⟩
  | .hbm, ⟨87, _⟩ => ⟨S1024, .f32⟩
  | .hbm, ⟨88, _⟩ => ⟨S2x2048x1024, .f32⟩
  | .hbm, ⟨89, _⟩ => ⟨S_, .f32⟩
  | .hbm, ⟨90, _⟩ => ⟨S2x2048, .f32⟩
  | .hbm, ⟨91, _⟩ => ⟨S2x2048x1, .f32⟩
  | .hbm, ⟨92, _⟩ => ⟨S2x2048x1024, .f32⟩
  | .hbm, ⟨93, _⟩ => ⟨S2x2048x1024, .f32⟩
  | .hbm, ⟨94, _⟩ => ⟨S2x2048x1, .f32⟩
  | .hbm, ⟨95, _⟩ => ⟨S_, .f32⟩
  | .hbm, ⟨96, _⟩ => ⟨S2x2048x1, .f32⟩
  | .hbm, ⟨97, _⟩ => ⟨S2x2048x1, .f32⟩
  | .hbm, ⟨98, _⟩ => ⟨S_, .f32⟩
  | .hbm, ⟨99, _⟩ => ⟨S2x2048, .f32⟩
  | .hbm, ⟨100, _⟩ => ⟨S2x2048x1024, .f32⟩
  | .hbm, ⟨101, _⟩ => ⟨S2x2048x1024, .f32⟩
  | .hbm, ⟨102, _⟩ => ⟨S2x2048x1024, .f32⟩
  | .hbm, ⟨103, _⟩ => ⟨S2x2048x1024, .f32⟩
  | .hbm, ⟨104, _⟩ => ⟨S2x2048x1024, .f32⟩
  | .hbm, ⟨105, _⟩ => ⟨S4096x1024, .f32⟩
  | .hbm, ⟨106, _⟩ => ⟨S4096x1024, .bf16⟩
  | .hbm, ⟨107, _⟩ => ⟨S4096x2816, .f32⟩
  | .hbm, ⟨108, _⟩ => ⟨S4096x2816, .bf16⟩
  | .hbm, ⟨109, _⟩ => ⟨S4096x2816, .f32⟩
  | .hbm, ⟨110, _⟩ => ⟨S4096x2816, .bf16⟩
  | .hbm, ⟨111, _⟩ => ⟨S4096x2816, .f32⟩
  | .hbm, ⟨112, _⟩ => ⟨S4096x2816, .bf16⟩
  | .hbm, ⟨113, _⟩ => ⟨S4096x1024, .f32⟩
  | .hbm, ⟨114, _⟩ => ⟨S8x128, .f32⟩
  | .hbm, ⟨115, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_6 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_cst_10 : Ref sig .tc := ⟨.hbm, 69, rfl⟩
abbrev main_v43 : Ref sig .tc := ⟨.hbm, 70, rfl⟩
abbrev main_cst_11 : Ref sig .tc := ⟨.hbm, 71, rfl⟩
abbrev main_cst_12 : Ref sig .tc := ⟨.hbm, 72, rfl⟩
abbrev main_v44 : Ref sig .tc := ⟨.hbm, 73, rfl⟩
abbrev main_v45 : Ref sig .tc := ⟨.hbm, 74, rfl⟩
abbrev main_cst_13 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_15 : Ref sig .tc := ⟨.hbm, 86, rfl⟩
abbrev main_v55 : Ref sig .tc := ⟨.hbm, 87, rfl⟩
abbrev main_v56 : Ref sig .tc := ⟨.hbm, 88, rfl⟩
abbrev main_cst_16 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_17 : Ref sig .tc := ⟨.hbm, 95, rfl⟩
abbrev main_v62 : Ref sig .tc := ⟨.hbm, 96, rfl⟩
abbrev main_v63 : Ref sig .tc := ⟨.hbm, 97, rfl⟩
abbrev main_cst_18 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩

abbrev nD : Nat := 1
abbrev τ : Topo := Topo.v7x

variable {F : FTy → Type} [FloatOps F]
-- ==== DwOut.lean ====
abbrev S2x2048x1024 : Shape := ⟨3, ![2, 2048, 1024]⟩
abbrev S_ : Shape := ⟨0, ![]⟩
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 28
  | .vmem => 6
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x2048x1024, .f32⟩
  | .hbm, ⟨6, _⟩ => ⟨S2x2048x1024, .f32⟩
  | .hbm, ⟨7, _⟩ => ⟨S_, .f32⟩
  | .hbm, ⟨8, _⟩ => ⟨S2x2048x1024, .f32⟩
  | .hbm, ⟨9, _⟩ => ⟨S2x2048x1024, .f32⟩
  | .hbm, ⟨10, _⟩ => ⟨S_, .f32⟩
  | .hbm, ⟨11, _⟩ => ⟨S2x2048x1024, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S_, .f32⟩
  | .hbm, ⟨17, _⟩ => ⟨S2x2048x1024, .f32⟩
  | .hbm, ⟨18, _⟩ => ⟨S2x2048x1024, .f32⟩
  | .hbm, ⟨19, _⟩ => ⟨S_, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S4096x1024, .f32⟩
  | .hbm, ⟨25, _⟩ => ⟨S4096x1024, .bf16⟩
  | .hbm, ⟨26, _⟩ => ⟨S4096x1024, .f32⟩
  | .hbm, ⟨27, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwOutRefIdeal.lean ====
abbrev S2x2048x1024 : Shape := ⟨3, ![2, 2048, 1024]⟩
abbrev S_ : Shape := ⟨0, ![]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S_, .f32⟩
  | .hbm, ⟨6, _⟩ => ⟨S1024x1024, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048x1024, .f32⟩
  | .hbm, ⟨11, _⟩ => ⟨S2x2048x1024, .f32⟩
  | .hbm, ⟨12, _⟩ => ⟨S_, .f32⟩
  | .hbm, ⟨13, _⟩ => ⟨S2x2048x1024, .f32⟩
  | .hbm, ⟨14, _⟩ => ⟨S2x2048x1024, .f32⟩
  | .hbm, ⟨15, _⟩ => ⟨S2x2048x1024, .f32⟩
  | .hbm, ⟨16, _⟩ => ⟨S2x2048x1024, .f32⟩
  | .hbm, ⟨17, _⟩ => ⟨S2x2048x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S_, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S1024x1024, .f32⟩
  | .hbm, ⟨28, _⟩ => ⟨S1024x1024, .f32⟩
  | .hbm, ⟨29, _⟩ => ⟨S1024x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== DwPair.lean ====
abbrev S2x2048x512 : Shape := ⟨3, ![2, 2048, 512]⟩
abbrev S512 : Shape := ⟨1, ![512]⟩
abbrev S2x2048x1024 : Shape := ⟨3, ![2, 2048, 1024]⟩
abbrev S1x1x512 : Shape := ⟨3, ![1, 1, 512]⟩
abbrev S4096x512 : Shape := ⟨2, ![4096, 512]⟩
abbrev S4096x1024 : Shape := ⟨2, ![4096, 1024]⟩
abbrev S8x512x128 : Shape := ⟨3, ![8, 512, 128]⟩
abbrev S2048x512 : Shape := ⟨2, ![2048, 512]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 18
  | .vmem => 12
  | .smem => 0
  | _ => 0

abbrev bufTy : (tb : Table) → Fin (tcTables nBuf tb) → BufTy
  | .hbm, ⟨0, _⟩ => ⟨S2x2048x512, .f32⟩
  | .hbm, ⟨1, _⟩ => ⟨S512, .f32⟩
  | .hbm, ⟨2, _⟩ => ⟨S2x2048x1024, .f32⟩
  | .hbm, ⟨3, _⟩ => ⟨S2x2048x512, .f32⟩
  | .hbm, ⟨4, _⟩ => ⟨S2x2048x1024, .f32⟩
  | .hbm, ⟨5, _⟩ => ⟨S1x1x512, .f32⟩
  | .hbm, ⟨6, _⟩ => ⟨S2x2048x512, .f32⟩
  | .hbm, ⟨7, _⟩ => ⟨S2x2048x512, .f32⟩
  | .hbm, ⟨8, _⟩ => ⟨S4096x512, .f32⟩
  | .hbm, ⟨9, _⟩ => ⟨S4096x512, .bf16⟩
  | .hbm, ⟨10, _⟩ => ⟨S4096x1024, .f32⟩
  | .hbm, ⟨11, _⟩ => ⟨S4096x1024, .bf16⟩
  | .hbm, ⟨12, _⟩ => ⟨S4096x512, .f32⟩
  | .hbm, ⟨13, _⟩ => ⟨S4096x512, .bf16⟩
  | .hbm, ⟨14, _⟩ => ⟨S4096x1024, .f32⟩
  | .hbm, ⟨15, _⟩ => ⟨S4096x1024, .bf16⟩
  | .hbm, ⟨16, _⟩ => ⟨S8x512x128, .bf16⟩
  | .hbm, ⟨17, _⟩ => ⟨S8x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S2048x1024, .bf16⟩
  | .local _ .vmem, ⟨7, _⟩ => ⟨S2048x1024, .bf16⟩
  | .local _ .vmem, ⟨8, _⟩ => ⟨S8x512x128, .bf16⟩
  | .local _ .vmem, ⟨9, _⟩ => ⟨S8x512x128, .bf16⟩
  | .local _ .vmem, ⟨10, _⟩ => ⟨S512x1024, .f32⟩
  | .local _ .vmem, ⟨11, _⟩ => ⟨S512x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v23 : BitVec 1 := Scalar.cmpi .eq arg0 c1_i32
  let v24 : BitVec 32 := Scalar.extui v23
  let c0_i32_17 : BitVec 32 := 0#32
  let v25 : BitVec 1 := Scalar.cmpi .ne v24 c0_i32_17
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== DwPairRefIdeal.lean ====
abbrev S2x2048x512 : Shape := ⟨3, ![2, 2048, 512]⟩
abbrev S512 : Shape := ⟨1, ![512]⟩
abbrev S2x2048x1024 : Shape := ⟨3, ![2, 2048, 1024]⟩
abbrev S_ : Shape := ⟨0, ![]⟩
abbrev S512x1024 : Shape := ⟨2, ![512, 1024]⟩
abbrev S1x1x512 : Shape := ⟨3, ![1, 1, 512]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 22
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S512, .f32⟩
  | .hbm, ⟨2, _⟩ => ⟨S2x2048x1024, .f32⟩
  | .hbm, ⟨3, _⟩ => ⟨S2x2048x512, .f32⟩
  | .hbm, ⟨4, _⟩ => ⟨S2x2048x1024, .f32⟩
  | .hbm, ⟨5, _⟩ => ⟨S_, .f32⟩
  | .hbm, ⟨6, _⟩ => ⟨S512x1024, .f32⟩
  | .hbm, ⟨7, _⟩ => ⟨S1x1x512, .f32⟩
  | .hbm, ⟨8, _⟩ => ⟨S2x2048x512, .f32⟩
  | .hbm, ⟨9, _⟩ => ⟨S2x2048x512, .f32⟩
  | .hbm, ⟨10, _⟩ => ⟨S2x2048x1024, .f32⟩
  | .hbm, ⟨11, _⟩ => ⟨S1024x512, .f32⟩
  | .hbm, ⟨12, _⟩ => ⟨S512x1024, .f32⟩
  | .hbm, ⟨13, _⟩ => ⟨S2x2048x1024, .f32⟩
  | .hbm, ⟨14, _⟩ => ⟨S1024x512, .f32⟩
  | .hbm, ⟨15, _⟩ => ⟨S512x1024, .f32⟩
  | .hbm, ⟨16, _⟩ => ⟨S512x8x128, .f32⟩
  | .hbm, ⟨17, _⟩ => ⟨S8x512x128, .f32⟩
  | .hbm, ⟨18, _⟩ => ⟨S8x512x128, .bf16⟩
  | .hbm, ⟨19, _⟩ => ⟨S512x8x128, .f32⟩
  | .hbm, ⟨20, _⟩ => ⟨S8x512x128, .f32⟩
  | .hbm, ⟨21, _⟩ => ⟨S8x512x128, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Mix.Spec.lean ====
/- What the backward pass of the gated mixer is shown to compute, as sums over the extended reals: plain functions of
   the nine arguments, read from both programs. -/
module

public import Idealize.ShloMosaic.Lib.Pipeline.ValueKit
public import Idealize.ShloMosaic.Lib.Pointwise

@[expose] public section

noncomputable section

namespace Cert.MixSpec

open Idealize.ShloMosaic

/-- The activations' shapes and the weights'. -/
abbrev Sx : Shape := ⟨3, ![2, 2048, 1024]⟩
abbrev Sp : Shape := ⟨3, ![2, 2048, 512]⟩
abbrev Ss : Shape := ⟨1, ![512]⟩
abbrev Sw : Shape := ⟨2, ![512, 1024]⟩
abbrev So : Shape := ⟨2, ![1024, 1024]⟩

/-- The logistic function, spelt with a quotient. -/
def sg (x : EReal) : EReal := Ideal.div 1 (1 + Ideal.exp (0 - x))

/-- The logistic function's derivative in terms of its value. -/
def dsg (x : EReal) : EReal := sg x * (1 - sg x)

/-- The cotangent of the merged activations: `dx · w_outᵀ`. -/
def dm (wo : So.Idx → EReal) (dx : Sx.Idx → EReal) (b : Fin 2) (s : Fin 2048) (n : Fin 1024) : EReal :=
  ∑ k : Fin 1024, dx (ix3 b s k) * wo (ix2 n k)

/-- The pooled branch's projection: `(p · scale) · w_pool_out`. -/
def py (p : Sp.Idx → EReal) (ps : Ss.Idx → EReal) (wp : Sw.Idx → EReal) (b : Fin 2) (s : Fin 2048) (n : Fin 1024) : EReal :=
  ∑ k : Fin 512, (p (ix3 b s k) * ps (ix1 k)) * wp (ix2 k n)

/-- The attention branch's projection: `a · w_attn_out`. -/
def ay (a : Sp.Idx → EReal) (wa : Sw.Idx → EReal) (b : Fin 2) (s : Fin 2048) (n : Fin 1024) : EReal :=
  ∑ k : Fin 512, a (ix3 b s k) * wa (ix2 k n)

/-- A branch's cotangent: the merged cotangent through the branch's gate. -/
def dy (g : Sx.Idx → EReal) (wo : So.Idx → EReal) (dx : Sx.Idx → EReal) (b : Fin 2) (s : Fin 2048) (n : Fin 1024) : EReal :=
  dm wo dx b s n * sg (g (ix3 b s n))

/-- A branch's cotangent carried back through its projection. -/
def dz (g : Sx.Idx → EReal) (wo : So.Idx → EReal) (dx : Sx.Idx → EReal) (w : Sw.Idx → EReal) (b : Fin 2) (s : Fin 2048)
    (k : Fin 512) : EReal :=
  ∑ n : Fin 1024, dy g wo dx b s n * w (ix2 k n)

/-- The gate's cotangent for the pooled branch. -/
def dgp (gp : Sx.Idx → EReal) (p : Sp.Idx → EReal) (ps : Ss.Idx → EReal) (wp : Sw.Idx → EReal) (wo : So.Idx → EReal)
    (dx : Sx.Idx → EReal) (b : Fin 2) (s : Fin 2048) (n : Fin 1024) : EReal :=
  dm wo dx b s n * py p ps wp b s n * dsg (gp (ix3 b s n))

/-- The gate's cotangent for the attention branch. -/
def dga (ga : Sx.Idx → EReal) (a : Sp.Idx → EReal) (wa : Sw.Idx → EReal) (wo : So.Idx → EReal)
    (dx : Sx.Idx → EReal) (b : Fin 2) (s : Fin 2048) (n : Fin 1024) : EReal :=
  dm wo dx b s n * ay a wa b s n * dsg (ga (ix3 b s n))

/-- Row `r` of the flattened batch is sequence `r / 2048`, position `r % 2048`. -/
def rb (r : Fin 4096) : Fin 2 := ⟨r.val / 2048, by omega⟩
/-- The position of row `r` of the flattened batch. -/
def rs (r : Fin 4096) : Fin 2048 := ⟨r.val % 2048, by omega⟩

/-- The batch of a token given by batch and position. -/
theorem rb_mk (a : Fin 2) (b : Fin 2048) (h : a.val * 2048 + b.val < 4096) : rb ⟨a.val * 2048 + b.val, h⟩ = a :=
  Fin.ext (show (a.val * 2048 + b.val) / 2048 = a.val by omega)

/-- The position of a token given by batch and position. -/
theorem rs_mk (a : Fin 2) (b : Fin 2048) (h : a.val * 2048 + b.val < 4096) : rs ⟨a.val * 2048 + b.val, h⟩ = b :=
  Fin.ext (show (a.val * 2048 + b.val) % 2048 = b.val by omega)

/-- Both gates' cotangents, the pooled branch's in the first half of the columns. -/
def dg (gp ga : Sx.Idx → EReal) (p : Sp.Idx → EReal) (ps : Ss.Idx → EReal) (a : Sp.Idx → EReal) (wp wa : Sw.Idx → EReal)
    (wo : So.Idx → EReal) (dx : Sx.Idx → EReal) (b : Fin 2) (s : Fin 2048) (n : Fin 2048) : EReal :=
  if h : n.val < 1024 then dgp gp p ps wp wo dx b s ⟨n.val, h⟩
  else dga ga a wa wo dx b s ⟨n.val - 1024, by omega⟩

/-- The pool scale's gradient: a sum over every token. -/
def ds (gp : Sx.Idx → EReal) (p : Sp.Idx → EReal) (wp : Sw.Idx → EReal) (wo : So.Idx → EReal) (dx : Sx.Idx → EReal)
    (k : Fin 512) : EReal :=
  ∑ r : Fin 4096, dz gp wo dx wp (rb r) (rs r) k * p (ix3 (rb r) (rs r) k)

end Cert.MixSpec

end
-- ==== Proof.Mix.Blocks.lean ====
/- The mixer kernel's input blocks at an index: each is a read of the arguments. -/
module

public import proofs.«01_k».proof.Proof.Mix.Spec
public import proofs.«01_k».proof.Proof.Gen.MixIdeal.Value
public import Idealize.ShloMosaic.Lib.Claim

@[expose] public section

noncomputable section

namespace Cert.MixIdeal.Point

open Cert.MixIdeal Cert.MixIdeal.Gen Cert.MixIdeal.Value Idealize.ShloMosaic Idealize.ShloMosaic.TcCoe Idealize.SL.Sem
open Cert.MixSpec

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)

/-- The number of grid points. -/
theorem N8 : cfg0.N = 8 := by decide +kernel

/-- Row `i` of block `t`. -/
def row (t : Fin cfg0.N) (i : Fin 512) : Fin 4096 := ⟨t.val * 512 + i.val, by have := t.isLt.trans_eq N8; omega⟩

/-- The block index of window 0. -/
theorem i0 : ∀ t : Fin cfg0.N, win0_0.index t = ![t.val, 0] := (by decide +kernel : ∀ t : Fin grid0.N, _)
/-- The block index of window 1. -/
theorem i1 : ∀ t : Fin cfg0.N, win0_1.index t = ![t.val, 0] := (by decide +kernel : ∀ t : Fin grid0.N, _)
/-- The block index of window 2. -/
theorem i2 : ∀ t : Fin cfg0.N, win0_2.index t = ![t.val, 0] := (by decide +kernel : ∀ t : Fin grid0.N, _)
/-- The block index of window 3. -/
theorem i3 : ∀ t : Fin cfg0.N, win0_3.index t = ![t.val, 0] := (by decide +kernel : ∀ t : Fin grid0.N, _)
/-- The block index of window 4. -/
theorem i4 : ∀ t : Fin cfg0.N, win0_4.index t = ![t.val, 0] := (by decide +kernel : ∀ t : Fin grid0.N, _)
/-- The block index of window 9. -/
theorem i9 : ∀ t : Fin cfg0.N, win0_9.index t = ![t.val, 0] := (by decide +kernel : ∀ t : Fin grid0.N, _)
/-- The block index of window 10. -/
theorem i10 : ∀ t : Fin cfg0.N, win0_10.index t = ![t.val, 0] := (by decide +kernel : ∀ t : Fin grid0.N, _)
/-- The block index of window 11. -/
theorem i11 : ∀ t : Fin cfg0.N, win0_11.index t = ![t.val, 0] := (by decide +kernel : ∀ t : Fin grid0.N, _)
/-- The block index of window 12. -/
theorem i12 : ∀ t : Fin cfg0.N, win0_12.index t = ![t.val, 0] := (by decide +kernel : ∀ t : Fin grid0.N, _)
/-- The block index of window 13. -/
theorem i13 : ∀ t : Fin cfg0.N, win0_13.index t = ![t.val, 0] := (by decide +kernel : ∀ t : Fin grid0.N, _)
/-- The block index of window 5. -/
theorem i5 : ∀ t : Fin cfg0.N, win0_5.index t = ![0, 0] := (by decide +kernel : ∀ t : Fin grid0.N, _)
/-- The block index of window 6. -/
theorem i6 : ∀ t : Fin cfg0.N, win0_6.index t = ![0, 0] := (by decide +kernel : ∀ t : Fin grid0.N, _)
/-- The block index of window 14. -/
theorem i14 : ∀ t : Fin cfg0.N, win0_14.index t = ![0, 0] := (by decide +kernel : ∀ t : Fin grid0.N, _)
/-- The block index of window 7. -/
theorem i7 : ∀ t : Fin cfg0.N, win0_7.index t = ![0, 0, 0] := (by decide +kernel : ∀ t : Fin grid0.N, _)
/-- The block index of window 8. -/
theorem i8 : ∀ t : Fin cfg0.N, win0_8.index t = ![0, 0, 0] := (by decide +kernel : ∀ t : Fin grid0.N, _)

/-- Where window 0's block lies in its array. -/
theorem emb0 (t : Fin cfg0.N) (i : Fin 512) (k : Fin 1024) :
    (win0_0.blk t).view.emb (ix2 i k) = ix2 (row t i) k := by
  blk_ext [i0 t, row]

/-- Where window 1's block lies in its array. -/
theorem emb1 (t : Fin cfg0.N) (i : Fin 512) (k : Fin 2048) :
    (win0_1.blk t).view.emb (ix2 i k) = ix2 (row t i) k := by
  blk_ext [i1 t, row]

/-- Where window 2's block lies in its array. -/
theorem emb2 (t : Fin cfg0.N) (i : Fin 512) (k : Fin 1024) :
    (win0_2.blk t).view.emb (ix2 i k) = ix2 (row t i) k := by
  blk_ext [i2 t, row]

/-- Where window 3's block lies in its array. -/
theorem emb3 (t : Fin cfg0.N) (i : Fin 512) (k : Fin 1024) :
    (win0_3.blk t).view.emb (ix2 i k) = ix2 (row t i) k := by
  blk_ext [i3 t, row]

/-- Where window 4's block lies in its array. -/
theorem emb4 (t : Fin cfg0.N) (i : Fin 512) (k : Fin 512) :
    (win0_4.blk t).view.emb (ix2 i k) = ix2 (row t i) k := by
  blk_ext [i4 t, row]

/-- Where window 9's block lies in its array. -/
theorem emb9 (t : Fin cfg0.N) (i : Fin 512) (k : Fin 2048) :
    (win0_9.blk t).view.emb (ix2 i k) = ix2 (row t i) k := by
  blk_ext [i9 t, row]

/-- Where window 10's block lies in its array. -/
theorem emb10 (t : Fin cfg0.N) (i : Fin 512) (k : Fin 1024) :
    (win0_10.blk t).view.emb (ix2 i k) = ix2 (row t i) k := by
  blk_ext [i10 t, row]

/-- Where window 11's block lies in its array. -/
theorem emb11 (t : Fin cfg0.N) (i : Fin 512) (k : Fin 1024) :
    (win0_11.blk t).view.emb (ix2 i k) = ix2 (row t i) k := by
  blk_ext [i11 t, row]

/-- Where window 12's block lies in its array. -/
theorem emb12 (t : Fin cfg0.N) (i : Fin 512) (k : Fin 512) :
    (win0_12.blk t).view.emb (ix2 i k) = ix2 (row t i) k := by
  blk_ext [i12 t, row]

/-- Where window 13's block lies in its array. -/
theorem emb13 (t : Fin cfg0.N) (i : Fin 512) (k : Fin 512) :
    (win0_13.blk t).view.emb (ix2 i k) = ix2 (row t i) k := by
  blk_ext [i13 t, row]

/-- Where window 5's block lies in its array. -/
theorem emb5 (t : Fin cfg0.N) (i : Fin 1) (k : Fin 512) :
    (win0_5.blk t).view.emb (ix2 i k) = ix2 i k := by
  blk_ext [i5 t]

/-- Where window 6's block lies in its array. -/
theorem emb6 (t : Fin cfg0.N) (i : Fin 1024) (k : Fin 1024) :
    (win0_6.blk t).view.emb (ix2 i k) = ix2 i k := by
  blk_ext [i6 t]

/-- Where window 14's block lies in its array. -/
theorem emb14 (t : Fin cfg0.N) (i : Fin 1) (k : Fin 512) :
    (win0_14.blk t).view.emb (ix2 i k) = ix2 i k := by
  blk_ext [i14 t]

/-- Where window 7's block lies in its array. -/
theorem emb7 (t : Fin cfg0.N) (z : Fin 8) (i : Fin 512) (k : Fin 128) :
    (win0_7.blk t).view.emb (ix3 z i k) = ix3 z i k := by
  blk_ext [i7 t]

/-- Where window 8's block lies in its array. -/
theorem emb8 (t : Fin cfg0.N) (z : Fin 8) (i : Fin 512) (k : Fin 128) :
    (win0_8.blk t).view.emb (ix3 z i k) = ix3 z i k := by
  blk_ext [i8 t]

/-- Window 0's block at an element. -/
theorem blk0 (t : Fin cfg0.N) (i : Fin 512) (k : Fin 1024) :
    iblk m c 0 t (ix2 i k) = a8 m c (ix3 (rb (row t i)) (rs (row t i)) k) := by
  blk_simp [iblk]
  rw [emb0]
  entry_read
  pointwise [rb, rs]

/-- Window 1's block at an element. -/
theorem blk1 (t : Fin cfg0.N) (i : Fin 512) (k : Fin 2048) :
    iblk m c 1 t (ix2 i k) = if h : k.val < 1024 then a0 m c (ix3 (rb (row t i)) (rs (row t i)) ⟨k.val, h⟩)
      else a1 m c (ix3 (rb (row t i)) (rs (row t i)) ⟨k.val - 1024, by omega⟩) := by
  blk_simp [iblk]
  rw [emb1]
  entry_read
  pointwise [rb, rs]

/-- Window 2's block at an element. -/
theorem blk2 (t : Fin cfg0.N) (i : Fin 512) (n : Fin 1024) :
    iblk m c 2 t (ix2 i n) = py (a2 m c) (a3 m c) (a5 m c) (rb (row t i)) (rs (row t i)) n := by
  blk_simp [iblk]
  rw [emb2]
  entry_read
  pointwise [rb, rs, py, dot_S2x2048x512_S512x1024_S2x2048x1024_2_0_01_1_n_n]

/-- Window 3's block at an element. -/
theorem blk3 (t : Fin cfg0.N) (i : Fin 512) (n : Fin 1024) :
    iblk m c 3 t (ix2 i n) = ay (a4 m c) (a6 m c) (rb (row t i)) (rs (row t i)) n := by
  blk_simp [iblk]
  rw [emb3]
  entry_read
  pointwise [rb, rs, ay, dot_S2x2048x512_S512x1024_S2x2048x1024_2_0_01_1_n_n]

/-- Window 4's block at an element. -/
theorem blk4 (t : Fin cfg0.N) (i : Fin 512) (k : Fin 512) :
    iblk m c 4 t (ix2 i k) = a2 m c (ix3 (rb (row t i)) (rs (row t i)) k) := by
  blk_simp [iblk]
  rw [emb4]
  entry_read
  pointwise [rb, rs]

/-- Window 5's block at an element. -/
theorem blk5 (t : Fin cfg0.N) (z : Fin 1) (k : Fin 512) :
    iblk m c 5 t (ix2 z k) = a3 m c (ix1 k) := by
  blk_simp [iblk]
  rw [emb5]
  entry_read
  pointwise

/-- Window 6's block at an element. -/
theorem blk6 (t : Fin cfg0.N) (i : Fin 1024) (k : Fin 1024) :
    iblk m c 6 t (ix2 i k) = a7 m c (ix2 i k) := by
  blk_simp [iblk]
  rw [emb6]
  entry_read
  pointwise

/-- Window 7's block at an element. -/
theorem blk7 (t : Fin cfg0.N) (z : Fin 8) (i : Fin 512) (k : Fin 128) :
    iblk m c 7 t (ix3 z i k) = a6 m c (ix2 i ⟨z.val * 128 + k.val, by omega⟩) := by
  blk_simp [iblk]
  rw [emb7]
  entry_read
  pointwise

/-- Window 8's block at an element. -/
theorem blk8 (t : Fin cfg0.N) (z : Fin 8) (i : Fin 512) (k : Fin 128) :
    iblk m c 8 t (ix3 z i k) = a5 m c (ix2 i ⟨z.val * 128 + k.val, by omega⟩) := by
  blk_simp [iblk]
  rw [emb8]
  entry_read
  pointwise

end Cert.MixIdeal.Point

end
-- ==== Proof.Mix.Pay.lean ====
/- The mixer backward kernel's payloads read at an index, over the extended reals. -/
module

public import proofs.«01_k».proof.Proof.Gen.MixIdeal.Skeleton
public import proofs.«01_k».proof.Proof.Mix.Spec

@[expose] public section

noncomputable section

namespace Cert.MixIdeal.Pay

open Cert.MixIdeal Cert.MixIdeal.Gen Idealize.ShloMosaic Idealize.ShloMosaic.TcCoe Idealize.SL.Sem
open Cert.MixSpec

/-- The product with the output weights, element by element. -/
theorem pay4_apply (x : Vec Ideal S512x1024 .f32) (w : Vec Ideal S1024x1024 .bf16) (r : Fin 512) (n : Fin 1024) :
    k0_pay4 (F := Ideal) x w (ix2 r n) = ∑ k : Fin 1024, x (ix2 r k) * w (ix2 n k) := by
  pointwise [k0_pay4, dot_S512x1024_S1024x1024_S512x1024_1_1_0_0_n_n]

/-- The pooled gate, element by element. -/
theorem pay5_apply (x : Vec Ideal S512x1024 .bf16) (y : S512x1024.Idx) :
    k0_pay5 (F := Ideal) x y = sg (x y) := by
  pointwise [k0_pay5, sg]

/-- The attended gate, element by element. -/
theorem pay6_apply (x : Vec Ideal S512x1024 .bf16) (y : S512x1024.Idx) :
    k0_pay6 (F := Ideal) x y = sg (x y) := by
  pointwise [k0_pay6, sg]

/-- The gradient of the pooled gate input, element by element. -/
theorem pay7_apply (x : Vec Ideal S512x1024 .f32) (w : Vec Ideal S1024x1024 .bf16) (g p : Vec Ideal S512x1024 .bf16)
    (r : Fin 512) (n : Fin 1024) :
    k0_pay7 (F := Ideal) x w g p (ix2 r n)
      = (∑ k : Fin 1024, x (ix2 r k) * w (ix2 n k)) * p (ix2 r n) * dsg (g (ix2 r n)) := by
  pointwise [k0_pay7, k0_pay4, k0_pay5, dsg, sg, dot_S512x1024_S1024x1024_S512x1024_1_1_0_0_n_n]

/-- The gradient of a gate input, element by element. -/
theorem pay8_apply (d s : FVec Ideal S512x1024 .f32) (p : Vec Ideal S512x1024 .bf16) (y : S512x1024.Idx) :
    k0_pay8 (F := Ideal) d s p y = d y * p y * (s y * (1 - s y)) := by
  pointwise [k0_pay8]

/-- The gradient of a projected branch, element by element. -/
theorem pay9_apply (d s : FVec Ideal S512x1024 .f32) (y : S512x1024.Idx) :
    k0_pay9 (F := Ideal) d s y = d y * s y := by
  pointwise [k0_pay9]

/-- The gradient of the other projected branch, element by element. -/
theorem pay10_apply (d s : FVec Ideal S512x1024 .f32) (y : S512x1024.Idx) :
    k0_pay10 (F := Ideal) d s y = d y * s y := by
  pointwise [k0_pay10]

/-- The gradient scaled by the row of scales. -/
theorem pay1_apply (x : FVec Ideal S512x512 .f32) (s : Vec Ideal S1x512 .f32) (r : Fin 512) (k : Fin 512) :
    k0_pay1 (F := Ideal) x s (ix2 r k) = x (ix2 r k) * s (ix2 0 k) := by
  pointwise [k0_pay1]

/-- The scale accumulator starts at zero. -/
theorem pay2_apply (y : S1x512.Idx) : k0_pay2 (F := Ideal) y = 0 := by
  pointwise [k0_pay2]

/-- A block's column sums are added to the scale accumulator. -/
theorem pay3_apply (x : FVec Ideal S512x512 .f32) (a : Vec Ideal S1x512 .f32) (p : Vec Ideal S512x512 .f32) (z : Fin 1) (k : Fin 512) :
    k0_pay3 (F := Ideal) x a p (ix2 z k) = a (ix2 z k) + ∑ r : Fin 512, x (ix2 r k) * p (ix2 r k) := by
  pointwise [k0_pay3]

/-- A weight shard read from its block, element by element. -/
theorem pay11_apply (x : Vec Ideal S1x512x128 .bf16) (i : Fin 512) (k : Fin 128) :
    k0_pay11 (F := Ideal) x (ix2 i k) = x (ix3 0 i k) := by
  pointwise [k0_pay11]

/-- A weight shard read from its block, element by element. -/
theorem pay12_apply (x : Vec Ideal S1x512x128 .bf16) (i : Fin 512) (k : Fin 128) :
    k0_pay12 (F := Ideal) x (ix2 i k) = x (ix3 0 i k) := by
  pointwise [k0_pay12]

/-- A weight shard read from its block, element by element. -/
theorem pay13_apply (x : Vec Ideal S1x512x128 .bf16) (i : Fin 512) (k : Fin 128) :
    k0_pay13 (F := Ideal) x (ix2 i k) = x (ix3 0 i k) := by
  pointwise [k0_pay13]

/-- A weight shard read from its block, element by element. -/
theorem pay14_apply (x : Vec Ideal S1x512x128 .bf16) (i : Fin 512) (k : Fin 128) :
    k0_pay14 (F := Ideal) x (ix2 i k) = x (ix3 0 i k) := by
  pointwise [k0_pay14]

/-- A weight shard read from its block, element by element. -/
theorem pay15_apply (x : Vec Ideal S1x512x128 .bf16) (i : Fin 512) (k : Fin 128) :
    k0_pay15 (F := Ideal) x (ix2 i k) = x (ix3 0 i k) := by
  pointwise [k0_pay15]

/-- A weight shard read from its block, element by element. -/
theorem pay16_apply (x : Vec Ideal S1x512x128 .bf16) (i : Fin 512) (k : Fin 128) :
    k0_pay16 (F := Ideal) x (ix2 i k) = x (ix3 0 i k) := by
  pointwise [k0_pay16]

/-- The eight shard products add up to one sum over all columns, for the first branch. -/
theorem pay17_apply (d : FVec Ideal S512x1024 .bf16) (W : S8x512x128.Idx → EReal) (a0 a1 a2 a3 a4 a5 : FVec Ideal S512x128 .bf16)
    (a6 a7 : Vec Ideal S1x512x128 .bf16)
    (h0 : ∀ i j, a0 (ix2 i j) = W (ix3 0 i j)) (h1 : ∀ i j, a1 (ix2 i j) = W (ix3 1 i j))
    (h2 : ∀ i j, a2 (ix2 i j) = W (ix3 2 i j)) (h3 : ∀ i j, a3 (ix2 i j) = W (ix3 3 i j))
    (h4 : ∀ i j, a4 (ix2 i j) = W (ix3 4 i j)) (h5 : ∀ i j, a5 (ix2 i j) = W (ix3 5 i j))
    (h6 : ∀ i j, a6 (ix3 0 i j) = W (ix3 6 i j)) (h7 : ∀ i j, a7 (ix3 0 i j) = W (ix3 7 i j))
    (r : Fin 512) (k : Fin 512) :
    k0_pay17 (F := Ideal) d a0 a1 a2 a3 a4 a5 a6 a7 (ix2 r k)
      = ∑ n : Fin 1024, d (ix2 r n) * W (ix3 ⟨n.val / 128, by omega⟩ k ⟨n.val % 128, by omega⟩) := by
  pointwise [k0_pay17, dot_S512x1024_S512x1024_S512x512_1_1_0_0_n_n]
  refine Finset.sum_congr rfl fun n _ => ?_
  congr 1
  simp only [h0, h1, h2, h3, h4, h5, h6, h7]
  split_ifs
  all_goals (congr 1; blk_ext [])

/-- The eight shard products add up to one sum over all columns, for the second branch. -/
theorem pay18_apply (d : FVec Ideal S512x1024 .bf16) (W : S8x512x128.Idx → EReal)
    (a0 a1 a2 a3 a4 a5 a6 a7 : Vec Ideal S1x512x128 .bf16)
    (h0 : ∀ i j, a0 (ix3 0 i j) = W (ix3 0 i j)) (h1 : ∀ i j, a1 (ix3 0 i j) = W (ix3 1 i j))
    (h2 : ∀ i j, a2 (ix3 0 i j) = W (ix3 2 i j)) (h3 : ∀ i j, a3 (ix3 0 i j) = W (ix3 3 i j))
    (h4 : ∀ i j, a4 (ix3 0 i j) = W (ix3 4 i j)) (h5 : ∀ i j, a5 (ix3 0 i j) = W (ix3 5 i j))
    (h6 : ∀ i j, a6 (ix3 0 i j) = W (ix3 6 i j)) (h7 : ∀ i j, a7 (ix3 0 i j) = W (ix3 7 i j))
    (r : Fin 512) (k : Fin 512) :
    k0_pay18 (F := Ideal) d a0 a1 a2 a3 a4 a5 a6 a7 (ix2 r k)
      = ∑ n : Fin 1024, d (ix2 r n) * W (ix3 ⟨n.val / 128, by omega⟩ k ⟨n.val % 128, by omega⟩) := by
  pointwise [k0_pay18, dot_S512x1024_S512x1024_S512x512_1_1_0_0_n_n]
  refine Finset.sum_congr rfl fun n _ => ?_
  congr 1
  simp only [h0, h1, h2, h3, h4, h5, h6, h7]
  split_ifs
  all_goals (congr 1; blk_ext [])

end Cert.MixIdeal.Pay

end
-- ==== Proof.Mix.Outs.lean ====
/- What the mixer kernel's body leaves in each output block, at an index. -/
module

public import proofs.«01_k».proof.Proof.Mix.Blocks
public import proofs.«01_k».proof.Proof.Mix.Pay

@[expose] public section

noncomputable section

namespace Cert.MixIdeal.Point

open Cert.MixIdeal Cert.MixIdeal.Gen Cert.MixIdeal.Value Cert.MixIdeal.Pay Idealize.ShloMosaic Idealize.ShloMosaic.TcCoe Idealize.SL.Sem
open Cert.MixSpec

variable (m : (ℓ : Loc nD τ sig) → Buf (Elt Ideal) ℓ) (c : Dev nD)

/-- The pooled half of the gate block, loaded. -/
theorem ld_gp (t : Fin cfg0.N) (i : Fin 512) (n : Fin 1024) :
    View.ld (iblk m c 1 t) (Rect.unit ![0, 0] ![512, 1024] inb_S512x2048_S512x1024_0_0) (ix2 i n)
      = a0 m c (ix3 (rb (row t i)) (rs (row t i)) n) := by
  rw [View.ld_unit_apply_of _ _ _ _ _ (ix2 i ⟨n.val, by omega⟩) (by intro a; match a with | ⟨0, _⟩ => simp | ⟨1, _⟩ => simp),
    blk1, dif_pos n.isLt]

/-- The attended half of the gate block, loaded. -/
theorem ld_ga (t : Fin cfg0.N) (i : Fin 512) (n : Fin 1024) :
    View.ld (iblk m c 1 t) (Rect.unit ![0, 1024] ![512, 1024] inb_S512x2048_S512x1024_0_1024) (ix2 i n)
      = a1 m c (ix3 (rb (row t i)) (rs (row t i)) n) := by
  rw [View.ld_unit_apply_of _ _ _ _ _ (ix2 i ⟨1024 + n.val, by omega⟩) (by intro a; match a with | ⟨0, _⟩ => simp | ⟨1, _⟩ => simp),
    blk1, dif_neg (by simp)]
  congr 2
  exact Fin.ext (by simp)

/-- Shard 0 of window 7's block, loaded. -/
theorem ld7_0 (t : Fin cfg0.N) (i : Fin 512) (k : Fin 128) :
    View.ld (iblk m c 7 t) (Rect.unit ![0, 0, 0] ![1, 512, 128] inb_S8x512x128_S1x512x128_0_0_0) (ix3 0 i k)
      = iblk m c 7 t (ix3 0 i k) :=
  View.ld_unit_apply_of _ _ _ _ _ _ (by intro a; match a with | ⟨0, _⟩ => rfl | ⟨1, _⟩ => simp | ⟨2, _⟩ => simp)

/-- Shard 1 of window 7's block, loaded. -/
theorem ld7_1 (t : Fin cfg0.N) (i : Fin 512) (k : Fin 128) :
    View.ld (iblk m c 7 t) (Rect.unit ![1, 0, 0] ![1, 512, 128] inb_S8x512x128_S1x512x128_1_0_0) (ix3 0 i k)
      = iblk m c 7 t (ix3 1 i k) :=
  View.ld_unit_apply_of _ _ _ _ _ _ (by intro a; match a with | ⟨0, _⟩ => rfl | ⟨1, _⟩ => simp | ⟨2, _⟩ => simp)

/-- Shard 2 of window 7's block, loaded. -/
theorem ld7_2 (t : Fin cfg0.N) (i : Fin 512) (k : Fin 128) :
    View.ld (iblk m c 7 t) (Rect.unit ![2, 0, 0] ![1, 512, 128] inb_S8x512x128_S1x512x128_2_0_0) (ix3 0 i k)
      = iblk m c 7 t (ix3 2 i k) :=
  View.ld_unit_apply_of _ _ _ _ _ _ (by intro a; match a with | ⟨0, _⟩ => rfl | ⟨1, _⟩ => simp | ⟨2, _⟩ => simp)

/-- Shard 3 of window 7's block, loaded. -/
theorem ld7_3 (t : Fin cfg0.N) (i : Fin 512) (k : Fin 128) :
    View.ld (iblk m c 7 t) (Rect.unit ![3, 0, 0] ![1, 512, 128] inb_S8x512x128_S1x512x128_3_0_0) (ix3 0 i k)
      = iblk m c 7 t (ix3 3 i k) :=
  View.ld_unit_apply_of _ _ _ _ _ _ (by intro a; match a with | ⟨0, _⟩ => rfl | ⟨1, _⟩ => simp | ⟨2, _⟩ => simp)

/-- Shard 4 of window 7's block, loaded. -/
theorem ld7_4 (t : Fin cfg0.N) (i : Fin 512) (k : Fin 128) :
    View.ld (iblk m c 7 t) (Rect.unit ![4, 0, 0] ![1, 512, 128] inb_S8x512x128_S1x512x128_4_0_0) (ix3 0 i k)
      = iblk m c 7 t (ix3 4 i k) :=
  View.ld_unit_apply_of _ _ _ _ _ _ (by intro a; match a with | ⟨0, _⟩ => rfl | ⟨1, _⟩ => simp | ⟨2, _⟩ => simp)

/-- Shard 5 of window 7's block, loaded. -/
theorem ld7_5 (t : Fin cfg0.N) (i : Fin 512) (k : Fin 128) :
    View.ld (iblk m c 7 t) (Rect.unit ![5, 0, 0] ![1, 512, 128] inb_S8x512x128_S1x512x128_5_0_0) (ix3 0 i k)
      = iblk m c 7 t (ix3 5 i k) :=
  View.ld_unit_apply_of _ _ _ _ _ _ (by intro a; match a with | ⟨0, _⟩ => rfl | ⟨1, _⟩ => simp | ⟨2, _⟩ => simp)

/-- Shard 6 of window 7's block, loaded. -/
theorem ld7_6 (t : Fin cfg0.N) (i : Fin 512) (k : Fin 128) :
    View.ld (iblk m c 7 t) (Rect.unit ![6, 0, 0] ![1, 512, 128] inb_S8x512x128_S1x512x128_6_0_0) (ix3 0 i k)
      = iblk m c 7 t (ix3 6 i k) :=
  View.ld_unit_apply_of _ _ _ _ _ _ (by intro a; match a with | ⟨0, _⟩ => rfl | ⟨1, _⟩ => simp | ⟨2, _⟩ => simp)

/-- Shard 7 of window 7's block, loaded. -/
theorem ld7_7 (t : Fin cfg0.N) (i : Fin 512) (k : Fin 128) :
    View.ld (iblk m c 7 t) (Rect.unit ![7, 0, 0] ![1, 512, 128] inb_S8x512x128_S1x512x128_7_0_0) (ix3 0 i k)
      = iblk m c 7 t (ix3 7 i k) :=
  View.ld_unit_apply_of _ _ _ _ _ _ (by intro a; match a with | ⟨0, _⟩ => rfl | ⟨1, _⟩ => simp | ⟨2, _⟩ => simp)

/-- Shard 0 of window 8's block, loaded. -/
theorem ld8_0 (t : Fin cfg0.N) (i : Fin 512) (k : Fin 128) :
    View.ld (iblk m c 8 t) (Rect.unit ![0, 0, 0] ![1, 512, 128] inb_S8x512x128_S1x512x128_0_0_0) (ix3 0 i k)
      = iblk m c 8 t (ix3 0 i k) :=
  View.ld_unit_apply_of _ _ _ _ _ _ (by intro a; match a with | ⟨0, _⟩ => rfl | ⟨1, _⟩ => simp | ⟨2, _⟩ => simp)

/-- Shard 1 of window 8's block, loaded. -/
theorem ld8_1 (t : Fin cfg0.N) (i : Fin 512) (k : Fin 128) :
    View.ld (iblk m c 8 t) (Rect.unit ![1, 0, 0] ![1, 512, 128] inb_S8x512x128_S1x512x128_1_0_0) (ix3 0 i k)
      = iblk m c 8 t (ix3 1 i k) :=
  View.ld_unit_apply_of _ _ _ _ _ _ (by intro a; match a with | ⟨0, _⟩ => rfl | ⟨1, _⟩ => simp | ⟨2, _⟩ => simp)

/-- Shard 2 of window 8's block, loaded. -/
theorem ld8_2 (t : Fin cfg0.N) (i : Fin 512) (k : Fin 128) :
    View.ld (iblk m c 8 t) (Rect.unit ![2, 0, 0] ![1, 512, 128] inb_S8x512x128_S1x512x128_2_0_0) (ix3 0 i k)
      = iblk m c 8 t (ix3 2 i k) :=
  View.ld_unit_apply_of _ _ _ _ _ _ (by intro a; match a with | ⟨0, _⟩ => rfl | ⟨1, _⟩ => simp | ⟨2, _⟩ => simp)

/-- Shard 3 of window 8's block, loaded. -/
theorem ld8_3 (t : Fin cfg0.N) (i : Fin 512) (k : Fin 128) :
    View.ld (iblk m c 8 t) (Rect.unit ![3, 0, 0] ![1, 512, 128] inb_S8x512x128_S1x512x128_3_0_0) (ix3 0 i k)
      = iblk m c 8 t (ix3 3 i k) :=
  View.ld_unit_apply_of _ _ _ _ _ _ (by intro a; match a with | ⟨0, _⟩ => rfl | ⟨1, _⟩ => simp | ⟨2, _⟩ => simp)

/-- Shard 4 of window 8's block, loaded. -/
theorem ld8_4 (t : Fin cfg0.N) (i : Fin 512) (k : Fin 128) :
    View.ld (iblk m c 8 t) (Rect.unit ![4, 0, 0] ![1, 512, 128] inb_S8x512x128_S1x512x128_4_0_0) (ix3 0 i k)
      = iblk m c 8 t (ix3 4 i k) :=
  View.ld_unit_apply_of _ _ _ _ _ _ (by intro a; match a with | ⟨0, _⟩ => rfl | ⟨1, _⟩ => simp | ⟨2, _⟩ => simp)

/-- Shard 5 of window 8's block, loaded. -/
theorem ld8_5 (t : Fin cfg0.N) (i : Fin 512) (k : Fin 128) :
    View.ld (iblk m c 8 t) (Rect.unit ![5, 0, 0] ![1, 512, 128] inb_S8x512x128_S1x512x128_5_0_0) (ix3 0 i k)
      = iblk m c 8 t (ix3 5 i k) :=
  View.ld_unit_apply_of _ _ _ _ _ _ (by intro a; match a with | ⟨0, _⟩ => rfl | ⟨1, _⟩ => simp | ⟨2, _⟩ => simp)

/-- Shard 6 of window 8's block, loaded. -/
theorem ld8_6 (t : Fin cfg0.N) (i : Fin 512) (k : Fin 128) :
    View.ld (iblk m c 8 t) (Rect.unit ![6, 0, 0] ![1, 512, 128] inb_S8x512x128_S1x512x128_6_0_0) (ix3 0 i k)
      = iblk m c 8 t (ix3 6 i k) :=
  View.ld_unit_apply_of _ _ _ _ _ _ (by intro a; match a with | ⟨0, _⟩ => rfl | ⟨1, _⟩ => simp | ⟨2, _⟩ => simp)

/-- Shard 7 of window 8's block, loaded. -/
theorem ld8_7 (t : Fin cfg0.N) (i : Fin 512) (k : Fin 128) :
    View.ld (iblk m c 8 t) (Rect.unit ![7, 0, 0] ![1, 512, 128] inb_S8x512x128_S1x512x128_7_0_0) (ix3 0 i k)
      = iblk m c 8 t (ix3 7 i k) :=
  View.ld_unit_apply_of _ _ _ _ _ _ (by intro a; match a with | ⟨0, _⟩ => rfl | ⟨1, _⟩ => simp | ⟨2, _⟩ => simp)

/-- The gradient of the merged sum on a block. -/
theorem dm_blk (t : Fin cfg0.N) (i : Fin 512) (n : Fin 1024) :
    k0_pay4 (F := Ideal) (iblk m c 0 t) (iblk m c 6 t) (ix2 i n) = dm (a7 m c) (a8 m c) (rb (row t i)) (rs (row t i)) n := by
  rw [pay4_apply]
  simp only [blk0, blk6]
  rfl

/-- The gradient of the projected pooled branch on a block. -/
theorem dpy_blk (t : Fin cfg0.N) (i : Fin 512) (n : Fin 1024) :
    k0_pay9 (F := Ideal) (k0_pay4 (iblk m c 0 t) (iblk m c 6 t))
      (k0_pay5 (View.ld (iblk m c 1 t) (Rect.unit ![0, 0] ![512, 1024] inb_S512x2048_S512x1024_0_0))) (ix2 i n)
      = dy (a0 m c) (a7 m c) (a8 m c) (rb (row t i)) (rs (row t i)) n := by
  rw [pay9_apply, dm_blk, pay5_apply, ld_gp]
  rfl

/-- The gradient of the projected attended branch on a block. -/
theorem day_blk (t : Fin cfg0.N) (i : Fin 512) (n : Fin 1024) :
    k0_pay10 (F := Ideal) (k0_pay4 (iblk m c 0 t) (iblk m c 6 t))
      (k0_pay6 (View.ld (iblk m c 1 t) (Rect.unit ![0, 1024] ![512, 1024] inb_S512x2048_S512x1024_0_1024))) (ix2 i n)
      = dy (a1 m c) (a7 m c) (a8 m c) (rb (row t i)) (rs (row t i)) n := by
  rw [pay10_apply, dm_blk, pay6_apply, ld_ga]
  rfl

/-- Splitting a column into its shard and lane and putting it together again gives the column back. -/
theorem lane (n : Fin 1024) (h1 : n.val / 128 < 8) (h2 : n.val % 128 < 128) (h : (⟨n.val / 128, h1⟩ : Fin 8).val * 128 + (⟨n.val % 128, h2⟩ : Fin 128).val < 1024) :
    (⟨(⟨n.val / 128, h1⟩ : Fin 8).val * 128 + (⟨n.val % 128, h2⟩ : Fin 128).val, h⟩ : Fin 1024) = n :=
  Fin.ext (show n.val / 128 * 128 + n.val % 128 = n.val by omega)

/-- The gradient of the scaled pooled activations on a block. -/
theorem dz_blk (t : Fin cfg0.N) (i : Fin 512) (k : Fin 512) :
    k0_pay18 (F := Ideal)
        (k0_pay9 (k0_pay4 (iblk m c 0 t) (iblk m c 6 t))
          (k0_pay5 (View.ld (iblk m c 1 t) (Rect.unit ![0, 0] ![512, 1024] inb_S512x2048_S512x1024_0_0))))
        (View.ld (iblk m c 8 t) (Rect.unit ![0, 0, 0] ![1, 512, 128] inb_S8x512x128_S1x512x128_0_0_0))
        (View.ld (iblk m c 8 t) (Rect.unit ![1, 0, 0] ![1, 512, 128] inb_S8x512x128_S1x512x128_1_0_0))
        (View.ld (iblk m c 8 t) (Rect.unit ![2, 0, 0] ![1, 512, 128] inb_S8x512x128_S1x512x128_2_0_0))
        (View.ld (iblk m c 8 t) (Rect.unit ![3, 0, 0] ![1, 512, 128] inb_S8x512x128_S1x512x128_3_0_0))
        (View.ld (iblk m c 8 t) (Rect.unit ![4, 0, 0] ![1, 512, 128] inb_S8x512x128_S1x512x128_4_0_0))
        (View.ld (iblk m c 8 t) (Rect.unit ![5, 0, 0] ![1, 512, 128] inb_S8x512x128_S1x512x128_5_0_0))
        (View.ld (iblk m c 8 t) (Rect.unit ![6, 0, 0] ![1, 512, 128] inb_S8x512x128_S1x512x128_6_0_0))
        (View.ld (iblk m c 8 t) (Rect.unit ![7, 0, 0] ![1, 512, 128] inb_S8x512x128_S1x512x128_7_0_0)) (ix2 i k)
      = dz (a0 m c) (a7 m c) (a8 m c) (a5 m c) (rb (row t i)) (rs (row t i)) k := by
  rw [pay18_apply _ (iblk m c 8 t) _ _ _ _ _ _ _ _ (ld8_0 m c t) (ld8_1 m c t) (ld8_2 m c t) (ld8_3 m c t) (ld8_4 m c t)
    (ld8_5 m c t) (ld8_6 m c t) (ld8_7 m c t)]
  simp only [dpy_blk, blk8, lane]
  rfl

/-- What a grid point leaves in window 10. -/
theorem out10 (t : Fin cfg0.N) (i : Fin 512) (n : Fin 1024) :
    (outsAt0 m c t.val t.isLt).2.1 (ix2 i n) = dy (a0 m c) (a7 m c) (a8 m c) (rb (row t i)) (rs (row t i)) n := by
  by_cases h : t.val % 8 = 0
  · rw [outsAt0_A m c t h]; frame_out; exact dpy_blk m c t i n
  · rw [outsAt0_B m c t h]; frame_out; exact dpy_blk m c t i n

/-- What a grid point leaves in window 11. -/
theorem out11 (t : Fin cfg0.N) (i : Fin 512) (n : Fin 1024) :
    (outsAt0 m c t.val t.isLt).2.2.1 (ix2 i n) = dy (a1 m c) (a7 m c) (a8 m c) (rb (row t i)) (rs (row t i)) n := by
  by_cases h : t.val % 8 = 0
  · rw [outsAt0_A m c t h]; frame_out; exact day_blk m c t i n
  · rw [outsAt0_B m c t h]; frame_out; exact day_blk m c t i n

/-- The gradient of the attended activations on a block. -/
theorem da_blk (t : Fin cfg0.N) (i : Fin 512) (k : Fin 512) :
    k0_pay17 (F := Ideal)
        (k0_pay10 (k0_pay4 (iblk m c 0 t) (iblk m c 6 t))
          (k0_pay6 (View.ld (iblk m c 1 t) (Rect.unit ![0, 1024] ![512, 1024] inb_S512x2048_S512x1024_0_1024))))
        (k0_pay11 (View.ld (iblk m c 7 t) (Rect.unit ![0, 0, 0] ![1, 512, 128] inb_S8x512x128_S1x512x128_0_0_0)))
        (k0_pay12 (View.ld (iblk m c 7 t) (Rect.unit ![1, 0, 0] ![1, 512, 128] inb_S8x512x128_S1x512x128_1_0_0)))
        (k0_pay13 (View.ld (iblk m c 7 t) (Rect.unit ![2, 0, 0] ![1, 512, 128] inb_S8x512x128_S1x512x128_2_0_0)))
        (k0_pay14 (View.ld (iblk m c 7 t) (Rect.unit ![3, 0, 0] ![1, 512, 128] inb_S8x512x128_S1x512x128_3_0_0)))
        (k0_pay15 (View.ld (iblk m c 7 t) (Rect.unit ![4, 0, 0] ![1, 512, 128] inb_S8x512x128_S1x512x128_4_0_0)))
        (k0_pay16 (View.ld (iblk m c 7 t) (Rect.unit ![5, 0, 0] ![1, 512, 128] inb_S8x512x128_S1x512x128_5_0_0)))
        (View.ld (iblk m c 7 t) (Rect.unit ![6, 0, 0] ![1, 512, 128] inb_S8x512x128_S1x512x128_6_0_0))
        (View.ld (iblk m c 7 t) (Rect.unit ![7, 0, 0] ![1, 512, 128] inb_S8x512x128_S1x512x128_7_0_0)) (ix2 i k)
      = dz (a1 m c) (a7 m c) (a8 m c) (a6 m c) (rb (row t i)) (rs (row t i)) k := by
  rw [pay17_apply _ (iblk m c 7 t) _ _ _ _ _ _ _ _
    (fun i j => (pay11_apply _ i j).trans (ld7_0 m c t i j))
    (fun i j => (pay12_apply _ i j).trans (ld7_1 m c t i j))
    (fun i j => (pay13_apply _ i j).trans (ld7_2 m c t i j))
    (fun i j => (pay14_apply _ i j).trans (ld7_3 m c t i j))
    (fun i j => (pay15_apply _ i j).trans (ld7_4 m c t i j))
    (fun i j => (pay16_apply _ i j).trans (ld7_5 m c t i j))
    (ld7_6 m c t) (ld7_7 m c t)]
  simp only [day_blk, blk7, lane]
  rfl

/-- What a grid point leaves in window 12. -/
theorem out12 (t : Fin cfg0.N) (i : Fin 512) (k : Fin 512) :
    (outsAt0 m c t.val t.isLt).2.2.2.1 (ix2 i k) = dz (a1 m c) (a7 m c) (a8 m c) (a6 m c) (rb (row t i)) (rs (row t i)) k := by
  by_cases h : t.val % 8 = 0
  · rw [outsAt0_A m c t h]; frame_out; exact da_blk m c t i k
  · rw [outsAt0_B m c t h]; frame_out; exact da_blk m c t i k

/-- What a grid point leaves in window 13. -/
theorem out13 (t : Fin cfg0.N) (i : Fin 512) (k : Fin 512) :
    (outsAt0 m c t.val t.isLt).2.2.2.2.1 (ix2 i k) = dz (a0 m c) (a7 m c) (a8 m c) (a5 m c) (rb (row t i)) (rs (row t i)) k * a3 m c (ix1 k) := by
  by_cases h : t.val % 8 = 0
  · rw [outsAt0_A m c t h]; frame_out; rw [pay1_apply]; exact congrArg₂ (· * ·) (dz_blk m c t i k) (blk5 m c t 0 k)
  · rw [outsAt0_B m c t h]; frame_out; rw [pay1_apply]; exact congrArg₂ (· * ·) (dz_blk m c t i k) (blk5 m c t 0 k)

/-- An index is known by its two coordinates. -/
theorem at_ix2 (x : S512x1024.Idx) (i : Fin 512) (j : Fin 1024) (h0 : i.val = (x 0).val) (h1 : j.val = (x 1).val) :
    x = ix2 i j := by
  funext a
  match a with
  | ⟨0, _⟩ => exact Fin.ext h0.symm
  | ⟨1, _⟩ => exact Fin.ext h1.symm

/-- The gradient of the pooled gate input on a block. -/
theorem dgp_blk (t : Fin cfg0.N) (i : Fin 512) (n : Fin 1024) :
    k0_pay7 (F := Ideal) (iblk m c 0 t) (iblk m c 6 t)
      (View.ld (iblk m c 1 t) (Rect.unit ![0, 0] ![512, 1024] inb_S512x2048_S512x1024_0_0)) (iblk m c 2 t) (ix2 i n)
      = dgp (a0 m c) (a2 m c) (a3 m c) (a5 m c) (a7 m c) (a8 m c) (rb (row t i)) (rs (row t i)) n := by
  rw [pay7_apply, ld_gp]
  simp only [blk0, blk6, blk2]
  rfl

/-- The gradient of the attended gate input on a block. -/
theorem dga_blk (t : Fin cfg0.N) (i : Fin 512) (n : Fin 1024) :
    k0_pay8 (F := Ideal) (k0_pay4 (iblk m c 0 t) (iblk m c 6 t))
      (k0_pay6 (View.ld (iblk m c 1 t) (Rect.unit ![0, 1024] ![512, 1024] inb_S512x2048_S512x1024_0_1024)))
      (iblk m c 3 t) (ix2 i n)
      = dga (a1 m c) (a4 m c) (a6 m c) (a7 m c) (a8 m c) (rb (row t i)) (rs (row t i)) n := by
  rw [pay8_apply, dm_blk, pay6_apply, ld_ga, blk3]
  rfl

/-- What a grid point leaves in window 9. -/
theorem out9 (t : Fin cfg0.N) (i : Fin 512) (n : Fin 2048) :
    (outsAt0 m c t.val t.isLt).1 (ix2 i n)
      = dg (a0 m c) (a1 m c) (a2 m c) (a3 m c) (a4 m c) (a5 m c) (a6 m c) (a7 m c) (a8 m c) (rb (row t i)) (rs (row t i)) n := by
  by_cases h : t.val % 8 = 0
  · rw [outsAt0_A m c t h]
    frame_out
    unfold dg
    canon_tiles x h
    · have e : n.val = 1024 + (x 1).val := h1
      rw [dif_neg (by omega)]
      exact (congrArg _ (at_ix2 x i ⟨n.val - 1024, by omega⟩ h0 (show n.val - 1024 = _ by omega))).trans (dga_blk m c t i _)
    · have e : n.val = (x 1).val := h1
      rw [dif_pos (by omega)]
      exact (congrArg _ (at_ix2 x i ⟨n.val, by omega⟩ h0 h1)).trans (dgp_blk m c t i _)
  · rw [outsAt0_B m c t h]
    frame_out
    unfold dg
    canon_tiles x h
    · have e : n.val = 1024 + (x 1).val := h1
      rw [dif_neg (by omega)]
      exact (congrArg _ (at_ix2 x i ⟨n.val - 1024, by omega⟩ h0 (show n.val - 1024 = _ by omega))).trans (dga_blk m c t i _)
    · have e : n.val = (x 1).val := h1
      rw [dif_pos (by omega)]
      exact (congrArg _ (at_ix2 x i ⟨n.val, by omega⟩ h0 h1)).trans (dgp_blk m c t i _)

/-- At the first grid point the scale accumulator starts from zero. -/
theorem acc_first (n : ℕ) (hn : n < cfg0.N) (h : n % 8 = 0) (z : Fin 1) (k : Fin 512) :
    (outsAt0 m c n hn).2.2.2.2.2 (ix2 z k) = 0
      + ∑ r : Fin 512, dz (a0 m c) (a7 m c) (a8 m c) (a5 m c) (rb (row ⟨n, hn⟩ r)) (rs (row ⟨n, hn⟩ r)) k
        * a2 m c (ix3 (rb (row ⟨n, hn⟩ r)) (rs (row ⟨n, hn⟩ r)) k) := by
  rw [outsAt0_A m c ⟨n, hn⟩ h]
  frame_out
  rw [pay3_apply, pay2_apply]
  exact congrArg _ (Finset.sum_congr rfl fun r _ => congrArg₂ (· * ·) (dz_blk m c ⟨n, hn⟩ r k) (blk4 m c ⟨n, hn⟩ r k))

/-- At every later grid point the block's sum is added to the scale accumulator. -/
theorem acc_step (n : ℕ) (hn : n < cfg0.N) (h : ¬ n % 8 = 0) (z : Fin 1) (k : Fin 512) :
    (outsAt0 m c n hn).2.2.2.2.2 (ix2 z k) = (outsAt0 m c (n - 1) (by omega)).2.2.2.2.2 (ix2 z k)
      + ∑ r : Fin 512, dz (a0 m c) (a7 m c) (a8 m c) (a5 m c) (rb (row ⟨n, hn⟩ r)) (rs (row ⟨n, hn⟩ r)) k
        * a2 m c (ix3 (rb (row ⟨n, hn⟩ r)) (rs (row ⟨n, hn⟩ r)) k) := by
  rw [outsAt0_B m c ⟨n, hn⟩ h]
  frame_out
  rw [pay3_apply]
  exact congrArg _ (Finset.sum_congr rfl fun r _ => congrArg₂ (· * ·) (dz_blk m c ⟨n, hn⟩ r k) (blk4 m c ⟨n, hn⟩ r k))

end Cert.MixIdeal.Point
-- ==== Proof.Com.Sums.lean ====
/- Sums shared by the value proofs: a host reduction over the two leading axes of three, read at an index. -/
module

public import Idealize.ShloMosaic.Lib.Pipeline.ValueKit
public import Idealize.ShloMosaic.Lib.Pointwise

@[expose] public section

noncomputable section

namespace Cert.Com

open Idealize.ShloMosaic

/-- The host's sum over the two leading axes of a three-axis array is the double sum over them. -/
theorem hostReduceAdd_r3_a01 {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  unfold Ideal.hostReduceAdd
  congr 1
  rw [← Finset.sum_product']
  symm
  have hd : ∀ i : (⟨3, ![n0, n1, n2]⟩ : Shape).Idx, ((h.drop i) 0).val = (i 2).val := fun i => rfl
  refine Finset.sum_nbij' (fun p => ix3 p.1 p.2 k) (fun i => (i 0, i 1)) ?_ ?_ ?_ ?_ ?_
  · intro p _
    rw [Finset.mem_filter]
    refine ⟨Finset.mem_univ _, ?_⟩
    funext b
    match b with
    | ⟨0, _⟩ => exact Fin.ext (hd _)
  · intro i _
    exact Finset.mem_product.mpr ⟨Finset.mem_univ _, Finset.mem_univ _⟩
  · intro p _
    rfl
  · intro i hi
    have hi' := (Finset.mem_filter.mp hi).2
    have : (i 2).val = k.val := by rw [← hd, hi']; rfl
    funext a
    match a with
    | ⟨0, _⟩ => rfl
    | ⟨1, _⟩ => rfl
    | ⟨2, _⟩ => exact Fin.ext this.symm
  · intro p _
    rfl

end Cert.Com

end
-- ==== Proof.Mix.Ref.lean ====
/- The mixer reference's results, read at an index, are the plain sums of `Cert.MixSpec`. -/
module

public import proofs.«01_k».proof.Proof.Mix.Spec
public import proofs.«01_k».proof.Proof.Com.Sums
public import proofs.«01_k».proof.Proof.Gen.MixRefIdeal.Read

@[expose] public section

noncomputable section

namespace Cert.MixRefIdeal.Point

open Cert.MixRefIdeal Cert.MixRefIdeal.Gen Cert.MixRefIdeal.Read Idealize.ShloMosaic Idealize.ShloMosaic.TcCoe Idealize.SL.Sem
open Cert.MixSpec

variable (x0 x1 : Vec Ideal S2x2048x1024 .f32) (x2 : Vec Ideal S2x2048x512 .f32) (x3 : Vec Ideal S512 .f32)
  (x4 : Vec Ideal S2x2048x512 .f32) (x5 x6 : Vec Ideal S512x1024 .f32) (x7 : Vec Ideal S1024x1024 .f32)
  (x8 : Vec Ideal S2x2048x1024 .f32) (b : Fin 2) (s : Fin 2048)

/-- The gradient of the merged sum. -/
theorem v27 (n : Fin 1024) : val_main_v27 (F := Ideal) x7 x8 (ix3 b s n) = dm x7 x8 b s n := by
  pointwise [val_main_v27, dm, dot_S2x2048x1024_S1024x1024_S2x2048x1024_2_1_01_0_n_n]

/-- The pooled branch after its projection. -/
theorem v3 (n : Fin 1024) : val_main_v3 (F := Ideal) x2 x3 x5 (ix3 b s n) = py x2 x3 x5 b s n := by
  pointwise [val_main_v3, val_main_v2, val_main_v1, val_main_v0, py, dot_S2x2048x512_S512x1024_S2x2048x1024_2_0_01_1_n_n]

/-- The attended branch after its projection. -/
theorem v4 (n : Fin 1024) : val_main_v4 (F := Ideal) x4 x6 (ix3 b s n) = ay x4 x6 b s n := by
  pointwise [val_main_v4, ay, dot_S2x2048x512_S512x1024_S2x2048x1024_2_0_01_1_n_n]

/-- The gate of the pooled branch: a logistic. -/
theorem v10 (i : S2x2048x1024.Idx) : val_main_v10 (F := Ideal) x0 i = sg (x0 i) := by
  unfold sg
  rw [zero_sub]
  pointwise [val_main_v10, val_main_v9, val_main_v8, val_main_v7, val_main_v6, val_main_v5, val_main_cst, val_main_cst_0]

/-- The gate of the attended branch: a logistic. -/
theorem v20 (i : S2x2048x1024.Idx) : val_main_v20 (F := Ideal) x1 i = sg (x1 i) := by
  unfold sg
  rw [zero_sub]
  pointwise [val_main_v20, val_main_v19, val_main_v18, val_main_v17, val_main_v16, val_main_v15, val_main_cst_2, val_main_cst_3]

/-- The slope of the pooled branch's gate. -/
theorem v13 (i : S2x2048x1024.Idx) : val_main_v13 (F := Ideal) x0 i = dsg (x0 i) := by
  unfold dsg
  rw [← v10]
  pointwise [val_main_v13, val_main_v12, val_main_v11, val_main_cst_1]

/-- The slope of the attended branch's gate. -/
theorem v23 (i : S2x2048x1024.Idx) : val_main_v23 (F := Ideal) x1 i = dsg (x1 i) := by
  unfold dsg
  rw [← v20]
  pointwise [val_main_v23, val_main_v22, val_main_v21, val_main_cst_4]

/-- The gradient of the projected pooled branch. -/
theorem v31 (n : Fin 1024) : val_main_v31 (F := Ideal) x0 x7 x8 (ix3 b s n) = dy x0 x7 x8 b s n := by
  unfold dy
  rw [← v27, ← v10, mul_comm]
  pointwise [val_main_v31]

/-- The gradient of the projected attended branch. -/
theorem v28 (n : Fin 1024) : val_main_v28 (F := Ideal) x1 x7 x8 (ix3 b s n) = dy x1 x7 x8 b s n := by
  unfold dy
  rw [← v27, ← v20, mul_comm]
  pointwise [val_main_v28]

/-- The gradient of the pooled branch's gate input. -/
theorem v33 (n : Fin 1024) : val_main_v33 (F := Ideal) x0 x2 x3 x5 x7 x8 (ix3 b s n) = dgp x0 x2 x3 x5 x7 x8 b s n := by
  unfold dgp
  rw [← v27, ← v3, ← v13]
  pointwise [val_main_v33, val_main_v32]

/-- The gradient of the attended branch's gate input. -/
theorem v30 (n : Fin 1024) : val_main_v30 (F := Ideal) x1 x4 x6 x7 x8 (ix3 b s n) = dga x1 x4 x6 x7 x8 b s n := by
  unfold dga
  rw [← v27, ← v4, ← v23]
  pointwise [val_main_v30, val_main_v29]

/-- The gradient of the scaled pooled activations. -/
theorem v38 (k : Fin 512) : val_main_v38 (F := Ideal) x0 x5 x7 x8 (ix3 b s k) = dz x0 x7 x8 x5 b s k := by
  unfold dz
  simp only [← v31]
  pointwise [val_main_v38, dot_S2x2048x1024_S512x1024_S2x2048x512_2_1_01_0_n_n]

/-- The gradient of the attended activations. -/
theorem v46 (k : Fin 512) : val_main_v46 (F := Ideal) x1 x6 x7 x8 (ix3 b s k) = dz x1 x7 x8 x6 b s k := by
  unfold dz
  simp only [← v28]
  pointwise [val_main_v46, dot_S2x2048x1024_S512x1024_S2x2048x512_2_1_01_0_n_n]

/-- The result holding the gradient of the projected pooled branch. -/
theorem v51 (r : Fin 4096) (n : Fin 1024) :
    val_main_v51 (F := Ideal) x0 x7 x8 (ix2 r n) = dy x0 x7 x8 (rb r) (rs r) n := by
  rw [← v31]
  pointwise [val_main_v51, val_main_v50, rb, rs]

/-- The result holding the gradient of the projected attended branch. -/
theorem v53 (r : Fin 4096) (n : Fin 1024) :
    val_main_v53 (F := Ideal) x1 x7 x8 (ix2 r n) = dy x1 x7 x8 (rb r) (rs r) n := by
  rw [← v28]
  pointwise [val_main_v53, val_main_v52, rb, rs]

/-- The result holding the gradient of the attended activations. -/
theorem v55 (r : Fin 4096) (k : Fin 512) :
    val_main_v55 (F := Ideal) x1 x6 x7 x8 (ix2 r k) = dz x1 x7 x8 x6 (rb r) (rs r) k := by
  rw [← v46]
  pointwise [val_main_v55, val_main_v54, rb, rs]

/-- The result holding the gradient of the pooled activations. -/
theorem v57 (r : Fin 4096) (k : Fin 512) :
    val_main_v57 (F := Ideal) x0 x3 x5 x7 x8 (ix2 r k) = dz x0 x7 x8 x5 (rb r) (rs r) k * x3 (ix1 k) := by
  rw [← v38]
  pointwise [val_main_v57, val_main_v56, val_main_v43, val_main_v42, val_main_v34, rb, rs]

/-- The result holding the gradients of both gate inputs side by side. -/
theorem v49 (r : Fin 4096) (n : Fin 2048) :
    val_main_v49 (F := Ideal) x0 x1 x2 x3 x4 x5 x6 x7 x8 (ix2 r n) = dg x0 x1 x2 x3 x4 x5 x6 x7 x8 (rb r) (rs r) n := by
  unfold dg
  simp only [← v33, ← v30]
  pointwise [val_main_v49, val_main_v48, val_main_v47, rb, rs]

/-- The gradient of the scale, as one sum over all tokens. -/
theorem v40 (k : Fin 512) :
    val_main_v40 (F := Ideal) x0 x2 x5 x7 x8 (ix1 k) = ∑ b : Fin 2, ∑ s : Fin 2048, dz x0 x7 x8 x5 b s k * x2 (ix3 b s k) := by
  unfold val_main_v40
  rw [ValueIdx.hostReduceAdd_apply]
  refine (Cert.Com.hostReduceAdd_r3_a01 _ _ _ k).trans ?_
  simp only [← v38]
  pointwise [val_main_v39, val_main_cst_5]
  simp only [mul_comm]

/-- The result holding the gradient of the scale. -/
theorem v58 (z : Fin 1) (k : Fin 512) :
    val_main_v58 (F := Ideal) x0 x2 x5 x7 x8 (ix2 z k) = ds x0 x2 x5 x7 x8 k := by
  have h : val_main_v44 (F := Ideal) x0 x2 x5 x7 x8 (ix1 k) = val_main_v40 (F := Ideal) x0 x2 x5 x7 x8 (ix1 k) := by
    unfold val_main_v44
    rw [ValueIdx.hostReduceAdd_apply]
    refine (Cert.Com.hostReduceAdd_r3_a01 _ _ _ k).trans ?_
    pointwise [val_main_v41, val_main_cst_6]
    simp only [Fin.sum_univ_one]
  have h2 : val_main_v58 (F := Ideal) x0 x2 x5 x7 x8 (ix2 z k) = val_main_v44 (F := Ideal) x0 x2 x5 x7 x8 (ix1 k) := by
    pointwise [val_main_v58]
  rw [h2, h, v40]
  unfold ds
  refine Fin.sum_mul_add_congr (S := 2) (n := 2048) fun a b hl => ?_
  rw [rb_mk, rs_mk]

end Cert.MixRefIdeal.Point

end
-- ==== Proof.Mix.Final.lean ====
/- The mixer's two programs have equal results: the arrays the kernel leaves, and the value claim. -/
module

public import proofs.«01_k».proof.Proof.Mix.Outs
public import proofs.«01_k».proof.Proof.Mix.Ref
public import proofs.«01_k».proof.Proof.Gen.MixRefIdeal.Run
public import proofs.«01_k».proof.Defs
public import Idealize.ShloMosaic.Lib.Claim

@[expose] public section

noncomputable section

namespace Cert.MixIdeal.Point

open Cert.MixIdeal Cert.MixIdeal.Gen Cert.MixIdeal.Value Idealize.ShloMosaic Idealize.ShloMosaic.TcCoe Idealize.SL.Sem
open Idealize.ShloMosaic.Pipeline
open Cert.MixSpec

variable (m : (ℓ : Loc nD τ sig) → Buf (Elt Ideal) ℓ) (c : Dev nD)

/-- What window 9's array holds after the run. -/
theorem final9 : (dats m 0 c).arrAt 9 cfg0.N = fun j => dg (a0 m c) (a1 m c) (a2 m c) (a3 m c) (a4 m c) (a5 m c) (a6 m c) (a7 m c) (a8 m c) (rb (j 0)) (rs (j 0)) (j 1) := by
  refine (dats m 0 c).arrAt_eq_of_covers 9 _ (by decide +kernel) fun t hf y => ?_
  blk_simp
  rw [after0_9]
  obtain ⟨i, k, rfl⟩ : ∃ (i : Fin 512) (k : Fin 2048), y = ix2 i k := ⟨y 0, y 1, by funext a; match a with | ⟨0, _⟩ => rfl | ⟨1, _⟩ => rfl⟩
  rw [emb9]
  exact out9 m c t i k

/-- What window 10's array holds after the run. -/
theorem final10 : (dats m 0 c).arrAt 10 cfg0.N = fun j => dy (a0 m c) (a7 m c) (a8 m c) (rb (j 0)) (rs (j 0)) (j 1) := by
  refine (dats m 0 c).arrAt_eq_of_covers 10 _ (by decide +kernel) fun t hf y => ?_
  blk_simp
  rw [after0_10]
  obtain ⟨i, k, rfl⟩ : ∃ (i : Fin 512) (k : Fin 1024), y = ix2 i k := ⟨y 0, y 1, by funext a; match a with | ⟨0, _⟩ => rfl | ⟨1, _⟩ => rfl⟩
  rw [emb10]
  exact out10 m c t i k

/-- What window 11's array holds after the run. -/
theorem final11 : (dats m 0 c).arrAt 11 cfg0.N = fun j => dy (a1 m c) (a7 m c) (a8 m c) (rb (j 0)) (rs (j 0)) (j 1) := by
  refine (dats m 0 c).arrAt_eq_of_covers 11 _ (by decide +kernel) fun t hf y => ?_
  blk_simp
  rw [after0_11]
  obtain ⟨i, k, rfl⟩ : ∃ (i : Fin 512) (k : Fin 1024), y = ix2 i k := ⟨y 0, y 1, by funext a; match a with | ⟨0, _⟩ => rfl | ⟨1, _⟩ => rfl⟩
  rw [emb11]
  exact out11 m c t i k

/-- What window 12's array holds after the run. -/
theorem final12 : (dats m 0 c).arrAt 12 cfg0.N = fun j => dz (a1 m c) (a7 m c) (a8 m c) (a6 m c) (rb (j 0)) (rs (j 0)) (j 1) := by
  refine (dats m 0 c).arrAt_eq_of_covers 12 _ (by decide +kernel) fun t hf y => ?_
  blk_simp
  rw [after0_12]
  obtain ⟨i, k, rfl⟩ : ∃ (i : Fin 512) (k : Fin 512), y = ix2 i k := ⟨y 0, y 1, by funext a; match a with | ⟨0, _⟩ => rfl | ⟨1, _⟩ => rfl⟩
  rw [emb12]
  exact out12 m c t i k

/-- What window 13's array holds after the run. -/
theorem final13 : (dats m 0 c).arrAt 13 cfg0.N = fun j => dz (a0 m c) (a7 m c) (a8 m c) (a5 m c) (rb (j 0)) (rs (j 0)) (j 1) * a3 m c (ix1 (j 1)) := by
  refine (dats m 0 c).arrAt_eq_of_covers 13 _ (by decide +kernel) fun t hf y => ?_
  blk_simp
  rw [after0_13]
  obtain ⟨i, k, rfl⟩ : ∃ (i : Fin 512) (k : Fin 512), y = ix2 i k := ⟨y 0, y 1, by funext a; match a with | ⟨0, _⟩ => rfl | ⟨1, _⟩ => rfl⟩
  rw [emb13]
  exact out13 m c t i k

/-- The last point of the grid. -/
def t_last : Fin cfg0.N := ⟨7, by decide +kernel⟩

/-- What window 14's array holds after the run: the sum over every token. -/
theorem final14 : (dats m 0 c).arrAt 14 cfg0.N
    = fun j => ds (a0 m c) (a2 m c) (a5 m c) (a7 m c) (a8 m c) (j 1) := by
  refine (dats m 0 c).arrAt_eq_of_after_last 14 t_last (by decide +kernel) _ fun j => ?_
  blk_simp
  rw [after0_14]
  obtain ⟨z, k, rfl⟩ : ∃ (z : Fin 1) (k : Fin 512), j = ix2 z k := ⟨j 0, j 1, by funext a; match a with | ⟨0, _⟩ => rfl | ⟨1, _⟩ => rfl⟩
  refine (Pipeline.eq_sum_fin_of_reset_step_apply_last (fun n h => (outsAt0 m c n h).2.2.2.2.2) 8 (fun _ => 0)
    (fun t j => ∑ r : Fin 512, dz (a0 m c) (a7 m c) (a8 m c) (a5 m c) (rb (row t r)) (rs (row t r)) (j 1)
      * a2 m c (ix3 (rb (row t r)) (rs (row t r)) (j 1)))
    (fun t h j => ?_) (fun t h j => ?_) (le_of_eq N8) t_last rfl (ix2 z k)).trans ?_
  · obtain ⟨z, k, rfl⟩ : ∃ (z : Fin 1) (k : Fin 512), j = ix2 z k := ⟨j 0, j 1, by funext a; match a with | ⟨0, _⟩ => rfl | ⟨1, _⟩ => rfl⟩
    exact acc_first m c t.val t.isLt h z k
  · obtain ⟨z, k, rfl⟩ : ∃ (z : Fin 1) (k : Fin 512), j = ix2 z k := ⟨j 0, j 1, by funext a; match a with | ⟨0, _⟩ => rfl | ⟨1, _⟩ => rfl⟩
    exact acc_step m c t.val t.isLt h z k
  · refine (zero_add _).trans ?_
    exact Fin.sum_mul_add_congr (S := 8) (n := 512) fun s r hl => rfl

end Cert.MixIdeal.Point

namespace Cert.MixRefIdeal.Point

open Cert.MixRefIdeal Cert.MixRefIdeal.Gen Cert.MixRefIdeal.Read Idealize.ShloMosaic Idealize.ShloMosaic.TcCoe Idealize.SL.Sem
open Cert.MixSpec

variable (x0 x1 : Vec Ideal S2x2048x1024 .f32) (x2 : Vec Ideal S2x2048x512 .f32) (x3 : Vec Ideal S512 .f32)
  (x4 : Vec Ideal S2x2048x512 .f32) (x5 x6 : Vec Ideal S512x1024 .f32) (x7 : Vec Ideal S1024x1024 .f32)
  (x8 : Vec Ideal S2x2048x1024 .f32) (b : Fin 2) (s : Fin 2048)

/-- The reference's `v49` as one function of the index. -/
theorem v49_fn : val_main_v49 (F := Ideal) x0 x1 x2 x3 x4 x5 x6 x7 x8 = fun j => dg x0 x1 x2 x3 x4 x5 x6 x7 x8 (rb (j 0)) (rs (j 0)) (j 1) := by
  funext j
  have hj : j = ix2 (j 0) (j 1) := by funext a; match a with | ⟨0, _⟩ => rfl | ⟨1, _⟩ => rfl
  exact (congrArg _ hj).trans (v49 x0 x1 x2 x3 x4 x5 x6 x7 x8 (j 0) (j 1))

/-- The reference's `v51` as one function of the index. -/
theorem v51_fn : val_main_v51 (F := Ideal) x0 x7 x8 = fun j => dy x0 x7 x8 (rb (j 0)) (rs (j 0)) (j 1) := by
  funext j
  have hj : j = ix2 (j 0) (j 1) := by funext a; match a with | ⟨0, _⟩ => rfl | ⟨1, _⟩ => rfl
  exact (congrArg _ hj).trans (v51 x0 x7 x8 (j 0) (j 1))

/-- The reference's `v53` as one function of the index. -/
theorem v53_fn : val_main_v53 (F := Ideal) x1 x7 x8 = fun j => dy x1 x7 x8 (rb (j 0)) (rs (j 0)) (j 1) := by
  funext j
  have hj : j = ix2 (j 0) (j 1) := by funext a; match a with | ⟨0, _⟩ => rfl | ⟨1, _⟩ => rfl
  exact (congrArg _ hj).trans (v53 x1 x7 x8 (j 0) (j 1))

/-- The reference's `v55` as one function of the index. -/
theorem v55_fn : val_main_v55 (F := Ideal) x1 x6 x7 x8 = fun j => dz x1 x7 x8 x6 (rb (j 0)) (rs (j 0)) (j 1) := by
  funext j
  have hj : j = ix2 (j 0) (j 1) := by funext a; match a with | ⟨0, _⟩ => rfl | ⟨1, _⟩ => rfl
  exact (congrArg _ hj).trans (v55 x1 x6 x7 x8 (j 0) (j 1))

/-- The reference's `v57` as one function of the index. -/
theorem v57_fn : val_main_v57 (F := Ideal) x0 x3 x5 x7 x8 = fun j => dz x0 x7 x8 x5 (rb (j 0)) (rs (j 0)) (j 1) * x3 (ix1 (j 1)) := by
  funext j
  have hj : j = ix2 (j 0) (j 1) := by funext a; match a with | ⟨0, _⟩ => rfl | ⟨1, _⟩ => rfl
  exact (congrArg _ hj).trans (v57 x0 x3 x5 x7 x8 (j 0) (j 1))

/-- The reference's `v58` as one function of the index. -/
theorem v58_fn : val_main_v58 (F := Ideal) x0 x2 x5 x7 x8 = fun j => ds x0 x2 x5 x7 x8 (j 1) := by
  funext j
  have hj : j = ix2 (j 0) (j 1) := by funext a; match a with | ⟨0, _⟩ => rfl | ⟨1, _⟩ => rfl
  exact (congrArg _ hj).trans (v58 x0 x2 x5 x7 x8 (j 0) (j 1))

end Cert.MixRefIdeal.Point

namespace Cert.Proof

open Idealize.ShloMosaic Idealize.ShloMosaic.TcCoe Idealize.SL.Sem
open Cert.MixSpec Cert.MixRefIdeal.Point

/-- The mixer's kernel and its reference leave the same six arrays. -/
theorem algebraic_mix : Cert.algebraic_MixIdeal_MixRefIdeal := by
  pair_intro
  · run_from Cert.MixIdeal.Value.run_blocks m g
  · run_from Cert.MixRefIdeal.Value.run m' g'
    · obtain ⟨h0, h1, h2, h3, h4, h5, h6, h7, h8⟩ := hagree c
      refine (v49_fn _ _ _ _ _ _ _ _ _).trans ?_
      rw [h4, h5, h6, h7, h8]
      exact (Cert.MixIdeal.Point.final9 m c).symm
    · exact (v51_fn _ _ _).trans (Cert.MixIdeal.Point.final10 m c).symm
    · exact (v53_fn _ _ _).trans (Cert.MixIdeal.Point.final11 m c).symm
    · exact (v55_fn _ _ _ _).trans (Cert.MixIdeal.Point.final12 m c).symm
    · exact (v57_fn _ _ _ _ _).trans (Cert.MixIdeal.Point.final13 m c).symm
    · exact (v58_fn _ _ _ _ _).trans (Cert.MixIdeal.Point.final14 m c).symm

end Cert.Proof
-- ==== Proof.Ffn.Spec.lean ====
/- What the backward pass of the gated feed-forward layer is shown to compute, as sums over the extended reals: plain
   functions of the six arguments, read from both programs. -/
module

public import proofs.«01_k».proof.Proof.Mix.Spec

@[expose] public section

noncomputable section

namespace Cert.FfnSpec

open Idealize.ShloMosaic Cert.MixSpec

/-- The shapes of the activations, the norm's gain, the two input projections and the output projection. -/
abbrev Sg : Shape := ⟨1, ![1024]⟩
abbrev Sf : Shape := ⟨2, ![1024, 2816]⟩
abbrev Sd : Shape := ⟨2, ![2816, 1024]⟩

/-- The number of features, the norm's small constant, and a half with its sign, as the programs write them. -/
abbrev cN : EReal := Ideal.ofBits .f32 0x44800000#32
abbrev cE : EReal := Ideal.ofBits .f32 0x358637BD#32
abbrev cH : EReal := Ideal.ofBits .f32 0xBF000000#32

/-- A row's mean square with the small constant added. -/
def ms (x : Sx.Idx → EReal) (b : Fin 2) (s : Fin 2048) : EReal :=
  Ideal.div (∑ k : Fin 1024, x (ix3 b s k) * x (ix3 b s k)) cN + cE

/-- The reciprocal root of a row's mean square. -/
def rr (x : Sx.Idx → EReal) (b : Fin 2) (s : Fin 2048) : EReal := Ideal.rsqrt (ms x b s)

/-- The normalised activation. -/
def xh (x : Sx.Idx → EReal) (b : Fin 2) (s : Fin 2048) (k : Fin 1024) : EReal := x (ix3 b s k) * rr x b s

/-- An input projection (the gate's or the up's) of the normalised activations with their gain. -/
def pre (x : Sx.Idx → EReal) (g : Sg.Idx → EReal) (w : Sf.Idx → EReal) (b : Fin 2) (s : Fin 2048) (n : Fin 2816) : EReal :=
  ∑ k : Fin 1024, (xh x b s k * g (ix1 k)) * w (ix2 k n)

/-- The cotangent of the product that the output projection takes. -/
def dact (wd : Sd.Idx → EReal) (dy : Sx.Idx → EReal) (b : Fin 2) (s : Fin 2048) (n : Fin 2816) : EReal :=
  ∑ k : Fin 1024, dy (ix3 b s k) * wd (ix2 n k)

/-- The gate's cotangent from the product's `d`, the gate `a` and the up `u`. -/
def dgS (d a u : EReal) : EReal := d * u * (sg a * (1 + a * (1 - sg a)))

/-- The up's cotangent from the product's `d` and the gate `a`. -/
def duS (d a : EReal) : EReal := d * (a * sg a)

/-- The gate's cotangent. -/
def dgate (x : Sx.Idx → EReal) (g : Sg.Idx → EReal) (wg wu : Sf.Idx → EReal) (wd : Sd.Idx → EReal) (dy : Sx.Idx → EReal)
    (b : Fin 2) (s : Fin 2048) (n : Fin 2816) : EReal :=
  dgS (dact wd dy b s n) (pre x g wg b s n) (pre x g wu b s n)

/-- The up's cotangent. -/
def dup (x : Sx.Idx → EReal) (g : Sg.Idx → EReal) (wg : Sf.Idx → EReal) (wd : Sd.Idx → EReal) (dy : Sx.Idx → EReal)
    (b : Fin 2) (s : Fin 2048) (n : Fin 2816) : EReal :=
  duS (dact wd dy b s n) (pre x g wg b s n)

/-- The cotangent of the normalised activations with their gain. -/
def dh (x : Sx.Idx → EReal) (g : Sg.Idx → EReal) (wg wu : Sf.Idx → EReal) (wd : Sd.Idx → EReal) (dy : Sx.Idx → EReal)
    (b : Fin 2) (s : Fin 2048) (k : Fin 1024) : EReal :=
  (∑ n : Fin 2816, dgate x g wg wu wd dy b s n * wg (ix2 k n)) + ∑ n : Fin 2816, dup x g wg wd dy b s n * wu (ix2 k n)

/-- The norm's backward pass on one row: the incoming `y`, the reciprocal root `r`, the row's `x`, gains `g` and cotangents `d`. -/
def dxS (y r : EReal) (x g d : Fin 1024 → EReal) (k : Fin 1024) : EReal :=
  y + r * (d k * g k - x k * r * Ideal.div (∑ j : Fin 1024, d j * g j * (x j * r)) cN)

/-- The input's cotangent. -/
def dx (x : Sx.Idx → EReal) (g : Sg.Idx → EReal) (wg wu : Sf.Idx → EReal) (wd : Sd.Idx → EReal) (dy : Sx.Idx → EReal)
    (b : Fin 2) (s : Fin 2048) (k : Fin 1024) : EReal :=
  dxS (dy (ix3 b s k)) (rr x b s) (fun j => x (ix3 b s j)) (fun j => g (ix1 j)) (fun j => dh x g wg wu wd dy b s j) k

/-- The gain's cotangent. -/
def dgain (x : Sx.Idx → EReal) (g : Sg.Idx → EReal) (wg wu : Sf.Idx → EReal) (wd : Sd.Idx → EReal) (dy : Sx.Idx → EReal)
    (k : Fin 1024) : EReal :=
  ∑ r : Fin 4096, dh x g wg wu wd dy (rb r) (rs r) k * xh x (rb r) (rs r) k

end Cert.FfnSpec
-- ==== Proof.Ffn.Pay.lean ====
/- The feed-forward backward kernel's payloads read at an index, over the extended reals. -/
module

public import proofs.«01_k».proof.Proof.Gen.FfnIdeal.Skeleton
public import proofs.«01_k».proof.Proof.Ffn.Spec

@[expose] public section

noncomputable section

namespace Cert.FfnIdeal.Pay

open Cert.FfnIdeal Cert.FfnIdeal.Gen Idealize.ShloMosaic Idealize.ShloMosaic.TcCoe Idealize.SL.Sem
open Cert.MixSpec Cert.FfnSpec

/-- Column block 0 of the gate's cotangent at an element. -/
theorem g0_apply (v : Vec Ideal S512x1024 .f32) (w : Vec Ideal S256x1024 .bf16) (g : Vec Ideal S512x256 .bf16) (u : Vec Ideal S512x256 .bf16) (i : Fin 512) (j : Fin 256) :
    k0_pay8 (F := Ideal) v w g u (ix2 i j) = dgS (∑ k : Fin 1024, v (ix2 i k) * w (ix2 j k)) (g (ix2 i j)) (u (ix2 i j)) := by
  pointwise [k0_pay3, k0_pay4, k0_pay5, k0_pay6, k0_pay7, k0_pay8, k0_pay9, dgS, sg, dot_S512x1024_S256x1024_S512x256_1_1_0_0_n_n]

/-- Column block 0 of the up's cotangent at an element. -/
theorem u0_apply (v : Vec Ideal S512x1024 .f32) (w : Vec Ideal S256x1024 .bf16) (g : Vec Ideal S512x256 .bf16) (i : Fin 512) (j : Fin 256) :
    k0_pay9 (F := Ideal) v w g (ix2 i j) = duS (∑ k : Fin 1024, v (ix2 i k) * w (ix2 j k)) (g (ix2 i j)) := by
  pointwise [k0_pay3, k0_pay4, k0_pay5, k0_pay6, k0_pay7, k0_pay8, k0_pay9, duS, sg, dot_S512x1024_S256x1024_S512x256_1_1_0_0_n_n]

/-- Column block 1 of the gate's cotangent at an element. -/
theorem g1_apply (v : Vec Ideal S512x1024 .f32) (w : Vec Ideal S256x1024 .bf16) (g : Vec Ideal S512x256 .bf16) (u : Vec Ideal S512x256 .bf16) (i : Fin 512) (j : Fin 256) :
    k0_pay13 (F := Ideal) (k0_pay10 v w) g u (ix2 i j) = dgS (∑ k : Fin 1024, v (ix2 i k) * w (ix2 j k)) (g (ix2 i j)) (u (ix2 i j)) := by
  pointwise [k0_pay3, k0_pay4, k0_pay10, k0_pay11, k0_pay12, k0_pay13, k0_pay14, dgS, sg, dot_S512x1024_S256x1024_S512x256_1_1_0_0_n_n]

/-- Column block 1 of the up's cotangent at an element. -/
theorem u1_apply (v : Vec Ideal S512x1024 .f32) (w : Vec Ideal S256x1024 .bf16) (g : Vec Ideal S512x256 .bf16) (i : Fin 512) (j : Fin 256) :
    k0_pay14 (F := Ideal) (k0_pay10 v w) g (ix2 i j) = duS (∑ k : Fin 1024, v (ix2 i k) * w (ix2 j k)) (g (ix2 i j)) := by
  pointwise [k0_pay3, k0_pay4, k0_pay10, k0_pay11, k0_pay12, k0_pay13, k0_pay14, duS, sg, dot_S512x1024_S256x1024_S512x256_1_1_0_0_n_n]

/-- Column block 2 of the gate's cotangent at an element. -/
theorem g2_apply (v : Vec Ideal S512x1024 .f32) (w : Vec Ideal S256x1024 .bf16) (g : Vec Ideal S512x256 .bf16) (u : Vec Ideal S512x256 .bf16) (i : Fin 512) (j : Fin 256) :
    k0_pay19 (F := Ideal) (k0_pay15 (k0_pay4 v) w) (k0_pay16 g) (k0_pay17 g) u (ix2 i j) = dgS (∑ k : Fin 1024, v (ix2 i k) * w (ix2 j k)) (g (ix2 i j)) (u (ix2 i j)) := by
  pointwise [k0_pay3, k0_pay4, k0_pay15, k0_pay16, k0_pay17, k0_pay18, k0_pay19, k0_pay20, dgS, sg, dot_S512x1024_S256x1024_S512x256_1_1_0_0_n_n]

/-- Column block 2 of the up's cotangent at an element. -/
theorem u2_apply (v : Vec Ideal S512x1024 .f32) (w : Vec Ideal S256x1024 .bf16) (g : Vec Ideal S512x256 .bf16) (i : Fin 512) (j : Fin 256) :
    k0_pay20 (F := Ideal) (k0_pay15 (k0_pay4 v) w) (k0_pay16 g) (k0_pay17 g) (ix2 i j) = duS (∑ k : Fin 1024, v (ix2 i k) * w (ix2 j k)) (g (ix2 i j)) := by
  pointwise [k0_pay3, k0_pay4, k0_pay15, k0_pay16, k0_pay17, k0_pay18, k0_pay19, k0_pay20, duS, sg, dot_S512x1024_S256x1024_S512x256_1_1_0_0_n_n]

/-- Column block 3 of the gate's cotangent at an element. -/
theorem g3_apply (v : Vec Ideal S512x1024 .f32) (w : Vec Ideal S256x1024 .bf16) (g : Vec Ideal S512x256 .bf16) (u : Vec Ideal S512x256 .bf16) (i : Fin 512) (j : Fin 256) :
    k0_pay27 (F := Ideal) (k0_pay22 g) (k0_pay23 g) (k0_pay25 (k0_pay4 v) w u) k0_pay26 (ix2 i j) = dgS (∑ k : Fin 1024, v (ix2 i k) * w (ix2 j k)) (g (ix2 i j)) (u (ix2 i j)) := by
  pointwise [k0_pay3, k0_pay4, k0_pay21, k0_pay22, k0_pay23, k0_pay24, k0_pay25, k0_pay26, k0_pay27, k0_pay28, dgS, sg, dot_S512x1024_S256x1024_S512x256_1_1_0_0_n_n]

/-- Column block 3 of the up's cotangent at an element. -/
theorem u3_apply (v : Vec Ideal S512x1024 .f32) (w : Vec Ideal S256x1024 .bf16) (g : Vec Ideal S512x256 .bf16) (i : Fin 512) (j : Fin 256) :
    k0_pay28 (F := Ideal) (k0_pay21 (k0_pay4 v) w) (k0_pay24 g) (ix2 i j) = duS (∑ k : Fin 1024, v (ix2 i k) * w (ix2 j k)) (g (ix2 i j)) := by
  pointwise [k0_pay3, k0_pay4, k0_pay21, k0_pay22, k0_pay23, k0_pay24, k0_pay25, k0_pay26, k0_pay27, k0_pay28, duS, sg, dot_S512x1024_S256x1024_S512x256_1_1_0_0_n_n]

/-- Column block 4 of the gate's cotangent at an element. -/
theorem g4_apply (v : Vec Ideal S512x1024 .f32) (w : Vec Ideal S256x1024 .bf16) (g : Vec Ideal S512x256 .bf16) (u : Vec Ideal S512x256 .bf16) (i : Fin 512) (j : Fin 256) :
    k0_pay32 (F := Ideal) (k0_pay4 v) w g u (ix2 i j) = dgS (∑ k : Fin 1024, v (ix2 i k) * w (ix2 j k)) (g (ix2 i j)) (u (ix2 i j)) := by
  pointwise [k0_pay3, k0_pay4, k0_pay29, k0_pay30, k0_pay31, k0_pay32, k0_pay33, dgS, sg, dot_S512x1024_S256x1024_S512x256_1_1_0_0_n_n]

/-- Column block 4 of the up's cotangent at an element. -/
theorem u4_apply (v : Vec Ideal S512x1024 .f32) (w : Vec Ideal S256x1024 .bf16) (g : Vec Ideal S512x256 .bf16) (i : Fin 512) (j : Fin 256) :
    k0_pay33 (F := Ideal) (k0_pay4 v) w g (ix2 i j) = duS (∑ k : Fin 1024, v (ix2 i k) * w (ix2 j k)) (g (ix2 i j)) := by
  pointwise [k0_pay3, k0_pay4, k0_pay29, k0_pay30, k0_pay31, k0_pay32, k0_pay33, duS, sg, dot_S512x1024_S256x1024_S512x256_1_1_0_0_n_n]

/-- Column block 5 of the gate's cotangent at an element. -/
theorem g5_apply (v : Vec Ideal S512x1024 .f32) (w : Vec Ideal S256x1024 .bf16) (g : Vec Ideal S512x256 .bf16) (u : Vec Ideal S512x256 .bf16) (i : Fin 512) (j : Fin 256) :
    k0_pay37 (F := Ideal) (k0_pay4 v) w g u (ix2 i j) = dgS (∑ k : Fin 1024, v (ix2 i k) * w (ix2 j k)) (g (ix2 i j)) (u (ix2 i j)) := by
  pointwise [k0_pay3, k0_pay4, k0_pay34, k0_pay35, k0_pay36, k0_pay37, k0_pay38, dgS, sg, dot_S512x1024_S256x1024_S512x256_1_1_0_0_n_n]

/-- Column block 5 of the up's cotangent at an element. -/
theorem u5_apply (v : Vec Ideal S512x1024 .f32) (w : Vec Ideal S256x1024 .bf16) (g : Vec Ideal S512x256 .bf16) (i : Fin 512) (j : Fin 256) :
    k0_pay38 (F := Ideal) (k0_pay4 v) w g (ix2 i j) = duS (∑ k : Fin 1024, v (ix2 i k) * w (ix2 j k)) (g (ix2 i j)) := by
  pointwise [k0_pay3, k0_pay4, k0_pay34, k0_pay35, k0_pay36, k0_pay37, k0_pay38, duS, sg, dot_S512x1024_S256x1024_S512x256_1_1_0_0_n_n]

/-- Column block 6 of the gate's cotangent at an element. -/
theorem g6_apply (v : Vec Ideal S512x1024 .f32) (w : Vec Ideal S256x1024 .bf16) (g : Vec Ideal S512x256 .bf16) (u : Vec Ideal S512x256 .bf16) (i : Fin 512) (j : Fin 256) :
    k0_pay42 (F := Ideal) (k0_pay39 (k0_pay4 v) w) g u (ix2 i j) = dgS (∑ k : Fin 1024, v (ix2 i k) * w (ix2 j k)) (g (ix2 i j)) (u (ix2 i j)) := by
  pointwise [k0_pay3, k0_pay4, k0_pay39, k0_pay40, k0_pay41, k0_pay42, k0_pay43, dgS, sg, dot_S512x1024_S256x1024_S512x256_1_1_0_0_n_n]

/-- Column block 6 of the up's cotangent at an element. -/
theorem u6_apply (v : Vec Ideal S512x1024 .f32) (w : Vec Ideal S256x1024 .bf16) (g : Vec Ideal S512x256 .bf16) (i : Fin 512) (j : Fin 256) :
    k0_pay43 (F := Ideal) (k0_pay39 (k0_pay4 v) w) g (ix2 i j) = duS (∑ k : Fin 1024, v (ix2 i k) * w (ix2 j k)) (g (ix2 i j)) := by
  pointwise [k0_pay3, k0_pay4, k0_pay39, k0_pay40, k0_pay41, k0_pay42, k0_pay43, duS, sg, dot_S512x1024_S256x1024_S512x256_1_1_0_0_n_n]

/-- Column block 7 of the gate's cotangent at an element. -/
theorem g7_apply (v : Vec Ideal S512x1024 .f32) (w : Vec Ideal S256x1024 .bf16) (g : Vec Ideal S512x256 .bf16) (u : Vec Ideal S512x256 .bf16) (i : Fin 512) (j : Fin 256) :
    k0_pay48 (F := Ideal) (k0_pay44 (k0_pay4 v) w) (k0_pay45 g) (k0_pay46 g) u (ix2 i j) = dgS (∑ k : Fin 1024, v (ix2 i k) * w (ix2 j k)) (g (ix2 i j)) (u (ix2 i j)) := by
  pointwise [k0_pay3, k0_pay4, k0_pay44, k0_pay45, k0_pay46, k0_pay47, k0_pay48, k0_pay49, dgS, sg, dot_S512x1024_S256x1024_S512x256_1_1_0_0_n_n]

/-- Column block 7 of the up's cotangent at an element. -/
theorem u7_apply (v : Vec Ideal S512x1024 .f32) (w : Vec Ideal S256x1024 .bf16) (g : Vec Ideal S512x256 .bf16) (i : Fin 512) (j : Fin 256) :
    k0_pay49 (F := Ideal) (k0_pay44 (k0_pay4 v) w) (k0_pay45 g) (k0_pay46 g) (ix2 i j) = duS (∑ k : Fin 1024, v (ix2 i k) * w (ix2 j k)) (g (ix2 i j)) := by
  pointwise [k0_pay3, k0_pay4, k0_pay44, k0_pay45, k0_pay46, k0_pay47, k0_pay48, k0_pay49, duS, sg, dot_S512x1024_S256x1024_S512x256_1_1_0_0_n_n]

/-- Column block 8 of the gate's cotangent at an element. -/
theorem g8_apply (v : Vec Ideal S512x1024 .f32) (w : Vec Ideal S256x1024 .bf16) (g : Vec Ideal S512x256 .bf16) (u : Vec Ideal S512x256 .bf16) (i : Fin 512) (j : Fin 256) :
    k0_pay56 (F := Ideal) (k0_pay51 g) (k0_pay52 g) (k0_pay54 (k0_pay4 v) w u) k0_pay55 (ix2 i j) = dgS (∑ k : Fin 1024, v (ix2 i k) * w (ix2 j k)) (g (ix2 i j)) (u (ix2 i j)) := by
  pointwise [k0_pay3, k0_pay4, k0_pay50, k0_pay51, k0_pay52, k0_pay53, k0_pay54, k0_pay55, k0_pay56, k0_pay57, dgS, sg, dot_S512x1024_S256x1024_S512x256_1_1_0_0_n_n]

/-- Column block 8 of the up's cotangent at an element. -/
theorem u8_apply (v : Vec Ideal S512x1024 .f32) (w : Vec Ideal S256x1024 .bf16) (g : Vec Ideal S512x256 .bf16) (i : Fin 512) (j : Fin 256) :
    k0_pay57 (F := Ideal) (k0_pay50 (k0_pay4 v) w) (k0_pay53 g) (ix2 i j) = duS (∑ k : Fin 1024, v (ix2 i k) * w (ix2 j k)) (g (ix2 i j)) := by
  pointwise [k0_pay3, k0_pay4, k0_pay50, k0_pay51, k0_pay52, k0_pay53, k0_pay54, k0_pay55, k0_pay56, k0_pay57, duS, sg, dot_S512x1024_S256x1024_S512x256_1_1_0_0_n_n]

/-- Column block 9 of the gate's cotangent at an element. -/
theorem g9_apply (v : Vec Ideal S512x1024 .f32) (w : Vec Ideal S256x1024 .bf16) (g : Vec Ideal S512x256 .bf16) (u : Vec Ideal S512x256 .bf16) (i : Fin 512) (j : Fin 256) :
    k0_pay61 (F := Ideal) (k0_pay4 v) w g u (ix2 i j) = dgS (∑ k : Fin 1024, v (ix2 i k) * w (ix2 j k)) (g (ix2 i j)) (u (ix2 i j)) := by
  pointwise [k0_pay3, k0_pay4, k0_pay58, k0_pay59, k0_pay60, k0_pay61, k0_pay62, dgS, sg, dot_S512x1024_S256x1024_S512x256_1_1_0_0_n_n]

/-- Column block 9 of the up's cotangent at an element. -/
theorem u9_apply (v : Vec Ideal S512x1024 .f32) (w : Vec Ideal S256x1024 .bf16) (g : Vec Ideal S512x256 .bf16) (i : Fin 512) (j : Fin 256) :
    k0_pay62 (F := Ideal) (k0_pay4 v) w g (ix2 i j) = duS (∑ k : Fin 1024, v (ix2 i k) * w (ix2 j k)) (g (ix2 i j)) := by
  pointwise [k0_pay3, k0_pay4, k0_pay58, k0_pay59, k0_pay60, k0_pay61, k0_pay62, duS, sg, dot_S512x1024_S256x1024_S512x256_1_1_0_0_n_n]

/-- Column block 10 of the gate's cotangent at an element. -/
theorem g10_apply (v : Vec Ideal S512x1024 .f32) (w : Vec Ideal S256x1024 .bf16) (g : Vec Ideal S512x256 .bf16) (u : Vec Ideal S512x256 .bf16) (i : Fin 512) (j : Fin 256) :
    k0_pay66 (F := Ideal) (k0_pay4 v) w g u (ix2 i j) = dgS (∑ k : Fin 1024, v (ix2 i k) * w (ix2 j k)) (g (ix2 i j)) (u (ix2 i j)) := by
  pointwise [k0_pay3, k0_pay4, k0_pay63, k0_pay64, k0_pay65, k0_pay66, k0_pay67, dgS, sg, dot_S512x1024_S256x1024_S512x256_1_1_0_0_n_n]

/-- Column block 10 of the up's cotangent at an element. -/
theorem u10_apply (v : Vec Ideal S512x1024 .f32) (w : Vec Ideal S256x1024 .bf16) (g : Vec Ideal S512x256 .bf16) (i : Fin 512) (j : Fin 256) :
    k0_pay67 (F := Ideal) (k0_pay4 v) w g (ix2 i j) = duS (∑ k : Fin 1024, v (ix2 i k) * w (ix2 j k)) (g (ix2 i j)) := by
  pointwise [k0_pay3, k0_pay4, k0_pay63, k0_pay64, k0_pay65, k0_pay66, k0_pay67, duS, sg, dot_S512x1024_S256x1024_S512x256_1_1_0_0_n_n]

/-- The zeros that the gain's cotangent starts from. -/
theorem pay1_apply (y : S1x1024.Idx) : k0_pay1 (F := Ideal) y = 0 := by
  pointwise [k0_pay1]

/-- One block's column sums added to the gain's cotangent. -/
theorem pay2_apply (p : FVec Ideal S512x1024 .f32) (a : Vec Ideal S1x1024 .f32) (z : Fin 1) (k : Fin 1024) :
    k0_pay2 (F := Ideal) p a (ix2 z k) = a (ix2 z k) + ∑ r : Fin 512, p (ix2 r k) := by
  pointwise [k0_pay2]

/-- The cotangent of the normalised activations at an element. -/
theorem pay69_apply (a : Vec Ideal S512x2816 .bf16) (wg : Vec Ideal S2816x1024 .bf16) (b : Vec Ideal S512x2816 .bf16)
    (wu : Vec Ideal S2816x1024 .bf16) (i : Fin 512) (k : Fin 1024) :
    k0_pay69 (F := Ideal) (k0_pay68 a) wg b wu (ix2 i k)
      = (∑ n : Fin 2816, a (ix2 i n) * wg (ix2 n k)) + ∑ n : Fin 2816, b (ix2 i n) * wu (ix2 n k) := by
  pointwise [k0_pay69, k0_pay68, dot_S512x2816_S2816x1024_S512x1024_1_0_0_1_n_n]

/-- The reciprocal root of a row's mean square. -/
def rrB (x : Vec Ideal S512x1024 .f32) (i : Fin 512) : EReal :=
  Ideal.rsqrt (Ideal.div (∑ k : Fin 1024, x (ix2 i k) * x (ix2 i k)) cN + cE)

/-- The kernel's reciprocal root at a row. -/
theorem pay71_apply (x : Vec Ideal S512x1024 .f32) (i : Fin 512) (z : Fin 1) :
    k0_pay71 (F := Ideal) x (ix2 i z) = rrB x i := by
  pointwise [k0_pay71, k0_pay70, rrB]

/-- The kernel's normalised activation at an element. -/
theorem pay72_apply (x : Vec Ideal S512x1024 .f32) (i : Fin 512) (k : Fin 1024) :
    k0_pay72 (F := Ideal) x (ix2 i k) = x (ix2 i k) * rrB x i := by
  pointwise [k0_pay72, k0_pay71, k0_pay70, rrB]

/-- The cotangent of the normalised activations times those activations. -/
theorem pay73_apply (a : Vec Ideal S512x2816 .bf16) (wg : Vec Ideal S2816x1024 .bf16) (b : Vec Ideal S512x2816 .bf16)
    (wu : Vec Ideal S2816x1024 .bf16) (x : Vec Ideal S512x1024 .f32) (i : Fin 512) (k : Fin 1024) :
    k0_pay73 (F := Ideal) (k0_pay68 a) wg b wu x (ix2 i k)
      = ((∑ n : Fin 2816, a (ix2 i n) * wg (ix2 n k)) + ∑ n : Fin 2816, b (ix2 i n) * wu (ix2 n k)) * (x (ix2 i k) * rrB x i) := by
  rw [← pay69_apply, ← pay72_apply]
  rfl

/-- The input's cotangent at an element. -/
theorem pay74_apply (v : Vec Ideal S512x1024 .f32) (a : Vec Ideal S512x2816 .bf16) (wg : Vec Ideal S2816x1024 .bf16) (b : Vec Ideal S512x2816 .bf16)
    (wu : Vec Ideal S2816x1024 .bf16) (g : Vec Ideal S1x1024 .f32) (x : Vec Ideal S512x1024 .f32) (i : Fin 512) (k : Fin 1024) :
    k0_pay74 (F := Ideal) (k0_pay3 v) (k0_pay68 a) wg b wu g x (ix2 i k)
      = dxS (v (ix2 i k)) (rrB x i) (fun j => x (ix2 i j)) (fun j => g (ix2 0 j))
          (fun j => (∑ n : Fin 2816, a (ix2 i n) * wg (ix2 n j)) + ∑ n : Fin 2816, b (ix2 i n) * wu (ix2 n j)) k := by
  pointwise [k0_pay74, k0_pay3, k0_pay69, k0_pay68, k0_pay72, k0_pay71, k0_pay70, rrB, dxS, dot_S512x2816_S2816x1024_S512x1024_1_0_0_1_n_n]

end Cert.FfnIdeal.Pay
-- ==== Proof.Ffn.Pieces.lean ====
/- The eleven column blocks that the feed-forward backward kernel stores, read as one array. -/
module

public import proofs.«01_k».proof.Proof.Ffn.Pay
public import proofs.«01_k».proof.Proof.Gen.FfnIdeal.Value
public import Idealize.ShloMosaic.Lib.Claim

@[expose] public section

noncomputable section

namespace Cert.FfnIdeal.Point

open Cert.FfnIdeal Cert.FfnIdeal.Gen Cert.FfnIdeal.Value Cert.FfnIdeal.Pay Idealize.ShloMosaic Idealize.ShloMosaic.TcCoe Idealize.SL.Sem
open Cert.MixSpec Cert.FfnSpec

/-- A load of 256 columns from column `o`, at an element. -/
theorem ldc (X : Vec Ideal S512x2816 .bf16) (o : ℕ) (inb : ∀ a : Fin 2, (![0, o] : Fin 2 → ℕ) a + (![512, 256] : Fin 2 → ℕ) a ≤ S512x2816.size a)
    (i : Fin 512) (j : Fin 256) (n : Fin 2816) (h : n.val = o + j.val) :
    View.ld (Val := Elt Ideal) (e' := .bf16) X (Rect.unit (s := S512x2816) ![0, o] ![512, 256] inb) (ix2 i j) = X (ix2 i n) :=
  View.ld_unit_apply_of _ _ _ _ _ (ix2 i n) (by intro a; match a with | ⟨0, _⟩ => simp | ⟨1, _⟩ => simpa using h)

/-- A load of 256 rows from row `o`, at an element. -/
theorem ldw (X : Vec Ideal S2816x1024 .bf16) (o : ℕ) (inb : ∀ a : Fin 2, (![o, 0] : Fin 2 → ℕ) a + (![256, 1024] : Fin 2 → ℕ) a ≤ S2816x1024.size a)
    (j : Fin 256) (k : Fin 1024) (n : Fin 2816) (h : n.val = o + j.val) :
    View.ld (Val := Elt Ideal) (e' := .bf16) X (Rect.unit (s := S2816x1024) ![o, 0] ![256, 1024] inb) (ix2 j k) = X (ix2 n k) :=
  View.ld_unit_apply_of _ _ _ _ _ (ix2 n k) (by intro a; match a with | ⟨0, _⟩ => simpa using h | ⟨1, _⟩ => simp)

/-- An index of a column block by its coordinates. -/
theorem at_ix2 (x : S512x256.Idx) (i : Fin 512) (j : Fin 256) (h0 : i.val = (x 0).val) (h1 : j.val = (x 1).val) :
    x = ix2 i j := by
  funext a
  match a with
  | ⟨0, _⟩ => exact Fin.ext h0.symm
  | ⟨1, _⟩ => exact Fin.ext h1.symm

variable (v : Vec Ideal S512x1024 .f32) (g u : Vec Ideal S512x2816 .bf16) (w : Vec Ideal S2816x1024 .bf16)

/-- The stores of the gate's cotangent, the last first. -/
def LG (v : Vec Ideal S512x1024 .f32) (g u : Vec Ideal S512x2816 .bf16) (w : Vec Ideal S2816x1024 .bf16) : List (View.Piece (Elt Ideal) S512x2816 .bf16) :=
  [⟨Rect.unit ![0, 2560] ![512, 256] inb_S512x2816_S512x256_0_2560,
      k0_pay66 (F := Ideal) (k0_pay4 v) (View.ld w (Rect.unit ![2560, 0] ![256, 1024] inb_S2816x1024_S256x1024_2560_0)) (View.ld g (Rect.unit ![0, 2560] ![512, 256] inb_S512x2816_S512x256_0_2560)) (View.ld u (Rect.unit ![0, 2560] ![512, 256] inb_S512x2816_S512x256_0_2560))⟩,
    ⟨Rect.unit ![0, 2304] ![512, 256] inb_S512x2816_S512x256_0_2304,
      k0_pay61 (F := Ideal) (k0_pay4 v) (View.ld w (Rect.unit ![2304, 0] ![256, 1024] inb_S2816x1024_S256x1024_2304_0)) (View.ld g (Rect.unit ![0, 2304] ![512, 256] inb_S512x2816_S512x256_0_2304)) (View.ld u (Rect.unit ![0, 2304] ![512, 256] inb_S512x2816_S512x256_0_2304))⟩,
    ⟨Rect.unit ![0, 2048] ![512, 256] inb_S512x2816_S512x256_0_2048,
      k0_pay56 (F := Ideal) (k0_pay51 (View.ld g (Rect.unit ![0, 2048] ![512, 256] inb_S512x2816_S512x256_0_2048))) (k0_pay52 (View.ld g (Rect.unit ![0, 2048] ![512, 256] inb_S512x2816_S512x256_0_2048))) (k0_pay54 (k0_pay4 v) (View.ld w (Rect.unit ![2048, 0] ![256, 1024] inb_S2816x1024_S256x1024_2048_0)) (View.ld u (Rect.unit ![0, 2048] ![512, 256] inb_S512x2816_S512x256_0_2048))) k0_pay55⟩,
    ⟨Rect.unit ![0, 1792] ![512, 256] inb_S512x2816_S512x256_0_1792,
      k0_pay48 (F := Ideal) (k0_pay44 (k0_pay4 v) (View.ld w (Rect.unit ![1792, 0] ![256, 1024] inb_S2816x1024_S256x1024_1792_0))) (k0_pay45 (View.ld g (Rect.unit ![0, 1792] ![512, 256] inb_S512x2816_S512x256_0_1792))) (k0_pay46 (View.ld g (Rect.unit ![0, 1792] ![512, 256] inb_S512x2816_S512x256_0_1792))) (View.ld u (Rect.unit ![0, 1792] ![512, 256] inb_S512x2816_S512x256_0_1792))⟩,
    ⟨Rect.unit ![0, 1536] ![512, 256] inb_S512x2816_S512x256_0_1536,
      k0_pay42 (F := Ideal) (k0_pay39 (k0_pay4 v) (View.ld w (Rect.unit ![1536, 0] ![256, 1024] inb_S2816x1024_S256x1024_1536_0))) (View.ld g (Rect.unit ![0, 1536] ![512, 256] inb_S512x2816_S512x256_0_1536)) (View.ld u (Rect.unit ![0, 1536] ![512, 256] inb_S512x2816_S512x256_0_1536))⟩,
    ⟨Rect.unit ![0, 1280] ![512, 256] inb_S512x2816_S512x256_0_1280,
      k0_pay37 (F := Ideal) (k0_pay4 v) (View.ld w (Rect.unit ![1280, 0] ![256, 1024] inb_S2816x1024_S256x1024_1280_0)) (View.ld g (Rect.unit ![0, 1280] ![512, 256] inb_S512x2816_S512x256_0_1280)) (View.ld u (Rect.unit ![0, 1280] ![512, 256] inb_S512x2816_S512x256_0_1280))⟩,
    ⟨Rect.unit ![0, 1024] ![512, 256] inb_S512x2816_S512x256_0_1024,
      k0_pay32 (F := Ideal) (k0_pay4 v) (View.ld w (Rect.unit ![1024, 0] ![256, 1024] inb_S2816x1024_S256x1024_1024_0)) (View.ld g (Rect.unit ![0, 1024] ![512, 256] inb_S512x2816_S512x256_0_1024)) (View.ld u (Rect.unit ![0, 1024] ![512, 256] inb_S512x2816_S512x256_0_1024))⟩,
    ⟨Rect.unit ![0, 768] ![512, 256] inb_S512x2816_S512x256_0_768,
      k0_pay27 (F := Ideal) (k0_pay22 (View.ld g (Rect.unit ![0, 768] ![512, 256] inb_S512x2816_S512x256_0_768))) (k0_pay23 (View.ld g (Rect.unit ![0, 768] ![512, 256] inb_S512x2816_S512x256_0_768))) (k0_pay25 (k0_pay4 v) (View.ld w (Rect.unit ![768, 0] ![256, 1024] inb_S2816x1024_S256x1024_768_0)) (View.ld u (Rect.unit ![0, 768] ![512, 256] inb_S512x2816_S512x256_0_768))) k0_pay26⟩,
    ⟨Rect.unit ![0, 512] ![512, 256] inb_S512x2816_S512x256_0_512,
      k0_pay19 (F := Ideal) (k0_pay15 (k0_pay4 v) (View.ld w (Rect.unit ![512, 0] ![256, 1024] inb_S2816x1024_S256x1024_512_0))) (k0_pay16 (View.ld g (Rect.unit ![0, 512] ![512, 256] inb_S512x2816_S512x256_0_512))) (k0_pay17 (View.ld g (Rect.unit ![0, 512] ![512, 256] inb_S512x2816_S512x256_0_512))) (View.ld u (Rect.unit ![0, 512] ![512, 256] inb_S512x2816_S512x256_0_512))⟩,
    ⟨Rect.unit ![0, 256] ![512, 256] inb_S512x2816_S512x256_0_256,
      k0_pay13 (F := Ideal) (k0_pay10 v (View.ld w (Rect.unit ![256, 0] ![256, 1024] inb_S2816x1024_S256x1024_256_0))) (View.ld g (Rect.unit ![0, 256] ![512, 256] inb_S512x2816_S512x256_0_256)) (View.ld u (Rect.unit ![0, 256] ![512, 256] inb_S512x2816_S512x256_0_256))⟩,
    ⟨Rect.unit ![0, 0] ![512, 256] inb_S512x2816_S512x256_0_0,
      k0_pay8 (F := Ideal) v (View.ld w (Rect.unit ![0, 0] ![256, 1024] inb_S2816x1024_S256x1024_0_0)) (View.ld g (Rect.unit ![0, 0] ![512, 256] inb_S512x2816_S512x256_0_0)) (View.ld u (Rect.unit ![0, 0] ![512, 256] inb_S512x2816_S512x256_0_0))⟩]

/-- Piece 0 of the gate gradients, element by element. -/
theorem pieceG0 (i : Fin 512) (j : Fin 256) (n : Fin 2816) (h : n.val = 0 + j.val) :
    k0_pay8 (F := Ideal) v (View.ld w (Rect.unit ![0, 0] ![256, 1024] inb_S2816x1024_S256x1024_0_0)) (View.ld g (Rect.unit ![0, 0] ![512, 256] inb_S512x2816_S512x256_0_0)) (View.ld u (Rect.unit ![0, 0] ![512, 256] inb_S512x2816_S512x256_0_0)) (ix2 i j)
      = dgS (∑ k : Fin 1024, v (ix2 i k) * w (ix2 n k)) (g (ix2 i n)) (u (ix2 i n)) := by
  have e1 := ldc g 0 inb_S512x2816_S512x256_0_0 i j n h
  have e2 := ldc u 0 inb_S512x2816_S512x256_0_0 i j n h
  have e3 := fun k => ldw w 0 inb_S2816x1024_S256x1024_0_0 j k n h
  rw [g0_apply]
  simp only [e1, e2, e3]

/-- Piece 1 of the gate gradients, element by element. -/
theorem pieceG1 (i : Fin 512) (j : Fin 256) (n : Fin 2816) (h : n.val = 256 + j.val) :
    k0_pay13 (F := Ideal) (k0_pay10 v (View.ld w (Rect.unit ![256, 0] ![256, 1024] inb_S2816x1024_S256x1024_256_0))) (View.ld g (Rect.unit ![0, 256] ![512, 256] inb_S512x2816_S512x256_0_256)) (View.ld u (Rect.unit ![0, 256] ![512, 256] inb_S512x2816_S512x256_0_256)) (ix2 i j)
      = dgS (∑ k : Fin 1024, v (ix2 i k) * w (ix2 n k)) (g (ix2 i n)) (u (ix2 i n)) := by
  have e1 := ldc g 256 inb_S512x2816_S512x256_0_256 i j n h
  have e2 := ldc u 256 inb_S512x2816_S512x256_0_256 i j n h
  have e3 := fun k => ldw w 256 inb_S2816x1024_S256x1024_256_0 j k n h
  rw [g1_apply]
  simp only [e1, e2, e3]

/-- Piece 2 of the gate gradients, element by element. -/
theorem pieceG2 (i : Fin 512) (j : Fin 256) (n : Fin 2816) (h : n.val = 512 + j.val) :
    k0_pay19 (F := Ideal) (k0_pay15 (k0_pay4 v) (View.ld w (Rect.unit ![512, 0] ![256, 1024] inb_S2816x1024_S256x1024_512_0))) (k0_pay16 (View.ld g (Rect.unit ![0, 512] ![512, 256] inb_S512x2816_S512x256_0_512))) (k0_pay17 (View.ld g (Rect.unit ![0, 512] ![512, 256] inb_S512x2816_S512x256_0_512))) (View.ld u (Rect.unit ![0, 512] ![512, 256] inb_S512x2816_S512x256_0_512)) (ix2 i j)
      = dgS (∑ k : Fin 1024, v (ix2 i k) * w (ix2 n k)) (g (ix2 i n)) (u (ix2 i n)) := by
  have e1 := ldc g 512 inb_S512x2816_S512x256_0_512 i j n h
  have e2 := ldc u 512 inb_S512x2816_S512x256_0_512 i j n h
  have e3 := fun k => ldw w 512 inb_S2816x1024_S256x1024_512_0 j k n h
  rw [g2_apply]
  simp only [e1, e2, e3]

/-- Piece 3 of the gate gradients, element by element. -/
theorem pieceG3 (i : Fin 512) (j : Fin 256) (n : Fin 2816) (h : n.val = 768 + j.val) :
    k0_pay27 (F := Ideal) (k0_pay22 (View.ld g (Rect.unit ![0, 768] ![512, 256] inb_S512x2816_S512x256_0_768))) (k0_pay23 (View.ld g (Rect.unit ![0, 768] ![512, 256] inb_S512x2816_S512x256_0_768))) (k0_pay25 (k0_pay4 v) (View.ld w (Rect.unit ![768, 0] ![256, 1024] inb_S2816x1024_S256x1024_768_0)) (View.ld u (Rect.unit ![0, 768] ![512, 256] inb_S512x2816_S512x256_0_768))) k0_pay26 (ix2 i j)
      = dgS (∑ k : Fin 1024, v (ix2 i k) * w (ix2 n k)) (g (ix2 i n)) (u (ix2 i n)) := by
  have e1 := ldc g 768 inb_S512x2816_S512x256_0_768 i j n h
  have e2 := ldc u 768 inb_S512x2816_S512x256_0_768 i j n h
  have e3 := fun k => ldw w 768 inb_S2816x1024_S256x1024_768_0 j k n h
  rw [g3_apply]
  simp only [e1, e2, e3]

/-- Piece 4 of the gate gradients, element by element. -/
theorem pieceG4 (i : Fin 512) (j : Fin 256) (n : Fin 2816) (h : n.val = 1024 + j.val) :
    k0_pay32 (F := Ideal) (k0_pay4 v) (View.ld w (Rect.unit ![1024, 0] ![256, 1024] inb_S2816x1024_S256x1024_1024_0)) (View.ld g (Rect.unit ![0, 1024] ![512, 256] inb_S512x2816_S512x256_0_1024)) (View.ld u (Rect.unit ![0, 1024] ![512, 256] inb_S512x2816_S512x256_0_1024)) (ix2 i j)
      = dgS (∑ k : Fin 1024, v (ix2 i k) * w (ix2 n k)) (g (ix2 i n)) (u (ix2 i n)) := by
  have e1 := ldc g 1024 inb_S512x2816_S512x256_0_1024 i j n h
  have e2 := ldc u 1024 inb_S512x2816_S512x256_0_1024 i j n h
  have e3 := fun k => ldw w 1024 inb_S2816x1024_S256x1024_1024_0 j k n h
  rw [g4_apply]
  simp only [e1, e2, e3]

/-- Piece 5 of the gate gradients, element by element. -/
theorem pieceG5 (i : Fin 512) (j : Fin 256) (n : Fin 2816) (h : n.val = 1280 + j.val) :
    k0_pay37 (F := Ideal) (k0_pay4 v) (View.ld w (Rect.unit ![1280, 0] ![256, 1024] inb_S2816x1024_S256x1024_1280_0)) (View.ld g (Rect.unit ![0, 1280] ![512, 256] inb_S512x2816_S512x256_0_1280)) (View.ld u (Rect.unit ![0, 1280] ![512, 256] inb_S512x2816_S512x256_0_1280)) (ix2 i j)
      = dgS (∑ k : Fin 1024, v (ix2 i k) * w (ix2 n k)) (g (ix2 i n)) (u (ix2 i n)) := by
  have e1 := ldc g 1280 inb_S512x2816_S512x256_0_1280 i j n h
  have e2 := ldc u 1280 inb_S512x2816_S512x256_0_1280 i j n h
  have e3 := fun k => ldw w 1280 inb_S2816x1024_S256x1024_1280_0 j k n h
  rw [g5_apply]
  simp only [e1, e2, e3]

/-- Piece 6 of the gate gradients, element by element. -/
theorem pieceG6 (i : Fin 512) (j : Fin 256) (n : Fin 2816) (h : n.val = 1536 + j.val) :
    k0_pay42 (F := Ideal) (k0_pay39 (k0_pay4 v) (View.ld w (Rect.unit ![1536, 0] ![256, 1024] inb_S2816x1024_S256x1024_1536_0))) (View.ld g (Rect.unit ![0, 1536] ![512, 256] inb_S512x2816_S512x256_0_1536)) (View.ld u (Rect.unit ![0, 1536] ![512, 256] inb_S512x2816_S512x256_0_1536)) (ix2 i j)
      = dgS (∑ k : Fin 1024, v (ix2 i k) * w (ix2 n k)) (g (ix2 i n)) (u (ix2 i n)) := by
  have e1 := ldc g 1536 inb_S512x2816_S512x256_0_1536 i j n h
  have e2 := ldc u 1536 inb_S512x2816_S512x256_0_1536 i j n h
  have e3 := fun k => ldw w 1536 inb_S2816x1024_S256x1024_1536_0 j k n h
  rw [g6_apply]
  simp only [e1, e2, e3]

/-- Piece 7 of the gate gradients, element by element. -/
theorem pieceG7 (i : Fin 512) (j : Fin 256) (n : Fin 2816) (h : n.val = 1792 + j.val) :
    k0_pay48 (F := Ideal) (k0_pay44 (k0_pay4 v) (View.ld w (Rect.unit ![1792, 0] ![256, 1024] inb_S2816x1024_S256x1024_1792_0))) (k0_pay45 (View.ld g (Rect.unit ![0, 1792] ![512, 256] inb_S512x2816_S512x256_0_1792))) (k0_pay46 (View.ld g (Rect.unit ![0, 1792] ![512, 256] inb_S512x2816_S512x256_0_1792))) (View.ld u (Rect.unit ![0, 1792] ![512, 256] inb_S512x2816_S512x256_0_1792)) (ix2 i j)
      = dgS (∑ k : Fin 1024, v (ix2 i k) * w (ix2 n k)) (g (ix2 i n)) (u (ix2 i n)) := by
  have e1 := ldc g 1792 inb_S512x2816_S512x256_0_1792 i j n h
  have e2 := ldc u 1792 inb_S512x2816_S512x256_0_1792 i j n h
  have e3 := fun k => ldw w 1792 inb_S2816x1024_S256x1024_1792_0 j k n h
  rw [g7_apply]
  simp only [e1, e2, e3]

/-- Piece 8 of the gate gradients, element by element. -/
theorem pieceG8 (i : Fin 512) (j : Fin 256) (n : Fin 2816) (h : n.val = 2048 + j.val) :
    k0_pay56 (F := Ideal) (k0_pay51 (View.ld g (Rect.unit ![0, 2048] ![512, 256] inb_S512x2816_S512x256_0_2048))) (k0_pay52 (View.ld g (Rect.unit ![0, 2048] ![512, 256] inb_S512x2816_S512x256_0_2048))) (k0_pay54 (k0_pay4 v) (View.ld w (Rect.unit ![2048, 0] ![256, 1024] inb_S2816x1024_S256x1024_2048_0)) (View.ld u (Rect.unit ![0, 2048] ![512, 256] inb_S512x2816_S512x256_0_2048))) k0_pay55 (ix2 i j)
      = dgS (∑ k : Fin 1024, v (ix2 i k) * w (ix2 n k)) (g (ix2 i n)) (u (ix2 i n)) := by
  have e1 := ldc g 2048 inb_S512x2816_S512x256_0_2048 i j n h
  have e2 := ldc u 2048 inb_S512x2816_S512x256_0_2048 i j n h
  have e3 := fun k => ldw w 2048 inb_S2816x1024_S256x1024_2048_0 j k n h
  rw [g8_apply]
  simp only [e1, e2, e3]

/-- Piece 9 of the gate gradients, element by element. -/
theorem pieceG9 (i : Fin 512) (j : Fin 256) (n : Fin 2816) (h : n.val = 2304 + j.val) :
    k0_pay61 (F := Ideal) (k0_pay4 v) (View.ld w (Rect.unit ![2304, 0] ![256, 1024] inb_S2816x1024_S256x1024_2304_0)) (View.ld g (Rect.unit ![0, 2304] ![512, 256] inb_S512x2816_S512x256_0_2304)) (View.ld u (Rect.unit ![0, 2304] ![512, 256] inb_S512x2816_S512x256_0_2304)) (ix2 i j)
      = dgS (∑ k : Fin 1024, v (ix2 i k) * w (ix2 n k)) (g (ix2 i n)) (u (ix2 i n)) := by
  have e1 := ldc g 2304 inb_S512x2816_S512x256_0_2304 i j n h
  have e2 := ldc u 2304 inb_S512x2816_S512x256_0_2304 i j n h
  have e3 := fun k => ldw w 2304 inb_S2816x1024_S256x1024_2304_0 j k n h
  rw [g9_apply]
  simp only [e1, e2, e3]

/-- Piece 10 of the gate gradients, element by element. -/
theorem pieceG10 (i : Fin 512) (j : Fin 256) (n : Fin 2816) (h : n.val = 2560 + j.val) :
    k0_pay66 (F := Ideal) (k0_pay4 v) (View.ld w (Rect.unit ![2560, 0] ![256, 1024] inb_S2816x1024_S256x1024_2560_0)) (View.ld g (Rect.unit ![0, 2560] ![512, 256] inb_S512x2816_S512x256_0_2560)) (View.ld u (Rect.unit ![0, 2560] ![512, 256] inb_S512x2816_S512x256_0_2560)) (ix2 i j)
      = dgS (∑ k : Fin 1024, v (ix2 i k) * w (ix2 n k)) (g (ix2 i n)) (u (ix2 i n)) := by
  have e1 := ldc g 2560 inb_S512x2816_S512x256_0_2560 i j n h
  have e2 := ldc u 2560 inb_S512x2816_S512x256_0_2560 i j n h
  have e3 := fun k => ldw w 2560 inb_S2816x1024_S256x1024_2560_0 j k n h
  rw [g10_apply]
  simp only [e1, e2, e3]

/-- The gate's cotangent as stored, at an element. -/
theorem canonG (i : Fin 512) (n : Fin 2816) :
    View.canon (LG v g u w) (ix2 i n) = dgS (∑ k : Fin 1024, v (ix2 i k) * w (ix2 n k)) (g (ix2 i n)) (u (ix2 i n)) := by
  unfold LG
  canon_tiles x h
  · have e : n.val = 2560 + (x 1).val := h1
    exact (congrArg _ (at_ix2 x i ⟨n.val - 2560, by have := (x 1).isLt; omega⟩ h0 (show n.val - 2560 = _ by omega))).trans
      (pieceG10 v g u w i _ n (show n.val = 2560 + (n.val - 2560) by omega))
  · have e : n.val = 2304 + (x 1).val := h1
    exact (congrArg _ (at_ix2 x i ⟨n.val - 2304, by have := (x 1).isLt; omega⟩ h0 (show n.val - 2304 = _ by omega))).trans
      (pieceG9 v g u w i _ n (show n.val = 2304 + (n.val - 2304) by omega))
  · have e : n.val = 2048 + (x 1).val := h1
    exact (congrArg _ (at_ix2 x i ⟨n.val - 2048, by have := (x 1).isLt; omega⟩ h0 (show n.val - 2048 = _ by omega))).trans
      (pieceG8 v g u w i _ n (show n.val = 2048 + (n.val - 2048) by omega))
  · have e : n.val = 1792 + (x 1).val := h1
    exact (congrArg _ (at_ix2 x i ⟨n.val - 1792, by have := (x 1).isLt; omega⟩ h0 (show n.val - 1792 = _ by omega))).trans
      (pieceG7 v g u w i _ n (show n.val = 1792 + (n.val - 1792) by omega))
  · have e : n.val = 1536 + (x 1).val := h1
    exact (congrArg _ (at_ix2 x i ⟨n.val - 1536, by have := (x 1).isLt; omega⟩ h0 (show n.val - 1536 = _ by omega))).trans
      (pieceG6 v g u w i _ n (show n.val = 1536 + (n.val - 1536) by omega))
  · have e : n.val = 1280 + (x 1).val := h1
    exact (congrArg _ (at_ix2 x i ⟨n.val - 1280, by have := (x 1).isLt; omega⟩ h0 (show n.val - 1280 = _ by omega))).trans
      (pieceG5 v g u w i _ n (show n.val = 1280 + (n.val - 1280) by omega))
  · have e : n.val = 1024 + (x 1).val := h1
    exact (congrArg _ (at_ix2 x i ⟨n.val - 1024, by have := (x 1).isLt; omega⟩ h0 (show n.val - 1024 = _ by omega))).trans
      (pieceG4 v g u w i _ n (show n.val = 1024 + (n.val - 1024) by omega))
  · have e : n.val = 768 + (x 1).val := h1
    exact (congrArg _ (at_ix2 x i ⟨n.val - 768, by have := (x 1).isLt; omega⟩ h0 (show n.val - 768 = _ by omega))).trans
      (pieceG3 v g u w i _ n (show n.val = 768 + (n.val - 768) by omega))
  · have e : n.val = 512 + (x 1).val := h1
    exact (congrArg _ (at_ix2 x i ⟨n.val - 512, by have := (x 1).isLt; omega⟩ h0 (show n.val - 512 = _ by omega))).trans
      (pieceG2 v g u w i _ n (show n.val = 512 + (n.val - 512) by omega))
  · have e : n.val = 256 + (x 1).val := h1
    exact (congrArg _ (at_ix2 x i ⟨n.val - 256, by have := (x 1).isLt; omega⟩ h0 (show n.val - 256 = _ by omega))).trans
      (pieceG1 v g u w i _ n (show n.val = 256 + (n.val - 256) by omega))
  · have e : n.val = 0 + (x 1).val := by simpa using h1
    exact (congrArg _ (at_ix2 x i ⟨n.val - 0, by have := (x 1).isLt; omega⟩ h0 (show n.val - 0 = _ by omega))).trans
      (pieceG0 v g u w i _ n (show n.val = 0 + (n.val - 0) by omega))

/-- The stores of the up's cotangent, the last first. -/
def LU (v : Vec Ideal S512x1024 .f32) (g : Vec Ideal S512x2816 .bf16) (w : Vec Ideal S2816x1024 .bf16) : List (View.Piece (Elt Ideal) S512x2816 .bf16) :=
  [⟨Rect.unit ![0, 2560] ![512, 256] inb_S512x2816_S512x256_0_2560,
      k0_pay67 (F := Ideal) (k0_pay4 v) (View.ld w (Rect.unit ![2560, 0] ![256, 1024] inb_S2816x1024_S256x1024_2560_0)) (View.ld g (Rect.unit ![0, 2560] ![512, 256] inb_S512x2816_S512x256_0_2560))⟩,
    ⟨Rect.unit ![0, 2304] ![512, 256] inb_S512x2816_S512x256_0_2304,
      k0_pay62 (F := Ideal) (k0_pay4 v) (View.ld w (Rect.unit ![2304, 0] ![256, 1024] inb_S2816x1024_S256x1024_2304_0)) (View.ld g (Rect.unit ![0, 2304] ![512, 256] inb_S512x2816_S512x256_0_2304))⟩,
    ⟨Rect.unit ![0, 2048] ![512, 256] inb_S512x2816_S512x256_0_2048,
      k0_pay57 (F := Ideal) (k0_pay50 (k0_pay4 v) (View.ld w (Rect.unit ![2048, 0] ![256, 1024] inb_S2816x1024_S256x1024_2048_0))) (k0_pay53 (View.ld g (Rect.unit ![0, 2048] ![512, 256] inb_S512x2816_S512x256_0_2048)))⟩,
    ⟨Rect.unit ![0, 1792] ![512, 256] inb_S512x2816_S512x256_0_1792,
      k0_pay49 (F := Ideal) (k0_pay44 (k0_pay4 v) (View.ld w (Rect.unit ![1792, 0] ![256, 1024] inb_S2816x1024_S256x1024_1792_0))) (k0_pay45 (View.ld g (Rect.unit ![0, 1792] ![512, 256] inb_S512x2816_S512x256_0_1792))) (k0_pay46 (View.ld g (Rect.unit ![0, 1792] ![512, 256] inb_S512x2816_S512x256_0_1792)))⟩,
    ⟨Rect.unit ![0, 1536] ![512, 256] inb_S512x2816_S512x256_0_1536,
      k0_pay43 (F := Ideal) (k0_pay39 (k0_pay4 v) (View.ld w (Rect.unit ![1536, 0] ![256, 1024] inb_S2816x1024_S256x1024_1536_0))) (View.ld g (Rect.unit ![0, 1536] ![512, 256] inb_S512x2816_S512x256_0_1536))⟩,
    ⟨Rect.unit ![0, 1280] ![512, 256] inb_S512x2816_S512x256_0_1280,
      k0_pay38 (F := Ideal) (k0_pay4 v) (View.ld w (Rect.unit ![1280, 0] ![256, 1024] inb_S2816x1024_S256x1024_1280_0)) (View.ld g (Rect.unit ![0, 1280] ![512, 256] inb_S512x2816_S512x256_0_1280))⟩,
    ⟨Rect.unit ![0, 1024] ![512, 256] inb_S512x2816_S512x256_0_1024,
      k0_pay33 (F := Ideal) (k0_pay4 v) (View.ld w (Rect.unit ![1024, 0] ![256, 1024] inb_S2816x1024_S256x1024_1024_0)) (View.ld g (Rect.unit ![0, 1024] ![512, 256] inb_S512x2816_S512x256_0_1024))⟩,
    ⟨Rect.unit ![0, 768] ![512, 256] inb_S512x2816_S512x256_0_768,
      k0_pay28 (F := Ideal) (k0_pay21 (k0_pay4 v) (View.ld w (Rect.unit ![768, 0] ![256, 1024] inb_S2816x1024_S256x1024_768_0))) (k0_pay24 (View.ld g (Rect.unit ![0, 768] ![512, 256] inb_S512x2816_S512x256_0_768)))⟩,
    ⟨Rect.unit ![0, 512] ![512, 256] inb_S512x2816_S512x256_0_512,
      k0_pay20 (F := Ideal) (k0_pay15 (k0_pay4 v) (View.ld w (Rect.unit ![512, 0] ![256, 1024] inb_S2816x1024_S256x1024_512_0))) (k0_pay16 (View.ld g (Rect.unit ![0, 512] ![512, 256] inb_S512x2816_S512x256_0_512))) (k0_pay17 (View.ld g (Rect.unit ![0, 512] ![512, 256] inb_S512x2816_S512x256_0_512)))⟩,
    ⟨Rect.unit ![0, 256] ![512, 256] inb_S512x2816_S512x256_0_256,
      k0_pay14 (F := Ideal) (k0_pay10 v (View.ld w (Rect.unit ![256, 0] ![256, 1024] inb_S2816x1024_S256x1024_256_0))) (View.ld g (Rect.unit ![0, 256] ![512, 256] inb_S512x2816_S512x256_0_256))⟩,
    ⟨Rect.unit ![0, 0] ![512, 256] inb_S512x2816_S512x256_0_0,
      k0_pay9 (F := Ideal) v (View.ld w (Rect.unit ![0, 0] ![256, 1024] inb_S2816x1024_S256x1024_0_0)) (View.ld g (Rect.unit ![0, 0] ![512, 256] inb_S512x2816_S512x256_0_0))⟩]

/-- Piece 0 of the up gradients, element by element. -/
theorem pieceU0 (i : Fin 512) (j : Fin 256) (n : Fin 2816) (h : n.val = 0 + j.val) :
    k0_pay9 (F := Ideal) v (View.ld w (Rect.unit ![0, 0] ![256, 1024] inb_S2816x1024_S256x1024_0_0)) (View.ld g (Rect.unit ![0, 0] ![512, 256] inb_S512x2816_S512x256_0_0)) (ix2 i j)
      = duS (∑ k : Fin 1024, v (ix2 i k) * w (ix2 n k)) (g (ix2 i n)) := by
  have e1 := ldc g 0 inb_S512x2816_S512x256_0_0 i j n h
  have e3 := fun k => ldw w 0 inb_S2816x1024_S256x1024_0_0 j k n h
  rw [u0_apply]
  simp only [e1, e3]

/-- Piece 1 of the up gradients, element by element. -/
theorem pieceU1 (i : Fin 512) (j : Fin 256) (n : Fin 2816) (h : n.val = 256 + j.val) :
    k0_pay14 (F := Ideal) (k0_pay10 v (View.ld w (Rect.unit ![256, 0] ![256, 1024] inb_S2816x1024_S256x1024_256_0))) (View.ld g (Rect.unit ![0, 256] ![512, 256] inb_S512x2816_S512x256_0_256)) (ix2 i j)
      = duS (∑ k : Fin 1024, v (ix2 i k) * w (ix2 n k)) (g (ix2 i n)) := by
  have e1 := ldc g 256 inb_S512x2816_S512x256_0_256 i j n h
  have e3 := fun k => ldw w 256 inb_S2816x1024_S256x1024_256_0 j k n h
  rw [u1_apply]
  simp only [e1, e3]

/-- Piece 2 of the up gradients, element by element. -/
theorem pieceU2 (i : Fin 512) (j : Fin 256) (n : Fin 2816) (h : n.val = 512 + j.val) :
    k0_pay20 (F := Ideal) (k0_pay15 (k0_pay4 v) (View.ld w (Rect.unit ![512, 0] ![256, 1024] inb_S2816x1024_S256x1024_512_0))) (k0_pay16 (View.ld g (Rect.unit ![0, 512] ![512, 256] inb_S512x2816_S512x256_0_512))) (k0_pay17 (View.ld g (Rect.unit ![0, 512] ![512, 256] inb_S512x2816_S512x256_0_512))) (ix2 i j)
      = duS (∑ k : Fin 1024, v (ix2 i k) * w (ix2 n k)) (g (ix2 i n)) := by
  have e1 := ldc g 512 inb_S512x2816_S512x256_0_512 i j n h
  have e3 := fun k => ldw w 512 inb_S2816x1024_S256x1024_512_0 j k n h
  rw [u2_apply]
  simp only [e1, e3]

/-- Piece 3 of the up gradients, element by element. -/
theorem pieceU3 (i : Fin 512) (j : Fin 256) (n : Fin 2816) (h : n.val = 768 + j.val) :
    k0_pay28 (F := Ideal) (k0_pay21 (k0_pay4 v) (View.ld w (Rect.unit ![768, 0] ![256, 1024] inb_S2816x1024_S256x1024_768_0))) (k0_pay24 (View.ld g (Rect.unit ![0, 768] ![512, 256] inb_S512x2816_S512x256_0_768))) (ix2 i j)
      = duS (∑ k : Fin 1024, v (ix2 i k) * w (ix2 n k)) (g (ix2 i n)) := by
  have e1 := ldc g 768 inb_S512x2816_S512x256_0_768 i j n h
  have e3 := fun k => ldw w 768 inb_S2816x1024_S256x1024_768_0 j k n h
  rw [u3_apply]
  simp only [e1, e3]

/-- Piece 4 of the up gradients, element by element. -/
theorem pieceU4 (i : Fin 512) (j : Fin 256) (n : Fin 2816) (h : n.val = 1024 + j.val) :
    k0_pay33 (F := Ideal) (k0_pay4 v) (View.ld w (Rect.unit ![1024, 0] ![256, 1024] inb_S2816x1024_S256x1024_1024_0)) (View.ld g (Rect.unit ![0, 1024] ![512, 256] inb_S512x2816_S512x256_0_1024)) (ix2 i j)
      = duS (∑ k : Fin 1024, v (ix2 i k) * w (ix2 n k)) (g (ix2 i n)) := by
  have e1 := ldc g 1024 inb_S512x2816_S512x256_0_1024 i j n h
  have e3 := fun k => ldw w 1024 inb_S2816x1024_S256x1024_1024_0 j k n h
  rw [u4_apply]
  simp only [e1, e3]

/-- Piece 5 of the up gradients, element by element. -/
theorem pieceU5 (i : Fin 512) (j : Fin 256) (n : Fin 2816) (h : n.val = 1280 + j.val) :
    k0_pay38 (F := Ideal) (k0_pay4 v) (View.ld w (Rect.unit ![1280, 0] ![256, 1024] inb_S2816x1024_S256x1024_1280_0)) (View.ld g (Rect.unit ![0, 1280] ![512, 256] inb_S512x2816_S512x256_0_1280)) (ix2 i j)
      = duS (∑ k : Fin 1024, v (ix2 i k) * w (ix2 n k)) (g (ix2 i n)) := by
  have e1 := ldc g 1280 inb_S512x2816_S512x256_0_1280 i j n h
  have e3 := fun k => ldw w 1280 inb_S2816x1024_S256x1024_1280_0 j k n h
  rw [u5_apply]
  simp only [e1, e3]

/-- Piece 6 of the up gradients, element by element. -/
theorem pieceU6 (i : Fin 512) (j : Fin 256) (n : Fin 2816) (h : n.val = 1536 + j.val) :
    k0_pay43 (F := Ideal) (k0_pay39 (k0_pay4 v) (View.ld w (Rect.unit ![1536, 0] ![256, 1024] inb_S2816x1024_S256x1024_1536_0))) (View.ld g (Rect.unit ![0, 1536] ![512, 256] inb_S512x2816_S512x256_0_1536)) (ix2 i j)
      = duS (∑ k : Fin 1024, v (ix2 i k) * w (ix2 n k)) (g (ix2 i n)) := by
  have e1 := ldc g 1536 inb_S512x2816_S512x256_0_1536 i j n h
  have e3 := fun k => ldw w 1536 inb_S2816x1024_S256x1024_1536_0 j k n h
  rw [u6_apply]
  simp only [e1, e3]

/-- Piece 7 of the up gradients, element by element. -/
theorem pieceU7 (i : Fin 512) (j : Fin 256) (n : Fin 2816) (h : n.val = 1792 + j.val) :
    k0_pay49 (F := Ideal) (k0_pay44 (k0_pay4 v) (View.ld w (Rect.unit ![1792, 0] ![256, 1024] inb_S2816x1024_S256x1024_1792_0))) (k0_pay45 (View.ld g (Rect.unit ![0, 1792] ![512, 256] inb_S512x2816_S512x256_0_1792))) (k0_pay46 (View.ld g (Rect.unit ![0, 1792] ![512, 256] inb_S512x2816_S512x256_0_1792))) (ix2 i j)
      = duS (∑ k : Fin 1024, v (ix2 i k) * w (ix2 n k)) (g (ix2 i n)) := by
  have e1 := ldc g 1792 inb_S512x2816_S512x256_0_1792 i j n h
  have e3 := fun k => ldw w 1792 inb_S2816x1024_S256x1024_1792_0 j k n h
  rw [u7_apply]
  simp only [e1, e3]

/-- Piece 8 of the up gradients, element by element. -/
theorem pieceU8 (i : Fin 512) (j : Fin 256) (n : Fin 2816) (h : n.val = 2048 + j.val) :
    k0_pay57 (F := Ideal) (k0_pay50 (k0_pay4 v) (View.ld w (Rect.unit ![2048, 0] ![256, 1024] inb_S2816x1024_S256x1024_2048_0))) (k0_pay53 (View.ld g (Rect.unit ![0, 2048] ![512, 256] inb_S512x2816_S512x256_0_2048))) (ix2 i j)
      = duS (∑ k : Fin 1024, v (ix2 i k) * w (ix2 n k)) (g (ix2 i n)) := by
  have e1 := ldc g 2048 inb_S512x2816_S512x256_0_2048 i j n h
  have e3 := fun k => ldw w 2048 inb_S2816x1024_S256x1024_2048_0 j k n h
  rw [u8_apply]
  simp only [e1, e3]

/-- Piece 9 of the up gradients, element by element. -/
theorem pieceU9 (i : Fin 512) (j : Fin 256) (n : Fin 2816) (h : n.val = 2304 + j.val) :
    k0_pay62 (F := Ideal) (k0_pay4 v) (View.ld w (Rect.unit ![2304, 0] ![256, 1024] inb_S2816x1024_S256x1024_2304_0)) (View.ld g (Rect.unit ![0, 2304] ![512, 256] inb_S512x2816_S512x256_0_2304)) (ix2 i j)
      = duS (∑ k : Fin 1024, v (ix2 i k) * w (ix2 n k)) (g (ix2 i n)) := by
  have e1 := ldc g 2304 inb_S512x2816_S512x256_0_2304 i j n h
  have e3 := fun k => ldw w 2304 inb_S2816x1024_S256x1024_2304_0 j k n h
  rw [u9_apply]
  simp only [e1, e3]

/-- Piece 10 of the up gradients, element by element. -/
theorem pieceU10 (i : Fin 512) (j : Fin 256) (n : Fin 2816) (h : n.val = 2560 + j.val) :
    k0_pay67 (F := Ideal) (k0_pay4 v) (View.ld w (Rect.unit ![2560, 0] ![256, 1024] inb_S2816x1024_S256x1024_2560_0)) (View.ld g (Rect.unit ![0, 2560] ![512, 256] inb_S512x2816_S512x256_0_2560)) (ix2 i j)
      = duS (∑ k : Fin 1024, v (ix2 i k) * w (ix2 n k)) (g (ix2 i n)) := by
  have e1 := ldc g 2560 inb_S512x2816_S512x256_0_2560 i j n h
  have e3 := fun k => ldw w 2560 inb_S2816x1024_S256x1024_2560_0 j k n h
  rw [u10_apply]
  simp only [e1, e3]

/-- The up's cotangent as stored, at an element. -/
theorem canonU (i : Fin 512) (n : Fin 2816) :
    View.canon (LU v g w) (ix2 i n) = duS (∑ k : Fin 1024, v (ix2 i k) * w (ix2 n k)) (g (ix2 i n)) := by
  unfold LU
  canon_tiles x h
  · have e : n.val = 2560 + (x 1).val := h1
    exact (congrArg _ (at_ix2 x i ⟨n.val - 2560, by have := (x 1).isLt; omega⟩ h0 (show n.val - 2560 = _ by omega))).trans
      (pieceU10 v g w i _ n (show n.val = 2560 + (n.val - 2560) by omega))
  · have e : n.val = 2304 + (x 1).val := h1
    exact (congrArg _ (at_ix2 x i ⟨n.val - 2304, by have := (x 1).isLt; omega⟩ h0 (show n.val - 2304 = _ by omega))).trans
      (pieceU9 v g w i _ n (show n.val = 2304 + (n.val - 2304) by omega))
  · have e : n.val = 2048 + (x 1).val := h1
    exact (congrArg _ (at_ix2 x i ⟨n.val - 2048, by have := (x 1).isLt; omega⟩ h0 (show n.val - 2048 = _ by omega))).trans
      (pieceU8 v g w i _ n (show n.val = 2048 + (n.val - 2048) by omega))
  · have e : n.val = 1792 + (x 1).val := h1
    exact (congrArg _ (at_ix2 x i ⟨n.val - 1792, by have := (x 1).isLt; omega⟩ h0 (show n.val - 1792 = _ by omega))).trans
      (pieceU7 v g w i _ n (show n.val = 1792 + (n.val - 1792) by omega))
  · have e : n.val = 1536 + (x 1).val := h1
    exact (congrArg _ (at_ix2 x i ⟨n.val - 1536, by have := (x 1).isLt; omega⟩ h0 (show n.val - 1536 = _ by omega))).trans
      (pieceU6 v g w i _ n (show n.val = 1536 + (n.val - 1536) by omega))
  · have e : n.val = 1280 + (x 1).val := h1
    exact (congrArg _ (at_ix2 x i ⟨n.val - 1280, by have := (x 1).isLt; omega⟩ h0 (show n.val - 1280 = _ by omega))).trans
      (pieceU5 v g w i _ n (show n.val = 1280 + (n.val - 1280) by omega))
  · have e : n.val = 1024 + (x 1).val := h1
    exact (congrArg _ (at_ix2 x i ⟨n.val - 1024, by have := (x 1).isLt; omega⟩ h0 (show n.val - 1024 = _ by omega))).trans
      (pieceU4 v g w i _ n (show n.val = 1024 + (n.val - 1024) by omega))
  · have e : n.val = 768 + (x 1).val := h1
    exact (congrArg _ (at_ix2 x i ⟨n.val - 768, by have := (x 1).isLt; omega⟩ h0 (show n.val - 768 = _ by omega))).trans
      (pieceU3 v g w i _ n (show n.val = 768 + (n.val - 768) by omega))
  · have e : n.val = 512 + (x 1).val := h1
    exact (congrArg _ (at_ix2 x i ⟨n.val - 512, by have := (x 1).isLt; omega⟩ h0 (show n.val - 512 = _ by omega))).trans
      (pieceU2 v g w i _ n (show n.val = 512 + (n.val - 512) by omega))
  · have e : n.val = 256 + (x 1).val := h1
    exact (congrArg _ (at_ix2 x i ⟨n.val - 256, by have := (x 1).isLt; omega⟩ h0 (show n.val - 256 = _ by omega))).trans
      (pieceU1 v g w i _ n (show n.val = 256 + (n.val - 256) by omega))
  · have e : n.val = 0 + (x 1).val := by simpa using h1
    exact (congrArg _ (at_ix2 x i ⟨n.val - 0, by have := (x 1).isLt; omega⟩ h0 (show n.val - 0 = _ by omega))).trans
      (pieceU0 v g w i _ n (show n.val = 0 + (n.val - 0) by omega))

end Cert.FfnIdeal.Point

end
-- ==== Proof.Ffn.Blocks.lean ====
/- The feed-forward kernel's input blocks at an index: each is a read of the arguments. -/
module

public import proofs.«01_k».proof.Proof.Ffn.Pieces

@[expose] public section

noncomputable section

namespace Cert.FfnIdeal.Point

open Cert.FfnIdeal Cert.FfnIdeal.Gen Cert.FfnIdeal.Value Cert.FfnIdeal.Pay Idealize.ShloMosaic Idealize.ShloMosaic.TcCoe Idealize.SL.Sem
open Idealize.ShloMosaic.Pipeline
open Cert.MixSpec Cert.FfnSpec

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- The number of grid points. -/
theorem N8 : cfg0.N = 8 := by decide +kernel

/-- Row `i` of block `t`. -/
def row (t : Fin cfg0.N) (i : Fin 512) : Fin 4096 := ⟨t.val * 512 + i.val, by have := t.isLt.trans_eq N8; omega⟩

/-- The block index of window 0. -/
theorem i0 : ∀ t : Fin cfg0.N, win0_0.index t = ![t.val, 0] := (by decide +kernel : ∀ t : Fin grid0.N, _)
/-- The block index of window 1. -/
theorem i1 : ∀ t : Fin cfg0.N, win0_1.index t = ![t.val, 0] := (by decide +kernel : ∀ t : Fin grid0.N, _)
/-- The block index of window 2. -/
theorem i2 : ∀ t : Fin cfg0.N, win0_2.index t = ![t.val, 0] := (by decide +kernel : ∀ t : Fin grid0.N, _)
/-- The block index of window 3. -/
theorem i3 : ∀ t : Fin cfg0.N, win0_3.index t = ![t.val, 0] := (by decide +kernel : ∀ t : Fin grid0.N, _)
/-- The block index of window 8. -/
theorem i8 : ∀ t : Fin cfg0.N, win0_8.index t = ![t.val, 0] := (by decide +kernel : ∀ t : Fin grid0.N, _)
/-- The block index of window 9. -/
theorem i9 : ∀ t : Fin cfg0.N, win0_9.index t = ![t.val, 0] := (by decide +kernel : ∀ t : Fin grid0.N, _)
/-- The block index of window 10. -/
theorem i10 : ∀ t : Fin cfg0.N, win0_10.index t = ![t.val, 0] := (by decide +kernel : ∀ t : Fin grid0.N, _)
/-- The block index of window 4. -/
theorem i4 : ∀ t : Fin cfg0.N, win0_4.index t = ![0, 0] := (by decide +kernel : ∀ t : Fin grid0.N, _)
/-- The block index of window 5. -/
theorem i5 : ∀ t : Fin cfg0.N, win0_5.index t = ![0, 0] := (by decide +kernel : ∀ t : Fin grid0.N, _)
/-- The block index of window 6. -/
theorem i6 : ∀ t : Fin cfg0.N, win0_6.index t = ![0, 0] := (by decide +kernel : ∀ t : Fin grid0.N, _)
/-- The block index of window 7. -/
theorem i7 : ∀ t : Fin cfg0.N, win0_7.index t = ![0, 0] := (by decide +kernel : ∀ t : Fin grid0.N, _)
/-- The block index of window 11. -/
theorem i11 : ∀ t : Fin cfg0.N, win0_11.index t = ![0, 0] := (by decide +kernel : ∀ t : Fin grid0.N, _)

/-- Where window 0's block lies in its array. -/
theorem emb0 (t : Fin cfg0.N) (i : Fin 512) (k : Fin 1024) :
    (win0_0.blk t).view.emb (ix2 i k) = ix2 (row t i) k := by
  blk_ext [i0 t, row]

/-- Where window 1's block lies in its array. -/
theorem emb1 (t : Fin cfg0.N) (i : Fin 512) (k : Fin 2816) :
    (win0_1.blk t).view.emb (ix2 i k) = ix2 (row t i) k := by
  blk_ext [i1 t, row]

/-- Where window 2's block lies in its array. -/
theorem emb2 (t : Fin cfg0.N) (i : Fin 512) (k : Fin 2816) :
    (win0_2.blk t).view.emb (ix2 i k) = ix2 (row t i) k := by
  blk_ext [i2 t, row]

/-- Where window 3's block lies in its array. -/
theorem emb3 (t : Fin cfg0.N) (i : Fin 512) (k : Fin 1024) :
    (win0_3.blk t).view.emb (ix2 i k) = ix2 (row t i) k := by
  blk_ext [i3 t, row]

/-- Where window 8's block lies in its array. -/
theorem emb8 (t : Fin cfg0.N) (i : Fin 512) (k : Fin 2816) :
    (win0_8.blk t).view.emb (ix2 i k) = ix2 (row t i) k := by
  blk_ext [i8 t, row]

/-- Where window 9's block lies in its array. -/
theorem emb9 (t : Fin cfg0.N) (i : Fin 512) (k : Fin 2816) :
    (win0_9.blk t).view.emb (ix2 i k) = ix2 (row t i) k := by
  blk_ext [i9 t, row]

/-- Where window 10's block lies in its array. -/
theorem emb10 (t : Fin cfg0.N) (i : Fin 512) (k : Fin 1024) :
    (win0_10.blk t).view.emb (ix2 i k) = ix2 (row t i) k := by
  blk_ext [i10 t, row]

/-- Where window 4's block lies in its array. -/
theorem emb4 (t : Fin cfg0.N) (i : Fin 1) (k : Fin 1024) :
    (win0_4.blk t).view.emb (ix2 i k) = ix2 i k := by
  blk_ext [i4 t]

/-- Where window 5's block lies in its array. -/
theorem emb5 (t : Fin cfg0.N) (i : Fin 2816) (k : Fin 1024) :
    (win0_5.blk t).view.emb (ix2 i k) = ix2 i k := by
  blk_ext [i5 t]

/-- Where window 6's block lies in its array. -/
theorem emb6 (t : Fin cfg0.N) (i : Fin 2816) (k : Fin 1024) :
    (win0_6.blk t).view.emb (ix2 i k) = ix2 i k := by
  blk_ext [i6 t]

/-- Where window 7's block lies in its array. -/
theorem emb7 (t : Fin cfg0.N) (i : Fin 2816) (k : Fin 1024) :
    (win0_7.blk t).view.emb (ix2 i k) = ix2 i k := by
  blk_ext [i7 t]

/-- Where window 11's block lies in its array. -/
theorem emb11 (t : Fin cfg0.N) (i : Fin 1) (k : Fin 1024) :
    (win0_11.blk t).view.emb (ix2 i k) = ix2 i k := by
  blk_ext [i11 t]

/-- Window 0's block at an element. -/
theorem blk0 (t : Fin cfg0.N) (i : Fin 512) (k : Fin 1024) :
    iblk m c 0 t (ix2 i k) = a5 m c (ix3 (rb (row t i)) (rs (row t i)) k) := by
  blk_simp [iblk]
  rw [emb0]
  entry_read
  pointwise [rb, rs]

/-- Window 1's block at an element. -/
theorem blk1 (t : Fin cfg0.N) (i : Fin 512) (n : Fin 2816) :
    iblk m c 1 t (ix2 i n) = pre (a0 m c) (a1 m c) (a2 m c) (rb (row t i)) (rs (row t i)) n := by
  blk_simp [iblk]
  rw [emb1]
  entry_read
  pointwise [rb, rs, pre, xh, rr, ms, dot_S2x2048x1024_S1024x2816_S2x2048x2816_2_0_01_1_n_n]

/-- Window 2's block at an element. -/
theorem blk2 (t : Fin cfg0.N) (i : Fin 512) (n : Fin 2816) :
    iblk m c 2 t (ix2 i n) = pre (a0 m c) (a1 m c) (a3 m c) (rb (row t i)) (rs (row t i)) n := by
  blk_simp [iblk]
  rw [emb2]
  entry_read
  pointwise [rb, rs, pre, xh, rr, ms, dot_S2x2048x1024_S1024x2816_S2x2048x2816_2_0_01_1_n_n]

/-- Window 3's block at an element. -/
theorem blk3 (t : Fin cfg0.N) (i : Fin 512) (k : Fin 1024) :
    iblk m c 3 t (ix2 i k) = a0 m c (ix3 (rb (row t i)) (rs (row t i)) k) := by
  blk_simp [iblk]
  rw [emb3]
  entry_read
  pointwise [rb, rs]

/-- Window 4's block at an element. -/
theorem blk4 (t : Fin cfg0.N) (z : Fin 1) (k : Fin 1024) :
    iblk m c 4 t (ix2 z k) = a1 m c (ix1 k) := by
  blk_simp [iblk]
  rw [emb4]
  entry_read
  pointwise

/-- Window 5's block at an element. -/
theorem blk5 (t : Fin cfg0.N) (n : Fin 2816) (k : Fin 1024) :
    iblk m c 5 t (ix2 n k) = a2 m c (ix2 k n) := by
  blk_simp [iblk]
  rw [emb5]
  entry_read
  pointwise

/-- Window 6's block at an element. -/
theorem blk6 (t : Fin cfg0.N) (n : Fin 2816) (k : Fin 1024) :
    iblk m c 6 t (ix2 n k) = a3 m c (ix2 k n) := by
  blk_simp [iblk]
  rw [emb6]
  entry_read
  pointwise

/-- Window 7's block at an element. -/
theorem blk7 (t : Fin cfg0.N) (n : Fin 2816) (k : Fin 1024) :
    iblk m c 7 t (ix2 n k) = a4 m c (ix2 n k) := by
  blk_simp [iblk]
  rw [emb7]
  entry_read
  pointwise

end Cert.FfnIdeal.Point

end
-- ==== Proof.Ffn.Outs.lean ====
/- What the feed-forward kernel's body leaves in each output block, at an index. -/
module

public import proofs.«01_k».proof.Proof.Ffn.Blocks

@[expose] public section

noncomputable section

namespace Cert.FfnIdeal.Point

open Cert.FfnIdeal Cert.FfnIdeal.Gen Cert.FfnIdeal.Value Cert.FfnIdeal.Pay Idealize.ShloMosaic Idealize.ShloMosaic.TcCoe Idealize.SL.Sem
open Idealize.ShloMosaic.Pipeline
open Cert.MixSpec Cert.FfnSpec

variable (m : (ℓ : Loc nD τ sig) → Buf (Elt Ideal) ℓ) (c : Dev nD)

/-- A load of the whole array of what a list of stores left. -/
theorem readCov_all {κ : Kind} {sp : Space} (vw : View sig κ sp S512x2816 .bf16) (L : List (View.Piece (Elt Ideal) S512x2816 .bf16))
    (inb : ∀ a : Fin 2, (![0, 0] : Fin 2 → ℕ) a + (![512, 2816] : Fin 2 → ℕ) a ≤ S512x2816.size a) :
    vw.readCov L (Rect.unit (s := S512x2816) ![0, 0] ![512, 2816] inb).toLoadRect = View.canon L := by
  rw [View.readCov_eq_canon']
  funext j
  refine congrArg _ ?_
  funext a
  match a with
  | ⟨0, _⟩ => exact Fin.ext (by simp [Rect.toLoadRect, LoadRect.idx, Rect.unit])
  | ⟨1, _⟩ => exact Fin.ext (by simp [Rect.toLoadRect, LoadRect.idx, Rect.unit])

/-- The gate's cotangent that the body stores at point `t`. -/
abbrev GB (t : Fin cfg0.N) := View.canon (LG (iblk m c 0 t) (iblk m c 1 t) (iblk m c 2 t) (iblk m c 7 t))
/-- The up's cotangent that the body stores at point `t`. -/
abbrev UB (t : Fin cfg0.N) := View.canon (LU (iblk m c 0 t) (iblk m c 1 t) (iblk m c 7 t))

/-- The gate gradients of a block, element by element. -/
theorem GB_apply (t : Fin cfg0.N) (i : Fin 512) (n : Fin 2816) : GB m c t (ix2 i n) = dgate (a0 m c) (a1 m c) (a2 m c) (a3 m c) (a4 m c) (a5 m c) (rb (row t i)) (rs (row t i)) n := by
  refine (canonG _ _ _ _ i n).trans ?_
  simp only [blk0, blk1, blk2, blk7]
  rfl

/-- The up gradients of a block, element by element. -/
theorem UB_apply (t : Fin cfg0.N) (i : Fin 512) (n : Fin 2816) : UB m c t (ix2 i n) = dup (a0 m c) (a1 m c) (a2 m c) (a4 m c) (a5 m c) (rb (row t i)) (rs (row t i)) n := by
  refine (canonU _ _ _ i n).trans ?_
  simp only [blk0, blk1, blk7]
  rfl

/-- Window 8's block: the gate's cotangent. -/
theorem out8 (t : Fin cfg0.N) (i : Fin 512) (n : Fin 2816) :
    (outsAt0 m c t.val t.isLt).1 (ix2 i n) = dgate (a0 m c) (a1 m c) (a2 m c) (a3 m c) (a4 m c) (a5 m c) (rb (row t i)) (rs (row t i)) n := by
  by_cases h : t.val % 8 = 0
  · rw [outsAt0_A m c t h]; frame_out; exact GB_apply m c t i n
  · rw [outsAt0_B m c t h]; frame_out; exact GB_apply m c t i n

/-- Window 9's block: the up's cotangent. -/
theorem out9 (t : Fin cfg0.N) (i : Fin 512) (n : Fin 2816) :
    (outsAt0 m c t.val t.isLt).2.1 (ix2 i n) = dup (a0 m c) (a1 m c) (a2 m c) (a4 m c) (a5 m c) (rb (row t i)) (rs (row t i)) n := by
  by_cases h : t.val % 8 = 0
  · rw [outsAt0_A m c t h]; frame_out; exact UB_apply m c t i n
  · rw [outsAt0_B m c t h]; frame_out; exact UB_apply m c t i n

/-- The reciprocal root of a block's row. -/
theorem rrB_blk (t : Fin cfg0.N) (i : Fin 512) : rrB (iblk m c 3 t) i = rr (a0 m c) (rb (row t i)) (rs (row t i)) := by
  unfold rrB rr ms
  simp only [blk3]

/-- The gradient of the input on a block. -/
theorem dx_blk (t : Fin cfg0.N) (i : Fin 512) (k : Fin 1024) :
    k0_pay74 (F := Ideal) (k0_pay3 (iblk m c 0 t)) (k0_pay68 (GB m c t)) (iblk m c 5 t) (UB m c t) (iblk m c 6 t) (iblk m c 4 t) (iblk m c 3 t) (ix2 i k)
      = dx (a0 m c) (a1 m c) (a2 m c) (a3 m c) (a4 m c) (a5 m c) (rb (row t i)) (rs (row t i)) k := by
  rw [pay74_apply]
  simp only [GB_apply, UB_apply, rrB_blk, blk0, blk3, blk4, blk5, blk6]
  rfl

/-- The gradient of the norm's weight on a block, row by row. -/
theorem dgr_blk (t : Fin cfg0.N) (i : Fin 512) (k : Fin 1024) :
    k0_pay73 (F := Ideal) (k0_pay68 (GB m c t)) (iblk m c 5 t) (UB m c t) (iblk m c 6 t) (iblk m c 3 t) (ix2 i k)
      = dh (a0 m c) (a1 m c) (a2 m c) (a3 m c) (a4 m c) (a5 m c) (rb (row t i)) (rs (row t i)) k * xh (a0 m c) (rb (row t i)) (rs (row t i)) k := by
  rw [pay73_apply]
  simp only [GB_apply, UB_apply, rrB_blk, blk3, blk5, blk6]
  rfl

/-- Window 10's block: the input's cotangent. -/
theorem out10 (t : Fin cfg0.N) (i : Fin 512) (k : Fin 1024) :
    (outsAt0 m c t.val t.isLt).2.2.1 (ix2 i k) = dx (a0 m c) (a1 m c) (a2 m c) (a3 m c) (a4 m c) (a5 m c) (rb (row t i)) (rs (row t i)) k := by
  by_cases h : t.val % 8 = 0
  · rw [outsAt0_A m c t h]; frame_out; rw [readCov_all, readCov_all]; exact dx_blk m c t i k
  · rw [outsAt0_B m c t h]; frame_out; rw [readCov_all, readCov_all]; exact dx_blk m c t i k

/-- The gain's cotangent after the first point. -/
theorem acc_first (n : ℕ) (hn : n < cfg0.N) (h : n % 8 = 0) (z : Fin 1) (k : Fin 1024) :
    (outsAt0 m c n hn).2.2.2 (ix2 z k) = 0
      + ∑ r : Fin 512, dh (a0 m c) (a1 m c) (a2 m c) (a3 m c) (a4 m c) (a5 m c) (rb (row ⟨n, hn⟩ r)) (rs (row ⟨n, hn⟩ r)) k * xh (a0 m c) (rb (row ⟨n, hn⟩ r)) (rs (row ⟨n, hn⟩ r)) k := by
  rw [outsAt0_A m c ⟨n, hn⟩ h]
  frame_out
  rw [readCov_all, readCov_all, pay2_apply, pay1_apply]
  exact congrArg _ (Finset.sum_congr rfl fun r _ => dgr_blk m c ⟨n, hn⟩ r k)

/-- The gain's cotangent after a later point. -/
theorem acc_step (n : ℕ) (hn : n < cfg0.N) (h : ¬ n % 8 = 0) (z : Fin 1) (k : Fin 1024) :
    (outsAt0 m c n hn).2.2.2 (ix2 z k) = (outsAt0 m c (n - 1) (by omega)).2.2.2 (ix2 z k)
      + ∑ r : Fin 512, dh (a0 m c) (a1 m c) (a2 m c) (a3 m c) (a4 m c) (a5 m c) (rb (row ⟨n, hn⟩ r)) (rs (row ⟨n, hn⟩ r)) k * xh (a0 m c) (rb (row ⟨n, hn⟩ r)) (rs (row ⟨n, hn⟩ r)) k := by
  rw [outsAt0_B m c ⟨n, hn⟩ h]
  frame_out
  rw [readCov_all, readCov_all, pay2_apply]
  exact congrArg _ (Finset.sum_congr rfl fun r _ => dgr_blk m c ⟨n, hn⟩ r k)

end Cert.FfnIdeal.Point

end
-- ==== Proof.Com.Real.lean ====
/- Extended reals that are real numbers: closed under the operations the programs use, and what a printed test that
   every element of an array is finite says. -/
module

public import Idealize.ShloMosaic.Lib.Pipeline.ValueKit
public import Idealize.ShloMosaic.Lib.Pointwise
public import Idealize.ShloMosaic.Lib.StableHlo
public import Idealize.ShloMosaic.Lib.ReduceAll

@[expose] public section

noncomputable section

namespace Cert.Com

open Idealize.ShloMosaic

/-- The extended real is a real number. -/
def IsR (x : EReal) : Prop := ∃ r : ℝ, x = (r : EReal)

/-- A real is a real. -/
theorem IsR.coe (r : ℝ) : IsR (r : EReal) := ⟨r, rfl⟩
/-- Zero is a real. -/
theorem IsR.zero : IsR 0 := ⟨0, by simp⟩
/-- One is a real. -/
theorem IsR.one : IsR 1 := ⟨1, by simp⟩

/-- Sums of reals are reals. -/
theorem IsR.add {x y : EReal} (hx : IsR x) (hy : IsR y) : IsR (x + y) := by
  obtain ⟨a, rfl⟩ := hx; obtain ⟨b, rfl⟩ := hy; exact ⟨a + b, (EReal.coe_add a b).symm⟩

/-- Products of reals are reals. -/
theorem IsR.mul {x y : EReal} (hx : IsR x) (hy : IsR y) : IsR (x * y) := by
  obtain ⟨a, rfl⟩ := hx; obtain ⟨b, rfl⟩ := hy; exact ⟨a * b, (EReal.coe_mul a b).symm⟩

/-- Differences of reals are reals. -/
theorem IsR.sub {x y : EReal} (hx : IsR x) (hy : IsR y) : IsR (x - y) := by
  obtain ⟨a, rfl⟩ := hx; obtain ⟨b, rfl⟩ := hy; exact ⟨a - b, (EReal.coe_sub a b).symm⟩

/-- A finite sum of real numbers, read as an extended real, is the sum of the terms read so. -/
theorem coe_sum {ι : Type} (s : Finset ι) (f : ι → ℝ) : ((∑ i ∈ s, f i : ℝ) : EReal) = ∑ i ∈ s, (f i : EReal) := by
  classical
  induction s using Finset.induction with
  | empty => simp
  | insert a s ha ih => rw [Finset.sum_insert ha, Finset.sum_insert ha, EReal.coe_add, ih]

/-- Finite sums of reals are reals. -/
theorem IsR.sum {ι : Type} (s : Finset ι) (f : ι → EReal) (h : ∀ i, IsR (f i)) : IsR (∑ i ∈ s, f i) := by
  choose g hg using h
  exact ⟨∑ i ∈ s, g i, by rw [coe_sum]; exact Finset.sum_congr rfl fun i _ => hg i⟩

/-- The exponential of a real is a real. -/
theorem IsR.exp {x : EReal} (hx : IsR x) : IsR (Ideal.exp x) := by
  obtain ⟨a, rfl⟩ := hx; exact ⟨Real.exp a, Ideal.exp_coe a⟩

/-- The logistic function of a real number, as the kernels spell it, is a real number. -/
theorem IsR.logistic {x : EReal} (hx : IsR x) : IsR (Ideal.div 1 (1 + Ideal.exp (0 - x))) := by
  obtain ⟨a, rfl⟩ := hx
  rw [zero_sub, ← EReal.coe_neg, Ideal.exp_coe, ← EReal.coe_one, ← EReal.coe_add,
    Ideal.div_coe (by positivity : (1 + Real.exp (-a)) ≠ 0), ← EReal.coe_mul]
  exact IsR.coe _

/-- An extended real whose absolute value lies below the top is a real number. -/
theorem isR_of_abs_lt (x : EReal) (h : max x (-x) < ⊤) : IsR x := by
  induction x with
  | bot => simp at h
  | top => simp at h
  | coe r => exact ⟨r, rfl⟩

/-- The printed infinity. -/
theorem ofBits_inf : Ideal.ofBits .f32 0x7F800000#32 = (⊤ : EReal) := by
  simp [Ideal.ofBits, Ideal.ieee, -EReal.coe_mul]

/-- One printed test of an array: that the conjunction over its elements of `|x| < ∞` holds says each is a real number. -/
theorem isR_of_all {s t : Shape} {axes : List (Fin s.rank)} (x : FVec Ideal s .f32) (y : FVec Ideal s .f32) (init : IVec t 1)
    (hy : ∀ i, y i = (⊤ : EReal))
    (h : s.ReducesTo axes t) (hu : 0 < t.numel) (ht : Subsingleton t.Idx) (j : t.Idx)
    (e : Host.reduce IntOp.andi (cmpf .olt (Host.absf x) y) init h hu j = 1#1) (i : s.Idx) : IsR (x i) := by
  have := ht
  have h1 := Host.reduce_andi_all _ _ h hu j e i
  refine isR_of_abs_lt _ ?_
  have h2 : BitVec.ofBool (decide (max (x i) (-(x i)) < y i)) = 1#1 := h1
  rw [hy] at h2
  by_contra hc
  rw [decide_eq_false hc] at h2
  exact absurd h2 (by decide)

end Cert.Com

end
-- ==== Proof.Ffn.Norm.lean ====
/- The two identities over the reals by which the reference's derivative of the gated product and of the norm are the
   kernel's. -/
module

public import proofs.«01_k».proof.Proof.Ffn.Spec
public import proofs.«01_k».proof.Proof.Com.Real

@[expose] public section

noncomputable section

namespace Cert.FfnSpec

open Idealize.ShloMosaic Cert.MixSpec Cert.Com

/-- The constant the squares are divided by is the row length. -/
theorem cN_eq : cN = ((1024 : ℝ) : EReal) := by
  simp [Ideal.ofBits, Ideal.ieee, -EReal.coe_mul]; norm_num

/-- The constant of the norm's gradient is minus one half. -/
theorem cH_eq : cH = ((-(1 / 2) : ℝ) : EReal) := by
  simp [Ideal.ofBits, Ideal.ieee, -EReal.coe_mul]; norm_num

/-- The constant added under the root is a positive real. -/
theorem cE_eq : ∃ e : ℝ, 0 < e ∧ cE = (e : EReal) := by
  refine ⟨_, ?_, by simp [Ideal.ofBits, Ideal.ieee, -EReal.coe_mul]; rfl⟩
  norm_num

/-- The gate's cotangent in the reference's two terms is the kernel's one product. -/
theorem dg_two (d a u : EReal) (hd : IsR d) (ha : IsR a) (hu : IsR u) :
    d * u * sg a + a * (d * u) * (sg a * (1 - sg a)) = dgS d a u := by
  obtain ⟨s, hs⟩ : IsR (sg a) := ha.logistic
  obtain ⟨d, rfl⟩ := hd
  obtain ⟨a, rfl⟩ := ha
  obtain ⟨u, rfl⟩ := hu
  unfold dgS
  rw [hs, ← EReal.coe_one]
  simp only [← EReal.coe_mul, ← EReal.coe_add, ← EReal.coe_sub]
  congr 1
  ring

/-- A row's mean square with the small constant is a positive real number. -/
theorem ms_pos (x : Fin 1024 → ℝ) :
    ∃ v : ℝ, 0 < v ∧ Ideal.div (∑ k : Fin 1024, (x k : EReal) * (x k : EReal)) cN + cE = (v : EReal) := by
  obtain ⟨e, he, hE⟩ := cE_eq
  refine ⟨(∑ k : Fin 1024, x k * x k) * (1 / 1024) + e, ?_, ?_⟩
  · have : 0 ≤ ∑ k : Fin 1024, x k * x k := Finset.sum_nonneg fun k _ => mul_self_nonneg _
    positivity
  · rw [cN_eq, hE, Ideal.div_coe (by norm_num : (1024 : ℝ) ≠ 0)]
    simp only [← EReal.coe_mul, ← coe_sum, ← EReal.coe_add]

/-- The reciprocal root of a row of real numbers is a real number. -/
theorem isR_rr (x : Sx.Idx → EReal) (hx : ∀ i, IsR (x i)) (b : Fin 2) (s : Fin 2048) : IsR (rr x b s) := by
  choose f hf using hx
  obtain ⟨v, hv, e⟩ := ms_pos fun k => f (ix3 b s k)
  unfold rr ms
  simp only [hf]
  rw [e, Ideal.rsqrt_coe, if_neg (not_lt.mpr hv.le), if_neg hv.ne']
  exact IsR.coe _

/-- The norm's derivative: the reference's three terms are the kernel's one, on a row of real numbers. -/
theorem dx_three (y : EReal) (x g d : Fin 1024 → EReal) (hx : ∀ k, IsR (x k)) (hg : ∀ k, IsR (g k)) (hd : ∀ k, IsR (d k))
    (v r c : EReal) (hv : v = Ideal.div (∑ k : Fin 1024, x k * x k) cN + cE) (hr : r = Ideal.rsqrt v)
    (hc : c = Ideal.div ((∑ j : Fin 1024, x j * (d j * g j)) * (cH * Ideal.div r v)) cN) (k : Fin 1024) :
    y + d k * g k * r + x k * c + c * x k = dxS y r x g d k := by
  choose x' hx' using hx
  choose g' hg' using hg
  choose d' hd' using hd
  obtain ⟨w, hw, e⟩ := ms_pos x'
  have hvw : v = (w : EReal) := by rw [hv, ← e]; simp only [hx']
  have hw0 : w ≠ 0 := hw.ne'
  obtain ⟨q, hq⟩ : ∃ q : ℝ, q = (Real.sqrt w)⁻¹ := ⟨_, rfl⟩
  have hqq : q * q * w = 1 := by
    rw [hq, ← mul_inv, Real.mul_self_sqrt hw.le, inv_mul_cancel₀ hw0]
  have hrq : r = (q : EReal) := by
    rw [hr, hvw, Ideal.rsqrt_coe, if_neg (not_lt.mpr hw.le), if_neg hw0, hq]
  have hcq : c = (((∑ j : Fin 1024, x' j * (d' j * g' j)) * (-(1 / 2) * (q * (1 / w))) * (1 / 1024) : ℝ) : EReal) := by
    rw [hc, hrq, hvw, cN_eq, cH_eq, Ideal.div_coe hw0, Ideal.div_coe (by norm_num : (1024 : ℝ) ≠ 0)]
    simp only [hx', hg', hd', ← EReal.coe_mul, ← coe_sum]
  unfold dxS
  rw [hcq, hrq, cN_eq, Ideal.div_coe (by norm_num : (1024 : ℝ) ≠ 0)]
  simp only [hx', hg', hd', ← EReal.coe_mul, ← coe_sum, ← EReal.coe_sub]
  rw [add_assoc, add_assoc]
  congr 1
  simp only [← EReal.coe_add]
  congr 1
  have hS : (∑ j : Fin 1024, d' j * g' j * (x' j * q)) = (∑ j : Fin 1024, x' j * (d' j * g' j)) * q := by
    rw [Finset.sum_mul]; exact Finset.sum_congr rfl fun j _ => by ring
  rw [hS]
  generalize (∑ j : Fin 1024, x' j * (d' j * g' j)) = S
  have h1 : 1 / w = q * q := by field_simp; linarith
  rw [h1]
  ring

end Cert.FfnSpec

end
-- ==== Proof.Ffn.Ref.lean ====
/- The feed-forward reference's results, read at an index, are the plain sums of `Cert.FfnSpec` wherever the arguments
   are real numbers. -/
module

public import proofs.«01_k».proof.Proof.Ffn.Norm
public import proofs.«01_k».proof.Proof.Com.Sums
public import proofs.«01_k».proof.Proof.Gen.FfnRefIdeal.Read

@[expose] public section

noncomputable section

namespace Cert.FfnRefIdeal.Point

open Cert.FfnRefIdeal Cert.FfnRefIdeal.Gen Cert.FfnRefIdeal.Read Idealize.ShloMosaic Idealize.ShloMosaic.TcCoe Idealize.SL.Sem
open Cert.MixSpec Cert.FfnSpec Cert.Com

variable (x0 : Vec Ideal S2x2048x1024 .f32) (x1 : Vec Ideal S1024 .f32) (x2 x3 : Vec Ideal S1024x2816 .f32)
  (x4 : Vec Ideal S2816x1024 .f32) (x5 : Vec Ideal S2x2048x1024 .f32) (b : Fin 2) (s : Fin 2048)

/-- The mean square with the small constant. -/
theorem v6 (z : Fin 1) : val_main_v6 (F := Ideal) x0 (ix3 b s z) = ms x0 b s := by
  pointwise [val_main_v6, val_main_v5, val_main_v4, val_main_v3, val_main_v2, val_main_v1, val_main_v0, val_main_cst,
    val_main_cst_0, val_main_cst_1, ms]

/-- Its reciprocal root. -/
theorem v7 (z : Fin 1) : val_main_v7 (F := Ideal) x0 (ix3 b s z) = rr x0 b s := by
  unfold rr
  rw [← v6 x0 b s z]
  pointwise [val_main_v7]

/-- The factor of the norm's derivative. -/
theorem v10 (z : Fin 1) : val_main_v10 (F := Ideal) x0 (ix3 b s z) = cH * Ideal.div (rr x0 b s) (ms x0 b s) := by
  rw [← v7 x0 b s z, ← v6 x0 b s z]
  pointwise [val_main_v10, val_main_v9, val_main_v8, val_main_cst_2]

/-- The normalised activation. -/
theorem v12 (k : Fin 1024) : val_main_v12 (F := Ideal) x0 (ix3 b s k) = xh x0 b s k := by
  unfold xh
  rw [← v7 x0 b s 0]
  pointwise [val_main_v12, val_main_v11]

/-- The normalised activation with its gain. -/
theorem v15 (k : Fin 1024) : val_main_v15 (F := Ideal) x0 x1 (ix3 b s k) = xh x0 b s k * x1 (ix1 k) := by
  rw [← v12]
  pointwise [val_main_v15, val_main_v14, val_main_v13]

/-- The gate. -/
theorem v16 (n : Fin 2816) : val_main_v16 (F := Ideal) x0 x1 x2 (ix3 b s n) = pre x0 x1 x2 b s n := by
  unfold pre
  pointwise [val_main_v16, dot_S2x2048x1024_S1024x2816_S2x2048x2816_2_0_01_1_n_n]
  simp only [v15]

/-- The up projection. -/
theorem v17 (n : Fin 2816) : val_main_v17 (F := Ideal) x0 x1 x3 (ix3 b s n) = pre x0 x1 x3 b s n := by
  unfold pre
  pointwise [val_main_v17, dot_S2x2048x1024_S1024x2816_S2x2048x2816_2_0_01_1_n_n]
  simp only [v15]

/-- The gate's logistic. -/
theorem v18_2 (n : Fin 2816) : val_main_v18_2 (F := Ideal) x0 x1 x2 (ix3 b s n) = sg (pre x0 x1 x2 b s n) := by
  unfold sg
  rw [zero_sub, ← v16]
  pointwise [val_main_v18_2, val_main_call0_v4, val_main_call0_v3, val_main_call0_v2, val_main_call0_v1, val_main_call0_v0,
    val_main_call0_cst, val_main_call0_cst_0]

/-- The logistic's derivative. -/
theorem v18_1 (n : Fin 2816) : val_main_v18_1 (F := Ideal) x0 x1 x2 (ix3 b s n)
    = sg (pre x0 x1 x2 b s n) * (1 - sg (pre x0 x1 x2 b s n)) := by
  rw [← v18_2]
  pointwise [val_main_v18_1, val_main_call0_v7, val_main_call0_v6, val_main_call0_cst_1]

/-- The product's cotangent. -/
theorem v21 (n : Fin 2816) : val_main_v21 (F := Ideal) x4 x5 (ix3 b s n) = dact x4 x5 b s n := by
  pointwise [val_main_v21, dact, dot_S2x2048x1024_S2816x1024_S2x2048x2816_2_1_01_0_n_n]

/-- The up's cotangent. -/
theorem v22 (n : Fin 2816) : val_main_v22 (F := Ideal) x0 x1 x2 x4 x5 (ix3 b s n) = dup x0 x1 x2 x4 x5 b s n := by
  unfold dup duS
  rw [← v21, ← v18_2, ← v16, mul_comm]
  pointwise [val_main_v22, val_main_v18_0]

/-- The gate's cotangent before its rewriting: two terms. -/
theorem v24_two (n : Fin 2816) : val_main_v24 (F := Ideal) x0 x1 x2 x3 x4 x5 (ix3 b s n)
    = dact x4 x5 b s n * pre x0 x1 x3 b s n * sg (pre x0 x1 x2 b s n)
      + pre x0 x1 x2 b s n * (dact x4 x5 b s n * pre x0 x1 x3 b s n)
        * (sg (pre x0 x1 x2 b s n) * (1 - sg (pre x0 x1 x2 b s n))) := by
  rw [← v18_1, ← v18_2, ← v21, ← v17, ← v16]
  pointwise [val_main_v24, val_main_call1_v1, val_main_call1_v2, val_main_call1_v0, val_main_v23]

section Real

variable (h0 : ∀ i, IsR (x0 i)) (h1 : ∀ i, IsR (x1 i)) (h2 : ∀ i, IsR (x2 i)) (h3 : ∀ i, IsR (x3 i)) (h4 : ∀ i, IsR (x4 i))
  (h5 : ∀ i, IsR (x5 i))

include h0 h1 in
/-- The gate and up products are reals. -/
theorem isR_pre (w : Vec Ideal S1024x2816 .f32) (hw : ∀ i, IsR (w i)) (n : Fin 2816) : IsR (pre x0 x1 w b s n) :=
  IsR.sum _ _ fun k => (((h0 _).mul (isR_rr x0 h0 b s)).mul (h1 _)).mul (hw _)

include h4 h5 in
/-- The gradient of the activation is a real. -/
theorem isR_dact (n : Fin 2816) : IsR (dact x4 x5 b s n) := IsR.sum _ _ fun k => (h5 _).mul (h4 _)

include h0 h1 h2 h3 h4 h5 in
/-- The gate's cotangent. -/
theorem v24 (n : Fin 2816) : val_main_v24 (F := Ideal) x0 x1 x2 x3 x4 x5 (ix3 b s n) = dgate x0 x1 x2 x3 x4 x5 b s n :=
  (v24_two x0 x1 x2 x3 x4 x5 b s n).trans
    (dg_two _ _ _ (isR_dact x4 x5 b s h4 h5 n) (isR_pre x0 x1 b s h0 h1 x2 h2 n) (isR_pre x0 x1 b s h0 h1 x3 h3 n))

include h0 h1 h2 h3 h4 h5 in
/-- The cotangent of the normalised activations with their gain. -/
theorem v27 (k : Fin 1024) : val_main_v27 (F := Ideal) x0 x1 x2 x3 x4 x5 (ix3 b s k) = dh x0 x1 x2 x3 x4 x5 b s k := by
  unfold dh
  simp only [← v22, ← v24 x0 x1 x2 x3 x4 x5 b s h0 h1 h2 h3 h4 h5]
  rw [add_comm]
  pointwise [val_main_v27, val_main_v25, val_main_v26, dot_S2x2048x2816_S1024x2816_S2x2048x1024_2_1_01_0_n_n]

include h0 h1 h2 h3 h4 h5 in
/-- The gradient of the normed input is a real. -/
theorem isR_dh (k : Fin 1024) : IsR (dh x0 x1 x2 x3 x4 x5 b s k) := by
  have hs : ∀ n, IsR (sg (pre x0 x1 x2 b s n)) := fun n => (isR_pre x0 x1 b s h0 h1 x2 h2 n).logistic
  have hp := fun n => isR_pre x0 x1 b s h0 h1 x2 h2 n
  have hu := fun n => isR_pre x0 x1 b s h0 h1 x3 h3 n
  have hd := fun n => isR_dact x4 x5 b s h4 h5 n
  exact (IsR.sum _ _ fun n => (((hd n).mul (hu n)).mul ((hs n).mul (IsR.one.add ((hp n).mul (IsR.one.sub (hs n)))))).mul (h2 _)).add
    (IsR.sum _ _ fun n => ((hd n).mul ((hp n).mul (hs n))).mul (h3 _))

/-- The norm's derivative: the factor of the two equal terms. -/
theorem v43 (hd : ∀ k, val_main_v27 (F := Ideal) x0 x1 x2 x3 x4 x5 (ix3 b s k) = dh x0 x1 x2 x3 x4 x5 b s k) :
    val_main_v43 (F := Ideal) x0 x1 x2 x3 x4 x5 (ix2 b s)
      = Ideal.div ((∑ j : Fin 1024, x0 (ix3 b s j) * (dh x0 x1 x2 x3 x4 x5 b s j * x1 (ix1 j)))
          * (cH * Ideal.div (rr x0 b s) (ms x0 b s))) cN := by
  simp only [← hd]
  rw [← v10 x0 b s 0]
  pointwise [val_main_v43, val_main_v42, val_main_v41, val_main_v40, val_main_v36, val_main_v35, val_main_v34, val_main_v32,
    val_main_v31, val_main_v13, val_main_cst_5, val_main_cst_6, val_main_cst_7]
  exact Fin.sum_univ_one _

include h0 h1 h2 h3 h4 h5 in
/-- The input's cotangent. -/
theorem v48 (k : Fin 1024) : val_main_v48 (F := Ideal) x0 x1 x2 x3 x4 x5 (ix3 b s k) = dx x0 x1 x2 x3 x4 x5 b s k := by
  have hd := fun k => v27 x0 x1 x2 x3 x4 x5 b s h0 h1 h2 h3 h4 h5 k
  refine Eq.trans ?_ (dx_three (x5 (ix3 b s k)) (fun j => x0 (ix3 b s j)) (fun j => x1 (ix1 j)) (fun j => dh x0 x1 x2 x3 x4 x5 b s j)
    (fun _ => h0 _) (fun _ => h1 _) (fun j => isR_dh x0 x1 x2 x3 x4 x5 b s h0 h1 h2 h3 h4 h5 j) (ms x0 b s) (rr x0 b s) _ rfl rfl
    (v43 x0 x1 x2 x3 x4 x5 b s hd) k)
  simp only [← hd]
  rw [← v7 x0 b s 0]
  pointwise [val_main_v48, val_main_v47, val_main_v46, val_main_v45, val_main_v44, val_main_v39, val_main_v38, val_main_v37,
    val_main_v32, val_main_v31, val_main_v13]

include h0 h1 h2 h3 h4 h5 in
/-- The gate's cotangent, flattened. -/
theorem v50 (r : Fin 4096) (n : Fin 2816) :
    val_main_v50 (F := Ideal) x0 x1 x2 x3 x4 x5 (ix2 r n) = dgate x0 x1 x2 x3 x4 x5 (rb r) (rs r) n := by
  rw [← v24 x0 x1 x2 x3 x4 x5 _ _ h0 h1 h2 h3 h4 h5]
  pointwise [val_main_v50, val_main_v49, rb, rs]

/-- The up's cotangent, flattened. -/
theorem v52 (r : Fin 4096) (n : Fin 2816) :
    val_main_v52 (F := Ideal) x0 x1 x2 x4 x5 (ix2 r n) = dup x0 x1 x2 x4 x5 (rb r) (rs r) n := by
  rw [← v22]
  pointwise [val_main_v52, val_main_v51, rb, rs]

include h0 h1 h2 h3 h4 h5 in
/-- The input's cotangent, flattened. -/
theorem v53 (r : Fin 4096) (k : Fin 1024) :
    val_main_v53 (F := Ideal) x0 x1 x2 x3 x4 x5 (ix2 r k) = dx x0 x1 x2 x3 x4 x5 (rb r) (rs r) k := by
  rw [← v48 x0 x1 x2 x3 x4 x5 _ _ h0 h1 h2 h3 h4 h5]
  pointwise [val_main_v53, rb, rs]

include h0 h1 h2 h3 h4 h5 in
/-- The gain's cotangent, as the sum over the two leading axes. -/
theorem v29 (k : Fin 1024) : val_main_v29 (F := Ideal) x0 x1 x2 x3 x4 x5 (ix1 k)
    = ∑ b : Fin 2, ∑ s : Fin 2048, dh x0 x1 x2 x3 x4 x5 b s k * xh x0 b s k := by
  unfold val_main_v29
  rw [ValueIdx.hostReduceAdd_apply]
  refine (Cert.Com.hostReduceAdd_r3_a01 _ _ _ k).trans ?_
  simp only [← v27 x0 x1 x2 x3 x4 x5 _ _ h0 h1 h2 h3 h4 h5, ← v12]
  pointwise [val_main_v28, val_main_cst_3]
  simp only [mul_comm]

include h0 h1 h2 h3 h4 h5 in
/-- The gain's cotangent. -/
theorem v54 (z : Fin 1) (k : Fin 1024) :
    val_main_v54 (F := Ideal) x0 x1 x2 x3 x4 x5 (ix2 z k) = dgain x0 x1 x2 x3 x4 x5 k := by
  have h : val_main_v33 (F := Ideal) x0 x1 x2 x3 x4 x5 (ix1 k) = val_main_v29 (F := Ideal) x0 x1 x2 x3 x4 x5 (ix1 k) := by
    unfold val_main_v33
    rw [ValueIdx.hostReduceAdd_apply]
    refine (Cert.Com.hostReduceAdd_r3_a01 _ _ _ k).trans ?_
    pointwise [val_main_v30, val_main_cst_4]
    simp only [Fin.sum_univ_one]
  have h' : val_main_v54 (F := Ideal) x0 x1 x2 x3 x4 x5 (ix2 z k) = val_main_v33 (F := Ideal) x0 x1 x2 x3 x4 x5 (ix1 k) := by
    pointwise [val_main_v54]
  rw [h', h, v29 x0 x1 x2 x3 x4 x5 h0 h1 h2 h3 h4 h5]
  unfold dgain
  refine Fin.sum_mul_add_congr (S := 2) (n := 2048) fun a b hl => ?_
  rw [rb_mk, rs_mk]

end Real

end Cert.FfnRefIdeal.Point

end
-- ==== Proof.Ffn.Final.lean ====
/- The feed-forward kernel and its reference have equal results: the arrays the kernel leaves, and the value claim. -/
module

public import proofs.«01_k».proof.Proof.Ffn.Outs
public import proofs.«01_k».proof.Proof.Ffn.Ref
public import proofs.«01_k».proof.Proof.Gen.FfnRefIdeal.Run
public import proofs.«01_k».proof.Defs
public import Idealize.ShloMosaic.Lib.Claim

@[expose] public section

noncomputable section

namespace Cert.FfnIdeal.Point

open Cert.FfnIdeal Cert.FfnIdeal.Gen Cert.FfnIdeal.Value Idealize.ShloMosaic Idealize.ShloMosaic.TcCoe Idealize.SL.Sem
open Idealize.ShloMosaic.Pipeline
open Cert.MixSpec Cert.FfnSpec

variable (m : (ℓ : Loc nD τ sig) → Buf (Elt Ideal) ℓ) (c : Dev nD)

/-- What window 8's array holds after the run. -/
theorem final8 : (dats m 0 c).arrAt 8 cfg0.N = fun j => dgate (a0 m c) (a1 m c) (a2 m c) (a3 m c) (a4 m c) (a5 m c) (rb (j 0)) (rs (j 0)) (j 1) := by
  refine (dats m 0 c).arrAt_eq_of_covers 8 _ (by decide +kernel) fun t hf y => ?_
  blk_simp
  rw [after0_8]
  obtain ⟨i, k, rfl⟩ : ∃ (i : Fin 512) (k : Fin 2816), y = ix2 i k := ⟨y 0, y 1, by funext a; match a with | ⟨0, _⟩ => rfl | ⟨1, _⟩ => rfl⟩
  rw [emb8]
  exact out8 m c t i k

/-- What window 9's array holds after the run. -/
theorem final9 : (dats m 0 c).arrAt 9 cfg0.N = fun j => dup (a0 m c) (a1 m c) (a2 m c) (a4 m c) (a5 m c) (rb (j 0)) (rs (j 0)) (j 1) := by
  refine (dats m 0 c).arrAt_eq_of_covers 9 _ (by decide +kernel) fun t hf y => ?_
  blk_simp
  rw [after0_9]
  obtain ⟨i, k, rfl⟩ : ∃ (i : Fin 512) (k : Fin 2816), y = ix2 i k := ⟨y 0, y 1, by funext a; match a with | ⟨0, _⟩ => rfl | ⟨1, _⟩ => rfl⟩
  rw [emb9]
  exact out9 m c t i k

/-- What window 10's array holds after the run. -/
theorem final10 : (dats m 0 c).arrAt 10 cfg0.N = fun j => dx (a0 m c) (a1 m c) (a2 m c) (a3 m c) (a4 m c) (a5 m c) (rb (j 0)) (rs (j 0)) (j 1) := by
  refine (dats m 0 c).arrAt_eq_of_covers 10 _ (by decide +kernel) fun t hf y => ?_
  blk_simp
  rw [after0_10]
  obtain ⟨i, k, rfl⟩ : ∃ (i : Fin 512) (k : Fin 1024), y = ix2 i k := ⟨y 0, y 1, by funext a; match a with | ⟨0, _⟩ => rfl | ⟨1, _⟩ => rfl⟩
  rw [emb10]
  exact out10 m c t i k

/-- The last point of the grid. -/
def t_last : Fin cfg0.N := ⟨7, by decide +kernel⟩

/-- What window 11's array holds after the run: the sum over every token. -/
theorem final11 : (dats m 0 c).arrAt 11 cfg0.N = fun j => dgain (a0 m c) (a1 m c) (a2 m c) (a3 m c) (a4 m c) (a5 m c) (j 1) := by
  refine (dats m 0 c).arrAt_eq_of_after_last 11 t_last (by decide +kernel) _ fun j => ?_
  blk_simp
  rw [after0_11]
  obtain ⟨z, k, rfl⟩ : ∃ (z : Fin 1) (k : Fin 1024), j = ix2 z k := ⟨j 0, j 1, by funext a; match a with | ⟨0, _⟩ => rfl | ⟨1, _⟩ => rfl⟩
  refine (Pipeline.eq_sum_fin_of_reset_step_apply_last (fun n h => (outsAt0 m c n h).2.2.2) 8 (fun _ => 0)
    (fun t j => ∑ r : Fin 512, dh (a0 m c) (a1 m c) (a2 m c) (a3 m c) (a4 m c) (a5 m c) (rb (row t r)) (rs (row t r)) (j 1) * xh (a0 m c) (rb (row t r)) (rs (row t r)) (j 1))
    (fun t h j => ?_) (fun t h j => ?_) (le_of_eq N8) t_last rfl (ix2 z k)).trans ?_
  · obtain ⟨z, k, rfl⟩ : ∃ (z : Fin 1) (k : Fin 1024), j = ix2 z k := ⟨j 0, j 1, by funext a; match a with | ⟨0, _⟩ => rfl | ⟨1, _⟩ => rfl⟩
    exact acc_first m c t.val t.isLt h z k
  · obtain ⟨z, k, rfl⟩ : ∃ (z : Fin 1) (k : Fin 1024), j = ix2 z k := ⟨j 0, j 1, by funext a; match a with | ⟨0, _⟩ => rfl | ⟨1, _⟩ => rfl⟩
    exact acc_step m c t.val t.isLt h z k
  · refine (zero_add _).trans ?_
    exact Fin.sum_mul_add_congr (S := 8) (n := 512) fun s r hl => rfl

end Cert.FfnIdeal.Point

namespace Cert.FfnRefIdeal.Point

open Cert.FfnRefIdeal Cert.FfnRefIdeal.Gen Cert.FfnRefIdeal.Read Idealize.ShloMosaic Idealize.ShloMosaic.TcCoe Idealize.SL.Sem
open Cert.MixSpec Cert.FfnSpec Cert.Com

variable (x0 : Vec Ideal S2x2048x1024 .f32) (x1 : Vec Ideal S1024 .f32) (x2 x3 : Vec Ideal S1024x2816 .f32) (x4 : Vec Ideal S2816x1024 .f32) (x5 : Vec Ideal S2x2048x1024 .f32)

/-- The reference's `v50` as one function of the index. -/
theorem v50_fn (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) : val_main_v50 (F := Ideal) x0 x1 x2 x3 x4 x5 = fun j => dgate x0 x1 x2 x3 x4 x5 (rb (j 0)) (rs (j 0)) (j 1) := by
  funext j
  have hj : j = ix2 (j 0) (j 1) := by funext a; match a with | ⟨0, _⟩ => rfl | ⟨1, _⟩ => rfl
  exact (congrArg _ hj).trans (v50 x0 x1 x2 x3 x4 x5 h0 h1 h2 h3 h4 h5 (j 0) (j 1))

/-- The reference's `v52` as one function of the index. -/
theorem v52_fn  : val_main_v52 (F := Ideal) x0 x1 x2 x4 x5 = fun j => dup x0 x1 x2 x4 x5 (rb (j 0)) (rs (j 0)) (j 1) := by
  funext j
  have hj : j = ix2 (j 0) (j 1) := by funext a; match a with | ⟨0, _⟩ => rfl | ⟨1, _⟩ => rfl
  exact (congrArg _ hj).trans (v52 x0 x1 x2 x4 x5  (j 0) (j 1))

/-- The reference's `v53` as one function of the index. -/
theorem v53_fn (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) : val_main_v53 (F := Ideal) x0 x1 x2 x3 x4 x5 = fun j => dx x0 x1 x2 x3 x4 x5 (rb (j 0)) (rs (j 0)) (j 1) := by
  funext j
  have hj : j = ix2 (j 0) (j 1) := by funext a; match a with | ⟨0, _⟩ => rfl | ⟨1, _⟩ => rfl
  exact (congrArg _ hj).trans (v53 x0 x1 x2 x3 x4 x5 h0 h1 h2 h3 h4 h5 (j 0) (j 1))

/-- The reference's `v54` as one function of the index. -/
theorem v54_fn (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) : val_main_v54 (F := Ideal) x0 x1 x2 x3 x4 x5 = fun j => dgain x0 x1 x2 x3 x4 x5 (j 1) := by
  funext j
  have hj : j = ix2 (j 0) (j 1) := by funext a; match a with | ⟨0, _⟩ => rfl | ⟨1, _⟩ => rfl
  exact (congrArg _ hj).trans (v54 x0 x1 x2 x3 x4 x5 h0 h1 h2 h3 h4 h5 (j 0) (j 1))

end Cert.FfnRefIdeal.Point

namespace Cert.Proof

open Idealize.ShloMosaic Idealize.ShloMosaic.TcCoe Idealize.SL.Sem
open Cert.MixSpec Cert.FfnSpec Cert.FfnRefIdeal.Point Cert.Com

/-- What the precondition's one bit says: every element of every argument is a real number. -/
theorem finite_ffn_read [Cert.Pre_finite_ffn.Facts]
    (y0 : FVec Ideal Cert.Pre_finite_ffn.S2x2048x1024 .f32) (y1 : FVec Ideal Cert.Pre_finite_ffn.S1024 .f32)
    (y2 y3 : FVec Ideal Cert.Pre_finite_ffn.S1024x2816 .f32) (y4 : FVec Ideal Cert.Pre_finite_ffn.S2816x1024 .f32)
    (y5 : FVec Ideal Cert.Pre_finite_ffn.S2x2048x1024 .f32) (j : Cert.Pre_finite_ffn.S_.Idx)
    (h : Cert.Pre_finite_ffn.fn (F := Ideal) y0 y1 y2 y3 y4 y5 j = 1#1) :
    (∀ i, IsR (y0 i)) ∧ (∀ i, IsR (y1 i)) ∧ (∀ i, IsR (y2 i)) ∧ (∀ i, IsR (y3 i)) ∧ (∀ i, IsR (y4 i)) ∧ (∀ i, IsR (y5 i)) := by
  dsimp only [Cert.Pre_finite_ffn.fn, Cert.Pre_finite_ffn.fn_part1] at h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  have ht : Subsingleton Cert.Pre_finite_ffn.S_.Idx := ⟨fun a b => funext fun d => d.elim0⟩
  exact ⟨fun i => isR_of_all _ _ _ (fun _ => ofBits_inf) _ _ ht j e0 i, fun i => isR_of_all _ _ _ (fun _ => ofBits_inf) _ _ ht j e1 i,
    fun i => isR_of_all _ _ _ (fun _ => ofBits_inf) _ _ ht j e2 i, fun i => isR_of_all _ _ _ (fun _ => ofBits_inf) _ _ ht j e3 i,
    fun i => isR_of_all _ _ _ (fun _ => ofBits_inf) _ _ ht j e4 i, fun i => isR_of_all _ _ _ (fun _ => ofBits_inf) _ _ ht j e5 i⟩

/-- The feed-forward kernel and its reference leave the same four arrays. -/
theorem algebraic_ffn [Cert.Pre_finite_ffn.Facts] : Cert.algebraic_FfnIdeal_FfnRefIdeal_pre_finite_ffn := by
  pair_intro
  · run_from Cert.FfnIdeal.Value.run_blocks m g
  · run_from Cert.FfnRefIdeal.Value.run m' g'
    · obtain ⟨h0, h1, h2, h3, h4, h5⟩ := hagree c
      obtain ⟨r0, r1, r2, r3, r4, r5⟩ := finite_ffn_read _ _ _ _ _ _ (fun d => d.elim0) (congrFun (hpre c) (fun d => d.elim0))
      refine (v50_fn _ _ _ _ _ _ (h0 ▸ r0) (h1 ▸ r1) (h2 ▸ r2) (h3 ▸ r3) (h4 ▸ r4) (h5 ▸ r5)).trans ?_
      rw [h0, h1, h2, h3, h4, h5]
      exact (Cert.FfnIdeal.Point.final8 m c).symm
    · exact (v52_fn _ _ _ _ _).trans (Cert.FfnIdeal.Point.final9 m c).symm
    · obtain ⟨h0, h1, h2, h3, h4, h5⟩ := hagree c
      obtain ⟨r0, r1, r2, r3, r4, r5⟩ := finite_ffn_read _ _ _ _ _ _ (fun d => d.elim0) (congrFun (hpre c) (fun d => d.elim0))
      refine (v53_fn _ _ _ _ _ _ (h0 ▸ r0) (h1 ▸ r1) (h2 ▸ r2) (h3 ▸ r3) (h4 ▸ r4) (h5 ▸ r5)).trans ?_
      rw [h0, h1, h2, h3, h4, h5]
      exact (Cert.FfnIdeal.Point.final10 m c).symm
    · obtain ⟨h0, h1, h2, h3, h4, h5⟩ := hagree c
      obtain ⟨r0, r1, r2, r3, r4, r5⟩ := finite_ffn_read _ _ _ _ _ _ (fun d => d.elim0) (congrFun (hpre c) (fun d => d.elim0))
      refine (v54_fn _ _ _ _ _ _ (h0 ▸ r0) (h1 ▸ r1) (h2 ▸ r2) (h3 ▸ r3) (h4 ▸ r4) (h5 ▸ r5)).trans ?_
      rw [h0, h1, h2, h3, h4, h5]
      exact (Cert.FfnIdeal.Point.final11 m c).symm

end Cert.Proof

end
-- ==== Proof.InProj.Spec.lean ====
/- What the backward pass of the input projection and its norm is shown to compute: plain functions of the eleven
   arguments, read from both programs; and the split of the one contraction into the kernel's three. -/
module

public import proofs.«01_k».proof.Proof.Ffn.Spec

@[expose] public section

noncomputable section

namespace Cert.InSpec

open Idealize.ShloMosaic Cert.MixSpec Cert.FfnSpec

/-- The shapes of the forget logits and of the projection. -/
abbrev S8 : Shape := ⟨3, ![2, 2048, 8]⟩
abbrev Sw4 : Shape := ⟨2, ![1024, 4104]⟩

/-- The cotangent of the projected activations: the seven pieces side by side. -/
def zc (du dq dk dv : Sp.Idx → EReal) (dfl : S8.Idx → EReal) (dgp dga : Sx.Idx → EReal)
    (b : Fin 2) (s : Fin 2048) (c : Fin 4104) : EReal :=
  if h : c.val < 512 then du (ix3 b s ⟨c.val, by omega⟩)
  else if h : c.val < 1024 then dq (ix3 b s ⟨c.val - 512, by omega⟩)
  else if h : c.val < 1536 then dk (ix3 b s ⟨c.val - 1024, by omega⟩)
  else if h : c.val < 2048 then dv (ix3 b s ⟨c.val - 1536, by omega⟩)
  else if h : c.val < 2056 then dfl (ix3 b s ⟨c.val - 2048, by omega⟩)
  else if h : c.val < 3080 then dgp (ix3 b s ⟨c.val - 2056, by omega⟩)
  else dga (ix3 b s ⟨c.val - 3080, by omega⟩)

section Pieces

variable (du dq dk dv : Sp.Idx → EReal) (dfl : S8.Idx → EReal) (dgp dga : Sx.Idx → EReal) (b : Fin 2) (s : Fin 2048)

/-- Columns of `du` in the one cotangent. -/
theorem zc_du (x : Fin 512) : zc du dq dk dv dfl dgp dga b s ⟨x.val, by omega⟩ = du (ix3 b s x) := by
  unfold zc
  rw [dif_pos (show x.val < 512 by omega)]

/-- Columns of `dq` in the one cotangent. -/
theorem zc_dq (x : Fin 512) : zc du dq dk dv dfl dgp dga b s ⟨512 + x.val, by omega⟩ = dq (ix3 b s x) := by
  unfold zc
  rw [dif_neg (show ¬ 512 + x.val < 512 by omega), dif_pos (show 512 + x.val < 1024 by omega)]
  exact congrArg (fun y => dq (ix3 b s y)) (Fin.ext (by show 512 + x.val - 512 = x.val; omega))

/-- Columns of `dk` in the one cotangent. -/
theorem zc_dk (x : Fin 512) : zc du dq dk dv dfl dgp dga b s ⟨1024 + x.val, by omega⟩ = dk (ix3 b s x) := by
  unfold zc
  rw [dif_neg (show ¬ 1024 + x.val < 512 by omega), dif_neg (show ¬ 1024 + x.val < 1024 by omega), dif_pos (show 1024 + x.val < 1536 by omega)]
  exact congrArg (fun y => dk (ix3 b s y)) (Fin.ext (by show 1024 + x.val - 1024 = x.val; omega))

/-- Columns of `dv` in the one cotangent. -/
theorem zc_dv (x : Fin 512) : zc du dq dk dv dfl dgp dga b s ⟨1536 + x.val, by omega⟩ = dv (ix3 b s x) := by
  unfold zc
  rw [dif_neg (show ¬ 1536 + x.val < 512 by omega), dif_neg (show ¬ 1536 + x.val < 1024 by omega), dif_neg (show ¬ 1536 + x.val < 1536 by omega), dif_pos (show 1536 + x.val < 2048 by omega)]
  exact congrArg (fun y => dv (ix3 b s y)) (Fin.ext (by show 1536 + x.val - 1536 = x.val; omega))

/-- Columns of `dfl` in the one cotangent. -/
theorem zc_dfl (x : Fin 8) : zc du dq dk dv dfl dgp dga b s ⟨2048 + x.val, by omega⟩ = dfl (ix3 b s x) := by
  unfold zc
  rw [dif_neg (show ¬ 2048 + x.val < 512 by omega), dif_neg (show ¬ 2048 + x.val < 1024 by omega), dif_neg (show ¬ 2048 + x.val < 1536 by omega), dif_neg (show ¬ 2048 + x.val < 2048 by omega), dif_pos (show 2048 + x.val < 2056 by omega)]
  exact congrArg (fun y => dfl (ix3 b s y)) (Fin.ext (by show 2048 + x.val - 2048 = x.val; omega))

/-- Columns of `dgp` in the one cotangent. -/
theorem zc_dgp (x : Fin 1024) : zc du dq dk dv dfl dgp dga b s ⟨2056 + x.val, by omega⟩ = dgp (ix3 b s x) := by
  unfold zc
  rw [dif_neg (show ¬ 2056 + x.val < 512 by omega), dif_neg (show ¬ 2056 + x.val < 1024 by omega), dif_neg (show ¬ 2056 + x.val < 1536 by omega), dif_neg (show ¬ 2056 + x.val < 2048 by omega), dif_neg (show ¬ 2056 + x.val < 2056 by omega), dif_pos (show 2056 + x.val < 3080 by omega)]
  exact congrArg (fun y => dgp (ix3 b s y)) (Fin.ext (by show 2056 + x.val - 2056 = x.val; omega))

/-- Columns of `dga` in the one cotangent. -/
theorem zc_dga (x : Fin 1024) : zc du dq dk dv dfl dgp dga b s ⟨3080 + x.val, by omega⟩ = dga (ix3 b s x) := by
  unfold zc
  rw [dif_neg (show ¬ 3080 + x.val < 512 by omega), dif_neg (show ¬ 3080 + x.val < 1024 by omega), dif_neg (show ¬ 3080 + x.val < 1536 by omega), dif_neg (show ¬ 3080 + x.val < 2048 by omega), dif_neg (show ¬ 3080 + x.val < 2056 by omega), dif_neg (show ¬ 3080 + x.val < 3080 by omega)]
  exact congrArg (fun y => dga (ix3 b s y)) (Fin.ext (by show 3080 + x.val - 3080 = x.val; omega))

end Pieces

/-- The cotangent of the normalised activations with their gain. -/
def dhi (w : Sw4.Idx → EReal) (du dq dk dv : Sp.Idx → EReal) (dfl : S8.Idx → EReal) (dgp dga : Sx.Idx → EReal)
    (b : Fin 2) (s : Fin 2048) (k : Fin 1024) : EReal :=
  ∑ c : Fin 4104, zc du dq dk dv dfl dgp dga b s c * w (ix2 k c)

/-- The input's cotangent. -/
def dxi (x : Sx.Idx → EReal) (g : Sg.Idx → EReal) (w : Sw4.Idx → EReal) (dx1 : Sx.Idx → EReal)
    (du dq dk dv : Sp.Idx → EReal) (dfl : S8.Idx → EReal) (dgp dga : Sx.Idx → EReal) (b : Fin 2) (s : Fin 2048) (k : Fin 1024) : EReal :=
  dxS (dx1 (ix3 b s k)) (rr x b s) (fun j => x (ix3 b s j)) (fun j => g (ix1 j)) (fun j => dhi w du dq dk dv dfl dgp dga b s j) k

/-- The gain's cotangent. -/
def dgi (x : Sx.Idx → EReal) (w : Sw4.Idx → EReal) (du dq dk dv : Sp.Idx → EReal) (dfl : S8.Idx → EReal) (dgp dga : Sx.Idx → EReal) (k : Fin 1024) : EReal :=
  ∑ r : Fin 4096, dhi w du dq dk dv dfl dgp dga (rb r) (rs r) k * xh x (rb r) (rs r) k

/-- A sum over the 4104 columns is the sums over the first 2048, over the last 2048, and over the eight between, these
    widened by zeros to 128. -/
theorem sum_split (f : Fin 4104 → EReal) : ∑ c : Fin 4104, f c
    = ∑ x : Fin 2048, f ⟨x.val, by omega⟩ + ∑ x : Fin 2048, f ⟨2056 + x.val, by omega⟩
      + ∑ x : Fin 128, (if h : x.val < 8 then f ⟨2048 + x.val, by omega⟩ else 0) := by
  have h1 : ∑ x : Fin 128, (if h : x.val < 8 then f ⟨2048 + x.val, by omega⟩ else 0) = ∑ x : Fin 8, f ⟨2048 + x.val, by omega⟩ := by
    show ∑ x : Fin (8 + 120), (if h : x.val < 8 then f ⟨2048 + x.val, by omega⟩ else 0) = _
    rw [Fin.sum_univ_add]
    refine (congrArg₂ (fun a b : EReal => a + b) (Finset.sum_congr rfl fun x _ => ?_) (Finset.sum_eq_zero fun x _ => ?_)).trans (add_zero _)
    · exact dif_pos x.isLt
    · exact dif_neg (by show ¬ (8 + x.val < 8); omega)
  rw [h1]
  show ∑ c : Fin (2048 + (8 + 2048)), f c = _
  rw [Fin.sum_univ_add, Fin.sum_univ_add, add_assoc, add_comm (∑ x : Fin 2048, f ⟨2056 + x.val, _⟩)]
  refine congrArg₂ (fun a b : EReal => a + b) rfl (congrArg₂ (fun a b : EReal => a + b) rfl (Finset.sum_congr rfl fun x _ => congrArg f (Fin.ext ?_)))
  show 2048 + (8 + x.val) = 2056 + x.val
  omega

end Cert.InSpec

end
-- ==== Proof.InProj.Pay.lean ====
/- The input projection kernel's payloads at an index. -/
module

public import proofs.«01_k».proof.Proof.InProj.Spec
public import proofs.«01_k».proof.Proof.Gen.InProjIdeal.Value

@[expose] public section

noncomputable section

namespace Cert.InProjIdeal.Pay

open Cert.InProjIdeal Cert.InProjIdeal.Gen Idealize.ShloMosaic Idealize.ShloMosaic.TcCoe Idealize.SL.Sem
open Cert.MixSpec Cert.FfnSpec Cert.InSpec

/-- The three products add up to one contraction over the 4104 columns. -/
theorem pay6_of (v0 v2 v4 v6 : Vec Ideal S512x512 .bf16) (v9 : Vec Ideal S1024x2048 .bf16) (v12 : Vec Ideal S512x2048 .bf16)
    (v14 : Vec Ideal S1024x2048 .bf16) (v18 : Vec Ideal S512x128 .bf16) (v20 : Vec Ideal S1024x128 .bf16) (i : Fin 512) (k : Fin 1024)
    (Z W : Fin 4104 → EReal)
    (h0 : ∀ x : Fin 512, v0 (ix2 i x) = Z ⟨x.val, by omega⟩) (h2 : ∀ x : Fin 512, v2 (ix2 i x) = Z ⟨512 + x.val, by omega⟩)
    (h4 : ∀ x : Fin 512, v4 (ix2 i x) = Z ⟨1024 + x.val, by omega⟩) (h6 : ∀ x : Fin 512, v6 (ix2 i x) = Z ⟨1536 + x.val, by omega⟩)
    (h9 : ∀ x : Fin 2048, v9 (ix2 k x) = W ⟨x.val, by omega⟩)
    (h12 : ∀ x : Fin 2048, v12 (ix2 i x) = Z ⟨2056 + x.val, by omega⟩) (h14 : ∀ x : Fin 2048, v14 (ix2 k x) = W ⟨2056 + x.val, by omega⟩)
    (h18 : ∀ x : Fin 128, v18 (ix2 i x) = if h : x.val < 8 then Z ⟨2048 + x.val, by omega⟩ else 0)
    (h20 : ∀ x : Fin 128, v20 (ix2 k x) = if h : x.val < 8 then W ⟨2048 + x.val, by omega⟩ else 0) :
    k0_pay6 (F := Ideal) v0 v2 v4 v6 v9 v12 v14 v18 v20 (ix2 i k) = ∑ c : Fin 4104, Z c * W c := by
  pointwise [k0_pay6, dot_S512x2048_S1024x2048_S512x1024_1_1_0_0_n_n, dot_S512x128_S1024x128_S512x1024_1_1_0_0_n_n]
  refine Eq.trans ?_ (sum_split _).symm
  refine congrArg₂ (fun a b : EReal => a + b) (congrArg₂ (fun a b : EReal => a + b) (Finset.sum_congr rfl fun x _ => ?_) (Finset.sum_congr rfl fun x _ => ?_))
    (Finset.sum_congr rfl fun x _ => ?_)
  · rw [h9]
    refine congrArg (fun a : EReal => a * _) ?_
    by_cases e0 : x.val < 512
    · rw [dif_pos e0, h0]
    · rw [dif_neg e0]
      by_cases e1 : x.val - 512 < 512
      · rw [dif_pos e1, h2]
        exact congrArg Z (Fin.ext (by show 512 + (x.val - 512) = x.val; omega))
      · rw [dif_neg e1]
        by_cases e2 : x.val - 512 - 512 < 512
        · rw [dif_pos e2, h4]
          exact congrArg Z (Fin.ext (by show 1024 + (x.val - 512 - 512) = x.val; omega))
        · rw [dif_neg e2, h6]
          exact congrArg Z (Fin.ext (by show 1536 + (x.val - 512 - 512 - 512) = x.val; omega))
  · rw [h12, h14]
  · rw [h18, h20]
    by_cases e : x.val < 8
    · rw [dif_pos e, dif_pos e, dif_pos e]
    · rw [dif_neg e, dif_neg e, dif_neg e, zero_mul]

/-- The reciprocal root of a row's mean square. -/
abbrev rrB (x : Vec Ideal S512x1024 .f32) (i : Fin 512) : EReal :=
  Ideal.rsqrt (Ideal.div (∑ k : Fin 1024, (x (ix2 i k) : EReal) * (x (ix2 i k) : EReal)) cN + cE)

/-- The input's cotangent at an element. -/
theorem pay3_apply (d : FVec Ideal S512x1024 .f32) (g : Vec Ideal S1x1024 .f32) (x y : Vec Ideal S512x1024 .f32) (i : Fin 512) (k : Fin 1024) :
    k0_pay3 (F := Ideal) d (k0_pay7 g) (k0_pay8 x) (k0_pay9 x) k0_pay10 y (ix2 i k)
      = dxS (y (ix2 i k)) (rrB x i) (fun j => x (ix2 i j)) (fun j => g (ix2 0 j)) (fun j => d (ix2 i j)) k := by
  pointwise [k0_pay3, k0_pay2, k0_pay1, k0_pay7, k0_pay8, k0_pay9, k0_pay10, dxS]

/-- The zeros that the gain's cotangent starts from. -/
theorem pay4_apply (y : S1x1024.Idx) : k0_pay4 (F := Ideal) y = 0 := by
  pointwise [k0_pay4]

/-- One block's column sums added to the gain's cotangent. -/
theorem pay5_apply (d : FVec Ideal S512x1024 .f32) (x : Vec Ideal S512x1024 .f32) (a : Vec Ideal S1x1024 .f32) (z : Fin 1) (k : Fin 1024) :
    k0_pay5 (F := Ideal) d (k0_pay8 x) (k0_pay9 x) k0_pay10 a (ix2 z k)
      = a (ix2 z k) + ∑ r : Fin 512, d (ix2 r k) * (x (ix2 r k) * rrB x r) := by
  pointwise [k0_pay5, k0_pay2, k0_pay1, k0_pay8, k0_pay9, k0_pay10]

end Cert.InProjIdeal.Pay

end
-- ==== Proof.InProj.Blocks.lean ====
/- The input projection kernel's input blocks at an index: each is a read of the arguments. -/
module

public import proofs.«01_k».proof.Proof.InProj.Pay
public import Idealize.ShloMosaic.Lib.StableHlo.RunRead
public import Idealize.ShloMosaic.Lib.KernelVsHost

@[expose] public section

noncomputable section

namespace Cert.InProjIdeal.Point

open Cert.InProjIdeal Cert.InProjIdeal.Gen Cert.InProjIdeal.Value Cert.InProjIdeal.Pay Idealize.ShloMosaic Idealize.ShloMosaic.TcCoe Idealize.SL.Sem
open Idealize.ShloMosaic.Pipeline
open Cert.MixSpec Cert.FfnSpec Cert.InSpec

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)

/-- The number of grid points. -/
theorem N8 : cfg0.N = 8 := by decide +kernel

/-- Row `i` of block `t`. -/
def row (t : Fin cfg0.N) (i : Fin 512) : Fin 4096 := ⟨t.val * 512 + i.val, by have := t.isLt.trans_eq N8; omega⟩

/-- The one cotangent of row `i` of block `t`. -/
abbrev Z (t : Fin cfg0.N) (i : Fin 512) (x : Fin 4104) : EReal := zc (a4 m c) (a5 m c) (a6 m c) (a7 m c) (a8 m c) (a9 m c) (a10 m c) (rb (row t i)) (rs (row t i)) x

/-- The block index of window 0. -/
theorem i0 : ∀ t : Fin cfg0.N, win0_0.index t = ![t.val, 0] := (by decide +kernel : ∀ t : Fin grid0.N, _)
/-- The block index of window 1. -/
theorem i1 : ∀ t : Fin cfg0.N, win0_1.index t = ![t.val, 0] := (by decide +kernel : ∀ t : Fin grid0.N, _)
/-- The block index of window 2. -/
theorem i2 : ∀ t : Fin cfg0.N, win0_2.index t = ![t.val, 0] := (by decide +kernel : ∀ t : Fin grid0.N, _)
/-- The block index of window 3. -/
theorem i3 : ∀ t : Fin cfg0.N, win0_3.index t = ![t.val, 0] := (by decide +kernel : ∀ t : Fin grid0.N, _)
/-- The block index of window 4. -/
theorem i4 : ∀ t : Fin cfg0.N, win0_4.index t = ![t.val, 0] := (by decide +kernel : ∀ t : Fin grid0.N, _)
/-- The block index of window 5. -/
theorem i5 : ∀ t : Fin cfg0.N, win0_5.index t = ![t.val, 0] := (by decide +kernel : ∀ t : Fin grid0.N, _)
/-- The block index of window 6. -/
theorem i6 : ∀ t : Fin cfg0.N, win0_6.index t = ![t.val, 0] := (by decide +kernel : ∀ t : Fin grid0.N, _)
/-- The block index of window 7. -/
theorem i7 : ∀ t : Fin cfg0.N, win0_7.index t = ![t.val, 0] := (by decide +kernel : ∀ t : Fin grid0.N, _)
/-- The block index of window 8. -/
theorem i8 : ∀ t : Fin cfg0.N, win0_8.index t = ![0, 0] := (by decide +kernel : ∀ t : Fin grid0.N, _)
/-- The block index of window 9. -/
theorem i9 : ∀ t : Fin cfg0.N, win0_9.index t = ![0, 0] := (by decide +kernel : ∀ t : Fin grid0.N, _)
/-- The block index of window 10. -/
theorem i10 : ∀ t : Fin cfg0.N, win0_10.index t = ![0, 0] := (by decide +kernel : ∀ t : Fin grid0.N, _)
/-- The block index of window 11. -/
theorem i11 : ∀ t : Fin cfg0.N, win0_11.index t = ![0, 0] := (by decide +kernel : ∀ t : Fin grid0.N, _)
/-- The block index of window 12. -/
theorem i12 : ∀ t : Fin cfg0.N, win0_12.index t = ![t.val, 0] := (by decide +kernel : ∀ t : Fin grid0.N, _)
/-- The block index of window 13. -/
theorem i13 : ∀ t : Fin cfg0.N, win0_13.index t = ![0, 0] := (by decide +kernel : ∀ t : Fin grid0.N, _)

/-- Where window 0's block lies in its array. -/
theorem emb0 (t : Fin cfg0.N) (i : Fin 512) (k : Fin 512) :
    (win0_0.blk t).view.emb (ix2 i k) = ix2 (row t i) k := by
  blk_ext [i0 t, row]

/-- Where window 1's block lies in its array. -/
theorem emb1 (t : Fin cfg0.N) (i : Fin 512) (k : Fin 512) :
    (win0_1.blk t).view.emb (ix2 i k) = ix2 (row t i) k := by
  blk_ext [i1 t, row]

/-- Where window 2's block lies in its array. -/
theorem emb2 (t : Fin cfg0.N) (i : Fin 512) (k : Fin 512) :
    (win0_2.blk t).view.emb (ix2 i k) = ix2 (row t i) k := by
  blk_ext [i2 t, row]

/-- Where window 3's block lies in its array. -/
theorem emb3 (t : Fin cfg0.N) (i : Fin 512) (k : Fin 512) :
    (win0_3.blk t).view.emb (ix2 i k) = ix2 (row t i) k := by
  blk_ext [i3 t, row]

/-- Where window 4's block lies in its array. -/
theorem emb4 (t : Fin cfg0.N) (i : Fin 512) (k : Fin 128) :
    (win0_4.blk t).view.emb (ix2 i k) = ix2 (row t i) k := by
  blk_ext [i4 t, row]

/-- Where window 5's block lies in its array. -/
theorem emb5 (t : Fin cfg0.N) (i : Fin 512) (k : Fin 2048) :
    (win0_5.blk t).view.emb (ix2 i k) = ix2 (row t i) k := by
  blk_ext [i5 t, row]

/-- Where window 6's block lies in its array. -/
theorem emb6 (t : Fin cfg0.N) (i : Fin 512) (k : Fin 1024) :
    (win0_6.blk t).view.emb (ix2 i k) = ix2 (row t i) k := by
  blk_ext [i6 t, row]

/-- Where window 7's block lies in its array. -/
theorem emb7 (t : Fin cfg0.N) (i : Fin 512) (k : Fin 1024) :
    (win0_7.blk t).view.emb (ix2 i k) = ix2 (row t i) k := by
  blk_ext [i7 t, row]

/-- Where window 8's block lies in its array. -/
theorem emb8 (t : Fin cfg0.N) (i : Fin 1) (k : Fin 1024) :
    (win0_8.blk t).view.emb (ix2 i k) = ix2 i k := by
  blk_ext [i8 t]

/-- Where window 9's block lies in its array. -/
theorem emb9 (t : Fin cfg0.N) (i : Fin 1024) (k : Fin 2048) :
    (win0_9.blk t).view.emb (ix2 i k) = ix2 i k := by
  blk_ext [i9 t]

/-- Where window 10's block lies in its array. -/
theorem emb10 (t : Fin cfg0.N) (i : Fin 1024) (k : Fin 128) :
    (win0_10.blk t).view.emb (ix2 i k) = ix2 i k := by
  blk_ext [i10 t]

/-- Where window 11's block lies in its array. -/
theorem emb11 (t : Fin cfg0.N) (i : Fin 1024) (k : Fin 2048) :
    (win0_11.blk t).view.emb (ix2 i k) = ix2 i k := by
  blk_ext [i11 t]

/-- Where window 12's block lies in its array. -/
theorem emb12 (t : Fin cfg0.N) (i : Fin 512) (k : Fin 1024) :
    (win0_12.blk t).view.emb (ix2 i k) = ix2 (row t i) k := by
  blk_ext [i12 t, row]

/-- Where window 13's block lies in its array. -/
theorem emb13 (t : Fin cfg0.N) (i : Fin 1) (k : Fin 1024) :
    (win0_13.blk t).view.emb (ix2 i k) = ix2 i k := by
  blk_ext [i13 t]

/-- Window 0's block at an element. -/
theorem blk0 (t : Fin cfg0.N) (i : Fin 512) (x : Fin 512) : iblk m c 0 t (ix2 i x) = Z m c t i ⟨x.val, by omega⟩ := by
  refine Eq.trans ?_ (zc_du (a4 m c) (a5 m c) (a6 m c) (a7 m c) (a8 m c) (a9 m c) (a10 m c) (rb (row t i)) (rs (row t i)) x).symm
  blk_simp [iblk]
  rw [emb0]
  show StableHlo.after _ _ _ _ = _
  after_reads_simp
  try simp only [StableHlo.TRef.toBuf, StableHlo.TRef.ofBuf, cast_eq]
  pointwise [rb, rs]

/-- Window 1's block at an element. -/
theorem blk1 (t : Fin cfg0.N) (i : Fin 512) (x : Fin 512) : iblk m c 1 t (ix2 i x) = Z m c t i ⟨512 + x.val, by omega⟩ := by
  refine Eq.trans ?_ (zc_dq (a4 m c) (a5 m c) (a6 m c) (a7 m c) (a8 m c) (a9 m c) (a10 m c) (rb (row t i)) (rs (row t i)) x).symm
  blk_simp [iblk]
  rw [emb1]
  show StableHlo.after _ _ _ _ = _
  after_reads_simp
  try simp only [StableHlo.TRef.toBuf, StableHlo.TRef.ofBuf, cast_eq]
  pointwise [rb, rs]

/-- Window 2's block at an element. -/
theorem blk2 (t : Fin cfg0.N) (i : Fin 512) (x : Fin 512) : iblk m c 2 t (ix2 i x) = Z m c t i ⟨1024 + x.val, by omega⟩ := by
  refine Eq.trans ?_ (zc_dk (a4 m c) (a5 m c) (a6 m c) (a7 m c) (a8 m c) (a9 m c) (a10 m c) (rb (row t i)) (rs (row t i)) x).symm
  blk_simp [iblk]
  rw [emb2]
  show StableHlo.after _ _ _ _ = _
  after_reads_simp
  try simp only [StableHlo.TRef.toBuf, StableHlo.TRef.ofBuf, cast_eq]
  pointwise [rb, rs]

/-- Window 3's block at an element. -/
theorem blk3 (t : Fin cfg0.N) (i : Fin 512) (x : Fin 512) : iblk m c 3 t (ix2 i x) = Z m c t i ⟨1536 + x.val, by omega⟩ := by
  refine Eq.trans ?_ (zc_dv (a4 m c) (a5 m c) (a6 m c) (a7 m c) (a8 m c) (a9 m c) (a10 m c) (rb (row t i)) (rs (row t i)) x).symm
  blk_simp [iblk]
  rw [emb3]
  show StableHlo.after _ _ _ _ = _
  after_reads_simp
  try simp only [StableHlo.TRef.toBuf, StableHlo.TRef.ofBuf, cast_eq]
  pointwise [rb, rs]

/-- Window 4's block at an element: eight columns of the forget logits' cotangent, then zeros. -/
theorem blk4 (t : Fin cfg0.N) (i : Fin 512) (x : Fin 128) :
    iblk m c 4 t (ix2 i x) = (if h : x.val < 8 then Z m c t i ⟨2048 + x.val, by omega⟩ else 0 : EReal) := by
  have hz : (if h : x.val < 8 then Z m c t i ⟨2048 + x.val, by omega⟩ else 0 : EReal)
      = if h : x.val < 8 then a8 m c (ix3 (rb (row t i)) (rs (row t i)) ⟨x.val, h⟩) else (0 : EReal) := by
    by_cases h : x.val < 8
    · rw [dif_pos h, dif_pos h]
      exact zc_dfl (a4 m c) (a5 m c) (a6 m c) (a7 m c) (a8 m c) (a9 m c) (a10 m c) (rb (row t i)) (rs (row t i)) ⟨x.val, h⟩
    · rw [dif_neg h, dif_neg h]
  refine Eq.trans ?_ hz.symm
  blk_simp [iblk]
  rw [emb4]
  show StableHlo.after _ _ _ _ = _
  after_reads_simp
  try simp only [StableHlo.TRef.toBuf, StableHlo.TRef.ofBuf, cast_eq]
  pointwise [rb, rs]
  by_cases h : x.val < 8
  · rw [dif_pos h, dif_pos h]
  · rw [dif_neg h, dif_neg h]
    exact sitofp_zero (φ := .bf16)

/-- Window 5's block at an element: the two gates' cotangents side by side. -/
theorem blk5 (t : Fin cfg0.N) (i : Fin 512) (x : Fin 2048) : iblk m c 5 t (ix2 i x) = Z m c t i ⟨2056 + x.val, by omega⟩ := by
  have hz : Z m c t i ⟨2056 + x.val, by omega⟩ = if h : x.val < 1024 then a9 m c (ix3 (rb (row t i)) (rs (row t i)) ⟨x.val, h⟩)
      else a10 m c (ix3 (rb (row t i)) (rs (row t i)) ⟨x.val - 1024, by omega⟩) := by
    by_cases h : x.val < 1024
    · rw [dif_pos h]
      exact zc_dgp (a4 m c) (a5 m c) (a6 m c) (a7 m c) (a8 m c) (a9 m c) (a10 m c) (rb (row t i)) (rs (row t i)) ⟨x.val, h⟩
    · rw [dif_neg h]
      refine Eq.trans ?_ (zc_dga (a4 m c) (a5 m c) (a6 m c) (a7 m c) (a8 m c) (a9 m c) (a10 m c) (rb (row t i)) (rs (row t i)) ⟨x.val - 1024, by omega⟩)
      exact congrArg (Z m c t i) (Fin.ext (by show 2056 + x.val = 3080 + (x.val - 1024); omega))
  refine Eq.trans ?_ hz.symm
  blk_simp [iblk]
  rw [emb5]
  show StableHlo.after _ _ _ _ = _
  after_reads_simp
  try simp only [StableHlo.TRef.toBuf, StableHlo.TRef.ofBuf, cast_eq]
  pointwise [rb, rs]
  after_reads_simp

/-- Window 6's block at an element. -/
theorem blk6 (t : Fin cfg0.N) (i : Fin 512) (k : Fin 1024) : iblk m c 6 t (ix2 i k) = a0 m c (ix3 (rb (row t i)) (rs (row t i)) k) := by
  blk_simp [iblk]
  rw [emb6]
  show StableHlo.after _ _ _ _ = _
  after_reads_simp
  try simp only [StableHlo.TRef.toBuf, StableHlo.TRef.ofBuf, cast_eq]
  pointwise [rb, rs]

/-- Window 7's block at an element. -/
theorem blk7 (t : Fin cfg0.N) (i : Fin 512) (k : Fin 1024) : iblk m c 7 t (ix2 i k) = a3 m c (ix3 (rb (row t i)) (rs (row t i)) k) := by
  blk_simp [iblk]
  rw [emb7]
  show StableHlo.after _ _ _ _ = _
  after_reads_simp
  try simp only [StableHlo.TRef.toBuf, StableHlo.TRef.ofBuf, cast_eq]
  pointwise [rb, rs]

/-- Window 8's block at an element. -/
theorem blk8 (t : Fin cfg0.N) (z : Fin 1) (k : Fin 1024) : iblk m c 8 t (ix2 z k) = a1 m c (ix1 k) := by
  blk_simp [iblk]
  rw [emb8]
  show StableHlo.after _ _ _ _ = _
  after_reads_simp
  try simp only [StableHlo.TRef.toBuf, StableHlo.TRef.ofBuf, cast_eq]
  pointwise

/-- Window 9's block at an element: the projection's first 2048 columns. -/
theorem blk9 (t : Fin cfg0.N) (k : Fin 1024) (x : Fin 2048) : iblk m c 9 t (ix2 k x) = a2 m c (ix2 k ⟨x.val, by omega⟩) := by
  blk_simp [iblk]
  rw [emb9]
  show StableHlo.after _ _ _ _ = _
  after_reads_simp
  try simp only [StableHlo.TRef.toBuf, StableHlo.TRef.ofBuf, cast_eq]
  pointwise

/-- Window 10's block at an element: the projection's eight columns for the forget logits, then zeros. -/
theorem blk10 (t : Fin cfg0.N) (k : Fin 1024) (x : Fin 128) :
    iblk m c 10 t (ix2 k x) = (if h : x.val < 8 then a2 m c (ix2 k ⟨2048 + x.val, by omega⟩) else 0 : EReal) := by
  blk_simp [iblk]
  rw [emb10]
  show StableHlo.after _ _ _ _ = _
  after_reads_simp
  try simp only [StableHlo.TRef.toBuf, StableHlo.TRef.ofBuf, cast_eq]
  pointwise
  by_cases h : x.val < 8
  · rw [dif_pos h, dif_pos h]
  · rw [dif_neg h, dif_neg h]
    exact sitofp_zero (φ := .f32)

/-- Window 11's block at an element: the projection's last 2048 columns. -/
theorem blk11 (t : Fin cfg0.N) (k : Fin 1024) (x : Fin 2048) : iblk m c 11 t (ix2 k x) = a2 m c (ix2 k ⟨2056 + x.val, by omega⟩) := by
  blk_simp [iblk]
  rw [emb11]
  show StableHlo.after _ _ _ _ = _
  after_reads_simp
  try simp only [StableHlo.TRef.toBuf, StableHlo.TRef.ofBuf, cast_eq]
  pointwise

end Cert.InProjIdeal.Point

end
-- ==== Proof.InProj.Outs.lean ====
/- What the input projection kernel's body leaves in each output block, and the arrays after the run. -/
module

public import proofs.«01_k».proof.Proof.InProj.Blocks

@[expose] public section

noncomputable section

namespace Cert.InProjIdeal.Point

open Cert.InProjIdeal Cert.InProjIdeal.Gen Cert.InProjIdeal.Value Cert.InProjIdeal.Pay Idealize.ShloMosaic Idealize.ShloMosaic.TcCoe Idealize.SL.Sem
open Idealize.ShloMosaic.Pipeline
open Cert.MixSpec Cert.FfnSpec Cert.InSpec

variable (m : (ℓ : Loc nD τ sig) → Buf (Elt Ideal) ℓ) (c : Dev nD)

/-- The three products of a point's blocks, at an element. -/
theorem dh_blk (t : Fin cfg0.N) (i : Fin 512) (k : Fin 1024) :
    k0_pay6 (F := Ideal) (iblk m c 0 t) (iblk m c 1 t) (iblk m c 2 t) (iblk m c 3 t) (iblk m c 9 t) (iblk m c 5 t) (iblk m c 11 t) (iblk m c 4 t) (iblk m c 10 t) (ix2 i k) = dhi (a2 m c) (a4 m c) (a5 m c) (a6 m c) (a7 m c) (a8 m c) (a9 m c) (a10 m c) (rb (row t i)) (rs (row t i)) k :=
  pay6_of _ _ _ _ _ _ _ _ _ i k (Z m c t i) (fun x => a2 m c (ix2 k x)) (blk0 m c t i) (blk1 m c t i) (blk2 m c t i) (blk3 m c t i)
    (blk9 m c t k) (blk5 m c t i) (blk11 m c t k) (blk4 m c t i) (blk10 m c t k)

/-- A row's reciprocal root. -/
theorem rrB_blk (t : Fin cfg0.N) (i : Fin 512) : rrB (iblk m c 6 t) i = rr (a0 m c) (rb (row t i)) (rs (row t i)) := by
  unfold rrB rr ms
  simp only [blk6]

/-- The input's cotangent at an element of a block. -/
theorem dx_blk (t : Fin cfg0.N) (i : Fin 512) (k : Fin 1024) :
    k0_pay3 (F := Ideal) (k0_pay6 (F := Ideal) (iblk m c 0 t) (iblk m c 1 t) (iblk m c 2 t) (iblk m c 3 t) (iblk m c 9 t) (iblk m c 5 t) (iblk m c 11 t) (iblk m c 4 t) (iblk m c 10 t)) (k0_pay7 (iblk m c 8 t)) (k0_pay8 (iblk m c 6 t)) (k0_pay9 (iblk m c 6 t)) k0_pay10 (iblk m c 7 t) (ix2 i k)
      = dxi (a0 m c) (a1 m c) (a2 m c) (a3 m c) (a4 m c) (a5 m c) (a6 m c) (a7 m c) (a8 m c) (a9 m c) (a10 m c) (rb (row t i)) (rs (row t i)) k := by
  rw [pay3_apply]
  simp only [dh_blk, rrB_blk, blk6, blk7, blk8]
  rfl

/-- One block's part of the gain's cotangent. -/
abbrev part (t : Fin cfg0.N) (k : Fin 1024) : EReal :=
  ∑ r : Fin 512, dhi (a2 m c) (a4 m c) (a5 m c) (a6 m c) (a7 m c) (a8 m c) (a9 m c) (a10 m c) (rb (row t r)) (rs (row t r)) k * xh (a0 m c) (rb (row t r)) (rs (row t r)) k

/-- One block's part is what the body adds. -/
theorem dg_blk (t : Fin cfg0.N) (v : Vec Ideal S1x1024 .f32) (z : Fin 1) (k : Fin 1024) :
    k0_pay5 (F := Ideal) (k0_pay6 (F := Ideal) (iblk m c 0 t) (iblk m c 1 t) (iblk m c 2 t) (iblk m c 3 t) (iblk m c 9 t) (iblk m c 5 t) (iblk m c 11 t) (iblk m c 4 t) (iblk m c 10 t)) (k0_pay8 (iblk m c 6 t)) (k0_pay9 (iblk m c 6 t)) k0_pay10 v (ix2 z k) = v (ix2 z k) + part m c t k := by
  rw [pay5_apply]
  simp only [dh_blk, rrB_blk, blk6]
  rfl

/-- The input's cotangent after a point. -/
theorem out12 (t : Fin cfg0.N) (i : Fin 512) (k : Fin 1024) :
    (outsAt0 m c t.val t.isLt).1 (ix2 i k) = dxi (a0 m c) (a1 m c) (a2 m c) (a3 m c) (a4 m c) (a5 m c) (a6 m c) (a7 m c) (a8 m c) (a9 m c) (a10 m c) (rb (row t i)) (rs (row t i)) k := by
  by_cases h : t.val % 8 = 0
  · rw [outsAt0_A m c t h]; frame_out; exact dx_blk m c t i k
  · rw [outsAt0_B m c t h]; frame_out; exact dx_blk m c t i k

/-- The gain's cotangent after the first point. -/
theorem acc_first (n : ℕ) (hn : n < cfg0.N) (h : n % 8 = 0) (z : Fin 1) (k : Fin 1024) :
    (outsAt0 m c n hn).2 (ix2 z k) = 0 + part m c ⟨n, hn⟩ k := by
  rw [outsAt0_A m c ⟨n, hn⟩ h]
  frame_out
  refine (dg_blk m c ⟨n, hn⟩ _ z k).trans ?_
  rw [pay4_apply]

/-- The gain's cotangent after a later point. -/
theorem acc_step (n : ℕ) (hn : n < cfg0.N) (h : ¬ n % 8 = 0) (z : Fin 1) (k : Fin 1024) :
    (outsAt0 m c n hn).2 (ix2 z k) = (outsAt0 m c (n - 1) (by omega)).2 (ix2 z k) + part m c ⟨n, hn⟩ k := by
  rw [outsAt0_B m c ⟨n, hn⟩ h]
  frame_out
  exact dg_blk m c ⟨n, hn⟩ _ z k

/-- What the array of the input's cotangent holds after the run. -/
theorem final12 : (dats m 0 c).arrAt 12 cfg0.N
    = fun j => dxi (a0 m c) (a1 m c) (a2 m c) (a3 m c) (a4 m c) (a5 m c) (a6 m c) (a7 m c) (a8 m c) (a9 m c) (a10 m c) (rb (j 0)) (rs (j 0)) (j 1) := by
  refine (dats m 0 c).arrAt_eq_of_covers 12 _ (by decide +kernel) fun t hf y => ?_
  blk_simp
  rw [after0_12]
  obtain ⟨i, k, rfl⟩ : ∃ (i : Fin 512) (k : Fin 1024), y = ix2 i k := ⟨y 0, y 1, by funext a; match a with | ⟨0, _⟩ => rfl | ⟨1, _⟩ => rfl⟩
  rw [emb12]
  exact out12 m c t i k

/-- The last point of the grid. -/
def t_last : Fin cfg0.N := ⟨7, by decide +kernel⟩

/-- What the array of the gain's cotangent holds after the run: the sum over every token. -/
theorem final13 : (dats m 0 c).arrAt 13 cfg0.N = fun j => dgi (a0 m c) (a2 m c) (a4 m c) (a5 m c) (a6 m c) (a7 m c) (a8 m c) (a9 m c) (a10 m c) (j 1) := by
  refine (dats m 0 c).arrAt_eq_of_after_last 13 t_last (by decide +kernel) _ fun j => ?_
  blk_simp
  rw [after0_13]
  obtain ⟨z, k, rfl⟩ : ∃ (z : Fin 1) (k : Fin 1024), j = ix2 z k := ⟨j 0, j 1, by funext a; match a with | ⟨0, _⟩ => rfl | ⟨1, _⟩ => rfl⟩
  refine (Pipeline.eq_sum_fin_of_reset_step_apply_last (fun n h => (outsAt0 m c n h).2) 8 (fun _ => 0)
    (fun t j => part m c t (j 1)) (fun t h j => ?_) (fun t h j => ?_) (le_of_eq N8) t_last rfl (ix2 z k)).trans ?_
  · obtain ⟨z, k, rfl⟩ : ∃ (z : Fin 1) (k : Fin 1024), j = ix2 z k := ⟨j 0, j 1, by funext a; match a with | ⟨0, _⟩ => rfl | ⟨1, _⟩ => rfl⟩
    exact acc_first m c t.val t.isLt h z k
  · obtain ⟨z, k, rfl⟩ : ∃ (z : Fin 1) (k : Fin 1024), j = ix2 z k := ⟨j 0, j 1, by funext a; match a with | ⟨0, _⟩ => rfl | ⟨1, _⟩ => rfl⟩
    exact acc_step m c t.val t.isLt h z k
  · refine (zero_add _).trans ?_
    exact Fin.sum_mul_add_congr (S := 8) (n := 512) fun s r hl => rfl

end Cert.InProjIdeal.Point

end
-- ==== Proof.InProj.Ref.lean ====
/- The input projection's reference, read at an index: its results are the plain sums of `Cert.InSpec` wherever the
   arguments are real numbers. -/
module

public import proofs.«01_k».proof.Proof.InProj.Spec
public import proofs.«01_k».proof.Proof.Ffn.Norm
public import proofs.«01_k».proof.Proof.Com.Sums
public import proofs.«01_k».proof.Proof.Gen.InProjRefIdeal.Read

@[expose] public section

noncomputable section

namespace Cert.InProjRefIdeal.Point

open Cert.InProjRefIdeal Cert.InProjRefIdeal.Gen Cert.InProjRefIdeal.Read Idealize.ShloMosaic Idealize.ShloMosaic.TcCoe Idealize.SL.Sem
open Cert.MixSpec Cert.FfnSpec Cert.InSpec Cert.Com

variable (x0 : Vec Ideal S2x2048x1024 .f32) (x1 : Vec Ideal S1024 .f32) (x2 : Vec Ideal S1024x4104 .f32) (x3 : Vec Ideal S2x2048x1024 .f32)
  (x4 x5 x6 x7 : Vec Ideal S2x2048x512 .f32) (x8 : Vec Ideal S2x2048x8 .f32) (x9 x10 : Vec Ideal S2x2048x1024 .f32) (b : Fin 2) (s : Fin 2048)

/-- The mean square with the small constant. -/
theorem v6 (z : Fin 1) : val_main_v6 (F := Ideal) x0 (ix3 b s z) = ms x0 b s := by
  pointwise [val_main_v6, val_main_v5, val_main_v4, val_main_v3, val_main_v2, val_main_v1, val_main_v0, val_main_cst,
    val_main_cst_0, val_main_cst_1, ms]

/-- Its reciprocal root. -/
theorem v7 (z : Fin 1) : val_main_v7 (F := Ideal) x0 (ix3 b s z) = rr x0 b s := by
  unfold rr
  rw [← v6 x0 b s z]
  pointwise [val_main_v7]

/-- The factor of the norm's derivative. -/
theorem v10 (z : Fin 1) : val_main_v10 (F := Ideal) x0 (ix3 b s z) = cH * Ideal.div (rr x0 b s) (ms x0 b s) := by
  rw [← v7 x0 b s z, ← v6 x0 b s z]
  pointwise [val_main_v10, val_main_v9, val_main_v8, val_main_cst_2]

/-- The normalised activation. -/
theorem v12 (k : Fin 1024) : val_main_v12 (F := Ideal) x0 (ix3 b s k) = xh x0 b s k := by
  unfold xh
  rw [← v7 x0 b s 0]
  pointwise [val_main_v12, val_main_v11]

/-- The seven cotangents, each widened by zeros and added, are the one cotangent. -/
theorem v36 (n : Fin 4104) : val_main_v36 (F := Ideal) x4 x5 x6 x7 x8 x9 x10 (ix3 b s n) = zc x4 x5 x6 x7 x8 x9 x10 b s n := by
  unfold zc
  pointwise [val_main_v36, val_main_v35, val_main_v34, val_main_v33, val_main_v32, val_main_v31, val_main_v30, val_main_v29, val_main_v28,
    val_main_v27, val_main_v26, val_main_v25, val_main_v24, val_main_cst_3, val_main_cst_4, val_main_cst_5, val_main_cst_6, val_main_cst_7,
    val_main_cst_8, val_main_cst_9]
  by_cases e0 : n.val < 512
  · rw [dif_neg (show ¬ (3080 ≤ n.val ∧ n.val - 3080 < 1024) by omega), dif_neg (show ¬ (2056 ≤ n.val ∧ n.val - 2056 < 1024) by omega), dif_neg (show ¬ (2048 ≤ n.val ∧ n.val - 2048 < 8) by omega), dif_neg (show ¬ (1536 ≤ n.val ∧ n.val - 1536 < 512) by omega), dif_neg (show ¬ (1024 ≤ n.val ∧ n.val - 1024 < 512) by omega), dif_neg (show ¬ (512 ≤ n.val ∧ n.val - 512 < 512) by omega), dif_pos (show n.val < 512 by omega), dif_pos (show n.val < 512 by omega)]
    simp only [zero_add, add_zero]
  · by_cases e1 : n.val < 1024
    · rw [dif_neg (show ¬ (3080 ≤ n.val ∧ n.val - 3080 < 1024) by omega), dif_neg (show ¬ (2056 ≤ n.val ∧ n.val - 2056 < 1024) by omega), dif_neg (show ¬ (2048 ≤ n.val ∧ n.val - 2048 < 8) by omega), dif_neg (show ¬ (1536 ≤ n.val ∧ n.val - 1536 < 512) by omega), dif_neg (show ¬ (1024 ≤ n.val ∧ n.val - 1024 < 512) by omega), dif_pos (show 512 ≤ n.val ∧ n.val - 512 < 512 by omega), dif_neg (show ¬ (n.val < 512) by omega), dif_neg (show ¬ n.val < 512 by omega), dif_pos (show n.val < 1024 by omega)]
      simp only [zero_add, add_zero]
    · by_cases e2 : n.val < 1536
      · rw [dif_neg (show ¬ (3080 ≤ n.val ∧ n.val - 3080 < 1024) by omega), dif_neg (show ¬ (2056 ≤ n.val ∧ n.val - 2056 < 1024) by omega), dif_neg (show ¬ (2048 ≤ n.val ∧ n.val - 2048 < 8) by omega), dif_neg (show ¬ (1536 ≤ n.val ∧ n.val - 1536 < 512) by omega), dif_pos (show 1024 ≤ n.val ∧ n.val - 1024 < 512 by omega), dif_neg (show ¬ (512 ≤ n.val ∧ n.val - 512 < 512) by omega), dif_neg (show ¬ (n.val < 512) by omega), dif_neg (show ¬ n.val < 512 by omega), dif_neg (show ¬ n.val < 1024 by omega), dif_pos (show n.val < 1536 by omega)]
        simp only [zero_add, add_zero]
      · by_cases e3 : n.val < 2048
        · rw [dif_neg (show ¬ (3080 ≤ n.val ∧ n.val - 3080 < 1024) by omega), dif_neg (show ¬ (2056 ≤ n.val ∧ n.val - 2056 < 1024) by omega), dif_neg (show ¬ (2048 ≤ n.val ∧ n.val - 2048 < 8) by omega), dif_pos (show 1536 ≤ n.val ∧ n.val - 1536 < 512 by omega), dif_neg (show ¬ (1024 ≤ n.val ∧ n.val - 1024 < 512) by omega), dif_neg (show ¬ (512 ≤ n.val ∧ n.val - 512 < 512) by omega), dif_neg (show ¬ (n.val < 512) by omega), dif_neg (show ¬ n.val < 512 by omega), dif_neg (show ¬ n.val < 1024 by omega), dif_neg (show ¬ n.val < 1536 by omega), dif_pos (show n.val < 2048 by omega)]
          simp only [zero_add, add_zero]
        · by_cases e4 : n.val < 2056
          · rw [dif_neg (show ¬ (3080 ≤ n.val ∧ n.val - 3080 < 1024) by omega), dif_neg (show ¬ (2056 ≤ n.val ∧ n.val - 2056 < 1024) by omega), dif_pos (show 2048 ≤ n.val ∧ n.val - 2048 < 8 by omega), dif_neg (show ¬ (1536 ≤ n.val ∧ n.val - 1536 < 512) by omega), dif_neg (show ¬ (1024 ≤ n.val ∧ n.val - 1024 < 512) by omega), dif_neg (show ¬ (512 ≤ n.val ∧ n.val - 512 < 512) by omega), dif_neg (show ¬ (n.val < 512) by omega), dif_neg (show ¬ n.val < 512 by omega), dif_neg (show ¬ n.val < 1024 by omega), dif_neg (show ¬ n.val < 1536 by omega), dif_neg (show ¬ n.val < 2048 by omega), dif_pos (show n.val < 2056 by omega)]
            simp only [zero_add, add_zero]
          · by_cases e5 : n.val < 3080
            · rw [dif_neg (show ¬ (3080 ≤ n.val ∧ n.val - 3080 < 1024) by omega), dif_pos (show 2056 ≤ n.val ∧ n.val - 2056 < 1024 by omega), dif_neg (show ¬ (2048 ≤ n.val ∧ n.val - 2048 < 8) by omega), dif_neg (show ¬ (1536 ≤ n.val ∧ n.val - 1536 < 512) by omega), dif_neg (show ¬ (1024 ≤ n.val ∧ n.val - 1024 < 512) by omega), dif_neg (show ¬ (512 ≤ n.val ∧ n.val - 512 < 512) by omega), dif_neg (show ¬ (n.val < 512) by omega), dif_neg (show ¬ n.val < 512 by omega), dif_neg (show ¬ n.val < 1024 by omega), dif_neg (show ¬ n.val < 1536 by omega), dif_neg (show ¬ n.val < 2048 by omega), dif_neg (show ¬ n.val < 2056 by omega), dif_pos (show n.val < 3080 by omega)]
              simp only [zero_add, add_zero]
            · rw [dif_pos (show 3080 ≤ n.val ∧ n.val - 3080 < 1024 by omega), dif_neg (show ¬ (2056 ≤ n.val ∧ n.val - 2056 < 1024) by omega), dif_neg (show ¬ (2048 ≤ n.val ∧ n.val - 2048 < 8) by omega), dif_neg (show ¬ (1536 ≤ n.val ∧ n.val - 1536 < 512) by omega), dif_neg (show ¬ (1024 ≤ n.val ∧ n.val - 1024 < 512) by omega), dif_neg (show ¬ (512 ≤ n.val ∧ n.val - 512 < 512) by omega), dif_neg (show ¬ (n.val < 512) by omega), dif_neg (show ¬ n.val < 512 by omega), dif_neg (show ¬ n.val < 1024 by omega), dif_neg (show ¬ n.val < 1536 by omega), dif_neg (show ¬ n.val < 2048 by omega), dif_neg (show ¬ n.val < 2056 by omega), dif_neg (show ¬ n.val < 3080 by omega)]
              simp only [zero_add, add_zero]

/-- The cotangent of the normalised activations with their gain. -/
theorem v37 (k : Fin 1024) : val_main_v37 (F := Ideal) x2 x4 x5 x6 x7 x8 x9 x10 (ix3 b s k) = dhi x2 x4 x5 x6 x7 x8 x9 x10 b s k := by
  unfold dhi
  simp only [← v36]
  pointwise [val_main_v37, dot_S2x2048x4104_S1024x4104_S2x2048x1024_2_1_01_0_n_n]

/-- The norm's derivative: the factor of the two equal terms. -/
theorem v53 : val_main_v53 (F := Ideal) x0 x1 x2 x4 x5 x6 x7 x8 x9 x10 (ix2 b s)
      = Ideal.div ((∑ j : Fin 1024, x0 (ix3 b s j) * (dhi x2 x4 x5 x6 x7 x8 x9 x10 b s j * x1 (ix1 j)))
          * (cH * Ideal.div (rr x0 b s) (ms x0 b s))) cN := by
  simp only [← v37]
  rw [← v10 x0 b s 0]
  pointwise [val_main_v53, val_main_v52, val_main_v51, val_main_v50, val_main_v46, val_main_v45, val_main_v44, val_main_v42,
    val_main_v41, val_main_v13, val_main_cst_12, val_main_cst_13, val_main_cst_14]
  exact Fin.sum_univ_one _

/-- The gain's cotangent, as the sum over the two leading axes. -/
theorem v39 (k : Fin 1024) : val_main_v39 (F := Ideal) x0 x2 x4 x5 x6 x7 x8 x9 x10 (ix1 k)
    = ∑ b : Fin 2, ∑ s : Fin 2048, dhi x2 x4 x5 x6 x7 x8 x9 x10 b s k * xh x0 b s k := by
  unfold val_main_v39
  rw [ValueIdx.hostReduceAdd_apply]
  refine (Cert.Com.hostReduceAdd_r3_a01 _ _ _ k).trans ?_
  simp only [← v37, ← v12]
  pointwise [val_main_v38, val_main_cst_10]
  simp only [mul_comm]

/-- The gain's cotangent. -/
theorem v60 (z : Fin 1) (k : Fin 1024) : val_main_v60 (F := Ideal) x0 x2 x4 x5 x6 x7 x8 x9 x10 (ix2 z k) = dgi x0 x2 x4 x5 x6 x7 x8 x9 x10 k := by
  have h : val_main_v43 (F := Ideal) x0 x2 x4 x5 x6 x7 x8 x9 x10 (ix1 k) = val_main_v39 (F := Ideal) x0 x2 x4 x5 x6 x7 x8 x9 x10 (ix1 k) := by
    unfold val_main_v43
    rw [ValueIdx.hostReduceAdd_apply]
    refine (Cert.Com.hostReduceAdd_r3_a01 _ _ _ k).trans ?_
    pointwise [val_main_v40, val_main_cst_11]
    simp only [Fin.sum_univ_one]
  have h' : val_main_v60 (F := Ideal) x0 x2 x4 x5 x6 x7 x8 x9 x10 (ix2 z k) = val_main_v43 (F := Ideal) x0 x2 x4 x5 x6 x7 x8 x9 x10 (ix1 k) := by
    pointwise [val_main_v60]
  rw [h', h, v39]
  unfold dgi
  refine Fin.sum_mul_add_congr (S := 2) (n := 2048) fun a b hl => ?_
  rw [rb_mk, rs_mk]

/-- The gain's cotangent as one function of the index. -/
theorem v60_fn : val_main_v60 (F := Ideal) x0 x2 x4 x5 x6 x7 x8 x9 x10 = fun j => dgi x0 x2 x4 x5 x6 x7 x8 x9 x10 (j 1) := by
  funext j
  have hj : j = ix2 (j 0) (j 1) := by funext a; match a with | ⟨0, _⟩ => rfl | ⟨1, _⟩ => rfl
  exact (congrArg _ hj).trans (v60 x0 x2 x4 x5 x6 x7 x8 x9 x10 (j 0) (j 1))

section Real

variable (h0 : ∀ i, IsR (x0 i)) (h1 : ∀ i, IsR (x1 i)) (h2 : ∀ i, IsR (x2 i)) (h4 : ∀ i, IsR (x4 i)) (h5 : ∀ i, IsR (x5 i))
  (h6 : ∀ i, IsR (x6 i)) (h7 : ∀ i, IsR (x7 i)) (h8 : ∀ i, IsR (x8 i)) (h9 : ∀ i, IsR (x9 i)) (h10 : ∀ i, IsR (x10 i))

include h2 h4 h5 h6 h7 h8 h9 h10 in
/-- That cotangent is a real number when the arguments are. -/
theorem isR_dhi (k : Fin 1024) : IsR (dhi x2 x4 x5 x6 x7 x8 x9 x10 b s k) := by
  refine IsR.sum _ _ fun n => IsR.mul ?_ (h2 _)
  unfold zc
  split_ifs
  exacts [h4 _, h5 _, h6 _, h7 _, h8 _, h9 _, h10 _]

include h0 h1 h2 h4 h5 h6 h7 h8 h9 h10 in
/-- The input's cotangent. -/
theorem v58 (k : Fin 1024) : val_main_v58 (F := Ideal) x0 x1 x2 x3 x4 x5 x6 x7 x8 x9 x10 (ix3 b s k) = dxi x0 x1 x2 x3 x4 x5 x6 x7 x8 x9 x10 b s k := by
  refine Eq.trans ?_ (dx_three (x3 (ix3 b s k)) (fun j => x0 (ix3 b s j)) (fun j => x1 (ix1 j)) (fun j => dhi x2 x4 x5 x6 x7 x8 x9 x10 b s j)
    (fun _ => h0 _) (fun _ => h1 _) (fun j => isR_dhi x2 x4 x5 x6 x7 x8 x9 x10 b s h2 h4 h5 h6 h7 h8 h9 h10 j) (ms x0 b s) (rr x0 b s) _ rfl rfl
    (v53 x0 x1 x2 x4 x5 x6 x7 x8 x9 x10 b s) k)
  simp only [← v37]
  rw [← v7 x0 b s 0]
  pointwise [val_main_v58, val_main_v57, val_main_v56, val_main_v55, val_main_v54, val_main_v49, val_main_v48, val_main_v47,
    val_main_v42, val_main_v41, val_main_v13]

include h0 h1 h2 h4 h5 h6 h7 h8 h9 h10 in
/-- The input's cotangent as one function of the flattened index. -/
theorem v59_fn : val_main_v59 (F := Ideal) x0 x1 x2 x3 x4 x5 x6 x7 x8 x9 x10 = fun j => dxi x0 x1 x2 x3 x4 x5 x6 x7 x8 x9 x10 (rb (j 0)) (rs (j 0)) (j 1) := by
  funext j
  obtain ⟨r, k, rfl⟩ : ∃ (r : Fin 4096) (k : Fin 1024), j = ix2 r k := ⟨j 0, j 1, by funext a; match a with | ⟨0, _⟩ => rfl | ⟨1, _⟩ => rfl⟩
  refine Eq.trans ?_ (v58 x0 x1 x2 x3 x4 x5 x6 x7 x8 x9 x10 (rb r) (rs r) h0 h1 h2 h4 h5 h6 h7 h8 h9 h10 k)
  pointwise [val_main_v59, rb, rs]

end Real

end Cert.InProjRefIdeal.Point

end
-- ==== Proof.InProj.Final.lean ====
/- The input projection's kernel and reference have equal results: the value claim. -/
module

public import proofs.«01_k».proof.Proof.InProj.Outs
public import proofs.«01_k».proof.Proof.InProj.Ref
public import proofs.«01_k».proof.Proof.Gen.InProjRefIdeal.Run
public import proofs.«01_k».proof.Defs
public import Idealize.ShloMosaic.Lib.Claim

@[expose] public section

noncomputable section

namespace Cert.Proof

open Idealize.ShloMosaic Idealize.ShloMosaic.TcCoe Idealize.SL.Sem
open Cert.InProjRefIdeal.Point Cert.Com

/-- What the precondition's one bit says: every element of every argument is a real number. -/
theorem finite_in_read [Cert.Pre_finite_in.Facts]
    (y0 : FVec Ideal Cert.Pre_finite_in.S2x2048x1024 .f32) (y1 : FVec Ideal Cert.Pre_finite_in.S1024 .f32) (y2 : FVec Ideal Cert.Pre_finite_in.S1024x4104 .f32) (y3 : FVec Ideal Cert.Pre_finite_in.S2x2048x1024 .f32) (y4 : FVec Ideal Cert.Pre_finite_in.S2x2048x512 .f32) (y5 : FVec Ideal Cert.Pre_finite_in.S2x2048x512 .f32) (y6 : FVec Ideal Cert.Pre_finite_in.S2x2048x512 .f32) (y7 : FVec Ideal Cert.Pre_finite_in.S2x2048x512 .f32) (y8 : FVec Ideal Cert.Pre_finite_in.S2x2048x8 .f32) (y9 : FVec Ideal Cert.Pre_finite_in.S2x2048x1024 .f32) (y10 : FVec Ideal Cert.Pre_finite_in.S2x2048x1024 .f32) (j : Cert.Pre_finite_in.S_.Idx)
    (h : Cert.Pre_finite_in.fn (F := Ideal) y0 y1 y2 y3 y4 y5 y6 y7 y8 y9 y10 j = 1#1) :
    (∀ i, IsR (y0 i)) ∧ (∀ i, IsR (y1 i)) ∧ (∀ i, IsR (y2 i)) ∧ (∀ i, IsR (y3 i)) ∧ (∀ i, IsR (y4 i)) ∧ (∀ i, IsR (y5 i)) ∧ (∀ i, IsR (y6 i)) ∧ (∀ i, IsR (y7 i)) ∧ (∀ i, IsR (y8 i)) ∧ (∀ i, IsR (y9 i)) ∧ (∀ i, IsR (y10 i)) := by
  dsimp only [Cert.Pre_finite_in.fn, Cert.Pre_finite_in.fn_part1, Cert.Pre_finite_in.fn_part2, Cert.Pre_finite_in.fn_part3] at h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  have ht : Subsingleton Cert.Pre_finite_in.S_.Idx := ⟨fun a b => funext fun d => d.elim0⟩
  exact ⟨fun i => isR_of_all _ _ _ (fun _ => ofBits_inf) _ _ ht j e0 i, fun i => isR_of_all _ _ _ (fun _ => ofBits_inf) _ _ ht j e1 i, fun i => isR_of_all _ _ _ (fun _ => ofBits_inf) _ _ ht j e2 i, fun i => isR_of_all _ _ _ (fun _ => ofBits_inf) _ _ ht j e3 i, fun i => isR_of_all _ _ _ (fun _ => ofBits_inf) _ _ ht j e4 i, fun i => isR_of_all _ _ _ (fun _ => ofBits_inf) _ _ ht j e5 i, fun i => isR_of_all _ _ _ (fun _ => ofBits_inf) _ _ ht j e6 i, fun i => isR_of_all _ _ _ (fun _ => ofBits_inf) _ _ ht j e7 i, fun i => isR_of_all _ _ _ (fun _ => ofBits_inf) _ _ ht j e8 i, fun i => isR_of_all _ _ _ (fun _ => ofBits_inf) _ _ ht j e9 i, fun i => isR_of_all _ _ _ (fun _ => ofBits_inf) _ _ ht j e10 i⟩

/-- The input projection's kernel and its reference leave the same two arrays. -/
theorem algebraic_in [Cert.Pre_finite_in.Facts] : Cert.algebraic_InProjIdeal_InProjRefIdeal_pre_finite_in := by
  pair_intro
  · run_from Cert.InProjIdeal.Value.run_blocks m g
  · run_from Cert.InProjRefIdeal.Value.run m' g'
    · obtain ⟨h0, h1, h2, h3, h4, h5, h6, h7, h8, h9, h10⟩ := hagree c
      obtain ⟨r0, r1, r2, r3, r4, r5, r6, r7, r8, r9, r10⟩ := finite_in_read _ _ _ _ _ _ _ _ _ _ _ (fun d => d.elim0) (congrFun (hpre c) (fun d => d.elim0))
      refine (v59_fn _ _ _ _ _ _ _ _ _ _ _ (h0 ▸ r0) (h1 ▸ r1) (h2 ▸ r2) (h4 ▸ r4) (h5 ▸ r5) (h6 ▸ r6) (h7 ▸ r7) (h8 ▸ r8) (h9 ▸ r9) (h10 ▸ r10)).trans ?_
      rw [h0, h1, h2, h3, h4, h5, h6, h7, h8, h9, h10]
      exact (Cert.InProjIdeal.Point.final12 m c).symm
    · exact (v60_fn _ _ _ _ _ _ _ _ _).trans (Cert.InProjIdeal.Point.final13 m c).symm

end Cert.Proof

end
-- ==== Proof.Dw.Gate.lean ====
/- The gradient of w_ffn_gate (and, by the same call, of w_ffn_up): the tiled kernel, which adds two blocks of tokens in a scratch accumulator, and the
   reference's one contraction over the batch and the sequence leave the same array. -/
module

public import proofs.«01_k».proof.Proof.Ffn.Spec
public import Idealize.ShloMosaic.Lib.StableHlo.RunRead
public import Idealize.ShloMosaic.Lib.Pipeline.ReadBack
public import Idealize.ShloMosaic.Lib.TwoAxisContraction
public import proofs.«01_k».proof.Proof.Gen.DwGateIdeal.Value
public import proofs.«01_k».proof.Proof.Gen.DwGateRefIdeal.Run
public import proofs.«01_k».proof.Proof.Gen.DwGateRefIdeal.Read
public import proofs.«01_k».proof.Defs
public import Idealize.ShloMosaic.Lib.Claim

@[expose] public section

noncomputable section

namespace Cert.DwSpec

open Idealize.ShloMosaic Cert.MixSpec Cert.FfnSpec

/-- The shape of the hidden activations. -/
abbrev Sh : Shape := ⟨3, ![2, 2048, 2816]⟩

/-- The left factor: the gate's cotangent. -/
def lg (d : Sh.Idx → EReal) (b : Fin 2) (s : Fin 2048) (n : Fin 2816) : EReal := d (ix3 b s n)

/-- The right factor: the normalised activations with their gain. -/
def rg (x : Sx.Idx → EReal) (g : Sg.Idx → EReal) (b : Fin 2) (s : Fin 2048) (k : Fin 1024) : EReal := xh x b s k * g (ix1 k)

end Cert.DwSpec

namespace Cert.DwGateIdeal.Point

open Cert.DwGateIdeal Cert.DwGateIdeal.Gen Cert.DwGateIdeal.Value Idealize.ShloMosaic Idealize.ShloMosaic.TcCoe Idealize.SL.Sem
open Idealize.ShloMosaic.Pipeline
open Cert.MixSpec Cert.FfnSpec Cert.DwSpec

/-- The accumulator starts at zero. -/
theorem pay1 (i : Fin 1408) (k : Fin 1024) : k0_pay1 (F := Ideal) (ix2 i k) = 0 := by
  pointwise [k0_pay1]

/-- What is written out is the accumulator. -/
theorem pay3 (v : Vec Ideal S1408x1024 .f32) (i : Fin 1408) (k : Fin 1024) : k0_pay3 (F := Ideal) v (ix2 i k) = v (ix2 i k) := by
  pointwise [k0_pay3]

/-- One block's product is added to the accumulator. -/
theorem pay2 (v3 : Vec Ideal S1408x1024 .f32) (v4 : Vec Ideal S2048x1408 .bf16) (v6 : Vec Ideal S2048x1024 .bf16) (i : Fin 1408) (k : Fin 1024) :
    k0_pay2 (F := Ideal) v3 v4 v6 (ix2 i k) = v3 (ix2 i k) + ∑ r : Fin 2048, v4 (ix2 r i) * v6 (ix2 r k) := by
  pointwise [k0_pay2, dot_S2048x1408_S2048x1024_S1408x1024_0_0_1_1_n_n]

/-- The same with the three operands' elements named. -/
theorem pay2_of (v3 : Vec Ideal S1408x1024 .f32) (v4 : Vec Ideal S2048x1408 .bf16) (v6 : Vec Ideal S2048x1024 .bf16) (i : Fin 1408) (k : Fin 1024)
    (z : EReal) (f g : Fin 2048 → EReal) (h3 : v3 (ix2 i k) = z) (h4 : ∀ r, v4 (ix2 r i) = f r) (h6 : ∀ r, v6 (ix2 r k) = g r) :
    k0_pay2 (F := Ideal) v3 v4 v6 (ix2 i k) = z + ∑ r : Fin 2048, f r * g r := by
  rw [pay2, h3]
  exact congrArg (fun a : EReal => z + a) (Finset.sum_congr rfl fun r _ => by rw [h4, h6])

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)

/-- The number of grid points. -/
theorem N4 : cfg0.N = 4 := by decide +kernel

/-- Token `r` of point `t`'s block of tokens. -/
def tok (t : Fin cfg0.N) (r : Fin 2048) : Fin 4096 := ⟨t.val % 2 * 2048 + r.val, by omega⟩

/-- Row `i` of point `t`'s block of the output. -/
def col (t : Fin cfg0.N) (i : Fin 1408) : Fin 2816 := ⟨t.val / 2 * 1408 + i.val, by have := t.isLt.trans_eq N4; omega⟩

/-- The block index of window 0. -/
theorem i0 : ∀ t : Fin cfg0.N, win0_0.index t = ![t.val % 2, t.val / 2] := (by decide +kernel : ∀ t : Fin grid0.N, _)
/-- The block index of window 1. -/
theorem i1 : ∀ t : Fin cfg0.N, win0_1.index t = ![t.val % 2, 0] := (by decide +kernel : ∀ t : Fin grid0.N, _)
/-- The block index of window 2. -/
theorem i2 : ∀ t : Fin cfg0.N, win0_2.index t = ![t.val / 2, 0] := (by decide +kernel : ∀ t : Fin grid0.N, _)

/-- Where window 0's block lies in its array. -/
theorem emb0 (t : Fin cfg0.N) (r : Fin 2048) (i : Fin 1408) :
    (win0_0.blk t).view.emb (ix2 r i) = ix2 (tok t r) (col t i) := by
  blk_ext [i0 t, tok, col]

/-- Where window 1's block lies in its array. -/
theorem emb1 (t : Fin cfg0.N) (r : Fin 2048) (k : Fin 1024) :
    (win0_1.blk t).view.emb (ix2 r k) = ix2 (tok t r) k := by
  blk_ext [i1 t, tok]

/-- Where window 2's block lies in its array. -/
theorem emb2 (t : Fin cfg0.N) (i : Fin 1408) (k : Fin 1024) :
    (win0_2.blk t).view.emb (ix2 i k) = ix2 (col t i) k := by
  blk_ext [i2 t, col]

/-- Window 0's block at an element. -/
theorem blk0 (t : Fin cfg0.N) (r : Fin 2048) (i : Fin 1408) :
    iblk m c 0 t (ix2 r i) = lg (a2 m c) (rb (tok t r)) (rs (tok t r)) (col t i) := by
  blk_simp [iblk]
  rw [emb0]
  entry_read
  pointwise [rb, rs, lg]

/-- Window 1's block at an element. -/
theorem blk1 (t : Fin cfg0.N) (r : Fin 2048) (k : Fin 1024) :
    iblk m c 1 t (ix2 r k) = rg (a0 m c) (a1 m c) (rb (tok t r)) (rs (tok t r)) k := by
  blk_simp [iblk]
  rw [emb1]
  entry_read
  pointwise [rb, rs, rg, xh, rr, ms]

/-- One token's contribution to an element of the gradient. -/
abbrev term (p : Fin 4096) (n : Fin 2816) (k : Fin 1024) : EReal :=
  lg (a2 m c) (rb p) (rs p) n * rg (a0 m c) (a1 m c) (rb p) (rs p) k

/-- After the first block of tokens the accumulator holds that block's product. -/
theorem acc_first (t : Fin cfg0.N) (h0 : t.val % 2 = 0) (h1 : ¬ t.val % 2 = 1) (i : Fin 1408) (k : Fin 1024) :
    (outsAt0 m c t.val t.isLt).2 (ix2 i k) = ∑ r : Fin 2048, term m c (tok t r) (col t i) k := by
  rw [outsAt0_A m c t h0 h1]
  frame_out
  exact (pay2_of _ _ _ i k _ _ _ (pay1 i k) (fun r => blk0 m c t r i) (fun r => blk1 m c t r k)).trans (zero_add _)

/-- After the second block of tokens the output's block holds both blocks' products. -/
theorem out_last (t : Fin cfg0.N) (h0 : ¬ t.val % 2 = 0) (h1 : t.val % 2 = 1) (i : Fin 1408) (k : Fin 1024) :
    (outsAt0 m c t.val t.isLt).1 (ix2 i k) = ∑ p : Fin 4096, term m c p (col t i) k := by
  have hN := t.isLt.trans_eq N4
  have hp : t.val - 1 < cfg0.N := by have := N4; omega
  rw [outsAt0_B m c t h0 h1]
  frame_out
  rw [pay3]
  simp only [read_unread_whole]
  refine (pay2_of _ _ _ i k _ _ _
    (acc_first m c ⟨t.val - 1, hp⟩ (by show (t.val - 1) % 2 = 0; omega) (by show ¬ (t.val - 1) % 2 = 1; omega) i k)
    (fun r => blk0 m c t r i) (fun r => blk1 m c t r k)).trans ?_
  have hc : col ⟨t.val - 1, hp⟩ i = col t i := Fin.ext (by show (t.val - 1) / 2 * 1408 + i.val = t.val / 2 * 1408 + i.val; omega)
  rw [hc]
  have hs : ∑ p : Fin 4096, term m c p (col t i) k = ∑ s : Fin 2, ∑ r : Fin 2048, term m c ⟨s.val * 2048 + r.val, by omega⟩ (col t i) k :=
    (Fin.sum_mul_add_congr (S := 2) (n := 2048) fun s r hl => rfl).symm
  rw [hs, Fin.sum_univ_two]
  refine congrArg₂ (fun a b : EReal => a + b) (Finset.sum_congr rfl fun r _ => ?_) (Finset.sum_congr rfl fun r _ => ?_)
  · have e : tok ⟨t.val - 1, hp⟩ r = ⟨(0 : Fin 2).val * 2048 + r.val, by omega⟩ := Fin.ext (by
      show (t.val - 1) % 2 * 2048 + r.val = 0 * 2048 + r.val; omega)
    rw [e]
  · have e : tok t r = ⟨(1 : Fin 2).val * 2048 + r.val, by omega⟩ := Fin.ext (by
      show t.val % 2 * 2048 + r.val = 1 * 2048 + r.val; omega)
    rw [e]

/-- What the kernel's array holds after the run: the sum over every token. -/
theorem final : (dats m 0 c).arrAt 2 cfg0.N = fun j => ∑ p : Fin 4096, term m c p (j 0) (j 1) := by
  refine (dats m 0 c).arrAt_eq_of_covers 2 _ (by decide +kernel) fun t hf y => ?_
  have hf : t.val % 2 = 1 := by have h := flush0_2; exact (h t).mp hf
  blk_simp
  rw [after0_2]
  obtain ⟨i, k, rfl⟩ : ∃ (i : Fin 1408) (k : Fin 1024), y = ix2 i k := ⟨y 0, y 1, by funext a; match a with | ⟨0, _⟩ => rfl | ⟨1, _⟩ => rfl⟩
  rw [emb2]
  exact out_last m c t (by omega) hf i k

end Cert.DwGateIdeal.Point

namespace Cert.DwGateRefIdeal.Point

open Cert.DwGateRefIdeal Cert.DwGateRefIdeal.Gen Cert.DwGateRefIdeal.Read Idealize.ShloMosaic Idealize.ShloMosaic.TcCoe Idealize.SL.Sem
open Cert.MixSpec Cert.FfnSpec Cert.DwSpec

variable (x0 : Vec Ideal S2x2048x1024 .f32) (x1 : Vec Ideal S1024 .f32) (x2 : Vec Ideal S2x2048x2816 .f32)

/-- The normalised activations with their gain. -/
theorem v12 (b : Fin 2) (s : Fin 2048) (k : Fin 1024) : val_main_v12 (F := Ideal) x0 x1 (ix3 b s k) = rg x0 x1 b s k := by
  pointwise [val_main_v12, val_main_v11, val_main_v10, val_main_v9, val_main_v8, val_main_v7, val_main_v6, val_main_v5, val_main_v4, val_main_v3, val_main_v2, val_main_v1,
    val_main_v0, val_main_cst, val_main_cst_0, val_main_cst_1, rg, xh, rr, ms]

/-- The contraction over the batch and the sequence is a double sum. -/
theorem dot_two (u : FVec Ideal S2x2048x2816 .f32) (v : FVec Ideal S2x2048x1024 .f32) (n : Fin 2816) (k : Fin 1024) :
    Host.dotGeneral (F := Ideal) dot_S2x2048x2816_S2x2048x1024_S2816x1024_01_01_2_2_n_n none u v (ix2 n k) = ∑ b : Fin 2, ∑ s : Fin 2048, u (ix3 b s n) * v (ix3 b s k) := by
  simp only [Host.dotGeneral]
  rw [Ideal.dotGeneral_apply, ValueIdx.sum_contr2 dot_S2x2048x2816_S2x2048x1024_S2816x1024_01_01_2_2_n_n 2 2048 rfl rfl rfl]
  refine Finset.sum_congr rfl fun b _ => Finset.sum_congr rfl fun s _ => ?_
  have hb := ValueIdx.contrEquiv2_symm_val0 dot_S2x2048x2816_S2x2048x1024_S2816x1024_01_01_2_2_n_n 2 2048 rfl rfl rfl (b, s)
  have hs := ValueIdx.contrEquiv2_symm_val1 dot_S2x2048x2816_S2x2048x1024_S2816x1024_01_01_2_2_n_n 2 2048 rfl rfl rfl (b, s)
  refine congrArg₂ (fun p q : EReal => p * q) (congrArg u ?_) (congrArg v ?_)
  · funext a
    match a with
    | ⟨0, _⟩ => exact Fin.ext (Eq.trans rfl hb)
    | ⟨1, _⟩ => exact Fin.ext (Eq.trans rfl hs)
    | ⟨2, _⟩ => exact Fin.ext rfl
  · funext a
    match a with
    | ⟨0, _⟩ => exact Fin.ext (Eq.trans rfl hb)
    | ⟨1, _⟩ => exact Fin.ext (Eq.trans rfl hs)
    | ⟨2, _⟩ => exact Fin.ext rfl

/-- The reference's result at an element: the sum over every token. -/
theorem out (n : Fin 2816) (k : Fin 1024) : val_main_v18 (F := Ideal) x0 x1 x2 (ix2 n k)
    = ∑ p : Fin 4096, lg x2 (rb p) (rs p) n * rg x0 x1 (rb p) (rs p) k := by
  have hs : ∑ p : Fin 4096, lg x2 (rb p) (rs p) n * rg x0 x1 (rb p) (rs p) k
      = ∑ b : Fin 2, ∑ s : Fin 2048, lg x2 b s n * rg x0 x1 b s k :=
    (Fin.sum_mul_add_congr (S := 2) (n := 2048) fun b s hl => by rw [rb_mk, rs_mk]).symm
  rw [hs]
  pointwise [val_main_v18, val_main_v17, val_main_v16]
  exact (dot_two x2 (val_main_v12 (F := Ideal) x0 x1) n k).trans (Finset.sum_congr rfl fun b _ => Finset.sum_congr rfl fun s _ => by rw [v12]; rfl)

/-- The reference's result as one function of the index. -/
theorem out_fn : val_main_v18 (F := Ideal) x0 x1 x2 = fun j => ∑ p : Fin 4096, lg x2 (rb p) (rs p) (j 0) * rg x0 x1 (rb p) (rs p) (j 1) := by
  funext j
  have hj : j = ix2 (j 0) (j 1) := by funext a; match a with | ⟨0, _⟩ => rfl | ⟨1, _⟩ => rfl
  exact (congrArg _ hj).trans (out x0 x1 x2 (j 0) (j 1))

end Cert.DwGateRefIdeal.Point

namespace Cert.Proof

open Idealize.ShloMosaic Idealize.ShloMosaic.TcCoe Idealize.SL.Sem

/-- The kernel and its reference leave the same gradient of w_ffn_gate (and, by the same call, of w_ffn_up). -/
theorem algebraic_dw_gate : Cert.algebraic_DwGateIdeal_DwGateRefIdeal := by
  pair_intro
  · run_from Cert.DwGateIdeal.Value.run_blocks m g
  · run_from Cert.DwGateRefIdeal.Value.run m' g'
    exact (Cert.DwGateRefIdeal.Point.out_fn _ _ _).trans (Cert.DwGateIdeal.Point.final m c).symm

end Cert.Proof

end
-- ==== Proof.Dw.Down.lean ====
/- The gradient of w_ffn_down: the tiled kernel, which adds two blocks of tokens in a scratch accumulator, and the
   reference's one contraction over the batch and the sequence leave the same array. -/
module

public import proofs.«01_k».proof.Proof.Ffn.Spec
public import Idealize.ShloMosaic.Lib.StableHlo.RunRead
public import Idealize.ShloMosaic.Lib.Pipeline.ReadBack
public import Idealize.ShloMosaic.Lib.TwoAxisContraction
public import proofs.«01_k».proof.Proof.Gen.DwDownIdeal.Value
public import proofs.«01_k».proof.Proof.Gen.DwDownRefIdeal.Run
public import proofs.«01_k».proof.Proof.Gen.DwDownRefIdeal.Read
public import proofs.«01_k».proof.Defs
public import Idealize.ShloMosaic.Lib.Claim

@[expose] public section

noncomputable section

namespace Cert.DwSpec

open Idealize.ShloMosaic Cert.MixSpec Cert.FfnSpec

/-- The shape of the hidden activations. -/
abbrev Sd2 : Shape := ⟨3, ![2, 2048, 2816]⟩

/-- The left factor: the gate through its own logistic, times the up projection. -/
def la (g u : Sd2.Idx → EReal) (b : Fin 2) (s : Fin 2048) (n : Fin 2816) : EReal :=
  g (ix3 b s n) * sg (g (ix3 b s n)) * u (ix3 b s n)

/-- The right factor: the output's cotangent. -/
def rd (dy : Sx.Idx → EReal) (b : Fin 2) (s : Fin 2048) (k : Fin 1024) : EReal := dy (ix3 b s k)

end Cert.DwSpec

namespace Cert.DwDownIdeal.Point

open Cert.DwDownIdeal Cert.DwDownIdeal.Gen Cert.DwDownIdeal.Value Idealize.ShloMosaic Idealize.ShloMosaic.TcCoe Idealize.SL.Sem
open Idealize.ShloMosaic.Pipeline
open Cert.MixSpec Cert.FfnSpec Cert.DwSpec

/-- The accumulator starts at zero. -/
theorem pay1 (i : Fin 1408) (k : Fin 1024) : k0_pay1 (F := Ideal) (ix2 i k) = 0 := by
  pointwise [k0_pay1]

/-- What is written out is the accumulator. -/
theorem pay3 (v : Vec Ideal S1408x1024 .f32) (i : Fin 1408) (k : Fin 1024) : k0_pay3 (F := Ideal) v (ix2 i k) = v (ix2 i k) := by
  pointwise [k0_pay3]

/-- One block's product is added to the accumulator. -/
theorem pay2 (v3 : Vec Ideal S1408x1024 .f32) (v4 : Vec Ideal S2048x1408 .bf16) (v6 : Vec Ideal S2048x1024 .f32) (i : Fin 1408) (k : Fin 1024) :
    k0_pay2 (F := Ideal) v3 v4 v6 (ix2 i k) = v3 (ix2 i k) + ∑ r : Fin 2048, v4 (ix2 r i) * v6 (ix2 r k) := by
  pointwise [k0_pay2, dot_S2048x1408_S2048x1024_S1408x1024_0_0_1_1_n_n]

/-- The same with the three operands' elements named. -/
theorem pay2_of (v3 : Vec Ideal S1408x1024 .f32) (v4 : Vec Ideal S2048x1408 .bf16) (v6 : Vec Ideal S2048x1024 .f32) (i : Fin 1408) (k : Fin 1024)
    (z : EReal) (f g : Fin 2048 → EReal) (h3 : v3 (ix2 i k) = z) (h4 : ∀ r, v4 (ix2 r i) = f r) (h6 : ∀ r, v6 (ix2 r k) = g r) :
    k0_pay2 (F := Ideal) v3 v4 v6 (ix2 i k) = z + ∑ r : Fin 2048, f r * g r := by
  rw [pay2, h3]
  exact congrArg (fun a : EReal => z + a) (Finset.sum_congr rfl fun r _ => by rw [h4, h6])

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)

/-- The number of grid points. -/
theorem N4 : cfg0.N = 4 := by decide +kernel

/-- Token `r` of point `t`'s block of tokens. -/
def tok (t : Fin cfg0.N) (r : Fin 2048) : Fin 4096 := ⟨t.val % 2 * 2048 + r.val, by omega⟩

/-- Row `i` of point `t`'s block of the output. -/
def col (t : Fin cfg0.N) (i : Fin 1408) : Fin 2816 := ⟨t.val / 2 * 1408 + i.val, by have := t.isLt.trans_eq N4; omega⟩

/-- The block index of window 0. -/
theorem i0 : ∀ t : Fin cfg0.N, win0_0.index t = ![t.val % 2, t.val / 2] := (by decide +kernel : ∀ t : Fin grid0.N, _)
/-- The block index of window 1. -/
theorem i1 : ∀ t : Fin cfg0.N, win0_1.index t = ![t.val % 2, 0] := (by decide +kernel : ∀ t : Fin grid0.N, _)
/-- The block index of window 2. -/
theorem i2 : ∀ t : Fin cfg0.N, win0_2.index t = ![t.val / 2, 0] := (by decide +kernel : ∀ t : Fin grid0.N, _)

/-- Where window 0's block lies in its array. -/
theorem emb0 (t : Fin cfg0.N) (r : Fin 2048) (i : Fin 1408) :
    (win0_0.blk t).view.emb (ix2 r i) = ix2 (tok t r) (col t i) := by
  blk_ext [i0 t, tok, col]

/-- Where window 1's block lies in its array. -/
theorem emb1 (t : Fin cfg0.N) (r : Fin 2048) (k : Fin 1024) :
    (win0_1.blk t).view.emb (ix2 r k) = ix2 (tok t r) k := by
  blk_ext [i1 t, tok]

/-- Where window 2's block lies in its array. -/
theorem emb2 (t : Fin cfg0.N) (i : Fin 1408) (k : Fin 1024) :
    (win0_2.blk t).view.emb (ix2 i k) = ix2 (col t i) k := by
  blk_ext [i2 t, col]

/-- Window 0's block at an element. -/
theorem blk0 (t : Fin cfg0.N) (r : Fin 2048) (i : Fin 1408) :
    iblk m c 0 t (ix2 r i) = la (a0 m c) (a1 m c) (rb (tok t r)) (rs (tok t r)) (col t i) := by
  blk_simp [iblk]
  rw [emb0]
  show StableHlo.after _ _ _ _ = _
  after_reads_simp
  try simp only [StableHlo.TRef.toBuf, StableHlo.TRef.ofBuf, cast_eq]
  pointwise [rb, rs, la, sg, zero_sub]

/-- Window 1's block at an element. -/
theorem blk1 (t : Fin cfg0.N) (r : Fin 2048) (k : Fin 1024) :
    iblk m c 1 t (ix2 r k) = rd (a2 m c) (rb (tok t r)) (rs (tok t r)) k := by
  blk_simp [iblk]
  rw [emb1]
  show StableHlo.after _ _ _ _ = _
  after_reads_simp
  try simp only [StableHlo.TRef.toBuf, StableHlo.TRef.ofBuf, cast_eq]
  pointwise [rb, rs, rd]

/-- One token's contribution to an element of the gradient. -/
abbrev term (p : Fin 4096) (n : Fin 2816) (k : Fin 1024) : EReal :=
  la (a0 m c) (a1 m c) (rb p) (rs p) n * rd (a2 m c) (rb p) (rs p) k

/-- After the first block of tokens the accumulator holds that block's product. -/
theorem acc_first (t : Fin cfg0.N) (h0 : t.val % 2 = 0) (h1 : ¬ t.val % 2 = 1) (i : Fin 1408) (k : Fin 1024) :
    (outsAt0 m c t.val t.isLt).2 (ix2 i k) = ∑ r : Fin 2048, term m c (tok t r) (col t i) k := by
  rw [outsAt0_A m c t h0 h1]
  frame_out
  exact (pay2_of _ _ _ i k _ _ _ (pay1 i k) (fun r => blk0 m c t r i) (fun r => blk1 m c t r k)).trans (zero_add _)

/-- After the second block of tokens the output's block holds both blocks' products. -/
theorem out_last (t : Fin cfg0.N) (h0 : ¬ t.val % 2 = 0) (h1 : t.val % 2 = 1) (i : Fin 1408) (k : Fin 1024) :
    (outsAt0 m c t.val t.isLt).1 (ix2 i k) = ∑ p : Fin 4096, term m c p (col t i) k := by
  have hN := t.isLt.trans_eq N4
  have hp : t.val - 1 < cfg0.N := by have := N4; omega
  rw [outsAt0_B m c t h0 h1]
  frame_out
  rw [pay3]
  simp only [read_unread_whole]
  refine (pay2_of _ _ _ i k _ _ _
    (acc_first m c ⟨t.val - 1, hp⟩ (by show (t.val - 1) % 2 = 0; omega) (by show ¬ (t.val - 1) % 2 = 1; omega) i k)
    (fun r => blk0 m c t r i) (fun r => blk1 m c t r k)).trans ?_
  have hc : col ⟨t.val - 1, hp⟩ i = col t i := Fin.ext (by show (t.val - 1) / 2 * 1408 + i.val = t.val / 2 * 1408 + i.val; omega)
  rw [hc]
  have hs : ∑ p : Fin 4096, term m c p (col t i) k = ∑ s : Fin 2, ∑ r : Fin 2048, term m c ⟨s.val * 2048 + r.val, by omega⟩ (col t i) k :=
    (Fin.sum_mul_add_congr (S := 2) (n := 2048) fun s r hl => rfl).symm
  rw [hs, Fin.sum_univ_two]
  refine congrArg₂ (fun a b : EReal => a + b) (Finset.sum_congr rfl fun r _ => ?_) (Finset.sum_congr rfl fun r _ => ?_)
  · have e : tok ⟨t.val - 1, hp⟩ r = ⟨(0 : Fin 2).val * 2048 + r.val, by omega⟩ := Fin.ext (by
      show (t.val - 1) % 2 * 2048 + r.val = 0 * 2048 + r.val; omega)
    rw [e]
  · have e : tok t r = ⟨(1 : Fin 2).val * 2048 + r.val, by omega⟩ := Fin.ext (by
      show t.val % 2 * 2048 + r.val = 1 * 2048 + r.val; omega)
    rw [e]

/-- What the kernel's array holds after the run: the sum over every token. -/
theorem final : (dats m 0 c).arrAt 2 cfg0.N = fun j => ∑ p : Fin 4096, term m c p (j 0) (j 1) := by
  refine (dats m 0 c).arrAt_eq_of_covers 2 _ (by decide +kernel) fun t hf y => ?_
  have hf : t.val % 2 = 1 := by have h := flush0_2; exact (h t).mp hf
  blk_simp
  rw [after0_2]
  obtain ⟨i, k, rfl⟩ : ∃ (i : Fin 1408) (k : Fin 1024), y = ix2 i k := ⟨y 0, y 1, by funext a; match a with | ⟨0, _⟩ => rfl | ⟨1, _⟩ => rfl⟩
  rw [emb2]
  exact out_last m c t (by omega) hf i k

end Cert.DwDownIdeal.Point

namespace Cert.DwDownRefIdeal.Point

open Cert.DwDownRefIdeal Cert.DwDownRefIdeal.Gen Cert.DwDownRefIdeal.Read Idealize.ShloMosaic Idealize.ShloMosaic.TcCoe Idealize.SL.Sem
open Cert.MixSpec Cert.FfnSpec Cert.DwSpec

variable (x0 x1 : Vec Ideal S2x2048x2816 .f32) (x2 : Vec Ideal S2x2048x1024 .f32)

/-- The gated activations. -/
theorem v2 (b : Fin 2) (s : Fin 2048) (n : Fin 2816) : val_main_v2 (F := Ideal) x0 x1 (ix3 b s n) = la x0 x1 b s n := by
  unfold la sg
  rw [zero_sub]
  pointwise [val_main_v2, val_main_v1, val_main_call0_v5, val_main_call0_v4, val_main_call0_v3, val_main_call0_v2, val_main_call0_v1, val_main_call0_v0, val_main_call0_cst, val_main_call0_cst_0]

/-- The contraction over the batch and the sequence is a double sum. -/
theorem dot_two (u : FVec Ideal S2x2048x1024 .f32) (v : FVec Ideal S2x2048x2816 .f32) (n : Fin 1024) (k : Fin 2816) :
    Host.dotGeneral (F := Ideal) dot_S2x2048x1024_S2x2048x2816_S1024x2816_01_01_2_2_n_n none u v (ix2 n k) = ∑ b : Fin 2, ∑ s : Fin 2048, u (ix3 b s n) * v (ix3 b s k) := by
  simp only [Host.dotGeneral]
  rw [Ideal.dotGeneral_apply, ValueIdx.sum_contr2 dot_S2x2048x1024_S2x2048x2816_S1024x2816_01_01_2_2_n_n 2 2048 rfl rfl rfl]
  refine Finset.sum_congr rfl fun b _ => Finset.sum_congr rfl fun s _ => ?_
  have hb := ValueIdx.contrEquiv2_symm_val0 dot_S2x2048x1024_S2x2048x2816_S1024x2816_01_01_2_2_n_n 2 2048 rfl rfl rfl (b, s)
  have hs := ValueIdx.contrEquiv2_symm_val1 dot_S2x2048x1024_S2x2048x2816_S1024x2816_01_01_2_2_n_n 2 2048 rfl rfl rfl (b, s)
  refine congrArg₂ (fun p q : EReal => p * q) (congrArg u ?_) (congrArg v ?_)
  · funext a
    match a with
    | ⟨0, _⟩ => exact Fin.ext (Eq.trans rfl hb)
    | ⟨1, _⟩ => exact Fin.ext (Eq.trans rfl hs)
    | ⟨2, _⟩ => exact Fin.ext rfl
  · funext a
    match a with
    | ⟨0, _⟩ => exact Fin.ext (Eq.trans rfl hb)
    | ⟨1, _⟩ => exact Fin.ext (Eq.trans rfl hs)
    | ⟨2, _⟩ => exact Fin.ext rfl

/-- The reference's result at an element: the sum over every token. -/
theorem out (n : Fin 2816) (k : Fin 1024) : val_main_v6 (F := Ideal) x0 x1 x2 (ix2 n k)
    = ∑ p : Fin 4096, la x0 x1 (rb p) (rs p) n * rd x2 (rb p) (rs p) k := by
  have hs : ∑ p : Fin 4096, la x0 x1 (rb p) (rs p) n * rd x2 (rb p) (rs p) k
      = ∑ b : Fin 2, ∑ s : Fin 2048, la x0 x1 b s n * rd x2 b s k :=
    (Fin.sum_mul_add_congr (S := 2) (n := 2048) fun b s hl => by rw [rb_mk, rs_mk]).symm
  rw [hs]
  pointwise [val_main_v6, val_main_v5]
  exact (dot_two x2 (val_main_v2 (F := Ideal) x0 x1) k n).trans (Finset.sum_congr rfl fun b _ => Finset.sum_congr rfl fun s _ => by rw [v2]; exact mul_comm _ _)

/-- The reference's result as one function of the index. -/
theorem out_fn : val_main_v6 (F := Ideal) x0 x1 x2 = fun j => ∑ p : Fin 4096, la x0 x1 (rb p) (rs p) (j 0) * rd x2 (rb p) (rs p) (j 1) := by
  funext j
  have hj : j = ix2 (j 0) (j 1) := by funext a; match a with | ⟨0, _⟩ => rfl | ⟨1, _⟩ => rfl
  exact (congrArg _ hj).trans (out x0 x1 x2 (j 0) (j 1))

end Cert.DwDownRefIdeal.Point

namespace Cert.Proof

open Idealize.ShloMosaic Idealize.ShloMosaic.TcCoe Idealize.SL.Sem

/-- The kernel and its reference leave the same gradient of w_ffn_down. -/
theorem algebraic_dw_down : Cert.algebraic_DwDownIdeal_DwDownRefIdeal := by
  pair_intro
  · run_from Cert.DwDownIdeal.Value.run_blocks m g
  · run_from Cert.DwDownRefIdeal.Value.run m' g'
    exact (Cert.DwDownRefIdeal.Point.out_fn _ _ _).trans (Cert.DwDownIdeal.Point.final m c).symm

end Cert.Proof

end
-- ==== Proof.InF.Spec.lean ====
/- What the forward input projection and its norm are shown to compute: plain functions of the three arguments. -/
module

public import proofs.«01_k».proof.Proof.InProj.Spec

@[expose] public section

noncomputable section

namespace Cert.InFSpec

open Idealize.ShloMosaic Cert.MixSpec Cert.FfnSpec Cert.InSpec

/-- The normalised activation with its gain. -/
def hn (x : Sx.Idx → EReal) (g : Sg.Idx → EReal) (b : Fin 2) (s : Fin 2048) (k : Fin 1024) : EReal := xh x b s k * g (ix1 k)

/-- The projection of the normalised activations. -/
def hz (x : Sx.Idx → EReal) (g : Sg.Idx → EReal) (w : Sw4.Idx → EReal) (b : Fin 2) (s : Fin 2048) (n : Fin 4104) : EReal :=
  ∑ k : Fin 1024, hn x g b s k * w (ix2 k n)

/-- The projection's columns for the pooled branch. -/
def hu (x : Sx.Idx → EReal) (g : Sg.Idx → EReal) (w : Sw4.Idx → EReal) (b : Fin 2) (s : Fin 2048) (n : Fin 512) : EReal :=
  hz x g w b s ⟨n.val, by omega⟩

/-- The projection's columns for the queries, keys and values. -/
def hq (x : Sx.Idx → EReal) (g : Sg.Idx → EReal) (w : Sw4.Idx → EReal) (b : Fin 2) (s : Fin 2048) (n : Fin 1536) : EReal :=
  hz x g w b s ⟨512 + n.val, by omega⟩

/-- The projection's columns for the gates. -/
def hg (x : Sx.Idx → EReal) (g : Sg.Idx → EReal) (w : Sw4.Idx → EReal) (b : Fin 2) (s : Fin 2048) (n : Fin 2048) : EReal :=
  hz x g w b s ⟨2056 + n.val, by omega⟩

/-- The forget logits, widened by zeros. -/
def hf (x : Sx.Idx → EReal) (g : Sg.Idx → EReal) (w : Sw4.Idx → EReal) (b : Fin 2) (s : Fin 2048) (n : Fin 128) : EReal :=
  if h : n.val < 8 then hz x g w b s ⟨2048 + n.val, by omega⟩ else 0

end Cert.InFSpec

end
-- ==== Proof.InF.Pay.lean ====
/- The forward input projection kernel's payloads at an index. -/
module

public import proofs.«01_k».proof.Proof.InF.Spec
public import proofs.«01_k».proof.Proof.Gen.InFIdeal.Value

@[expose] public section

noncomputable section

namespace Cert.InFIdeal.Pay

open Cert.InFIdeal Cert.InFIdeal.Gen Idealize.ShloMosaic Idealize.ShloMosaic.TcCoe Idealize.SL.Sem
open Cert.MixSpec Cert.FfnSpec Cert.InSpec Cert.InFSpec

/-- The reciprocal root of a row's mean square. -/
abbrev rrB (x : Vec Ideal S512x1024 .f32) (i : Fin 512) : EReal :=
  Ideal.rsqrt (Ideal.div (∑ k : Fin 1024, (x (ix2 i k) : EReal) * (x (ix2 i k) : EReal)) cN + cE)

/-- The normalised row with its gain. -/
theorem pay2_apply (x : Vec Ideal S512x1024 .f32) (g : Vec Ideal S1x1024 .f32) (i : Fin 512) (k : Fin 1024) :
    k0_pay2 (F := Ideal) x g (ix2 i k) = x (ix2 i k) * rrB x i * g (ix2 0 k) := by
  pointwise [k0_pay2]

/-- The first columns of the first product. -/
theorem pay4_apply (x : Vec Ideal S512x1024 .f32) (g : Vec Ideal S1x1024 .f32) (w : Vec Ideal S1024x2048 .bf16) (i : Fin 512) (n : Fin 512) :
    k0_pay4 (F := Ideal) x g w (ix2 i n) = ∑ k : Fin 1024, k0_pay2 (F := Ideal) x g (ix2 i k) * w (ix2 k ⟨n.val, by omega⟩) := by
  pointwise [k0_pay4, k0_pay3, dot_S512x1024_S1024x2048_S512x2048_1_0_0_1_n_n]

/-- The other columns of the first product. -/
theorem pay5_apply (x : Vec Ideal S512x1024 .f32) (g : Vec Ideal S1x1024 .f32) (w : Vec Ideal S1024x2048 .bf16) (i : Fin 512) (n : Fin 1536) :
    k0_pay5 (F := Ideal) x g w (ix2 i n) = ∑ k : Fin 1024, k0_pay2 (F := Ideal) x g (ix2 i k) * w (ix2 k ⟨512 + n.val, by omega⟩) := by
  pointwise [k0_pay5, k0_pay3, dot_S512x1024_S1024x2048_S512x2048_1_0_0_1_n_n]

/-- The second product. -/
theorem pay6_apply (x : Vec Ideal S512x1024 .f32) (g : Vec Ideal S1x1024 .f32) (w : Vec Ideal S1024x128 .bf16) (i : Fin 512) (n : Fin 128) :
    k0_pay6 (F := Ideal) x g w (ix2 i n) = ∑ k : Fin 1024, k0_pay2 (F := Ideal) x g (ix2 i k) * w (ix2 k n) := by
  pointwise [k0_pay6, dot_S512x1024_S1024x128_S512x128_1_0_0_1_n_n]

/-- The third product. -/
theorem pay1_apply (h : FVec Ideal S512x1024 .bf16) (w : Vec Ideal S1024x2048 .bf16) (i : Fin 512) (n : Fin 2048) :
    k0_pay1 (F := Ideal) h (k0_pay7 w) (ix2 i n) = ∑ k : Fin 1024, h (ix2 i k) * w (ix2 k n) := by
  pointwise [k0_pay1, k0_pay7, dot_S512x1024_S1024x2048_S512x2048_1_0_0_1_n_n]

end Cert.InFIdeal.Pay

end
-- ==== Proof.InF.Blocks.lean ====
/- The forward input projection kernel's input blocks at an index: each is a read of the arguments. -/
module

public import proofs.«01_k».proof.Proof.InF.Pay
public import Idealize.ShloMosaic.Lib.StableHlo.RunRead
public import Idealize.ShloMosaic.Lib.KernelVsHost

@[expose] public section

noncomputable section

namespace Cert.InFIdeal.Point

open Cert.InFIdeal Cert.InFIdeal.Gen Cert.InFIdeal.Value Cert.InFIdeal.Pay Idealize.ShloMosaic Idealize.ShloMosaic.TcCoe Idealize.SL.Sem
open Idealize.ShloMosaic.Pipeline
open Cert.MixSpec Cert.FfnSpec Cert.InSpec Cert.InFSpec

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)

/-- The number of grid points. -/
theorem NN : cfg0.N = 8 := by decide +kernel

/-- Row `i` of block `t`. -/
def row (t : Fin cfg0.N) (i : Fin 512) : Fin 4096 := ⟨t.val * 512 + i.val, by have := t.isLt.trans_eq NN; omega⟩

/-- The block index of window 0. -/
theorem i0 : ∀ t : Fin cfg0.N, win0_0.index t = ![t.val, 0] := (by decide +kernel : ∀ t : Fin grid0.N, _)

/-- Where window 0's block lies in its array. -/
theorem emb0 (t : Fin cfg0.N) (i : Fin 512) (k : Fin 1024) :
    (win0_0.blk t).view.emb (ix2 i k) = ix2 (row t i) k := by
  blk_ext [i0 t, row]

/-- The block index of window 1. -/
theorem i1 : ∀ t : Fin cfg0.N, win0_1.index t = ![0, 0] := (by decide +kernel : ∀ t : Fin grid0.N, _)

/-- Where window 1's block lies in its array. -/
theorem emb1 (t : Fin cfg0.N) (i : Fin 1) (k : Fin 1024) :
    (win0_1.blk t).view.emb (ix2 i k) = ix2 i k := by
  blk_ext [i1 t]

/-- The block index of window 2. -/
theorem i2 : ∀ t : Fin cfg0.N, win0_2.index t = ![0, 0] := (by decide +kernel : ∀ t : Fin grid0.N, _)

/-- Where window 2's block lies in its array. -/
theorem emb2 (t : Fin cfg0.N) (i : Fin 1024) (k : Fin 2048) :
    (win0_2.blk t).view.emb (ix2 i k) = ix2 i k := by
  blk_ext [i2 t]

/-- The block index of window 3. -/
theorem i3 : ∀ t : Fin cfg0.N, win0_3.index t = ![0, 0] := (by decide +kernel : ∀ t : Fin grid0.N, _)

/-- Where window 3's block lies in its array. -/
theorem emb3 (t : Fin cfg0.N) (i : Fin 1024) (k : Fin 128) :
    (win0_3.blk t).view.emb (ix2 i k) = ix2 i k := by
  blk_ext [i3 t]

/-- The block index of window 4. -/
theorem i4 : ∀ t : Fin cfg0.N, win0_4.index t = ![0, 0] := (by decide +kernel : ∀ t : Fin grid0.N, _)

/-- Where window 4's block lies in its array. -/
theorem emb4 (t : Fin cfg0.N) (i : Fin 1024) (k : Fin 2048) :
    (win0_4.blk t).view.emb (ix2 i k) = ix2 i k := by
  blk_ext [i4 t]

/-- The block index of window 5. -/
theorem i5 : ∀ t : Fin cfg0.N, win0_5.index t = ![t.val, 0] := (by decide +kernel : ∀ t : Fin grid0.N, _)

/-- Where window 5's block lies in its array. -/
theorem emb5 (t : Fin cfg0.N) (i : Fin 512) (k : Fin 1024) :
    (win0_5.blk t).view.emb (ix2 i k) = ix2 (row t i) k := by
  blk_ext [i5 t, row]

/-- The block index of window 6. -/
theorem i6 : ∀ t : Fin cfg0.N, win0_6.index t = ![t.val, 0] := (by decide +kernel : ∀ t : Fin grid0.N, _)

/-- Where window 6's block lies in its array. -/
theorem emb6 (t : Fin cfg0.N) (i : Fin 512) (k : Fin 512) :
    (win0_6.blk t).view.emb (ix2 i k) = ix2 (row t i) k := by
  blk_ext [i6 t, row]

/-- The block index of window 7. -/
theorem i7 : ∀ t : Fin cfg0.N, win0_7.index t = ![t.val, 0] := (by decide +kernel : ∀ t : Fin grid0.N, _)

/-- Where window 7's block lies in its array. -/
theorem emb7 (t : Fin cfg0.N) (i : Fin 512) (k : Fin 1536) :
    (win0_7.blk t).view.emb (ix2 i k) = ix2 (row t i) k := by
  blk_ext [i7 t, row]

/-- The block index of window 8. -/
theorem i8 : ∀ t : Fin cfg0.N, win0_8.index t = ![t.val, 0] := (by decide +kernel : ∀ t : Fin grid0.N, _)

/-- Where window 8's block lies in its array. -/
theorem emb8 (t : Fin cfg0.N) (i : Fin 512) (k : Fin 128) :
    (win0_8.blk t).view.emb (ix2 i k) = ix2 (row t i) k := by
  blk_ext [i8 t, row]

/-- The block index of window 9. -/
theorem i9 : ∀ t : Fin cfg0.N, win0_9.index t = ![t.val, 0] := (by decide +kernel : ∀ t : Fin grid0.N, _)

/-- Where window 9's block lies in its array. -/
theorem emb9 (t : Fin cfg0.N) (i : Fin 512) (k : Fin 2048) :
    (win0_9.blk t).view.emb (ix2 i k) = ix2 (row t i) k := by
  blk_ext [i9 t, row]

/-- Window 0's block at an element. -/
theorem blk0 (t : Fin cfg0.N) (i : Fin 512) (k : Fin 1024) : iblk m c 0 t (ix2 i k) = a0 m c (ix3 (rb (row t i)) (rs (row t i)) k) := by
  blk_simp [iblk]
  rw [emb0]
  show StableHlo.after _ _ _ _ = _
  after_reads_simp
  try simp only [StableHlo.TRef.toBuf, StableHlo.TRef.ofBuf, cast_eq]
  pointwise [rb, rs]

/-- Window 1's block at an element. -/
theorem blk1 (t : Fin cfg0.N) (z : Fin 1) (k : Fin 1024) : iblk m c 1 t (ix2 z k) = a1 m c (ix1 k) := by
  blk_simp [iblk]
  rw [emb1]
  show StableHlo.after _ _ _ _ = _
  after_reads_simp
  try simp only [StableHlo.TRef.toBuf, StableHlo.TRef.ofBuf, cast_eq]
  pointwise

/-- Window 2's block at an element: the projection's first 2048 columns. -/
theorem blk2 (t : Fin cfg0.N) (k : Fin 1024) (x : Fin 2048) : iblk m c 2 t (ix2 k x) = a2 m c (ix2 k ⟨x.val, by omega⟩) := by
  blk_simp [iblk]
  rw [emb2]
  show StableHlo.after _ _ _ _ = _
  after_reads_simp
  try simp only [StableHlo.TRef.toBuf, StableHlo.TRef.ofBuf, cast_eq]
  pointwise

/-- Window 3's block at an element: the projection's eight columns for the forget logits, then zeros. -/
theorem blk3 (t : Fin cfg0.N) (k : Fin 1024) (x : Fin 128) :
    iblk m c 3 t (ix2 k x) = (if h : x.val < 8 then a2 m c (ix2 k ⟨2048 + x.val, by omega⟩) else 0 : EReal) := by
  blk_simp [iblk]
  rw [emb3]
  show StableHlo.after _ _ _ _ = _
  after_reads_simp
  try simp only [StableHlo.TRef.toBuf, StableHlo.TRef.ofBuf, cast_eq]
  pointwise
  by_cases h : x.val < 8
  · rw [dif_pos h, dif_pos h]
  · rw [dif_neg h, dif_neg h]
    exact sitofp_zero (φ := .f32)

/-- Window 4's block at an element: the projection's last 2048 columns. -/
theorem blk4 (t : Fin cfg0.N) (k : Fin 1024) (x : Fin 2048) : iblk m c 4 t (ix2 k x) = a2 m c (ix2 k ⟨2056 + x.val, by omega⟩) := by
  blk_simp [iblk]
  rw [emb4]
  show StableHlo.after _ _ _ _ = _
  after_reads_simp
  try simp only [StableHlo.TRef.toBuf, StableHlo.TRef.ofBuf, cast_eq]
  pointwise

end Cert.InFIdeal.Point

end
-- ==== Proof.InF.Outs.lean ====
/- What the forward input projection kernel's body leaves in each output block, and the arrays after the run. -/
module

public import proofs.«01_k».proof.Proof.InF.Blocks

@[expose] public section

noncomputable section

namespace Cert.InFIdeal.Point

open Cert.InFIdeal Cert.InFIdeal.Gen Cert.InFIdeal.Value Cert.InFIdeal.Pay Idealize.ShloMosaic Idealize.ShloMosaic.TcCoe Idealize.SL.Sem
open Idealize.ShloMosaic.Pipeline
open Cert.MixSpec Cert.FfnSpec Cert.InSpec Cert.InFSpec

variable (m : (ℓ : Loc nD τ sig) → Buf (Elt Ideal) ℓ) (c : Dev nD)

/-- A row's reciprocal root. -/
theorem rrB_blk (t : Fin cfg0.N) (i : Fin 512) : rrB (iblk m c 0 t) i = rr (a0 m c) (rb (row t i)) (rs (row t i)) := by
  unfold rrB rr ms
  simp only [blk0]

/-- The normalised row with its gain. -/
theorem hn_blk (t : Fin cfg0.N) (i : Fin 512) (k : Fin 1024) :
    k0_pay2 (F := Ideal) (iblk m c 0 t) (iblk m c 1 t) (ix2 i k) = hn (a0 m c) (a1 m c) (rb (row t i)) (rs (row t i)) k := by
  rw [pay2_apply, rrB_blk, blk0, blk1]
  rfl

/-- The normalised activations after a point. -/
theorem out5 (t : Fin cfg0.N) (i : Fin 512) (n : Fin 1024) :
    (outsAt0 m c t).1 (ix2 i n) = hn (a0 m c) (a1 m c) (rb (row t i)) (rs (row t i)) n := by
  unfold outsAt0
  frame_out
  exact hn_blk m c t i n

/-- The pooled branch's input after a point. -/
theorem out6 (t : Fin cfg0.N) (i : Fin 512) (n : Fin 512) :
    (outsAt0 m c t).2.1 (ix2 i n) = hu (a0 m c) (a1 m c) (a2 m c) (rb (row t i)) (rs (row t i)) n := by
  unfold outsAt0
  frame_out
  rw [pay4_apply]
  simp only [hn_blk, blk2]
  rfl

/-- The queries, keys and values after a point. -/
theorem out7 (t : Fin cfg0.N) (i : Fin 512) (n : Fin 1536) :
    (outsAt0 m c t).2.2.1 (ix2 i n) = hq (a0 m c) (a1 m c) (a2 m c) (rb (row t i)) (rs (row t i)) n := by
  unfold outsAt0
  frame_out
  rw [pay5_apply]
  simp only [hn_blk, blk2]
  rfl

/-- The forget logits after a point. -/
theorem out8 (t : Fin cfg0.N) (i : Fin 512) (n : Fin 128) :
    (outsAt0 m c t).2.2.2.1 (ix2 i n) = hf (a0 m c) (a1 m c) (a2 m c) (rb (row t i)) (rs (row t i)) n := by
  unfold outsAt0
  frame_out
  rw [pay6_apply]
  simp only [hn_blk, blk3]
  unfold hf
  by_cases h : n.val < 8
  · simp only [dif_pos h]
    rfl
  · simp only [dif_neg h, mul_zero, Finset.sum_const_zero]

/-- The gates after a point. -/
theorem out9 (t : Fin cfg0.N) (i : Fin 512) (n : Fin 2048) :
    (outsAt0 m c t).2.2.2.2 (ix2 i n) = hg (a0 m c) (a1 m c) (a2 m c) (rb (row t i)) (rs (row t i)) n := by
  unfold outsAt0
  frame_out
  rw [pay1_apply]
  simp only [hn_blk, blk4]
  rfl

/-- What window 5's array holds after the run. -/
theorem final5 : (dats m 0 c).arrAt 5 cfg0.N = fun j => hn (a0 m c) (a1 m c) (rb (j 0)) (rs (j 0)) (j 1) := by
  refine (dats m 0 c).arrAt_eq_of_covers 5 _ (by decide +kernel) fun t hf y => ?_
  blk_simp
  rw [after0_5]
  obtain ⟨i, k, rfl⟩ : ∃ (i : Fin 512) (k : Fin 1024), y = ix2 i k := ⟨y 0, y 1, by funext a; match a with | ⟨0, _⟩ => rfl | ⟨1, _⟩ => rfl⟩
  rw [emb5]
  exact out5 m c t i k

/-- What window 6's array holds after the run. -/
theorem final6 : (dats m 0 c).arrAt 6 cfg0.N = fun j => hu (a0 m c) (a1 m c) (a2 m c) (rb (j 0)) (rs (j 0)) (j 1) := by
  refine (dats m 0 c).arrAt_eq_of_covers 6 _ (by decide +kernel) fun t hf y => ?_
  blk_simp
  rw [after0_6]
  obtain ⟨i, k, rfl⟩ : ∃ (i : Fin 512) (k : Fin 512), y = ix2 i k := ⟨y 0, y 1, by funext a; match a with | ⟨0, _⟩ => rfl | ⟨1, _⟩ => rfl⟩
  rw [emb6]
  exact out6 m c t i k

/-- What window 7's array holds after the run. -/
theorem final7 : (dats m 0 c).arrAt 7 cfg0.N = fun j => hq (a0 m c) (a1 m c) (a2 m c) (rb (j 0)) (rs (j 0)) (j 1) := by
  refine (dats m 0 c).arrAt_eq_of_covers 7 _ (by decide +kernel) fun t hf y => ?_
  blk_simp
  rw [after0_7]
  obtain ⟨i, k, rfl⟩ : ∃ (i : Fin 512) (k : Fin 1536), y = ix2 i k := ⟨y 0, y 1, by funext a; match a with | ⟨0, _⟩ => rfl | ⟨1, _⟩ => rfl⟩
  rw [emb7]
  exact out7 m c t i k

/-- What window 8's array holds after the run. -/
theorem final8 : (dats m 0 c).arrAt 8 cfg0.N = fun j => hf (a0 m c) (a1 m c) (a2 m c) (rb (j 0)) (rs (j 0)) (j 1) := by
  refine (dats m 0 c).arrAt_eq_of_covers 8 _ (by decide +kernel) fun t hf y => ?_
  blk_simp
  rw [after0_8]
  obtain ⟨i, k, rfl⟩ : ∃ (i : Fin 512) (k : Fin 128), y = ix2 i k := ⟨y 0, y 1, by funext a; match a with | ⟨0, _⟩ => rfl | ⟨1, _⟩ => rfl⟩
  rw [emb8]
  exact out8 m c t i k

/-- What window 9's array holds after the run. -/
theorem final9 : (dats m 0 c).arrAt 9 cfg0.N = fun j => hg (a0 m c) (a1 m c) (a2 m c) (rb (j 0)) (rs (j 0)) (j 1) := by
  refine (dats m 0 c).arrAt_eq_of_covers 9 _ (by decide +kernel) fun t hf y => ?_
  blk_simp
  rw [after0_9]
  obtain ⟨i, k, rfl⟩ : ∃ (i : Fin 512) (k : Fin 2048), y = ix2 i k := ⟨y 0, y 1, by funext a; match a with | ⟨0, _⟩ => rfl | ⟨1, _⟩ => rfl⟩
  rw [emb9]
  exact out9 m c t i k

end Cert.InFIdeal.Point

end
-- ==== Proof.InF.Ref.lean ====
/- The forward input projection's reference, read at an index. -/
module

public import proofs.«01_k».proof.Proof.InF.Spec
public import proofs.«01_k».proof.Proof.Gen.InFRefIdeal.Read
public import Idealize.ShloMosaic.Lib.KernelVsHost

@[expose] public section

noncomputable section

namespace Cert.InFRefIdeal.Point

open Cert.InFRefIdeal Cert.InFRefIdeal.Gen Cert.InFRefIdeal.Read Idealize.ShloMosaic Idealize.ShloMosaic.TcCoe Idealize.SL.Sem
open Cert.MixSpec Cert.FfnSpec Cert.InSpec Cert.InFSpec

variable (x0 : Vec Ideal S2x2048x1024 .f32) (x1 : Vec Ideal S1024 .f32) (x2 : Vec Ideal S1024x4104 .f32) (b : Fin 2) (s : Fin 2048)

/-- The normalised activations with their gain. -/
theorem v12 (k : Fin 1024) : val_main_v12 (F := Ideal) x0 x1 (ix3 b s k) = hn x0 x1 b s k := by
  pointwise [hn, xh, rr, ms, val_main_v0, val_main_cst, val_main_v1, val_main_v2, val_main_cst_0, val_main_v3, val_main_v4, val_main_cst_1, val_main_v5, val_main_v6, val_main_v7, val_main_v8, val_main_v9, val_main_v10, val_main_v11, val_main_v12]

/-- The same, written a second time in the reference. -/
theorem v26 (k : Fin 1024) : val_main_v26 (F := Ideal) x0 x1 (ix3 b s k) = hn x0 x1 b s k := by
  pointwise [hn, xh, rr, ms, val_main_v14, val_main_cst_2, val_main_v15, val_main_v16, val_main_cst_3, val_main_v17, val_main_v18, val_main_cst_4, val_main_v19, val_main_v20, val_main_v21, val_main_v22, val_main_v23, val_main_v24, val_main_v25, val_main_v26]

/-- The projection. -/
theorem v27 (n : Fin 4104) : val_main_v27 (F := Ideal) x0 x1 x2 (ix3 b s n) = hz x0 x1 x2 b s n := by
  unfold hz
  simp only [← v26]
  pointwise [val_main_v27, dot_S2x2048x1024_S1024x4104_S2x2048x4104_2_0_01_1_n_n]

/-- The normalised activations, as the first result. -/
theorem v45 (r : Fin 4096) (k : Fin 1024) : val_main_v45 (F := Ideal) x0 x1 (ix2 r k) = hn x0 x1 (rb r) (rs r) k := by
  rw [← v12]
  pointwise [val_main_v45, val_main_v13, rb, rs]

/-- The pooled branch's input, as the second result. -/
theorem v36 (r : Fin 4096) (n : Fin 512) : val_main_v36 (F := Ideal) x0 x1 x2 (ix2 r n) = hu x0 x1 x2 (rb r) (rs r) n := by
  unfold hu
  rw [← v27]
  pointwise [val_main_v36, val_main_v28, rb, rs]

/-- The queries, keys and values, as the third result. -/
theorem v46 (r : Fin 4096) (n : Fin 1536) : val_main_v46 (F := Ideal) x0 x1 x2 (ix2 r n) = hq x0 x1 x2 (rb r) (rs r) n := by
  unfold hq
  rw [← v27]
  pointwise [val_main_v46, val_main_v43, val_main_v37, val_main_v38, val_main_v39, val_main_v29, val_main_v30, val_main_v31, rb, rs]
  split_ifs <;> exact congrArg _ (congrArg _ (Fin.ext (by first | rfl | omega | (dsimp only; omega))))

/-- The forget logits, as the fourth result. -/
theorem v47 (r : Fin 4096) (n : Fin 128) : val_main_v47 (F := Ideal) x0 x1 x2 (ix2 r n) = hf x0 x1 x2 (rb r) (rs r) n := by
  unfold hf
  simp only [← v27]
  pointwise [val_main_v47, val_main_v40, val_main_v32, val_main_call0_v0, val_main_c, rb, rs]
  by_cases h : n.val < 8
  · rw [dif_pos h, dif_pos h]
  · rw [dif_neg h, dif_neg h]
    exact sitofp_zero (φ := .f32)

/-- The gates, as the fifth result. -/
theorem v48 (r : Fin 4096) (n : Fin 2048) : val_main_v48 (F := Ideal) x0 x1 x2 (ix2 r n) = hg x0 x1 x2 (rb r) (rs r) n := by
  unfold hg
  rw [← v27]
  pointwise [val_main_v48, val_main_v44, val_main_v41, val_main_v42, val_main_v33, val_main_v34, rb, rs]
  split_ifs <;> exact congrArg _ (congrArg _ (Fin.ext (by first | rfl | omega | (dsimp only; omega))))

end Cert.InFRefIdeal.Point

end
-- ==== Proof.InF.Final.lean ====
/- The forward input projection's kernel and reference have equal results: the value claim. -/
module

public import proofs.«01_k».proof.Proof.InF.Outs
public import proofs.«01_k».proof.Proof.InF.Ref
public import proofs.«01_k».proof.Proof.Gen.InFRefIdeal.Run
public import proofs.«01_k».proof.Defs
public import Idealize.ShloMosaic.Lib.Claim

@[expose] public section

noncomputable section

namespace Cert.InFRefIdeal.Point

open Cert.InFRefIdeal Cert.InFRefIdeal.Gen Cert.InFRefIdeal.Read Idealize.ShloMosaic Idealize.ShloMosaic.TcCoe Idealize.SL.Sem
open Cert.MixSpec Cert.FfnSpec Cert.InSpec Cert.InFSpec

variable (x0 : Vec Ideal S2x2048x1024 .f32) (x1 : Vec Ideal S1024 .f32) (x2 : Vec Ideal S1024x4104 .f32)

/-- Result `v45` as one function of the index. -/
theorem v45_fn : val_main_v45 (F := Ideal) x0 x1 = fun j => hn x0 x1 (rb (j 0)) (rs (j 0)) (j 1) := by
  funext j
  obtain ⟨r, k, rfl⟩ : ∃ (r : Fin 4096) (k : Fin 1024), j = ix2 r k := ⟨j 0, j 1, by funext a; match a with | ⟨0, _⟩ => rfl | ⟨1, _⟩ => rfl⟩
  exact v45 x0 x1 r k

/-- Result `v36` as one function of the index. -/
theorem v36_fn : val_main_v36 (F := Ideal) x0 x1 x2 = fun j => hu x0 x1 x2 (rb (j 0)) (rs (j 0)) (j 1) := by
  funext j
  obtain ⟨r, k, rfl⟩ : ∃ (r : Fin 4096) (k : Fin 512), j = ix2 r k := ⟨j 0, j 1, by funext a; match a with | ⟨0, _⟩ => rfl | ⟨1, _⟩ => rfl⟩
  exact v36 x0 x1 x2 r k

/-- Result `v46` as one function of the index. -/
theorem v46_fn : val_main_v46 (F := Ideal) x0 x1 x2 = fun j => hq x0 x1 x2 (rb (j 0)) (rs (j 0)) (j 1) := by
  funext j
  obtain ⟨r, k, rfl⟩ : ∃ (r : Fin 4096) (k : Fin 1536), j = ix2 r k := ⟨j 0, j 1, by funext a; match a with | ⟨0, _⟩ => rfl | ⟨1, _⟩ => rfl⟩
  exact v46 x0 x1 x2 r k

/-- Result `v47` as one function of the index. -/
theorem v47_fn : val_main_v47 (F := Ideal) x0 x1 x2 = fun j => hf x0 x1 x2 (rb (j 0)) (rs (j 0)) (j 1) := by
  funext j
  obtain ⟨r, k, rfl⟩ : ∃ (r : Fin 4096) (k : Fin 128), j = ix2 r k := ⟨j 0, j 1, by funext a; match a with | ⟨0, _⟩ => rfl | ⟨1, _⟩ => rfl⟩
  exact v47 x0 x1 x2 r k

/-- Result `v48` as one function of the index. -/
theorem v48_fn : val_main_v48 (F := Ideal) x0 x1 x2 = fun j => hg x0 x1 x2 (rb (j 0)) (rs (j 0)) (j 1) := by
  funext j
  obtain ⟨r, k, rfl⟩ : ∃ (r : Fin 4096) (k : Fin 2048), j = ix2 r k := ⟨j 0, j 1, by funext a; match a with | ⟨0, _⟩ => rfl | ⟨1, _⟩ => rfl⟩
  exact v48 x0 x1 x2 r k

end Cert.InFRefIdeal.Point

namespace Cert.Proof

open Idealize.ShloMosaic Idealize.ShloMosaic.TcCoe Idealize.SL.Sem
open Cert.InFRefIdeal.Point

/-- The forward input projection's kernel and its reference leave the same five arrays. -/
theorem algebraic_inf : Cert.algebraic_InFIdeal_InFRefIdeal := by
  pair_intro
  · run_from Cert.InFIdeal.Value.run_blocks m g
  · run_from Cert.InFRefIdeal.Value.run m' g'
    · exact (v45_fn _ _).trans (Cert.InFIdeal.Point.final5 m c).symm
    · exact (v36_fn _ _ _).trans (Cert.InFIdeal.Point.final6 m c).symm
    · obtain ⟨h0, h1, h2⟩ := hagree c
      refine (v46_fn _ _ _).trans ?_
      rw [h2]
      exact (Cert.InFIdeal.Point.final7 m c).symm
    · exact (v47_fn _ _ _).trans (Cert.InFIdeal.Point.final8 m c).symm
    · obtain ⟨h0, h1, h2⟩ := hagree c
      refine (v48_fn _ _ _).trans ?_
      rw [h2]
      exact (Cert.InFIdeal.Point.final9 m c).symm

end Cert.Proof

end
-- ==== Proof.MixOut.Spec.lean ====
/- What the forward gated merge is shown to compute: plain functions of the nine arguments. -/
module

public import proofs.«01_k».proof.Proof.Mix.Spec

@[expose] public section

noncomputable section

namespace Cert.MixOutSpec

open Idealize.ShloMosaic Cert.MixSpec

/-- The two branches' projections through their gates, added. -/
def mg (gp ga : Sx.Idx → EReal) (p : Sp.Idx → EReal) (ps : Ss.Idx → EReal) (a : Sp.Idx → EReal) (wp wa : Sw.Idx → EReal)
    (b : Fin 2) (s : Fin 2048) (n : Fin 1024) : EReal :=
  sg (gp (ix3 b s n)) * py p ps wp b s n + sg (ga (ix3 b s n)) * ay a wa b s n

/-- The residual with the merged activations' projection. -/
def xo (gp ga : Sx.Idx → EReal) (p : Sp.Idx → EReal) (ps : Ss.Idx → EReal) (a : Sp.Idx → EReal) (wp wa : Sw.Idx → EReal)
    (wo : So.Idx → EReal) (x : Sx.Idx → EReal) (b : Fin 2) (s : Fin 2048) (n : Fin 1024) : EReal :=
  x (ix3 b s n) + ∑ k : Fin 1024, mg gp ga p ps a wp wa b s k * wo (ix2 k n)

end Cert.MixOutSpec

end
-- ==== Proof.MixOut.Pay.lean ====
/- The forward gated merge kernel's payloads at an index. -/
module

public import proofs.«01_k».proof.Proof.MixOut.Spec
public import proofs.«01_k».proof.Proof.Gen.MixOutIdeal.Value

@[expose] public section

noncomputable section

namespace Cert.MixOutIdeal.Pay

open Cert.MixOutIdeal Cert.MixOutIdeal.Gen Idealize.ShloMosaic Idealize.ShloMosaic.TcCoe Idealize.SL.Sem
open Cert.MixSpec Cert.MixOutSpec

/-- The attention branch's projection. -/
theorem pay3_apply (d : Vec Ideal S512x512 .bf16) (W : S8x512x128.Idx → EReal)
    (a0 a1 a2 a3 a4 a5 a6 a7 : Vec Ideal S1x512x128 .bf16)
    (h0 : ∀ i j, a0 (ix3 0 i j) = W (ix3 0 i j)) (h1 : ∀ i j, a1 (ix3 0 i j) = W (ix3 1 i j))
    (h2 : ∀ i j, a2 (ix3 0 i j) = W (ix3 2 i j)) (h3 : ∀ i j, a3 (ix3 0 i j) = W (ix3 3 i j))
    (h4 : ∀ i j, a4 (ix3 0 i j) = W (ix3 4 i j)) (h5 : ∀ i j, a5 (ix3 0 i j) = W (ix3 5 i j))
    (h6 : ∀ i j, a6 (ix3 0 i j) = W (ix3 6 i j)) (h7 : ∀ i j, a7 (ix3 0 i j) = W (ix3 7 i j))
    (r : Fin 512) (n : Fin 1024) :
    k0_pay3 (F := Ideal) d a0 a1 a2 a3 a4 a5 a6 a7 (ix2 r n)
      = ∑ k : Fin 512, d (ix2 r k) * W (ix3 ⟨n.val / 128, by omega⟩ k ⟨n.val % 128, by omega⟩) := by
  pointwise [k0_pay3, dot_S512x512_S512x1024_S512x1024_1_0_0_1_n_n]
  refine Finset.sum_congr rfl fun k _ => ?_
  congr 1
  simp only [h0, h1, h2, h3, h4, h5, h6, h7]
  split_ifs
  all_goals (congr 1; blk_ext [])

/-- The pooled branch's projection. -/
theorem pay6_apply (d : Vec Ideal S512x512 .bf16) (W : S8x512x128.Idx → EReal)
    (a0 a1 a2 a3 a4 a5 a6 a7 : Vec Ideal S1x512x128 .bf16)
    (h0 : ∀ i j, a0 (ix3 0 i j) = W (ix3 0 i j)) (h1 : ∀ i j, a1 (ix3 0 i j) = W (ix3 1 i j))
    (h2 : ∀ i j, a2 (ix3 0 i j) = W (ix3 2 i j)) (h3 : ∀ i j, a3 (ix3 0 i j) = W (ix3 3 i j))
    (h4 : ∀ i j, a4 (ix3 0 i j) = W (ix3 4 i j)) (h5 : ∀ i j, a5 (ix3 0 i j) = W (ix3 5 i j))
    (h6 : ∀ i j, a6 (ix3 0 i j) = W (ix3 6 i j)) (h7 : ∀ i j, a7 (ix3 0 i j) = W (ix3 7 i j))
    (r : Fin 512) (n : Fin 1024) :
    k0_pay6 (F := Ideal) (k0_pay4 d) (k0_pay5 a0) a1 a2 a3 a4 a5 a6 a7 (ix2 r n)
      = ∑ k : Fin 512, d (ix2 r k) * W (ix3 ⟨n.val / 128, by omega⟩ k ⟨n.val % 128, by omega⟩) := by
  pointwise [k0_pay6, k0_pay4, k0_pay5, dot_S512x512_S512x1024_S512x1024_1_0_0_1_n_n]
  refine Finset.sum_congr rfl fun k _ => ?_
  congr 1
  simp only [h0, h1, h2, h3, h4, h5, h6, h7]
  split_ifs
  all_goals (congr 1; blk_ext [])

/-- A gate's logistic. -/
theorem pay9_apply (g : Vec Ideal S512x1024 .bf16) (y : S512x1024.Idx) : k0_pay9 (F := Ideal) g y = sg (g y) := by
  pointwise [k0_pay9, sg]

/-- The merged activations. -/
theorem pay1_apply (u v z : FVec Ideal S512x1024 .f32) (g : Vec Ideal S512x1024 .bf16) (y : S512x1024.Idx) :
    k0_pay1 (F := Ideal) u v z g y = z y * v y + sg (g y) * u y := by
  pointwise [k0_pay1, sg]

/-- The residual with the merged activations' projection. -/
theorem pay2_apply (u v z : FVec Ideal S512x1024 .f32) (g : Vec Ideal S512x1024 .bf16) (x : Vec Ideal S512x1024 .f32)
    (w : Vec Ideal S1024x1024 .bf16) (i : Fin 512) (n : Fin 1024) :
    k0_pay2 (F := Ideal) u v z g x w (ix2 i n) = x (ix2 i n) + ∑ k : Fin 1024, k0_pay1 (F := Ideal) u v z g (ix2 i k) * w (ix2 k n) := by
  pointwise [k0_pay2, dot_S512x1024_S1024x1024_S512x1024_1_0_0_1_n_n]

/-- The attention branch's projection, narrowed. -/
theorem pay7_apply (u : FVec Ideal S512x1024 .f32) (y : S512x1024.Idx) : k0_pay7 (F := Ideal) u y = u y := by
  pointwise [k0_pay7]

end Cert.MixOutIdeal.Pay

end
-- ==== Proof.MixOut.Blocks.lean ====
/- The forward gated merge kernel's input blocks at an index: each is a read of the arguments. -/
module

public import proofs.«01_k».proof.Proof.MixOut.Pay
public import Idealize.ShloMosaic.Lib.StableHlo.RunRead

@[expose] public section

noncomputable section

namespace Cert.MixOutIdeal.Point

open Cert.MixOutIdeal Cert.MixOutIdeal.Gen Cert.MixOutIdeal.Value Cert.MixOutIdeal.Pay Idealize.ShloMosaic Idealize.ShloMosaic.TcCoe Idealize.SL.Sem
open Idealize.ShloMosaic.Pipeline
open Cert.MixSpec Cert.MixOutSpec

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)

/-- The number of grid points. -/
theorem NN : cfg0.N = 8 := by decide +kernel

/-- Row `i` of block `t`. -/
def row (t : Fin cfg0.N) (i : Fin 512) : Fin 4096 := ⟨t.val * 512 + i.val, by have := t.isLt.trans_eq NN; omega⟩

/-- The block index of window 0. -/
theorem i0 : ∀ t : Fin cfg0.N, win0_0.index t = ![t.val, 0] := (by decide +kernel : ∀ t : Fin grid0.N, _)

/-- Where window 0's block lies in its array. -/
theorem emb0 (t : Fin cfg0.N) (i : Fin 512) (k : Fin 512) :
    (win0_0.blk t).view.emb (ix2 i k) = ix2 (row t i) k := by
  blk_ext [i0 t, row]

/-- The block index of window 1. -/
theorem i1 : ∀ t : Fin cfg0.N, win0_1.index t = ![t.val, 0] := (by decide +kernel : ∀ t : Fin grid0.N, _)

/-- Where window 1's block lies in its array. -/
theorem emb1 (t : Fin cfg0.N) (i : Fin 512) (k : Fin 512) :
    (win0_1.blk t).view.emb (ix2 i k) = ix2 (row t i) k := by
  blk_ext [i1 t, row]

/-- The block index of window 2. -/
theorem i2 : ∀ t : Fin cfg0.N, win0_2.index t = ![t.val, 0] := (by decide +kernel : ∀ t : Fin grid0.N, _)

/-- Where window 2's block lies in its array. -/
theorem emb2 (t : Fin cfg0.N) (i : Fin 512) (k : Fin 2048) :
    (win0_2.blk t).view.emb (ix2 i k) = ix2 (row t i) k := by
  blk_ext [i2 t, row]

/-- The block index of window 3. -/
theorem i3 : ∀ t : Fin cfg0.N, win0_3.index t = ![t.val, 0] := (by decide +kernel : ∀ t : Fin grid0.N, _)

/-- Where window 3's block lies in its array. -/
theorem emb3 (t : Fin cfg0.N) (i : Fin 512) (k : Fin 1024) :
    (win0_3.blk t).view.emb (ix2 i k) = ix2 (row t i) k := by
  blk_ext [i3 t, row]

/-- The block index of window 6. -/
theorem i6 : ∀ t : Fin cfg0.N, win0_6.index t = ![0, 0] := (by decide +kernel : ∀ t : Fin grid0.N, _)

/-- Where window 6's block lies in its array. -/
theorem emb6 (t : Fin cfg0.N) (i : Fin 1024) (k : Fin 1024) :
    (win0_6.blk t).view.emb (ix2 i k) = ix2 i k := by
  blk_ext [i6 t]

/-- The block index of window 7. -/
theorem i7 : ∀ t : Fin cfg0.N, win0_7.index t = ![t.val, 0] := (by decide +kernel : ∀ t : Fin grid0.N, _)

/-- Where window 7's block lies in its array. -/
theorem emb7 (t : Fin cfg0.N) (i : Fin 512) (k : Fin 1024) :
    (win0_7.blk t).view.emb (ix2 i k) = ix2 (row t i) k := by
  blk_ext [i7 t, row]

/-- The block index of window 8. -/
theorem i8 : ∀ t : Fin cfg0.N, win0_8.index t = ![t.val, 0] := (by decide +kernel : ∀ t : Fin grid0.N, _)

/-- Where window 8's block lies in its array. -/
theorem emb8 (t : Fin cfg0.N) (i : Fin 512) (k : Fin 1024) :
    (win0_8.blk t).view.emb (ix2 i k) = ix2 (row t i) k := by
  blk_ext [i8 t, row]

/-- The block index of window 9. -/
theorem i9 : ∀ t : Fin cfg0.N, win0_9.index t = ![t.val, 0] := (by decide +kernel : ∀ t : Fin grid0.N, _)

/-- Where window 9's block lies in its array. -/
theorem emb9 (t : Fin cfg0.N) (i : Fin 512) (k : Fin 1024) :
    (win0_9.blk t).view.emb (ix2 i k) = ix2 (row t i) k := by
  blk_ext [i9 t, row]

/-- The block index of window 10. -/
theorem i10 : ∀ t : Fin cfg0.N, win0_10.index t = ![t.val, 0] := (by decide +kernel : ∀ t : Fin grid0.N, _)

/-- Where window 10's block lies in its array. -/
theorem emb10 (t : Fin cfg0.N) (i : Fin 512) (k : Fin 1024) :
    (win0_10.blk t).view.emb (ix2 i k) = ix2 (row t i) k := by
  blk_ext [i10 t, row]

/-- The block index of window 4. -/
theorem i4 : ∀ t : Fin cfg0.N, win0_4.index t = ![0, 0, 0] := (by decide +kernel : ∀ t : Fin grid0.N, _)

/-- Where window 4's block lies in its array. -/
theorem emb4 (t : Fin cfg0.N) (z : Fin 8) (i : Fin 512) (k : Fin 128) :
    (win0_4.blk t).view.emb (ix3 z i k) = ix3 z i k := by
  blk_ext [i4 t]

/-- The block index of window 5. -/
theorem i5 : ∀ t : Fin cfg0.N, win0_5.index t = ![0, 0, 0] := (by decide +kernel : ∀ t : Fin grid0.N, _)

/-- Where window 5's block lies in its array. -/
theorem emb5 (t : Fin cfg0.N) (z : Fin 8) (i : Fin 512) (k : Fin 128) :
    (win0_5.blk t).view.emb (ix3 z i k) = ix3 z i k := by
  blk_ext [i5 t]

/-- Window 0's block at an element. -/
theorem blk0 (t : Fin cfg0.N) (i : Fin 512) (k : Fin 512) : iblk m c 0 t (ix2 i k) = (a4 m c (ix3 (rb (row t i)) (rs (row t i)) k) : EReal) := by
  blk_simp [iblk]
  rw [emb0]
  show StableHlo.after _ _ _ _ = _
  after_reads_simp
  try simp only [StableHlo.TRef.toBuf, StableHlo.TRef.ofBuf, cast_eq]
  pointwise [rb, rs]

/-- Window 1's block at an element. -/
theorem blk1 (t : Fin cfg0.N) (i : Fin 512) (k : Fin 512) : iblk m c 1 t (ix2 i k) = HMul.hMul (α := EReal) (β := EReal) (γ := EReal) (a2 m c (ix3 (rb (row t i)) (rs (row t i)) k)) (a3 m c (ix1 k)) := by
  blk_simp [iblk]
  rw [emb1]
  show StableHlo.after _ _ _ _ = _
  after_reads_simp
  try simp only [StableHlo.TRef.toBuf, StableHlo.TRef.ofBuf, cast_eq]
  pointwise [rb, rs]

/-- Window 3's block at an element. -/
theorem blk3 (t : Fin cfg0.N) (i : Fin 512) (k : Fin 1024) : iblk m c 3 t (ix2 i k) = (a8 m c (ix3 (rb (row t i)) (rs (row t i)) k) : EReal) := by
  blk_simp [iblk]
  rw [emb3]
  show StableHlo.after _ _ _ _ = _
  after_reads_simp
  try simp only [StableHlo.TRef.toBuf, StableHlo.TRef.ofBuf, cast_eq]
  pointwise [rb, rs]

/-- Window 6's block at an element. -/
theorem blk6 (t : Fin cfg0.N) (i : Fin 1024) (k : Fin 1024) : iblk m c 6 t (ix2 i k) = (a7 m c (ix2 i k) : EReal) := by
  blk_simp [iblk]
  rw [emb6]
  show StableHlo.after _ _ _ _ = _
  after_reads_simp
  try simp only [StableHlo.TRef.toBuf, StableHlo.TRef.ofBuf, cast_eq]
  pointwise [rb, rs]

/-- Window 2's block at an element: the two gates side by side. -/
theorem blk2 (t : Fin cfg0.N) (i : Fin 512) (k : Fin 2048) :
    iblk m c 2 t (ix2 i k) = if h : k.val < 1024 then a0 m c (ix3 (rb (row t i)) (rs (row t i)) ⟨k.val, h⟩)
      else a1 m c (ix3 (rb (row t i)) (rs (row t i)) ⟨k.val - 1024, by omega⟩) := by
  blk_simp [iblk]
  rw [emb2]
  show StableHlo.after _ _ _ _ = _
  after_reads_simp
  try simp only [StableHlo.TRef.toBuf, StableHlo.TRef.ofBuf, cast_eq]
  pointwise [rb, rs]
  try after_reads_simp

/-- Window 4's block at an element: the columns shard by shard. -/
theorem blk4 (t : Fin cfg0.N) (z : Fin 8) (i : Fin 512) (k : Fin 128) :
    iblk m c 4 t (ix3 z i k) = a6 m c (ix2 i ⟨z.val * 128 + k.val, by omega⟩) := by
  blk_simp [iblk]
  rw [emb4]
  show StableHlo.after _ _ _ _ = _
  after_reads_simp
  try simp only [StableHlo.TRef.toBuf, StableHlo.TRef.ofBuf, cast_eq]
  pointwise

/-- Window 5's block at an element: the columns shard by shard. -/
theorem blk5 (t : Fin cfg0.N) (z : Fin 8) (i : Fin 512) (k : Fin 128) :
    iblk m c 5 t (ix3 z i k) = a5 m c (ix2 i ⟨z.val * 128 + k.val, by omega⟩) := by
  blk_simp [iblk]
  rw [emb5]
  show StableHlo.after _ _ _ _ = _
  after_reads_simp
  try simp only [StableHlo.TRef.toBuf, StableHlo.TRef.ofBuf, cast_eq]
  pointwise

end Cert.MixOutIdeal.Point

end
-- ==== Proof.MixOut.Outs.lean ====
/- What the forward gated merge kernel's body leaves in each output block, and the arrays after the run. -/
module

public import proofs.«01_k».proof.Proof.MixOut.Blocks

@[expose] public section

noncomputable section

namespace Cert.MixOutIdeal.Point

open Cert.MixOutIdeal Cert.MixOutIdeal.Gen Cert.MixOutIdeal.Value Cert.MixOutIdeal.Pay Idealize.ShloMosaic Idealize.ShloMosaic.TcCoe Idealize.SL.Sem
open Idealize.ShloMosaic.Pipeline
open Cert.MixSpec Cert.MixOutSpec

variable (m : (ℓ : Loc nD τ sig) → Buf (Elt Ideal) ℓ) (c : Dev nD)

/-- The half of the gates read at column 0. -/
theorem ld_gp (t : Fin cfg0.N) (i : Fin 512) (n : Fin 1024) :
    View.ld (iblk m c 2 t) (Rect.unit ![0, 0] ![512, 1024] inb_S512x2048_S512x1024_0_0) (ix2 i n)
      = a0 m c (ix3 (rb (row t i)) (rs (row t i)) n) := by
  rw [View.ld_unit_apply_of _ _ _ _ _ (ix2 i ⟨n.val, by omega⟩) (by intro a; match a with | ⟨0, _⟩ => simp | ⟨1, _⟩ => simp),
    blk2, dif_pos n.isLt]

/-- The half of the gates read at column 1024. -/
theorem ld_ga (t : Fin cfg0.N) (i : Fin 512) (n : Fin 1024) :
    View.ld (iblk m c 2 t) (Rect.unit ![0, 1024] ![512, 1024] inb_S512x2048_S512x1024_0_1024) (ix2 i n)
      = a1 m c (ix3 (rb (row t i)) (rs (row t i)) n) := by
  rw [View.ld_unit_apply_of _ _ _ _ _ (ix2 i ⟨1024 + n.val, by omega⟩) (by intro a; match a with | ⟨0, _⟩ => simp | ⟨1, _⟩ => simp),
    blk2, dif_neg (by simp)]
  congr 2
  exact Fin.ext (by simp)

/-- Shard 0 of window 4. -/
theorem ld4_0 (t : Fin cfg0.N) (i : Fin 512) (k : Fin 128) :
    View.ld (iblk m c 4 t) (Rect.unit ![0, 0, 0] ![1, 512, 128] inb_S8x512x128_S1x512x128_0_0_0) (ix3 0 i k)
      = iblk m c 4 t (ix3 0 i k) :=
  View.ld_unit_apply_of _ _ _ _ _ _ (by intro a; match a with | ⟨0, _⟩ => rfl | ⟨1, _⟩ => simp | ⟨2, _⟩ => simp)

/-- Shard 1 of window 4. -/
theorem ld4_1 (t : Fin cfg0.N) (i : Fin 512) (k : Fin 128) :
    View.ld (iblk m c 4 t) (Rect.unit ![1, 0, 0] ![1, 512, 128] inb_S8x512x128_S1x512x128_1_0_0) (ix3 0 i k)
      = iblk m c 4 t (ix3 1 i k) :=
  View.ld_unit_apply_of _ _ _ _ _ _ (by intro a; match a with | ⟨0, _⟩ => rfl | ⟨1, _⟩ => simp | ⟨2, _⟩ => simp)

/-- Shard 2 of window 4. -/
theorem ld4_2 (t : Fin cfg0.N) (i : Fin 512) (k : Fin 128) :
    View.ld (iblk m c 4 t) (Rect.unit ![2, 0, 0] ![1, 512, 128] inb_S8x512x128_S1x512x128_2_0_0) (ix3 0 i k)
      = iblk m c 4 t (ix3 2 i k) :=
  View.ld_unit_apply_of _ _ _ _ _ _ (by intro a; match a with | ⟨0, _⟩ => rfl | ⟨1, _⟩ => simp | ⟨2, _⟩ => simp)

/-- Shard 3 of window 4. -/
theorem ld4_3 (t : Fin cfg0.N) (i : Fin 512) (k : Fin 128) :
    View.ld (iblk m c 4 t) (Rect.unit ![3, 0, 0] ![1, 512, 128] inb_S8x512x128_S1x512x128_3_0_0) (ix3 0 i k)
      = iblk m c 4 t (ix3 3 i k) :=
  View.ld_unit_apply_of _ _ _ _ _ _ (by intro a; match a with | ⟨0, _⟩ => rfl | ⟨1, _⟩ => simp | ⟨2, _⟩ => simp)

/-- Shard 4 of window 4. -/
theorem ld4_4 (t : Fin cfg0.N) (i : Fin 512) (k : Fin 128) :
    View.ld (iblk m c 4 t) (Rect.unit ![4, 0, 0] ![1, 512, 128] inb_S8x512x128_S1x512x128_4_0_0) (ix3 0 i k)
      = iblk m c 4 t (ix3 4 i k) :=
  View.ld_unit_apply_of _ _ _ _ _ _ (by intro a; match a with | ⟨0, _⟩ => rfl | ⟨1, _⟩ => simp | ⟨2, _⟩ => simp)

/-- Shard 5 of window 4. -/
theorem ld4_5 (t : Fin cfg0.N) (i : Fin 512) (k : Fin 128) :
    View.ld (iblk m c 4 t) (Rect.unit ![5, 0, 0] ![1, 512, 128] inb_S8x512x128_S1x512x128_5_0_0) (ix3 0 i k)
      = iblk m c 4 t (ix3 5 i k) :=
  View.ld_unit_apply_of _ _ _ _ _ _ (by intro a; match a with | ⟨0, _⟩ => rfl | ⟨1, _⟩ => simp | ⟨2, _⟩ => simp)

/-- Shard 6 of window 4. -/
theorem ld4_6 (t : Fin cfg0.N) (i : Fin 512) (k : Fin 128) :
    View.ld (iblk m c 4 t) (Rect.unit ![6, 0, 0] ![1, 512, 128] inb_S8x512x128_S1x512x128_6_0_0) (ix3 0 i k)
      = iblk m c 4 t (ix3 6 i k) :=
  View.ld_unit_apply_of _ _ _ _ _ _ (by intro a; match a with | ⟨0, _⟩ => rfl | ⟨1, _⟩ => simp | ⟨2, _⟩ => simp)

/-- Shard 7 of window 4. -/
theorem ld4_7 (t : Fin cfg0.N) (i : Fin 512) (k : Fin 128) :
    View.ld (iblk m c 4 t) (Rect.unit ![7, 0, 0] ![1, 512, 128] inb_S8x512x128_S1x512x128_7_0_0) (ix3 0 i k)
      = iblk m c 4 t (ix3 7 i k) :=
  View.ld_unit_apply_of _ _ _ _ _ _ (by intro a; match a with | ⟨0, _⟩ => rfl | ⟨1, _⟩ => simp | ⟨2, _⟩ => simp)

/-- Shard 0 of window 5. -/
theorem ld5_0 (t : Fin cfg0.N) (i : Fin 512) (k : Fin 128) :
    View.ld (iblk m c 5 t) (Rect.unit ![0, 0, 0] ![1, 512, 128] inb_S8x512x128_S1x512x128_0_0_0) (ix3 0 i k)
      = iblk m c 5 t (ix3 0 i k) :=
  View.ld_unit_apply_of _ _ _ _ _ _ (by intro a; match a with | ⟨0, _⟩ => rfl | ⟨1, _⟩ => simp | ⟨2, _⟩ => simp)

/-- Shard 1 of window 5. -/
theorem ld5_1 (t : Fin cfg0.N) (i : Fin 512) (k : Fin 128) :
    View.ld (iblk m c 5 t) (Rect.unit ![1, 0, 0] ![1, 512, 128] inb_S8x512x128_S1x512x128_1_0_0) (ix3 0 i k)
      = iblk m c 5 t (ix3 1 i k) :=
  View.ld_unit_apply_of _ _ _ _ _ _ (by intro a; match a with | ⟨0, _⟩ => rfl | ⟨1, _⟩ => simp | ⟨2, _⟩ => simp)

/-- Shard 2 of window 5. -/
theorem ld5_2 (t : Fin cfg0.N) (i : Fin 512) (k : Fin 128) :
    View.ld (iblk m c 5 t) (Rect.unit ![2, 0, 0] ![1, 512, 128] inb_S8x512x128_S1x512x128_2_0_0) (ix3 0 i k)
      = iblk m c 5 t (ix3 2 i k) :=
  View.ld_unit_apply_of _ _ _ _ _ _ (by intro a; match a with | ⟨0, _⟩ => rfl | ⟨1, _⟩ => simp | ⟨2, _⟩ => simp)

/-- Shard 3 of window 5. -/
theorem ld5_3 (t : Fin cfg0.N) (i : Fin 512) (k : Fin 128) :
    View.ld (iblk m c 5 t) (Rect.unit ![3, 0, 0] ![1, 512, 128] inb_S8x512x128_S1x512x128_3_0_0) (ix3 0 i k)
      = iblk m c 5 t (ix3 3 i k) :=
  View.ld_unit_apply_of _ _ _ _ _ _ (by intro a; match a with | ⟨0, _⟩ => rfl | ⟨1, _⟩ => simp | ⟨2, _⟩ => simp)

/-- Shard 4 of window 5. -/
theorem ld5_4 (t : Fin cfg0.N) (i : Fin 512) (k : Fin 128) :
    View.ld (iblk m c 5 t) (Rect.unit ![4, 0, 0] ![1, 512, 128] inb_S8x512x128_S1x512x128_4_0_0) (ix3 0 i k)
      = iblk m c 5 t (ix3 4 i k) :=
  View.ld_unit_apply_of _ _ _ _ _ _ (by intro a; match a with | ⟨0, _⟩ => rfl | ⟨1, _⟩ => simp | ⟨2, _⟩ => simp)

/-- Shard 5 of window 5. -/
theorem ld5_5 (t : Fin cfg0.N) (i : Fin 512) (k : Fin 128) :
    View.ld (iblk m c 5 t) (Rect.unit ![5, 0, 0] ![1, 512, 128] inb_S8x512x128_S1x512x128_5_0_0) (ix3 0 i k)
      = iblk m c 5 t (ix3 5 i k) :=
  View.ld_unit_apply_of _ _ _ _ _ _ (by intro a; match a with | ⟨0, _⟩ => rfl | ⟨1, _⟩ => simp | ⟨2, _⟩ => simp)

/-- Shard 6 of window 5. -/
theorem ld5_6 (t : Fin cfg0.N) (i : Fin 512) (k : Fin 128) :
    View.ld (iblk m c 5 t) (Rect.unit ![6, 0, 0] ![1, 512, 128] inb_S8x512x128_S1x512x128_6_0_0) (ix3 0 i k)
      = iblk m c 5 t (ix3 6 i k) :=
  View.ld_unit_apply_of _ _ _ _ _ _ (by intro a; match a with | ⟨0, _⟩ => rfl | ⟨1, _⟩ => simp | ⟨2, _⟩ => simp)

/-- Shard 7 of window 5. -/
theorem ld5_7 (t : Fin cfg0.N) (i : Fin 512) (k : Fin 128) :
    View.ld (iblk m c 5 t) (Rect.unit ![7, 0, 0] ![1, 512, 128] inb_S8x512x128_S1x512x128_7_0_0) (ix3 0 i k)
      = iblk m c 5 t (ix3 7 i k) :=
  View.ld_unit_apply_of _ _ _ _ _ _ (by intro a; match a with | ⟨0, _⟩ => rfl | ⟨1, _⟩ => simp | ⟨2, _⟩ => simp)

/-- A column's shard and its place in it. -/
theorem lane (n : Fin 1024) (h : n.val / 128 * 128 + n.val % 128 < 1024) : (⟨n.val / 128 * 128 + n.val % 128, h⟩ : Fin 1024) = n :=
  Fin.ext (show n.val / 128 * 128 + n.val % 128 = n.val by omega)

/-- The attention branch's projection at an element of a block. -/
theorem ay_blk (t : Fin cfg0.N) (i : Fin 512) (n : Fin 1024) :
    k0_pay3 (F := Ideal) (iblk m c 0 t) (View.ld (iblk m c 4 t) (Rect.unit ![0, 0, 0] ![1, 512, 128] inb_S8x512x128_S1x512x128_0_0_0)) (View.ld (iblk m c 4 t) (Rect.unit ![1, 0, 0] ![1, 512, 128] inb_S8x512x128_S1x512x128_1_0_0)) (View.ld (iblk m c 4 t) (Rect.unit ![2, 0, 0] ![1, 512, 128] inb_S8x512x128_S1x512x128_2_0_0)) (View.ld (iblk m c 4 t) (Rect.unit ![3, 0, 0] ![1, 512, 128] inb_S8x512x128_S1x512x128_3_0_0)) (View.ld (iblk m c 4 t) (Rect.unit ![4, 0, 0] ![1, 512, 128] inb_S8x512x128_S1x512x128_4_0_0)) (View.ld (iblk m c 4 t) (Rect.unit ![5, 0, 0] ![1, 512, 128] inb_S8x512x128_S1x512x128_5_0_0)) (View.ld (iblk m c 4 t) (Rect.unit ![6, 0, 0] ![1, 512, 128] inb_S8x512x128_S1x512x128_6_0_0)) (View.ld (iblk m c 4 t) (Rect.unit ![7, 0, 0] ![1, 512, 128] inb_S8x512x128_S1x512x128_7_0_0)) (ix2 i n) = ay (a4 m c) (a6 m c) (rb (row t i)) (rs (row t i)) n := by
  rw [pay3_apply _ (iblk m c 4 t) _ _ _ _ _ _ _ _ (ld4_0 m c t) (ld4_1 m c t) (ld4_2 m c t) (ld4_3 m c t) (ld4_4 m c t) (ld4_5 m c t) (ld4_6 m c t) (ld4_7 m c t)]
  simp only [blk0, blk4, lane]
  rfl

/-- The pooled branch's projection at an element of a block. -/
theorem py_blk (t : Fin cfg0.N) (i : Fin 512) (n : Fin 1024) :
    k0_pay6 (F := Ideal) (k0_pay4 (iblk m c 1 t)) (k0_pay5 (View.ld (iblk m c 5 t) (Rect.unit ![0, 0, 0] ![1, 512, 128] inb_S8x512x128_S1x512x128_0_0_0))) (View.ld (iblk m c 5 t) (Rect.unit ![1, 0, 0] ![1, 512, 128] inb_S8x512x128_S1x512x128_1_0_0)) (View.ld (iblk m c 5 t) (Rect.unit ![2, 0, 0] ![1, 512, 128] inb_S8x512x128_S1x512x128_2_0_0)) (View.ld (iblk m c 5 t) (Rect.unit ![3, 0, 0] ![1, 512, 128] inb_S8x512x128_S1x512x128_3_0_0)) (View.ld (iblk m c 5 t) (Rect.unit ![4, 0, 0] ![1, 512, 128] inb_S8x512x128_S1x512x128_4_0_0)) (View.ld (iblk m c 5 t) (Rect.unit ![5, 0, 0] ![1, 512, 128] inb_S8x512x128_S1x512x128_5_0_0)) (View.ld (iblk m c 5 t) (Rect.unit ![6, 0, 0] ![1, 512, 128] inb_S8x512x128_S1x512x128_6_0_0)) (View.ld (iblk m c 5 t) (Rect.unit ![7, 0, 0] ![1, 512, 128] inb_S8x512x128_S1x512x128_7_0_0)) (ix2 i n) = py (a2 m c) (a3 m c) (a5 m c) (rb (row t i)) (rs (row t i)) n := by
  rw [pay6_apply _ (iblk m c 5 t) _ _ _ _ _ _ _ _ (ld5_0 m c t) (ld5_1 m c t) (ld5_2 m c t) (ld5_3 m c t) (ld5_4 m c t) (ld5_5 m c t) (ld5_6 m c t) (ld5_7 m c t)]
  simp only [blk1, blk5, lane]
  rfl

/-- The merged activations at an element of a block. -/
theorem mg_blk (t : Fin cfg0.N) (i : Fin 512) (n : Fin 1024) :
    k0_pay1 (F := Ideal) (k0_pay3 (F := Ideal) (iblk m c 0 t) (View.ld (iblk m c 4 t) (Rect.unit ![0, 0, 0] ![1, 512, 128] inb_S8x512x128_S1x512x128_0_0_0)) (View.ld (iblk m c 4 t) (Rect.unit ![1, 0, 0] ![1, 512, 128] inb_S8x512x128_S1x512x128_1_0_0)) (View.ld (iblk m c 4 t) (Rect.unit ![2, 0, 0] ![1, 512, 128] inb_S8x512x128_S1x512x128_2_0_0)) (View.ld (iblk m c 4 t) (Rect.unit ![3, 0, 0] ![1, 512, 128] inb_S8x512x128_S1x512x128_3_0_0)) (View.ld (iblk m c 4 t) (Rect.unit ![4, 0, 0] ![1, 512, 128] inb_S8x512x128_S1x512x128_4_0_0)) (View.ld (iblk m c 4 t) (Rect.unit ![5, 0, 0] ![1, 512, 128] inb_S8x512x128_S1x512x128_5_0_0)) (View.ld (iblk m c 4 t) (Rect.unit ![6, 0, 0] ![1, 512, 128] inb_S8x512x128_S1x512x128_6_0_0)) (View.ld (iblk m c 4 t) (Rect.unit ![7, 0, 0] ![1, 512, 128] inb_S8x512x128_S1x512x128_7_0_0))) (k0_pay6 (F := Ideal) (k0_pay4 (iblk m c 1 t)) (k0_pay5 (View.ld (iblk m c 5 t) (Rect.unit ![0, 0, 0] ![1, 512, 128] inb_S8x512x128_S1x512x128_0_0_0))) (View.ld (iblk m c 5 t) (Rect.unit ![1, 0, 0] ![1, 512, 128] inb_S8x512x128_S1x512x128_1_0_0)) (View.ld (iblk m c 5 t) (Rect.unit ![2, 0, 0] ![1, 512, 128] inb_S8x512x128_S1x512x128_2_0_0)) (View.ld (iblk m c 5 t) (Rect.unit ![3, 0, 0] ![1, 512, 128] inb_S8x512x128_S1x512x128_3_0_0)) (View.ld (iblk m c 5 t) (Rect.unit ![4, 0, 0] ![1, 512, 128] inb_S8x512x128_S1x512x128_4_0_0)) (View.ld (iblk m c 5 t) (Rect.unit ![5, 0, 0] ![1, 512, 128] inb_S8x512x128_S1x512x128_5_0_0)) (View.ld (iblk m c 5 t) (Rect.unit ![6, 0, 0] ![1, 512, 128] inb_S8x512x128_S1x512x128_6_0_0)) (View.ld (iblk m c 5 t) (Rect.unit ![7, 0, 0] ![1, 512, 128] inb_S8x512x128_S1x512x128_7_0_0))) (k0_pay9 (View.ld (iblk m c 2 t) (Rect.unit ![0, 0] ![512, 1024] inb_S512x2048_S512x1024_0_0))) (View.ld (iblk m c 2 t) (Rect.unit ![0, 1024] ![512, 1024] inb_S512x2048_S512x1024_0_1024)) (ix2 i n) = mg (a0 m c) (a1 m c) (a2 m c) (a3 m c) (a4 m c) (a5 m c) (a6 m c) (rb (row t i)) (rs (row t i)) n := by
  rw [pay1_apply, ay_blk, py_blk, pay9_apply, ld_gp, ld_ga]
  rfl

/-- The residual with the projection at an element of a block. -/
theorem xo_blk (t : Fin cfg0.N) (i : Fin 512) (n : Fin 1024) :
    k0_pay2 (F := Ideal) (k0_pay3 (F := Ideal) (iblk m c 0 t) (View.ld (iblk m c 4 t) (Rect.unit ![0, 0, 0] ![1, 512, 128] inb_S8x512x128_S1x512x128_0_0_0)) (View.ld (iblk m c 4 t) (Rect.unit ![1, 0, 0] ![1, 512, 128] inb_S8x512x128_S1x512x128_1_0_0)) (View.ld (iblk m c 4 t) (Rect.unit ![2, 0, 0] ![1, 512, 128] inb_S8x512x128_S1x512x128_2_0_0)) (View.ld (iblk m c 4 t) (Rect.unit ![3, 0, 0] ![1, 512, 128] inb_S8x512x128_S1x512x128_3_0_0)) (View.ld (iblk m c 4 t) (Rect.unit ![4, 0, 0] ![1, 512, 128] inb_S8x512x128_S1x512x128_4_0_0)) (View.ld (iblk m c 4 t) (Rect.unit ![5, 0, 0] ![1, 512, 128] inb_S8x512x128_S1x512x128_5_0_0)) (View.ld (iblk m c 4 t) (Rect.unit ![6, 0, 0] ![1, 512, 128] inb_S8x512x128_S1x512x128_6_0_0)) (View.ld (iblk m c 4 t) (Rect.unit ![7, 0, 0] ![1, 512, 128] inb_S8x512x128_S1x512x128_7_0_0))) (k0_pay6 (F := Ideal) (k0_pay4 (iblk m c 1 t)) (k0_pay5 (View.ld (iblk m c 5 t) (Rect.unit ![0, 0, 0] ![1, 512, 128] inb_S8x512x128_S1x512x128_0_0_0))) (View.ld (iblk m c 5 t) (Rect.unit ![1, 0, 0] ![1, 512, 128] inb_S8x512x128_S1x512x128_1_0_0)) (View.ld (iblk m c 5 t) (Rect.unit ![2, 0, 0] ![1, 512, 128] inb_S8x512x128_S1x512x128_2_0_0)) (View.ld (iblk m c 5 t) (Rect.unit ![3, 0, 0] ![1, 512, 128] inb_S8x512x128_S1x512x128_3_0_0)) (View.ld (iblk m c 5 t) (Rect.unit ![4, 0, 0] ![1, 512, 128] inb_S8x512x128_S1x512x128_4_0_0)) (View.ld (iblk m c 5 t) (Rect.unit ![5, 0, 0] ![1, 512, 128] inb_S8x512x128_S1x512x128_5_0_0)) (View.ld (iblk m c 5 t) (Rect.unit ![6, 0, 0] ![1, 512, 128] inb_S8x512x128_S1x512x128_6_0_0)) (View.ld (iblk m c 5 t) (Rect.unit ![7, 0, 0] ![1, 512, 128] inb_S8x512x128_S1x512x128_7_0_0))) (k0_pay9 (View.ld (iblk m c 2 t) (Rect.unit ![0, 0] ![512, 1024] inb_S512x2048_S512x1024_0_0))) (View.ld (iblk m c 2 t) (Rect.unit ![0, 1024] ![512, 1024] inb_S512x2048_S512x1024_0_1024)) (iblk m c 3 t) (iblk m c 6 t) (ix2 i n) = xo (a0 m c) (a1 m c) (a2 m c) (a3 m c) (a4 m c) (a5 m c) (a6 m c) (a7 m c) (a8 m c) (rb (row t i)) (rs (row t i)) n := by
  rw [pay2_apply]
  simp only [mg_blk, blk3, blk6]
  rfl

/-- A load of the whole of a (512, 512) block. -/
theorem ldwA (X : Vec Ideal S512x512 .bf16) : View.ld (Val := Elt Ideal) (e' := .bf16) X r0_0 = X :=
  View.ld_unit_lit _ _ (by intro a; match a with | ⟨0, _⟩ => rfl | ⟨1, _⟩ => rfl)

/-- A load of the whole of a (512, 1024) block. -/
theorem ldwB (X : Vec Ideal S512x1024 .f32) : View.ld (Val := Elt Ideal) (e' := .f32) X r0_9 = X :=
  View.ld_unit_lit _ _ (by intro a; match a with | ⟨0, _⟩ => rfl | ⟨1, _⟩ => rfl)

/-- A load of the whole of a (1024, 1024) block. -/
theorem ldwC (X : Vec Ideal S1024x1024 .bf16) : View.ld (Val := Elt Ideal) (e' := .bf16) X r0_12 = X :=
  View.ld_unit_lit _ _ (by intro a; match a with | ⟨0, _⟩ => rfl | ⟨1, _⟩ => rfl)

/-- The narrowing before a store. -/
theorem pay8_apply (a : FVec Ideal S512x512 .bf16) (b : FVec Ideal S512x128 .bf16) (w1 w2 w3 w4 w5 w6 w7 : Vec Ideal S1x512x128 .bf16) (y : S512x1024.Idx) :
    k0_pay8 (F := Ideal) a b w1 w2 w3 w4 w5 w6 w7 y = k0_pay6 (F := Ideal) a b w1 w2 w3 w4 w5 w6 w7 y := by
  pointwise [k0_pay8]

/-- The merged activations after a point. -/
theorem out7 (t : Fin cfg0.N) (i : Fin 512) (n : Fin 1024) : out0_7 (iblk m c 0 t) (iblk m c 1 t) (iblk m c 2 t) (iblk m c 3 t) (iblk m c 4 t) (iblk m c 5 t) (iblk m c 6 t) (ix2 i n) = mg (a0 m c) (a1 m c) (a2 m c) (a3 m c) (a4 m c) (a5 m c) (a6 m c) (rb (row t i)) (rs (row t i)) n := by
  unfold_out out0_7
  rw [View.canon_cons_unit_lit _ _ _ (by intro a; match a with | ⟨0, _⟩ => rfl | ⟨1, _⟩ => rfl)]
  simp only [ldwA, ldwB, ldwC]
  exact mg_blk m c t i n

/-- The residual after a point. -/
theorem out8 (t : Fin cfg0.N) (i : Fin 512) (n : Fin 1024) : out0_8 (iblk m c 0 t) (iblk m c 1 t) (iblk m c 2 t) (iblk m c 3 t) (iblk m c 4 t) (iblk m c 5 t) (iblk m c 6 t) (ix2 i n) = xo (a0 m c) (a1 m c) (a2 m c) (a3 m c) (a4 m c) (a5 m c) (a6 m c) (a7 m c) (a8 m c) (rb (row t i)) (rs (row t i)) n := by
  unfold_out out0_8
  rw [View.canon_cons_unit_lit _ _ _ (by intro a; match a with | ⟨0, _⟩ => rfl | ⟨1, _⟩ => rfl)]
  simp only [ldwA, ldwB, ldwC]
  exact xo_blk m c t i n

/-- The attention branch's projection after a point. -/
theorem out9 (t : Fin cfg0.N) (i : Fin 512) (n : Fin 1024) : out0_9 (iblk m c 0 t) (iblk m c 1 t) (iblk m c 2 t) (iblk m c 3 t) (iblk m c 4 t) (iblk m c 5 t) (iblk m c 6 t) (ix2 i n) = ay (a4 m c) (a6 m c) (rb (row t i)) (rs (row t i)) n := by
  unfold_out out0_9
  rw [View.canon_cons_unit_lit _ _ _ (by intro a; match a with | ⟨0, _⟩ => rfl | ⟨1, _⟩ => rfl)]
  simp only [ldwA, ldwB, ldwC]
  exact (pay7_apply _ _).trans (ay_blk m c t i n)

/-- The pooled branch's projection after a point. -/
theorem out10 (t : Fin cfg0.N) (i : Fin 512) (n : Fin 1024) : out0_10 (iblk m c 0 t) (iblk m c 1 t) (iblk m c 2 t) (iblk m c 3 t) (iblk m c 4 t) (iblk m c 5 t) (iblk m c 6 t) (ix2 i n) = py (a2 m c) (a3 m c) (a5 m c) (rb (row t i)) (rs (row t i)) n := by
  unfold_out out0_10
  rw [View.canon_cons_unit_lit _ _ _ (by intro a; match a with | ⟨0, _⟩ => rfl | ⟨1, _⟩ => rfl)]
  simp only [ldwA, ldwB, ldwC]
  exact (pay8_apply _ _ _ _ _ _ _ _ _ _).trans (py_blk m c t i n)

/-- What window 7's array holds after the run. -/
theorem final7 : (dats m 0 c).arrAt 7 cfg0.N = fun j => mg (a0 m c) (a1 m c) (a2 m c) (a3 m c) (a4 m c) (a5 m c) (a6 m c) (rb (j 0)) (rs (j 0)) (j 1) := by
  refine (dats m 0 c).arrAt_eq_of_covers 7 _ (by decide +kernel) fun t hf y => ?_
  blk_simp
  rw [after0_7]
  obtain ⟨i, k, rfl⟩ : ∃ (i : Fin 512) (k : Fin 1024), y = ix2 i k := ⟨y 0, y 1, by funext a; match a with | ⟨0, _⟩ => rfl | ⟨1, _⟩ => rfl⟩
  rw [emb7]
  exact out7 m c t i k

/-- What window 8's array holds after the run. -/
theorem final8 : (dats m 0 c).arrAt 8 cfg0.N = fun j => xo (a0 m c) (a1 m c) (a2 m c) (a3 m c) (a4 m c) (a5 m c) (a6 m c) (a7 m c) (a8 m c) (rb (j 0)) (rs (j 0)) (j 1) := by
  refine (dats m 0 c).arrAt_eq_of_covers 8 _ (by decide +kernel) fun t hf y => ?_
  blk_simp
  rw [after0_8]
  obtain ⟨i, k, rfl⟩ : ∃ (i : Fin 512) (k : Fin 1024), y = ix2 i k := ⟨y 0, y 1, by funext a; match a with | ⟨0, _⟩ => rfl | ⟨1, _⟩ => rfl⟩
  rw [emb8]
  exact out8 m c t i k

/-- What window 9's array holds after the run. -/
theorem final9 : (dats m 0 c).arrAt 9 cfg0.N = fun j => ay (a4 m c) (a6 m c) (rb (j 0)) (rs (j 0)) (j 1) := by
  refine (dats m 0 c).arrAt_eq_of_covers 9 _ (by decide +kernel) fun t hf y => ?_
  blk_simp
  rw [after0_9]
  obtain ⟨i, k, rfl⟩ : ∃ (i : Fin 512) (k : Fin 1024), y = ix2 i k := ⟨y 0, y 1, by funext a; match a with | ⟨0, _⟩ => rfl | ⟨1, _⟩ => rfl⟩
  rw [emb9]
  exact out9 m c t i k

/-- What window 10's array holds after the run. -/
theorem final10 : (dats m 0 c).arrAt 10 cfg0.N = fun j => py (a2 m c) (a3 m c) (a5 m c) (rb (j 0)) (rs (j 0)) (j 1) := by
  refine (dats m 0 c).arrAt_eq_of_covers 10 _ (by decide +kernel) fun t hf y => ?_
  blk_simp
  rw [after0_10]
  obtain ⟨i, k, rfl⟩ : ∃ (i : Fin 512) (k : Fin 1024), y = ix2 i k := ⟨y 0, y 1, by funext a; match a with | ⟨0, _⟩ => rfl | ⟨1, _⟩ => rfl⟩
  rw [emb10]
  exact out10 m c t i k

end Cert.MixOutIdeal.Point

end
-- ==== Proof.MixOut.Ref.lean ====
/- The forward gated merge's reference, read at an index. -/
module

public import proofs.«01_k».proof.Proof.MixOut.Spec
public import proofs.«01_k».proof.Proof.Gen.MixOutRefIdeal.Read

@[expose] public section

noncomputable section

namespace Cert.MixOutRefIdeal.Point

open Cert.MixOutRefIdeal Cert.MixOutRefIdeal.Gen Cert.MixOutRefIdeal.Read Idealize.ShloMosaic Idealize.ShloMosaic.TcCoe Idealize.SL.Sem
open Cert.MixSpec Cert.MixOutSpec

variable (x0 x1 : Vec Ideal S2x2048x1024 .f32) (x2 : Vec Ideal S2x2048x512 .f32) (x3 : Vec Ideal S512 .f32)
  (x4 : Vec Ideal S2x2048x512 .f32) (x5 x6 : Vec Ideal S512x1024 .f32) (x7 : Vec Ideal S1024x1024 .f32)
  (x8 : Vec Ideal S2x2048x1024 .f32) (b : Fin 2) (s : Fin 2048) (n : Fin 1024)

/-- The pooled branch's projection. -/
theorem v3 : val_main_v3 (F := Ideal) x2 x3 x5 (ix3 b s n) = py x2 x3 x5 b s n := by
  pointwise [py, val_main_v3, val_main_v2, val_main_v1, val_main_v0, dot_S2x2048x512_S512x1024_S2x2048x1024_2_0_01_1_n_n]

/-- The attention branch's projection. -/
theorem v4 : val_main_v4 (F := Ideal) x4 x6 (ix3 b s n) = ay x4 x6 b s n := by
  pointwise [ay, val_main_v4, dot_S2x2048x512_S512x1024_S2x2048x1024_2_0_01_1_n_n]

/-- The merged activations. -/
theorem v19 : val_main_v19 (F := Ideal) x0 x1 x2 x3 x4 x5 x6 (ix3 b s n) = mg x0 x1 x2 x3 x4 x5 x6 b s n := by
  unfold mg sg
  rw [← v3, ← v4, zero_sub, zero_sub]
  pointwise [val_main_v19, val_main_v18, val_main_v17, val_main_v16, val_main_cst_2, val_main_v15, val_main_v14, val_main_cst_1, val_main_v13,
    val_main_v12, val_main_v11, val_main_v10, val_main_v9, val_main_cst_0, val_main_v8, val_main_v7, val_main_cst, val_main_v6, val_main_v5]

/-- The residual with the projection. -/
theorem v23 : val_main_v23 (F := Ideal) x0 x1 x2 x3 x4 x5 x6 x7 x8 (ix3 b s n) = xo x0 x1 x2 x3 x4 x5 x6 x7 x8 b s n := by
  unfold xo
  simp only [← v19]
  pointwise [val_main_v23, val_main_v22, dot_S2x2048x1024_S1024x1024_S2x2048x1024_2_0_01_1_n_n]

end Cert.MixOutRefIdeal.Point

end
-- ==== Proof.MixOut.Final.lean ====
/- The forward gated merge's kernel and reference have equal results: the value claim. -/
module

public import proofs.«01_k».proof.Proof.MixOut.Outs
public import proofs.«01_k».proof.Proof.MixOut.Ref
public import proofs.«01_k».proof.Proof.Gen.MixOutRefIdeal.Run
public import proofs.«01_k».proof.Defs
public import Idealize.ShloMosaic.Lib.Claim

@[expose] public section

noncomputable section

namespace Cert.MixOutRefIdeal.Point

open Cert.MixOutRefIdeal Cert.MixOutRefIdeal.Gen Cert.MixOutRefIdeal.Read Idealize.ShloMosaic Idealize.ShloMosaic.TcCoe Idealize.SL.Sem
open Cert.MixSpec Cert.MixOutSpec

variable (x0 x1 : Vec Ideal S2x2048x1024 .f32) (x2 : Vec Ideal S2x2048x512 .f32) (x3 : Vec Ideal S512 .f32)
  (x4 : Vec Ideal S2x2048x512 .f32) (x5 x6 : Vec Ideal S512x1024 .f32) (x7 : Vec Ideal S1024x1024 .f32)
  (x8 : Vec Ideal S2x2048x1024 .f32)

/-- Result `v21` as one function of the index. -/
theorem v21_fn : val_main_v21 (F := Ideal) x0 x1 x2 x3 x4 x5 x6 = fun j => mg x0 x1 x2 x3 x4 x5 x6 (rb (j 0)) (rs (j 0)) (j 1) := by
  funext j
  obtain ⟨r, k, rfl⟩ : ∃ (r : Fin 4096) (k : Fin 1024), j = ix2 r k := ⟨j 0, j 1, by funext a; match a with | ⟨0, _⟩ => rfl | ⟨1, _⟩ => rfl⟩
  refine Eq.trans ?_ (v19 x0 x1 x2 x3 x4 x5 x6 (rb r) (rs r) k)
  pointwise [val_main_v21, val_main_v20, rb, rs]

/-- Result `v24` as one function of the index. -/
theorem v24_fn : val_main_v24 (F := Ideal) x0 x1 x2 x3 x4 x5 x6 x7 x8 = fun j => xo x0 x1 x2 x3 x4 x5 x6 x7 x8 (rb (j 0)) (rs (j 0)) (j 1) := by
  funext j
  obtain ⟨r, k, rfl⟩ : ∃ (r : Fin 4096) (k : Fin 1024), j = ix2 r k := ⟨j 0, j 1, by funext a; match a with | ⟨0, _⟩ => rfl | ⟨1, _⟩ => rfl⟩
  refine Eq.trans ?_ (v23 x0 x1 x2 x3 x4 x5 x6 x7 x8 (rb r) (rs r) k)
  pointwise [val_main_v24, rb, rs]

/-- Result `v26` as one function of the index. -/
theorem v26_fn : val_main_v26 (F := Ideal) x4 x6 = fun j => ay x4 x6 (rb (j 0)) (rs (j 0)) (j 1) := by
  funext j
  obtain ⟨r, k, rfl⟩ : ∃ (r : Fin 4096) (k : Fin 1024), j = ix2 r k := ⟨j 0, j 1, by funext a; match a with | ⟨0, _⟩ => rfl | ⟨1, _⟩ => rfl⟩
  refine Eq.trans ?_ (v4 x4 x6 (rb r) (rs r) k)
  pointwise [val_main_v26, val_main_v25, rb, rs]

/-- Result `v28` as one function of the index. -/
theorem v28_fn : val_main_v28 (F := Ideal) x2 x3 x5 = fun j => py x2 x3 x5 (rb (j 0)) (rs (j 0)) (j 1) := by
  funext j
  obtain ⟨r, k, rfl⟩ : ∃ (r : Fin 4096) (k : Fin 1024), j = ix2 r k := ⟨j 0, j 1, by funext a; match a with | ⟨0, _⟩ => rfl | ⟨1, _⟩ => rfl⟩
  refine Eq.trans ?_ (v3 x2 x3 x5 (rb r) (rs r) k)
  pointwise [val_main_v28, val_main_v27, rb, rs]

end Cert.MixOutRefIdeal.Point

namespace Cert.Proof

open Idealize.ShloMosaic Idealize.ShloMosaic.TcCoe Idealize.SL.Sem
open Cert.MixOutRefIdeal.Point

/-- The forward gated merge's kernel and its reference leave the same four arrays. -/
theorem algebraic_mixout : Cert.algebraic_MixOutIdeal_MixOutRefIdeal := by
  pair_intro
  · run_from Cert.MixOutIdeal.Value.run_blocks m g
  · run_from Cert.MixOutRefIdeal.Value.run m' g'
    · obtain ⟨h0, h1, h2, h3, h4, h5, h6, h7, h8⟩ := hagree c
      refine (v21_fn _ _ _ _ _ _ _).trans ?_
      try rw [h5]
      try rw [h6]
      try rw [h7]
      try rw [h8]
      try rw [h4]
      exact (Cert.MixOutIdeal.Point.final7 m c).symm
    · obtain ⟨h0, h1, h2, h3, h4, h5, h6, h7, h8⟩ := hagree c
      refine (v24_fn _ _ _ _ _ _ _ _ _).trans ?_
      try rw [h5]
      try rw [h6]
      try rw [h7]
      try rw [h8]
      try rw [h4]
      exact (Cert.MixOutIdeal.Point.final8 m c).symm
    · obtain ⟨h0, h1, h2, h3, h4, h5, h6, h7, h8⟩ := hagree c
      refine (v26_fn _ _).trans ?_
      try rw [h5]
      try rw [h6]
      try rw [h7]
      try rw [h8]
      try rw [h4]
      exact (Cert.MixOutIdeal.Point.final9 m c).symm
    · obtain ⟨h0, h1, h2, h3, h4, h5, h6, h7, h8⟩ := hagree c
      refine (v28_fn _ _ _).trans ?_
      try rw [h5]
      try rw [h6]
      try rw [h7]
      try rw [h8]
      try rw [h4]
      exact (Cert.MixOutIdeal.Point.final10 m c).symm

end Cert.Proof

end
-- ==== Proof.FfnF.Spec.lean ====
/- What the feed-forward layer, the last norm and the loss are shown to compute, as sums over the extended reals: plain
   functions of the seven arguments, read from both programs. -/
module

public import proofs.«01_k».proof.Proof.Ffn.Norm

@[expose] public section

noncomputable section

namespace Cert.FfnFSpec

open Idealize.ShloMosaic Cert.MixSpec Cert.FfnSpec Cert.Com

/-- The reciprocal of the number of features, and a half, as the kernel writes them. -/
abbrev cK : EReal := Ideal.ofBits .f32 0x3A800000#32
abbrev cP : EReal := Ideal.ofBits .f32 0x3F000000#32

/-- The normalised activation with its gain. -/
def hn (x : Sx.Idx → EReal) (g : Sg.Idx → EReal) (b : Fin 2) (s : Fin 2048) (k : Fin 1024) : EReal := xh x b s k * g (ix1 k)

/-- The product that the output projection takes. -/
def ac (x : Sx.Idx → EReal) (g : Sg.Idx → EReal) (wg wu : Sf.Idx → EReal) (b : Fin 2) (s : Fin 2048) (n : Fin 2816) : EReal :=
  pre x g wg b s n * sg (pre x g wg b s n) * pre x g wu b s n

/-- The layer's output with its residual. -/
def yv (x : Sx.Idx → EReal) (g : Sg.Idx → EReal) (wg wu : Sf.Idx → EReal) (wd : Sd.Idx → EReal) (j : Sx.Idx) : EReal :=
  x (ix3 (j 0) (j 1) (j 2)) + ∑ n : Fin 2816, ac x g wg wu (j 0) (j 1) n * wd (ix2 n (j 2))

variable (x : Sx.Idx → EReal) (g gf : Sg.Idx → EReal) (tg : Sx.Idx → EReal) (wg wu : Sf.Idx → EReal) (wd : Sd.Idx → EReal)

/-- The error: the last norm's result less the target. -/
def er (b : Fin 2) (s : Fin 2048) (k : Fin 1024) : EReal := xh (yv x g wg wu wd) b s k * gf (ix1 k) - tg (ix3 b s k)

/-- A token's mean square error. -/
def ls (b : Fin 2) (s : Fin 2048) : EReal :=
  Ideal.div (∑ k : Fin 1024, er x g gf tg wg wu wd b s k * er x g gf tg wg wu wd b s k) cN

/-- The loss: half the sum of the tokens' errors. -/
def lo : EReal := cP * ∑ r : Fin 4096, ls x g gf tg wg wu wd (rb r) (rs r)

/-- The loss's gradient at the last norm's result. -/
def dy (b : Fin 2) (s : Fin 2048) (k : Fin 1024) : EReal := er x g gf tg wg wu wd b s k * cK

/-- The loss's gradient at the last norm's input. -/
def dxf (b : Fin 2) (s : Fin 2048) (k : Fin 1024) : EReal :=
  dxS 0 (rr (yv x g wg wu wd) b s) (fun j => yv x g wg wu wd (ix3 b s j)) (fun j => gf (ix1 j))
    (fun j => dy x g gf tg wg wu wd b s j) k

/-- The loss's gradient at the last norm's gain. -/
def dgf (k : Fin 1024) : EReal :=
  ∑ r : Fin 4096, dy x g gf tg wg wu wd (rb r) (rs r) k * xh (yv x g wg wu wd) (rb r) (rs r) k

/-- The kernel's reciprocal is 1/1024. -/
theorem cK_eq : cK = ((1 / 1024 : ℝ) : EReal) := by
  simp [Ideal.ofBits, Ideal.ieee, -EReal.coe_mul]; norm_num

/-- The kernel's half is 1/2. -/
theorem cP_eq : cP = ((1 / 2 : ℝ) : EReal) := by
  simp [Ideal.ofBits, Ideal.ieee, -EReal.coe_mul]; norm_num

/-- A half of a sum is the sum of the halves. -/
theorem cP_mul_sum {n : ℕ} (f : Fin n → EReal) : cP * ∑ i, f i = ∑ i, cP * f i := by
  rw [cP_eq]
  induction n with
  | zero => simp
  | succ n ih =>
    rw [Fin.sum_univ_succ, Fin.sum_univ_succ, ← ih]
    exact EReal.left_distrib_of_nonneg_of_ne_top (by norm_num) (EReal.coe_ne_top _) _ _

/-- The reference's factor on the error is the kernel's. -/
theorem dy_eq (e : EReal) (he : IsR e) :
    Ideal.div (cP * Ideal.ofBits .f32 0x3F800000#32) cN * (Ideal.ofBits .f32 0x40000000#32 * e) = e * cK := by
  have h1 : Ideal.ofBits .f32 0x3F800000#32 = ((1 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  obtain ⟨e, rfl⟩ := he
  rw [h1, h2, cK_eq, cP_eq, cN_eq, Ideal.div_coe (by norm_num : (1024 : ℝ) ≠ 0)]
  simp only [← EReal.coe_mul]
  congr 1
  ring

section Real

variable (h0 : ∀ i, IsR (x i)) (h1 : ∀ i, IsR (g i)) (h2 : ∀ i, IsR (gf i)) (h3 : ∀ i, IsR (tg i)) (h4 : ∀ i, IsR (wg i))
  (h5 : ∀ i, IsR (wu i)) (h6 : ∀ i, IsR (wd i))

include h0 h1 in
/-- An input projection of real arguments is real. -/
theorem isR_pre (w : Sf.Idx → EReal) (hw : ∀ i, IsR (w i)) (b : Fin 2) (s : Fin 2048) (n : Fin 2816) : IsR (pre x g w b s n) :=
  IsR.sum _ _ fun k => (((h0 _).mul (isR_rr x h0 b s)).mul (h1 _)).mul (hw _)

include h0 h1 h4 h5 h6 in
/-- The layer's output is real. -/
theorem isR_yv (j : Sx.Idx) : IsR (yv x g wg wu wd j) :=
  (h0 _).add (IsR.sum _ _ fun n => (((isR_pre x g h0 h1 wg h4 _ _ n).mul (isR_pre x g h0 h1 wg h4 _ _ n).logistic).mul
    (isR_pre x g h0 h1 wu h5 _ _ n)).mul (h6 _))

include h0 h1 h2 h3 h4 h5 h6 in
/-- The error is real. -/
theorem isR_er (b : Fin 2) (s : Fin 2048) (k : Fin 1024) : IsR (er x g gf tg wg wu wd b s k) :=
  (((isR_yv x g wg wu wd h0 h1 h4 h5 h6 _).mul (isR_rr _ (isR_yv x g wg wu wd h0 h1 h4 h5 h6) b s)).mul (h2 _)).sub (h3 _)

include h0 h1 h2 h3 h4 h5 h6 in
/-- Its gradient is real. -/
theorem isR_dy (b : Fin 2) (s : Fin 2048) (k : Fin 1024) : IsR (dy x g gf tg wg wu wd b s k) :=
  (isR_er x g gf tg wg wu wd h0 h1 h2 h3 h4 h5 h6 b s k).mul ⟨_, cK_eq⟩

end Real

end Cert.FfnFSpec

end
-- ==== Proof.FfnF.Pay.lean ====
/- The feed-forward kernel's payloads read at an index, over the extended reals. -/
module

public import proofs.«01_k».proof.Proof.Gen.FfnFIdeal.Skeleton
public import proofs.«01_k».proof.Proof.FfnF.Spec

@[expose] public section

noncomputable section

namespace Cert.FfnFIdeal.Pay

open Cert.FfnFIdeal Cert.FfnFIdeal.Gen Idealize.ShloMosaic Idealize.ShloMosaic.TcCoe Idealize.SL.Sem
open Cert.MixSpec Cert.FfnSpec Cert.FfnFSpec

/-- Column block 0 of the gate at an element. -/
theorem g0_apply (v0 : Vec Ideal S512x1024 .f32) (v2 : Vec Ideal S1x1024 .f32) (w : Vec Ideal S256x1024 .bf16) (i : Fin 512) (j : Fin 256) :
    k0_pay7 (F := Ideal) v0 v2 w (ix2 i j) = ∑ k : Fin 1024, k0_pay4 (F := Ideal) v0 v2 (ix2 i k) * w (ix2 j k) := by
  pointwise [k0_pay5, k0_pay6, k0_pay7, k0_pay8, k0_pay9, k0_pay10, k0_pay11, dot_S512x1024_S256x1024_S512x256_1_1_0_0_n_n]

/-- Column block 0 of the up projection at an element. -/
theorem u0_apply (v0 : Vec Ideal S512x1024 .f32) (v2 : Vec Ideal S1x1024 .f32) (u : Vec Ideal S256x1024 .bf16) (i : Fin 512) (j : Fin 256) :
    k0_pay8 (F := Ideal) v0 v2 u (ix2 i j) = ∑ k : Fin 1024, k0_pay4 (F := Ideal) v0 v2 (ix2 i k) * u (ix2 j k) := by
  pointwise [k0_pay5, k0_pay6, k0_pay7, k0_pay8, k0_pay9, k0_pay10, k0_pay11, dot_S512x1024_S256x1024_S512x256_1_1_0_0_n_n]

/-- Column block 0 of the product at an element. -/
theorem a0_apply (v0 : Vec Ideal S512x1024 .f32) (v2 : Vec Ideal S1x1024 .f32) (w u : Vec Ideal S256x1024 .bf16) (i : Fin 512) (j : Fin 256) :
    k0_pay11 (F := Ideal) (k0_pay5 v0 v2 w) (k0_pay6 v0 v2 u) (k0_pay9 v0 v2 w) k0_pay10 (ix2 i j) = (∑ k : Fin 1024, k0_pay4 (F := Ideal) v0 v2 (ix2 i k) * w (ix2 j k)) * sg (∑ k : Fin 1024, k0_pay4 (F := Ideal) v0 v2 (ix2 i k) * w (ix2 j k)) * ∑ k : Fin 1024, k0_pay4 (F := Ideal) v0 v2 (ix2 i k) * u (ix2 j k) := by
  pointwise [k0_pay5, k0_pay6, k0_pay7, k0_pay8, k0_pay9, k0_pay10, k0_pay11, sg, dot_S512x1024_S256x1024_S512x256_1_1_0_0_n_n]

/-- Column block 1 of the gate at an element. -/
theorem g1_apply (h : FVec Ideal S512x1024 .bf16) (w : Vec Ideal S256x1024 .bf16) (i : Fin 512) (j : Fin 256) :
    k0_pay14 (F := Ideal) h w (ix2 i j) = ∑ k : Fin 1024, h (ix2 i k) * w (ix2 j k) := by
  pointwise [k0_pay12, k0_pay13, k0_pay14, k0_pay15, k0_pay16, dot_S512x1024_S256x1024_S512x256_1_1_0_0_n_n]

/-- Column block 1 of the up projection at an element. -/
theorem u1_apply (h : FVec Ideal S512x1024 .bf16) (u : Vec Ideal S256x1024 .bf16) (i : Fin 512) (j : Fin 256) :
    k0_pay15 (F := Ideal) h u (ix2 i j) = ∑ k : Fin 1024, h (ix2 i k) * u (ix2 j k) := by
  pointwise [k0_pay12, k0_pay13, k0_pay14, k0_pay15, k0_pay16, dot_S512x1024_S256x1024_S512x256_1_1_0_0_n_n]

/-- Column block 1 of the product at an element. -/
theorem a1_apply (h : FVec Ideal S512x1024 .bf16) (w u : Vec Ideal S256x1024 .bf16) (i : Fin 512) (j : Fin 256) :
    k0_pay16 (F := Ideal) h w u (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay12, k0_pay13, k0_pay14, k0_pay15, k0_pay16, sg, dot_S512x1024_S256x1024_S512x256_1_1_0_0_n_n]

/-- Column block 2 of the gate at an element. -/
theorem g2_apply (h : FVec Ideal S512x1024 .bf16) (w : Vec Ideal S256x1024 .bf16) (i : Fin 512) (j : Fin 256) :
    k0_pay19 (F := Ideal) h w (ix2 i j) = ∑ k : Fin 1024, h (ix2 i k) * w (ix2 j k) := by
  pointwise [k0_pay17, k0_pay18, k0_pay19, k0_pay20, k0_pay21, dot_S512x1024_S256x1024_S512x256_1_1_0_0_n_n]

/-- Column block 2 of the up projection at an element. -/
theorem u2_apply (h : FVec Ideal S512x1024 .bf16) (u : Vec Ideal S256x1024 .bf16) (i : Fin 512) (j : Fin 256) :
    k0_pay20 (F := Ideal) (k0_pay18 h u) (ix2 i j) = ∑ k : Fin 1024, h (ix2 i k) * u (ix2 j k) := by
  pointwise [k0_pay17, k0_pay18, k0_pay19, k0_pay20, k0_pay21, dot_S512x1024_S256x1024_S512x256_1_1_0_0_n_n]

/-- Column block 2 of the product at an element. -/
theorem a2_apply (h : FVec Ideal S512x1024 .bf16) (w u : Vec Ideal S256x1024 .bf16) (i : Fin 512) (j : Fin 256) :
    k0_pay21 (F := Ideal) (k0_pay17 h w) (k0_pay18 h u) (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay17, k0_pay18, k0_pay19, k0_pay20, k0_pay21, sg, dot_S512x1024_S256x1024_S512x256_1_1_0_0_n_n]

/-- Column block 3 of the gate at an element. -/
theorem g3_apply (h : FVec Ideal S512x1024 .bf16) (w : Vec Ideal S256x1024 .bf16) (i : Fin 512) (j : Fin 256) :
    k0_pay24 (F := Ideal) h w (ix2 i j) = ∑ k : Fin 1024, h (ix2 i k) * w (ix2 j k) := by
  pointwise [k0_pay22, k0_pay23, k0_pay24, k0_pay25, k0_pay26, k0_pay27, dot_S512x1024_S256x1024_S512x256_1_1_0_0_n_n]

/-- Column block 3 of the up projection at an element. -/
theorem u3_apply (h : FVec Ideal S512x1024 .bf16) (u : Vec Ideal S256x1024 .bf16) (i : Fin 512) (j : Fin 256) :
    k0_pay25 (F := Ideal) h u (ix2 i j) = ∑ k : Fin 1024, h (ix2 i k) * u (ix2 j k) := by
  pointwise [k0_pay22, k0_pay23, k0_pay24, k0_pay25, k0_pay26, k0_pay27, dot_S512x1024_S256x1024_S512x256_1_1_0_0_n_n]

/-- Column block 3 of the product at an element. -/
theorem a3_apply (h : FVec Ideal S512x1024 .bf16) (w u : Vec Ideal S256x1024 .bf16) (i : Fin 512) (j : Fin 256) :
    k0_pay27 (F := Ideal) (k0_pay26 h w u) (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay22, k0_pay23, k0_pay24, k0_pay25, k0_pay26, k0_pay27, sg, dot_S512x1024_S256x1024_S512x256_1_1_0_0_n_n]

/-- Column block 4 of the gate at an element. -/
theorem g4_apply (h : FVec Ideal S512x1024 .bf16) (w : Vec Ideal S256x1024 .bf16) (i : Fin 512) (j : Fin 256) :
    k0_pay30 (F := Ideal) h w (ix2 i j) = ∑ k : Fin 1024, h (ix2 i k) * w (ix2 j k) := by
  pointwise [k0_pay28, k0_pay29, k0_pay30, k0_pay31, k0_pay32, dot_S512x1024_S256x1024_S512x256_1_1_0_0_n_n]

/-- Column block 4 of the up projection at an element. -/
theorem u4_apply (h : FVec Ideal S512x1024 .bf16) (u : Vec Ideal S256x1024 .bf16) (i : Fin 512) (j : Fin 256) :
    k0_pay31 (F := Ideal) h u (ix2 i j) = ∑ k : Fin 1024, h (ix2 i k) * u (ix2 j k) := by
  pointwise [k0_pay28, k0_pay29, k0_pay30, k0_pay31, k0_pay32, dot_S512x1024_S256x1024_S512x256_1_1_0_0_n_n]

/-- Column block 4 of the product at an element. -/
theorem a4_apply (h : FVec Ideal S512x1024 .bf16) (w u : Vec Ideal S256x1024 .bf16) (i : Fin 512) (j : Fin 256) :
    k0_pay32 (F := Ideal) h w u (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay28, k0_pay29, k0_pay30, k0_pay31, k0_pay32, sg, dot_S512x1024_S256x1024_S512x256_1_1_0_0_n_n]

/-- Column block 5 of the gate at an element. -/
theorem g5_apply (h : FVec Ideal S512x1024 .bf16) (w : Vec Ideal S256x1024 .bf16) (i : Fin 512) (j : Fin 256) :
    k0_pay35 (F := Ideal) h w (ix2 i j) = ∑ k : Fin 1024, h (ix2 i k) * w (ix2 j k) := by
  pointwise [k0_pay33, k0_pay34, k0_pay35, k0_pay36, k0_pay37, dot_S512x1024_S256x1024_S512x256_1_1_0_0_n_n]

/-- Column block 5 of the up projection at an element. -/
theorem u5_apply (h : FVec Ideal S512x1024 .bf16) (u : Vec Ideal S256x1024 .bf16) (i : Fin 512) (j : Fin 256) :
    k0_pay36 (F := Ideal) (k0_pay34 h u) (ix2 i j) = ∑ k : Fin 1024, h (ix2 i k) * u (ix2 j k) := by
  pointwise [k0_pay33, k0_pay34, k0_pay35, k0_pay36, k0_pay37, dot_S512x1024_S256x1024_S512x256_1_1_0_0_n_n]

/-- Column block 5 of the product at an element. -/
theorem a5_apply (h : FVec Ideal S512x1024 .bf16) (w u : Vec Ideal S256x1024 .bf16) (i : Fin 512) (j : Fin 256) :
    k0_pay37 (F := Ideal) (k0_pay33 h w) (k0_pay34 h u) (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay33, k0_pay34, k0_pay35, k0_pay36, k0_pay37, sg, dot_S512x1024_S256x1024_S512x256_1_1_0_0_n_n]

/-- Column block 6 of the gate at an element. -/
theorem g6_apply (h : FVec Ideal S512x1024 .bf16) (w : Vec Ideal S256x1024 .bf16) (i : Fin 512) (j : Fin 256) :
    k0_pay40 (F := Ideal) h w (ix2 i j) = ∑ k : Fin 1024, h (ix2 i k) * w (ix2 j k) := by
  pointwise [k0_pay38, k0_pay39, k0_pay40, k0_pay41, k0_pay42, dot_S512x1024_S256x1024_S512x256_1_1_0_0_n_n]

/-- Column block 6 of the up projection at an element. -/
theorem u6_apply (h : FVec Ideal S512x1024 .bf16) (u : Vec Ideal S256x1024 .bf16) (i : Fin 512) (j : Fin 256) :
    k0_pay41 (F := Ideal) h u (ix2 i j) = ∑ k : Fin 1024, h (ix2 i k) * u (ix2 j k) := by
  pointwise [k0_pay38, k0_pay39, k0_pay40, k0_pay41, k0_pay42, dot_S512x1024_S256x1024_S512x256_1_1_0_0_n_n]

/-- Column block 6 of the product at an element. -/
theorem a6_apply (h : FVec Ideal S512x1024 .bf16) (w u : Vec Ideal S256x1024 .bf16) (i : Fin 512) (j : Fin 256) :
    k0_pay42 (F := Ideal) h w u (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay38, k0_pay39, k0_pay40, k0_pay41, k0_pay42, sg, dot_S512x1024_S256x1024_S512x256_1_1_0_0_n_n]

/-- Column block 7 of the gate at an element. -/
theorem g7_apply (h : FVec Ideal S512x1024 .bf16) (w : Vec Ideal S256x1024 .bf16) (i : Fin 512) (j : Fin 256) :
    k0_pay45 (F := Ideal) h w (ix2 i j) = ∑ k : Fin 1024, h (ix2 i k) * w (ix2 j k) := by
  pointwise [k0_pay43, k0_pay44, k0_pay45, k0_pay46, k0_pay47, dot_S512x1024_S256x1024_S512x256_1_1_0_0_n_n]

/-- Column block 7 of the up projection at an element. -/
theorem u7_apply (h : FVec Ideal S512x1024 .bf16) (u : Vec Ideal S256x1024 .bf16) (i : Fin 512) (j : Fin 256) :
    k0_pay46 (F := Ideal) h u (ix2 i j) = ∑ k : Fin 1024, h (ix2 i k) * u (ix2 j k) := by
  pointwise [k0_pay43, k0_pay44, k0_pay45, k0_pay46, k0_pay47, dot_S512x1024_S256x1024_S512x256_1_1_0_0_n_n]

/-- Column block 7 of the product at an element. -/
theorem a7_apply (h : FVec Ideal S512x1024 .bf16) (w u : Vec Ideal S256x1024 .bf16) (i : Fin 512) (j : Fin 256) :
    k0_pay47 (F := Ideal) h w u (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay43, k0_pay44, k0_pay45, k0_pay46, k0_pay47, sg, dot_S512x1024_S256x1024_S512x256_1_1_0_0_n_n]

/-- Column block 8 of the gate at an element. -/
theorem g8_apply (h : FVec Ideal S512x1024 .bf16) (w : Vec Ideal S256x1024 .bf16) (i : Fin 512) (j : Fin 256) :
    k0_pay50 (F := Ideal) h w (ix2 i j) = ∑ k : Fin 1024, h (ix2 i k) * w (ix2 j k) := by
  pointwise [k0_pay48, k0_pay49, k0_pay50, k0_pay51, k0_pay52, dot_S512x1024_S256x1024_S512x256_1_1_0_0_n_n]

/-- Column block 8 of the up projection at an element. -/
theorem u8_apply (h : FVec Ideal S512x1024 .bf16) (u : Vec Ideal S256x1024 .bf16) (i : Fin 512) (j : Fin 256) :
    k0_pay51 (F := Ideal) h u (ix2 i j) = ∑ k : Fin 1024, h (ix2 i k) * u (ix2 j k) := by
  pointwise [k0_pay48, k0_pay49, k0_pay50, k0_pay51, k0_pay52, dot_S512x1024_S256x1024_S512x256_1_1_0_0_n_n]

/-- Column block 8 of the product at an element. -/
theorem a8_apply (h : FVec Ideal S512x1024 .bf16) (w u : Vec Ideal S256x1024 .bf16) (i : Fin 512) (j : Fin 256) :
    k0_pay52 (F := Ideal) (k0_pay48 h w) (k0_pay49 h u) (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay48, k0_pay49, k0_pay50, k0_pay51, k0_pay52, sg, dot_S512x1024_S256x1024_S512x256_1_1_0_0_n_n]

/-- Column block 9 of the gate at an element. -/
theorem g9_apply (h : FVec Ideal S512x1024 .bf16) (w : Vec Ideal S256x1024 .bf16) (i : Fin 512) (j : Fin 256) :
    k0_pay55 (F := Ideal) h w (ix2 i j) = ∑ k : Fin 1024, h (ix2 i k) * w (ix2 j k) := by
  pointwise [k0_pay53, k0_pay54, k0_pay55, k0_pay56, k0_pay57, dot_S512x1024_S256x1024_S512x256_1_1_0_0_n_n]

/-- Column block 9 of the up projection at an element. -/
theorem u9_apply (h : FVec Ideal S512x1024 .bf16) (u : Vec Ideal S256x1024 .bf16) (i : Fin 512) (j : Fin 256) :
    k0_pay56 (F := Ideal) h u (ix2 i j) = ∑ k : Fin 1024, h (ix2 i k) * u (ix2 j k) := by
  pointwise [k0_pay53, k0_pay54, k0_pay55, k0_pay56, k0_pay57, dot_S512x1024_S256x1024_S512x256_1_1_0_0_n_n]

/-- Column block 9 of the product at an element. -/
theorem a9_apply (h : FVec Ideal S512x1024 .bf16) (w u : Vec Ideal S256x1024 .bf16) (i : Fin 512) (j : Fin 256) :
    k0_pay57 (F := Ideal) h w u (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay53, k0_pay54, k0_pay55, k0_pay56, k0_pay57, sg, dot_S512x1024_S256x1024_S512x256_1_1_0_0_n_n]

/-- Column block 10 of the gate at an element. -/
theorem g10_apply (h : FVec Ideal S512x1024 .bf16) (w : Vec Ideal S256x1024 .bf16) (i : Fin 512) (j : Fin 256) :
    k0_pay60 (F := Ideal) h w (ix2 i j) = ∑ k : Fin 1024, h (ix2 i k) * w (ix2 j k) := by
  pointwise [k0_pay58, k0_pay59, k0_pay60, k0_pay61, k0_pay62, dot_S512x1024_S256x1024_S512x256_1_1_0_0_n_n]

/-- Column block 10 of the up projection at an element. -/
theorem u10_apply (h : FVec Ideal S512x1024 .bf16) (u : Vec Ideal S256x1024 .bf16) (i : Fin 512) (j : Fin 256) :
    k0_pay61 (F := Ideal) h u (ix2 i j) = ∑ k : Fin 1024, h (ix2 i k) * u (ix2 j k) := by
  pointwise [k0_pay58, k0_pay59, k0_pay60, k0_pay61, k0_pay62, dot_S512x1024_S256x1024_S512x256_1_1_0_0_n_n]

/-- Column block 10 of the product at an element. -/
theorem a10_apply (h : FVec Ideal S512x1024 .bf16) (w u : Vec Ideal S256x1024 .bf16) (i : Fin 512) (j : Fin 256) :
    k0_pay62 (F := Ideal) h w u (ix2 i j) = (∑ k : Fin 1024, h (ix2 i k) * w (ix2 j k)) * sg (∑ k : Fin 1024, h (ix2 i k) * w (ix2 j k)) * ∑ k : Fin 1024, h (ix2 i k) * u (ix2 j k) := by
  pointwise [k0_pay58, k0_pay59, k0_pay60, k0_pay61, k0_pay62, sg, dot_S512x1024_S256x1024_S512x256_1_1_0_0_n_n]

/-- The normalised activation with its gain. -/
theorem pay4_apply (v0 : Vec Ideal S512x1024 .f32) (v2 : Vec Ideal S1x1024 .f32) (i : Fin 512) (k : Fin 1024) :
    k0_pay4 (F := Ideal) v0 v2 (ix2 i k) = v0 (ix2 i k) * Ideal.rsqrt (Ideal.div (∑ j : Fin 1024, v0 (ix2 i j) * v0 (ix2 i j)) cN + cE) * v2 (ix2 0 k) := by
  pointwise [k0_pay3, k0_pay4]

/-- The layer's output with its residual. -/
theorem pay63_apply (v0 : Vec Ideal S512x1024 .f32) (a : Vec Ideal S512x2816 .bf16) (w : Vec Ideal S2816x1024 .bf16) (i : Fin 512) (k : Fin 1024) :
    k0_pay63 (F := Ideal) (k0_pay3 v0) a w (ix2 i k) = v0 (ix2 i k) + ∑ n : Fin 2816, a (ix2 i n) * w (ix2 n k) := by
  pointwise [k0_pay3, k0_pay63, dot_S512x2816_S2816x1024_S512x1024_1_0_0_1_n_n]

/-- The last norm's gain. -/
theorem pay64_apply (v : Vec Ideal S1x1024 .f32) (z : Fin 1) (k : Fin 1024) : k0_pay64 (F := Ideal) v (ix2 z k) = v (ix2 z k) := by
  pointwise [k0_pay64]

/-- A row's mean square. -/
theorem pay65_apply (v : FVec Ideal S512x1024 .f32) (a : Vec Ideal S512x2816 .bf16) (w : Vec Ideal S2816x1024 .bf16) (i : Fin 512) (z : Fin 1) :
    k0_pay65 (F := Ideal) v a w (ix2 i z) = Ideal.div (∑ k : Fin 1024, k0_pay63 (F := Ideal) v a w (ix2 i k) * k0_pay63 (F := Ideal) v a w (ix2 i k)) cN := by
  pointwise [k0_pay65]

/-- The reciprocal root. -/
theorem pay66_apply (v : FVec Ideal S512x1 .f32) (i : Fin 512) (z : Fin 1) : k0_pay66 (F := Ideal) v (ix2 i z) = Ideal.rsqrt (v (ix2 i z) + cE) := by
  pointwise [k0_pay66]

/-- The last norm's normalised input. -/
theorem pay67_apply (v254 : FVec Ideal S512x1024 .f32) (v261 : FVec Ideal S512x1 .f32) (i : Fin 512) (k : Fin 1024) :
    k0_pay67 (F := Ideal) v254 v261 (ix2 i k) = v254 (ix2 i k) * Ideal.rsqrt (v261 (ix2 i 0) + cE) := by
  rw [← pay66_apply]
  pointwise [k0_pay67]

/-- The error. -/
theorem pay68_apply (v254 : FVec Ideal S512x1024 .f32) (v256 : FVec Ideal S1x1024 .f32) (v261 : FVec Ideal S512x1 .f32) (v269 : Vec Ideal S512x1024 .f32) (i : Fin 512) (k : Fin 1024) :
    k0_pay68 (F := Ideal) v254 v256 v261 v269 (ix2 i k) = k0_pay67 (F := Ideal) v254 v261 (ix2 i k) * v256 (ix2 0 k) - v269 (ix2 i k) := by
  pointwise [k0_pay68]

/-- The block's part of the loss. -/
theorem pay69_apply (v254 : FVec Ideal S512x1024 .f32) (v256 : FVec Ideal S1x1024 .f32) (v261 : FVec Ideal S512x1 .f32) (v269 : Vec Ideal S512x1024 .f32) (z z' : Fin 1) :
    k0_pay69 (F := Ideal) v254 v256 v261 v269 (ix2 z z') = cP * ∑ i : Fin 512, Ideal.div (∑ k : Fin 1024, k0_pay68 (F := Ideal) v254 v256 v261 v269 (ix2 i k) * k0_pay68 (F := Ideal) v254 v256 v261 v269 (ix2 i k)) cN := by
  pointwise [k0_pay69]

/-- The error's gradient. -/
theorem pay70_apply (v254 : FVec Ideal S512x1024 .f32) (v256 : FVec Ideal S1x1024 .f32) (v261 : FVec Ideal S512x1 .f32) (v269 : Vec Ideal S512x1024 .f32) (i : Fin 512) (k : Fin 1024) :
    k0_pay70 (F := Ideal) v254 v256 v261 v269 (ix2 i k) = k0_pay68 (F := Ideal) v254 v256 v261 v269 (ix2 i k) * cK := by
  pointwise [k0_pay70]

/-- The gradient of the last norm's input. -/
theorem pay71_apply (v254 : FVec Ideal S512x1024 .f32) (v256 : FVec Ideal S1x1024 .f32) (v261 : FVec Ideal S512x1 .f32) (v269 : Vec Ideal S512x1024 .f32) (i : Fin 512) (k : Fin 1024) :
    k0_pay71 (F := Ideal) v254 v256 v261 v269 (ix2 i k) = Ideal.rsqrt (v261 (ix2 i 0) + cE) * (k0_pay70 (F := Ideal) v254 v256 v261 v269 (ix2 i k) * v256 (ix2 0 k)
      - k0_pay67 (F := Ideal) v254 v261 (ix2 i k) * Ideal.div (∑ j : Fin 1024, k0_pay70 (F := Ideal) v254 v256 v261 v269 (ix2 i j) * v256 (ix2 0 j) * k0_pay67 (F := Ideal) v254 v261 (ix2 i j)) cN) := by
  rw [← pay66_apply]
  pointwise [k0_pay71]

/-- The block's part of the gain's gradient. -/
theorem pay75_apply (v254 : FVec Ideal S512x1024 .f32) (v256 : FVec Ideal S1x1024 .f32) (v261 : FVec Ideal S512x1 .f32) (v269 : Vec Ideal S512x1024 .f32) (k : Fin 1024) :
    k0_pay75 (F := Ideal) v254 v256 v261 v269 (ix1 k) = ∑ i : Fin 512, k0_pay70 (F := Ideal) v254 v256 v261 v269 (ix2 i k) * k0_pay67 (F := Ideal) v254 v261 (ix2 i k) := by
  pointwise [k0_pay75]

/-- The gain's gradient so far with the block's part. -/
theorem pay1_apply (v : Vec Ideal S1x1024 .f32) (d : FVec Ideal S1024 .f32) (z : Fin 1) (k : Fin 1024) :
    k0_pay1 (F := Ideal) (k0_pay74 v) d (ix2 z k) = v (ix2 z k) + d (ix1 k) := by
  pointwise [k0_pay1, k0_pay74]

/-- The loss so far with the block's part. -/
theorem pay2_apply (d : FVec Ideal S1x1 .f32) (v : Vec Ideal S8x128 .f32) (i : Fin 8) (j : Fin 128) :
    k0_pay2 (F := Ideal) d v (ix2 i j) = v (ix2 i j) + d (ix2 0 0) := by
  pointwise [k0_pay2]

/-- The gain's gradient starts from zero. -/
theorem pay72_apply (z : Fin 1) (k : Fin 1024) : k0_pay72 (F := Ideal) (ix2 z k) = 0 := by
  pointwise [k0_pay72]

/-- The loss starts from zero. -/
theorem pay73_apply (i : Fin 8) (j : Fin 128) : k0_pay73 (F := Ideal) (ix2 i j) = 0 := by
  pointwise [k0_pay73]

end Cert.FfnFIdeal.Pay

end
-- ==== Proof.FfnF.Pieces.lean ====
/- The eleven column blocks that the feed-forward kernel stores of the gate, of the up projection and of their product,
   each read as one array. -/
module

public import proofs.«01_k».proof.Proof.FfnF.Pay
public import proofs.«01_k».proof.Proof.Gen.FfnFIdeal.Value
public import Idealize.ShloMosaic.Lib.Claim

@[expose] public section

noncomputable section

namespace Cert.FfnFIdeal.Point

open Cert.FfnFIdeal Cert.FfnFIdeal.Gen Cert.FfnFIdeal.Value Cert.FfnFIdeal.Pay Idealize.ShloMosaic Idealize.ShloMosaic.TcCoe Idealize.SL.Sem
open Idealize.ShloMosaic.Pipeline
open Cert.MixSpec Cert.FfnSpec Cert.FfnFSpec

/-- A load of 256 rows from row `o`, at an element. -/
theorem ldw (X : Vec Ideal S2816x1024 .bf16) (o : ℕ) (inb : ∀ a : Fin 2, (![o, 0] : Fin 2 → ℕ) a + (![256, 1024] : Fin 2 → ℕ) a ≤ S2816x1024.size a)
    (j : Fin 256) (k : Fin 1024) (n : Fin 2816) (h : n.val = o + j.val) :
    View.ld (Val := Elt Ideal) (e' := .bf16) X (Rect.unit (s := S2816x1024) ![o, 0] ![256, 1024] inb) (ix2 j k) = X (ix2 n k) :=
  View.ld_unit_apply_of _ _ _ _ _ (ix2 n k) (by intro a; match a with | ⟨0, _⟩ => simpa using h | ⟨1, _⟩ => simp)

/-- An index of a column block by its coordinates. -/
theorem at_ix2 (x : S512x256.Idx) (i : Fin 512) (j : Fin 256) (h0 : i.val = (x 0).val) (h1 : j.val = (x 1).val) :
    x = ix2 i j := by
  funext a
  match a with
  | ⟨0, _⟩ => exact Fin.ext h0.symm
  | ⟨1, _⟩ => exact Fin.ext h1.symm

/-- The stores of the gate, the last first. -/
def LG (v0 : Vec Ideal S512x1024 .f32) (v2 : Vec Ideal S1x1024 .f32) (w : Vec Ideal S2816x1024 .bf16) : List (View.Piece (Elt Ideal) S512x2816 .bf16) :=
  [⟨Rect.unit ![0, 2560] ![512, 256] inb_S512x2816_S512x256_0_2560,
      k0_pay60 (F := Ideal) (k0_pay4 v0 v2) (View.ld w (Rect.unit ![2560, 0] ![256, 1024] inb_S2816x1024_S256x1024_2560_0))⟩,
    ⟨Rect.unit ![0, 2304] ![512, 256] inb_S512x2816_S512x256_0_2304,
      k0_pay55 (F := Ideal) (k0_pay4 v0 v2) (View.ld w (Rect.unit ![2304, 0] ![256, 1024] inb_S2816x1024_S256x1024_2304_0))⟩,
    ⟨Rect.unit ![0, 2048] ![512, 256] inb_S512x2816_S512x256_0_2048,
      k0_pay50 (F := Ideal) (k0_pay4 v0 v2) (View.ld w (Rect.unit ![2048, 0] ![256, 1024] inb_S2816x1024_S256x1024_2048_0))⟩,
    ⟨Rect.unit ![0, 1792] ![512, 256] inb_S512x2816_S512x256_0_1792,
      k0_pay45 (F := Ideal) (k0_pay4 v0 v2) (View.ld w (Rect.unit ![1792, 0] ![256, 1024] inb_S2816x1024_S256x1024_1792_0))⟩,
    ⟨Rect.unit ![0, 1536] ![512, 256] inb_S512x2816_S512x256_0_1536,
      k0_pay40 (F := Ideal) (k0_pay4 v0 v2) (View.ld w (Rect.unit ![1536, 0] ![256, 1024] inb_S2816x1024_S256x1024_1536_0))⟩,
    ⟨Rect.unit ![0, 1280] ![512, 256] inb_S512x2816_S512x256_0_1280,
      k0_pay35 (F := Ideal) (k0_pay4 v0 v2) (View.ld w (Rect.unit ![1280, 0] ![256, 1024] inb_S2816x1024_S256x1024_1280_0))⟩,
    ⟨Rect.unit ![0, 1024] ![512, 256] inb_S512x2816_S512x256_0_1024,
      k0_pay30 (F := Ideal) (k0_pay4 v0 v2) (View.ld w (Rect.unit ![1024, 0] ![256, 1024] inb_S2816x1024_S256x1024_1024_0))⟩,
    ⟨Rect.unit ![0, 768] ![512, 256] inb_S512x2816_S512x256_0_768,
      k0_pay24 (F := Ideal) (k0_pay4 v0 v2) (View.ld w (Rect.unit ![768, 0] ![256, 1024] inb_S2816x1024_S256x1024_768_0))⟩,
    ⟨Rect.unit ![0, 512] ![512, 256] inb_S512x2816_S512x256_0_512,
      k0_pay19 (F := Ideal) (k0_pay4 v0 v2) (View.ld w (Rect.unit ![512, 0] ![256, 1024] inb_S2816x1024_S256x1024_512_0))⟩,
    ⟨Rect.unit ![0, 256] ![512, 256] inb_S512x2816_S512x256_0_256,
      k0_pay14 (F := Ideal) (k0_pay4 v0 v2) (View.ld w (Rect.unit ![256, 0] ![256, 1024] inb_S2816x1024_S256x1024_256_0))⟩,
    ⟨Rect.unit ![0, 0] ![512, 256] inb_S512x2816_S512x256_0_0,
      k0_pay7 (F := Ideal) v0 v2 (View.ld w (Rect.unit ![0, 0] ![256, 1024] inb_S2816x1024_S256x1024_0_0))⟩]

/-- Store 0 of the gate at an element. -/
theorem pieceG0 (v0 : Vec Ideal S512x1024 .f32) (v2 : Vec Ideal S1x1024 .f32) (w : Vec Ideal S2816x1024 .bf16) (i : Fin 512) (j : Fin 256) (n : Fin 2816) (h : n.val = 0 + j.val) :
    k0_pay7 (F := Ideal) v0 v2 (View.ld w (Rect.unit ![0, 0] ![256, 1024] inb_S2816x1024_S256x1024_0_0)) (ix2 i j)
      = (∑ k : Fin 1024, k0_pay4 (F := Ideal) v0 v2 (ix2 i k) * w (ix2 n k)) := by
  have e1 := fun k => ldw w 0 inb_S2816x1024_S256x1024_0_0 j k n h
  rw [g0_apply]
  simp only [e1]

/-- Store 1 of the gate at an element. -/
theorem pieceG1 (v0 : Vec Ideal S512x1024 .f32) (v2 : Vec Ideal S1x1024 .f32) (w : Vec Ideal S2816x1024 .bf16) (i : Fin 512) (j : Fin 256) (n : Fin 2816) (h : n.val = 256 + j.val) :
    k0_pay14 (F := Ideal) (k0_pay4 v0 v2) (View.ld w (Rect.unit ![256, 0] ![256, 1024] inb_S2816x1024_S256x1024_256_0)) (ix2 i j)
      = (∑ k : Fin 1024, k0_pay4 (F := Ideal) v0 v2 (ix2 i k) * w (ix2 n k)) := by
  have e1 := fun k => ldw w 256 inb_S2816x1024_S256x1024_256_0 j k n h
  rw [g1_apply]
  simp only [e1]

/-- Store 2 of the gate at an element. -/
theorem pieceG2 (v0 : Vec Ideal S512x1024 .f32) (v2 : Vec Ideal S1x1024 .f32) (w : Vec Ideal S2816x1024 .bf16) (i : Fin 512) (j : Fin 256) (n : Fin 2816) (h : n.val = 512 + j.val) :
    k0_pay19 (F := Ideal) (k0_pay4 v0 v2) (View.ld w (Rect.unit ![512, 0] ![256, 1024] inb_S2816x1024_S256x1024_512_0)) (ix2 i j)
      = (∑ k : Fin 1024, k0_pay4 (F := Ideal) v0 v2 (ix2 i k) * w (ix2 n k)) := by
  have e1 := fun k => ldw w 512 inb_S2816x1024_S256x1024_512_0 j k n h
  rw [g2_apply]
  simp only [e1]

/-- Store 3 of the gate at an element. -/
theorem pieceG3 (v0 : Vec Ideal S512x1024 .f32) (v2 : Vec Ideal S1x1024 .f32) (w : Vec Ideal S2816x1024 .bf16) (i : Fin 512) (j : Fin 256) (n : Fin 2816) (h : n.val = 768 + j.val) :
    k0_pay24 (F := Ideal) (k0_pay4 v0 v2) (View.ld w (Rect.unit ![768, 0] ![256, 1024] inb_S2816x1024_S256x1024_768_0)) (ix2 i j)
      = (∑ k : Fin 1024, k0_pay4 (F := Ideal) v0 v2 (ix2 i k) * w (ix2 n k)) := by
  have e1 := fun k => ldw w 768 inb_S2816x1024_S256x1024_768_0 j k n h
  rw [g3_apply]
  simp only [e1]

/-- Store 4 of the gate at an element. -/
theorem pieceG4 (v0 : Vec Ideal S512x1024 .f32) (v2 : Vec Ideal S1x1024 .f32) (w : Vec Ideal S2816x1024 .bf16) (i : Fin 512) (j : Fin 256) (n : Fin 2816) (h : n.val = 1024 + j.val) :
    k0_pay30 (F := Ideal) (k0_pay4 v0 v2) (View.ld w (Rect.unit ![1024, 0] ![256, 1024] inb_S2816x1024_S256x1024_1024_0)) (ix2 i j)
      = (∑ k : Fin 1024, k0_pay4 (F := Ideal) v0 v2 (ix2 i k) * w (ix2 n k)) := by
  have e1 := fun k => ldw w 1024 inb_S2816x1024_S256x1024_1024_0 j k n h
  rw [g4_apply]
  simp only [e1]

/-- Store 5 of the gate at an element. -/
theorem pieceG5 (v0 : Vec Ideal S512x1024 .f32) (v2 : Vec Ideal S1x1024 .f32) (w : Vec Ideal S2816x1024 .bf16) (i : Fin 512) (j : Fin 256) (n : Fin 2816) (h : n.val = 1280 + j.val) :
    k0_pay35 (F := Ideal) (k0_pay4 v0 v2) (View.ld w (Rect.unit ![1280, 0] ![256, 1024] inb_S2816x1024_S256x1024_1280_0)) (ix2 i j)
      = (∑ k : Fin 1024, k0_pay4 (F := Ideal) v0 v2 (ix2 i k) * w (ix2 n k)) := by
  have e1 := fun k => ldw w 1280 inb_S2816x1024_S256x1024_1280_0 j k n h
  rw [g5_apply]
  simp only [e1]

/-- Store 6 of the gate at an element. -/
theorem pieceG6 (v0 : Vec Ideal S512x1024 .f32) (v2 : Vec Ideal S1x1024 .f32) (w : Vec Ideal S2816x1024 .bf16) (i : Fin 512) (j : Fin 256) (n : Fin 2816) (h : n.val = 1536 + j.val) :
    k0_pay40 (F := Ideal) (k0_pay4 v0 v2) (View.ld w (Rect.unit ![1536, 0] ![256, 1024] inb_S2816x1024_S256x1024_1536_0)) (ix2 i j)
      = (∑ k : Fin 1024, k0_pay4 (F := Ideal) v0 v2 (ix2 i k) * w (ix2 n k)) := by
  have e1 := fun k => ldw w 1536 inb_S2816x1024_S256x1024_1536_0 j k n h
  rw [g6_apply]
  simp only [e1]

/-- Store 7 of the gate at an element. -/
theorem pieceG7 (v0 : Vec Ideal S512x1024 .f32) (v2 : Vec Ideal S1x1024 .f32) (w : Vec Ideal S2816x1024 .bf16) (i : Fin 512) (j : Fin 256) (n : Fin 2816) (h : n.val = 1792 + j.val) :
    k0_pay45 (F := Ideal) (k0_pay4 v0 v2) (View.ld w (Rect.unit ![1792, 0] ![256, 1024] inb_S2816x1024_S256x1024_1792_0)) (ix2 i j)
      = (∑ k : Fin 1024, k0_pay4 (F := Ideal) v0 v2 (ix2 i k) * w (ix2 n k)) := by
  have e1 := fun k => ldw w 1792 inb_S2816x1024_S256x1024_1792_0 j k n h
  rw [g7_apply]
  simp only [e1]

/-- Store 8 of the gate at an element. -/
theorem pieceG8 (v0 : Vec Ideal S512x1024 .f32) (v2 : Vec Ideal S1x1024 .f32) (w : Vec Ideal S2816x1024 .bf16) (i : Fin 512) (j : Fin 256) (n : Fin 2816) (h : n.val = 2048 + j.val) :
    k0_pay50 (F := Ideal) (k0_pay4 v0 v2) (View.ld w (Rect.unit ![2048, 0] ![256, 1024] inb_S2816x1024_S256x1024_2048_0)) (ix2 i j)
      = (∑ k : Fin 1024, k0_pay4 (F := Ideal) v0 v2 (ix2 i k) * w (ix2 n k)) := by
  have e1 := fun k => ldw w 2048 inb_S2816x1024_S256x1024_2048_0 j k n h
  rw [g8_apply]
  simp only [e1]

/-- Store 9 of the gate at an element. -/
theorem pieceG9 (v0 : Vec Ideal S512x1024 .f32) (v2 : Vec Ideal S1x1024 .f32) (w : Vec Ideal S2816x1024 .bf16) (i : Fin 512) (j : Fin 256) (n : Fin 2816) (h : n.val = 2304 + j.val) :
    k0_pay55 (F := Ideal) (k0_pay4 v0 v2) (View.ld w (Rect.unit ![2304, 0] ![256, 1024] inb_S2816x1024_S256x1024_2304_0)) (ix2 i j)
      = (∑ k : Fin 1024, k0_pay4 (F := Ideal) v0 v2 (ix2 i k) * w (ix2 n k)) := by
  have e1 := fun k => ldw w 2304 inb_S2816x1024_S256x1024_2304_0 j k n h
  rw [g9_apply]
  simp only [e1]

/-- Store 10 of the gate at an element. -/
theorem pieceG10 (v0 : Vec Ideal S512x1024 .f32) (v2 : Vec Ideal S1x1024 .f32) (w : Vec Ideal S2816x1024 .bf16) (i : Fin 512) (j : Fin 256) (n : Fin 2816) (h : n.val = 2560 + j.val) :
    k0_pay60 (F := Ideal) (k0_pay4 v0 v2) (View.ld w (Rect.unit ![2560, 0] ![256, 1024] inb_S2816x1024_S256x1024_2560_0)) (ix2 i j)
      = (∑ k : Fin 1024, k0_pay4 (F := Ideal) v0 v2 (ix2 i k) * w (ix2 n k)) := by
  have e1 := fun k => ldw w 2560 inb_S2816x1024_S256x1024_2560_0 j k n h
  rw [g10_apply]
  simp only [e1]

/-- The gate as stored, at an element. -/
theorem canonG (v0 : Vec Ideal S512x1024 .f32) (v2 : Vec Ideal S1x1024 .f32) (w : Vec Ideal S2816x1024 .bf16) (i : Fin 512) (n : Fin 2816) :
    View.canon (LG v0 v2 w) (ix2 i n) = (∑ k : Fin 1024, k0_pay4 (F := Ideal) v0 v2 (ix2 i k) * w (ix2 n k)) := by
  unfold LG
  canon_tiles x h
  · have e : n.val = 2560 + (x 1).val := h1
    exact (congrArg _ (at_ix2 x i ⟨n.val - 2560, by have := (x 1).isLt; omega⟩ h0 (show n.val - 2560 = _ by omega))).trans
      (pieceG10 v0 v2 w i _ n (show n.val = 2560 + (n.val - 2560) by omega))
  · have e : n.val = 2304 + (x 1).val := h1
    exact (congrArg _ (at_ix2 x i ⟨n.val - 2304, by have := (x 1).isLt; omega⟩ h0 (show n.val - 2304 = _ by omega))).trans
      (pieceG9 v0 v2 w i _ n (show n.val = 2304 + (n.val - 2304) by omega))
  · have e : n.val = 2048 + (x 1).val := h1
    exact (congrArg _ (at_ix2 x i ⟨n.val - 2048, by have := (x 1).isLt; omega⟩ h0 (show n.val - 2048 = _ by omega))).trans
      (pieceG8 v0 v2 w i _ n (show n.val = 2048 + (n.val - 2048) by omega))
  · have e : n.val = 1792 + (x 1).val := h1
    exact (congrArg _ (at_ix2 x i ⟨n.val - 1792, by have := (x 1).isLt; omega⟩ h0 (show n.val - 1792 = _ by omega))).trans
      (pieceG7 v0 v2 w i _ n (show n.val = 1792 + (n.val - 1792) by omega))
  · have e : n.val = 1536 + (x 1).val := h1
    exact (congrArg _ (at_ix2 x i ⟨n.val - 1536, by have := (x 1).isLt; omega⟩ h0 (show n.val - 1536 = _ by omega))).trans
      (pieceG6 v0 v2 w i _ n (show n.val = 1536 + (n.val - 1536) by omega))
  · have e : n.val = 1280 + (x 1).val := h1
    exact (congrArg _ (at_ix2 x i ⟨n.val - 1280, by have := (x 1).isLt; omega⟩ h0 (show n.val - 1280 = _ by omega))).trans
      (pieceG5 v0 v2 w i _ n (show n.val = 1280 + (n.val - 1280) by omega))
  · have e : n.val = 1024 + (x 1).val := h1
    exact (congrArg _ (at_ix2 x i ⟨n.val - 1024, by have := (x 1).isLt; omega⟩ h0 (show n.val - 1024 = _ by omega))).trans
      (pieceG4 v0 v2 w i _ n (show n.val = 1024 + (n.val - 1024) by omega))
  · have e : n.val = 768 + (x 1).val := h1
    exact (congrArg _ (at_ix2 x i ⟨n.val - 768, by have := (x 1).isLt; omega⟩ h0 (show n.val - 768 = _ by omega))).trans
      (pieceG3 v0 v2 w i _ n (show n.val = 768 + (n.val - 768) by omega))
  · have e : n.val = 512 + (x 1).val := h1
    exact (congrArg _ (at_ix2 x i ⟨n.val - 512, by have := (x 1).isLt; omega⟩ h0 (show n.val - 512 = _ by omega))).trans
      (pieceG2 v0 v2 w i _ n (show n.val = 512 + (n.val - 512) by omega))
  · have e : n.val = 256 + (x 1).val := h1
    exact (congrArg _ (at_ix2 x i ⟨n.val - 256, by have := (x 1).isLt; omega⟩ h0 (show n.val - 256 = _ by omega))).trans
      (pieceG1 v0 v2 w i _ n (show n.val = 256 + (n.val - 256) by omega))
  · have e : n.val = 0 + (x 1).val := by simpa using h1
    exact (congrArg _ (at_ix2 x i ⟨n.val - 0, by have := (x 1).isLt; omega⟩ h0 (show n.val - 0 = _ by omega))).trans
      (pieceG0 v0 v2 w i _ n (show n.val = 0 + (n.val - 0) by omega))

/-- The stores of the up projection, the last first. -/
def LU (v0 : Vec Ideal S512x1024 .f32) (v2 : Vec Ideal S1x1024 .f32) (u : Vec Ideal S2816x1024 .bf16) : List (View.Piece (Elt Ideal) S512x2816 .bf16) :=
  [⟨Rect.unit ![0, 2560] ![512, 256] inb_S512x2816_S512x256_0_2560,
      k0_pay61 (F := Ideal) (k0_pay4 v0 v2) (View.ld u (Rect.unit ![2560, 0] ![256, 1024] inb_S2816x1024_S256x1024_2560_0))⟩,
    ⟨Rect.unit ![0, 2304] ![512, 256] inb_S512x2816_S512x256_0_2304,
      k0_pay56 (F := Ideal) (k0_pay4 v0 v2) (View.ld u (Rect.unit ![2304, 0] ![256, 1024] inb_S2816x1024_S256x1024_2304_0))⟩,
    ⟨Rect.unit ![0, 2048] ![512, 256] inb_S512x2816_S512x256_0_2048,
      k0_pay51 (F := Ideal) (k0_pay4 v0 v2) (View.ld u (Rect.unit ![2048, 0] ![256, 1024] inb_S2816x1024_S256x1024_2048_0))⟩,
    ⟨Rect.unit ![0, 1792] ![512, 256] inb_S512x2816_S512x256_0_1792,
      k0_pay46 (F := Ideal) (k0_pay4 v0 v2) (View.ld u (Rect.unit ![1792, 0] ![256, 1024] inb_S2816x1024_S256x1024_1792_0))⟩,
    ⟨Rect.unit ![0, 1536] ![512, 256] inb_S512x2816_S512x256_0_1536,
      k0_pay41 (F := Ideal) (k0_pay4 v0 v2) (View.ld u (Rect.unit ![1536, 0] ![256, 1024] inb_S2816x1024_S256x1024_1536_0))⟩,
    ⟨Rect.unit ![0, 1280] ![512, 256] inb_S512x2816_S512x256_0_1280,
      k0_pay36 (F := Ideal) (k0_pay34 (k0_pay4 v0 v2) (View.ld u (Rect.unit ![1280, 0] ![256, 1024] inb_S2816x1024_S256x1024_1280_0)))⟩,
    ⟨Rect.unit ![0, 1024] ![512, 256] inb_S512x2816_S512x256_0_1024,
      k0_pay31 (F := Ideal) (k0_pay4 v0 v2) (View.ld u (Rect.unit ![1024, 0] ![256, 1024] inb_S2816x1024_S256x1024_1024_0))⟩,
    ⟨Rect.unit ![0, 768] ![512, 256] inb_S512x2816_S512x256_0_768,
      k0_pay25 (F := Ideal) (k0_pay4 v0 v2) (View.ld u (Rect.unit ![768, 0] ![256, 1024] inb_S2816x1024_S256x1024_768_0))⟩,
    ⟨Rect.unit ![0, 512] ![512, 256] inb_S512x2816_S512x256_0_512,
      k0_pay20 (F := Ideal) (k0_pay18 (k0_pay4 v0 v2) (View.ld u (Rect.unit ![512, 0] ![256, 1024] inb_S2816x1024_S256x1024_512_0)))⟩,
    ⟨Rect.unit ![0, 256] ![512, 256] inb_S512x2816_S512x256_0_256,
      k0_pay15 (F := Ideal) (k0_pay4 v0 v2) (View.ld u (Rect.unit ![256, 0] ![256, 1024] inb_S2816x1024_S256x1024_256_0))⟩,
    ⟨Rect.unit ![0, 0] ![512, 256] inb_S512x2816_S512x256_0_0,
      k0_pay8 (F := Ideal) v0 v2 (View.ld u (Rect.unit ![0, 0] ![256, 1024] inb_S2816x1024_S256x1024_0_0))⟩]

/-- Store 0 of the up projection at an element. -/
theorem pieceU0 (v0 : Vec Ideal S512x1024 .f32) (v2 : Vec Ideal S1x1024 .f32) (u : Vec Ideal S2816x1024 .bf16) (i : Fin 512) (j : Fin 256) (n : Fin 2816) (h : n.val = 0 + j.val) :
    k0_pay8 (F := Ideal) v0 v2 (View.ld u (Rect.unit ![0, 0] ![256, 1024] inb_S2816x1024_S256x1024_0_0)) (ix2 i j)
      = (∑ k : Fin 1024, k0_pay4 (F := Ideal) v0 v2 (ix2 i k) * u (ix2 n k)) := by
  have e2 := fun k => ldw u 0 inb_S2816x1024_S256x1024_0_0 j k n h
  rw [u0_apply]
  simp only [e2]

/-- Store 1 of the up projection at an element. -/
theorem pieceU1 (v0 : Vec Ideal S512x1024 .f32) (v2 : Vec Ideal S1x1024 .f32) (u : Vec Ideal S2816x1024 .bf16) (i : Fin 512) (j : Fin 256) (n : Fin 2816) (h : n.val = 256 + j.val) :
    k0_pay15 (F := Ideal) (k0_pay4 v0 v2) (View.ld u (Rect.unit ![256, 0] ![256, 1024] inb_S2816x1024_S256x1024_256_0)) (ix2 i j)
      = (∑ k : Fin 1024, k0_pay4 (F := Ideal) v0 v2 (ix2 i k) * u (ix2 n k)) := by
  have e2 := fun k => ldw u 256 inb_S2816x1024_S256x1024_256_0 j k n h
  rw [u1_apply]
  simp only [e2]

/-- Store 2 of the up projection at an element. -/
theorem pieceU2 (v0 : Vec Ideal S512x1024 .f32) (v2 : Vec Ideal S1x1024 .f32) (u : Vec Ideal S2816x1024 .bf16) (i : Fin 512) (j : Fin 256) (n : Fin 2816) (h : n.val = 512 + j.val) :
    k0_pay20 (F := Ideal) (k0_pay18 (k0_pay4 v0 v2) (View.ld u (Rect.unit ![512, 0] ![256, 1024] inb_S2816x1024_S256x1024_512_0))) (ix2 i j)
      = (∑ k : Fin 1024, k0_pay4 (F := Ideal) v0 v2 (ix2 i k) * u (ix2 n k)) := by
  have e2 := fun k => ldw u 512 inb_S2816x1024_S256x1024_512_0 j k n h
  rw [u2_apply]
  simp only [e2]

/-- Store 3 of the up projection at an element. -/
theorem pieceU3 (v0 : Vec Ideal S512x1024 .f32) (v2 : Vec Ideal S1x1024 .f32) (u : Vec Ideal S2816x1024 .bf16) (i : Fin 512) (j : Fin 256) (n : Fin 2816) (h : n.val = 768 + j.val) :
    k0_pay25 (F := Ideal) (k0_pay4 v0 v2) (View.ld u (Rect.unit ![768, 0] ![256, 1024] inb_S2816x1024_S256x1024_768_0)) (ix2 i j)
      = (∑ k : Fin 1024, k0_pay4 (F := Ideal) v0 v2 (ix2 i k) * u (ix2 n k)) := by
  have e2 := fun k => ldw u 768 inb_S2816x1024_S256x1024_768_0 j k n h
  rw [u3_apply]
  simp only [e2]

/-- Store 4 of the up projection at an element. -/
theorem pieceU4 (v0 : Vec Ideal S512x1024 .f32) (v2 : Vec Ideal S1x1024 .f32) (u : Vec Ideal S2816x1024 .bf16) (i : Fin 512) (j : Fin 256) (n : Fin 2816) (h : n.val = 1024 + j.val) :
    k0_pay31 (F := Ideal) (k0_pay4 v0 v2) (View.ld u (Rect.unit ![1024, 0] ![256, 1024] inb_S2816x1024_S256x1024_1024_0)) (ix2 i j)
      = (∑ k : Fin 1024, k0_pay4 (F := Ideal) v0 v2 (ix2 i k) * u (ix2 n k)) := by
  have e2 := fun k => ldw u 1024 inb_S2816x1024_S256x1024_1024_0 j k n h
  rw [u4_apply]
  simp only [e2]

/-- Store 5 of the up projection at an element. -/
theorem pieceU5 (v0 : Vec Ideal S512x1024 .f32) (v2 : Vec Ideal S1x1024 .f32) (u : Vec Ideal S2816x1024 .bf16) (i : Fin 512) (j : Fin 256) (n : Fin 2816) (h : n.val = 1280 + j.val) :
    k0_pay36 (F := Ideal) (k0_pay34 (k0_pay4 v0 v2) (View.ld u (Rect.unit ![1280, 0] ![256, 1024] inb_S2816x1024_S256x1024_1280_0))) (ix2 i j)
      = (∑ k : Fin 1024, k0_pay4 (F := Ideal) v0 v2 (ix2 i k) * u (ix2 n k)) := by
  have e2 := fun k => ldw u 1280 inb_S2816x1024_S256x1024_1280_0 j k n h
  rw [u5_apply]
  simp only [e2]

/-- Store 6 of the up projection at an element. -/
theorem pieceU6 (v0 : Vec Ideal S512x1024 .f32) (v2 : Vec Ideal S1x1024 .f32) (u : Vec Ideal S2816x1024 .bf16) (i : Fin 512) (j : Fin 256) (n : Fin 2816) (h : n.val = 1536 + j.val) :
    k0_pay41 (F := Ideal) (k0_pay4 v0 v2) (View.ld u (Rect.unit ![1536, 0] ![256, 1024] inb_S2816x1024_S256x1024_1536_0)) (ix2 i j)
      = (∑ k : Fin 1024, k0_pay4 (F := Ideal) v0 v2 (ix2 i k) * u (ix2 n k)) := by
  have e2 := fun k => ldw u 1536 inb_S2816x1024_S256x1024_1536_0 j k n h
  rw [u6_apply]
  simp only [e2]

/-- Store 7 of the up projection at an element. -/
theorem pieceU7 (v0 : Vec Ideal S512x1024 .f32) (v2 : Vec Ideal S1x1024 .f32) (u : Vec Ideal S2816x1024 .bf16) (i : Fin 512) (j : Fin 256) (n : Fin 2816) (h : n.val = 1792 + j.val) :
    k0_pay46 (F := Ideal) (k0_pay4 v0 v2) (View.ld u (Rect.unit ![1792, 0] ![256, 1024] inb_S2816x1024_S256x1024_1792_0)) (ix2 i j)
      = (∑ k : Fin 1024, k0_pay4 (F := Ideal) v0 v2 (ix2 i k) * u (ix2 n k)) := by
  have e2 := fun k => ldw u 1792 inb_S2816x1024_S256x1024_1792_0 j k n h
  rw [u7_apply]
  simp only [e2]

/-- Store 8 of the up projection at an element. -/
theorem pieceU8 (v0 : Vec Ideal S512x1024 .f32) (v2 : Vec Ideal S1x1024 .f32) (u : Vec Ideal S2816x1024 .bf16) (i : Fin 512) (j : Fin 256) (n : Fin 2816) (h : n.val = 2048 + j.val) :
    k0_pay51 (F := Ideal) (k0_pay4 v0 v2) (View.ld u (Rect.unit ![2048, 0] ![256, 1024] inb_S2816x1024_S256x1024_2048_0)) (ix2 i j)
      = (∑ k : Fin 1024, k0_pay4 (F := Ideal) v0 v2 (ix2 i k) * u (ix2 n k)) := by
  have e2 := fun k => ldw u 2048 inb_S2816x1024_S256x1024_2048_0 j k n h
  rw [u8_apply]
  simp only [e2]

/-- Store 9 of the up projection at an element. -/
theorem pieceU9 (v0 : Vec Ideal S512x1024 .f32) (v2 : Vec Ideal S1x1024 .f32) (u : Vec Ideal S2816x1024 .bf16) (i : Fin 512) (j : Fin 256) (n : Fin 2816) (h : n.val = 2304 + j.val) :
    k0_pay56 (F := Ideal) (k0_pay4 v0 v2) (View.ld u (Rect.unit ![2304, 0] ![256, 1024] inb_S2816x1024_S256x1024_2304_0)) (ix2 i j)
      = (∑ k : Fin 1024, k0_pay4 (F := Ideal) v0 v2 (ix2 i k) * u (ix2 n k)) := by
  have e2 := fun k => ldw u 2304 inb_S2816x1024_S256x1024_2304_0 j k n h
  rw [u9_apply]
  simp only [e2]

/-- Store 10 of the up projection at an element. -/
theorem pieceU10 (v0 : Vec Ideal S512x1024 .f32) (v2 : Vec Ideal S1x1024 .f32) (u : Vec Ideal S2816x1024 .bf16) (i : Fin 512) (j : Fin 256) (n : Fin 2816) (h : n.val = 2560 + j.val) :
    k0_pay61 (F := Ideal) (k0_pay4 v0 v2) (View.ld u (Rect.unit ![2560, 0] ![256, 1024] inb_S2816x1024_S256x1024_2560_0)) (ix2 i j)
      = (∑ k : Fin 1024, k0_pay4 (F := Ideal) v0 v2 (ix2 i k) * u (ix2 n k)) := by
  have e2 := fun k => ldw u 2560 inb_S2816x1024_S256x1024_2560_0 j k n h
  rw [u10_apply]
  simp only [e2]

/-- The up projection as stored, at an element. -/
theorem canonU (v0 : Vec Ideal S512x1024 .f32) (v2 : Vec Ideal S1x1024 .f32) (u : Vec Ideal S2816x1024 .bf16) (i : Fin 512) (n : Fin 2816) :
    View.canon (LU v0 v2 u) (ix2 i n) = (∑ k : Fin 1024, k0_pay4 (F := Ideal) v0 v2 (ix2 i k) * u (ix2 n k)) := by
  unfold LU
  canon_tiles x h
  · have e : n.val = 2560 + (x 1).val := h1
    exact (congrArg _ (at_ix2 x i ⟨n.val - 2560, by have := (x 1).isLt; omega⟩ h0 (show n.val - 2560 = _ by omega))).trans
      (pieceU10 v0 v2 u i _ n (show n.val = 2560 + (n.val - 2560) by omega))
  · have e : n.val = 2304 + (x 1).val := h1
    exact (congrArg _ (at_ix2 x i ⟨n.val - 2304, by have := (x 1).isLt; omega⟩ h0 (show n.val - 2304 = _ by omega))).trans
      (pieceU9 v0 v2 u i _ n (show n.val = 2304 + (n.val - 2304) by omega))
  · have e : n.val = 2048 + (x 1).val := h1
    exact (congrArg _ (at_ix2 x i ⟨n.val - 2048, by have := (x 1).isLt; omega⟩ h0 (show n.val - 2048 = _ by omega))).trans
      (pieceU8 v0 v2 u i _ n (show n.val = 2048 + (n.val - 2048) by omega))
  · have e : n.val = 1792 + (x 1).val := h1
    exact (congrArg _ (at_ix2 x i ⟨n.val - 1792, by have := (x 1).isLt; omega⟩ h0 (show n.val - 1792 = _ by omega))).trans
      (pieceU7 v0 v2 u i _ n (show n.val = 1792 + (n.val - 1792) by omega))
  · have e : n.val = 1536 + (x 1).val := h1
    exact (congrArg _ (at_ix2 x i ⟨n.val - 1536, by have := (x 1).isLt; omega⟩ h0 (show n.val - 1536 = _ by omega))).trans
      (pieceU6 v0 v2 u i _ n (show n.val = 1536 + (n.val - 1536) by omega))
  · have e : n.val = 1280 + (x 1).val := h1
    exact (congrArg _ (at_ix2 x i ⟨n.val - 1280, by have := (x 1).isLt; omega⟩ h0 (show n.val - 1280 = _ by omega))).trans
      (pieceU5 v0 v2 u i _ n (show n.val = 1280 + (n.val - 1280) by omega))
  · have e : n.val = 1024 + (x 1).val := h1
    exact (congrArg _ (at_ix2 x i ⟨n.val - 1024, by have := (x 1).isLt; omega⟩ h0 (show n.val - 1024 = _ by omega))).trans
      (pieceU4 v0 v2 u i _ n (show n.val = 1024 + (n.val - 1024) by omega))
  · have e : n.val = 768 + (x 1).val := h1
    exact (congrArg _ (at_ix2 x i ⟨n.val - 768, by have := (x 1).isLt; omega⟩ h0 (show n.val - 768 = _ by omega))).trans
      (pieceU3 v0 v2 u i _ n (show n.val = 768 + (n.val - 768) by omega))
  · have e : n.val = 512 + (x 1).val := h1
    exact (congrArg _ (at_ix2 x i ⟨n.val - 512, by have := (x 1).isLt; omega⟩ h0 (show n.val - 512 = _ by omega))).trans
      (pieceU2 v0 v2 u i _ n (show n.val = 512 + (n.val - 512) by omega))
  · have e : n.val = 256 + (x 1).val := h1
    exact (congrArg _ (at_ix2 x i ⟨n.val - 256, by have := (x 1).isLt; omega⟩ h0 (show n.val - 256 = _ by omega))).trans
      (pieceU1 v0 v2 u i _ n (show n.val = 256 + (n.val - 256) by omega))
  · have e : n.val = 0 + (x 1).val := by simpa using h1
    exact (congrArg _ (at_ix2 x i ⟨n.val - 0, by have := (x 1).isLt; omega⟩ h0 (show n.val - 0 = _ by omega))).trans
      (pieceU0 v0 v2 u i _ n (show n.val = 0 + (n.val - 0) by omega))

/-- The stores of the product, the last first. -/
def LA (v0 : Vec Ideal S512x1024 .f32) (v2 : Vec Ideal S1x1024 .f32) (w u : Vec Ideal S2816x1024 .bf16) : List (View.Piece (Elt Ideal) S512x2816 .bf16) :=
  [⟨Rect.unit ![0, 2560] ![512, 256] inb_S512x2816_S512x256_0_2560,
      k0_pay62 (F := Ideal) (k0_pay4 v0 v2) (View.ld w (Rect.unit ![2560, 0] ![256, 1024] inb_S2816x1024_S256x1024_2560_0)) (View.ld u (Rect.unit ![2560, 0] ![256, 1024] inb_S2816x1024_S256x1024_2560_0))⟩,
    ⟨Rect.unit ![0, 2304] ![512, 256] inb_S512x2816_S512x256_0_2304,
      k0_pay57 (F := Ideal) (k0_pay4 v0 v2) (View.ld w (Rect.unit ![2304, 0] ![256, 1024] inb_S2816x1024_S256x1024_2304_0)) (View.ld u (Rect.unit ![2304, 0] ![256, 1024] inb_S2816x1024_S256x1024_2304_0))⟩,
    ⟨Rect.unit ![0, 2048] ![512, 256] inb_S512x2816_S512x256_0_2048,
      k0_pay52 (F := Ideal) (k0_pay48 (k0_pay4 v0 v2) (View.ld w (Rect.unit ![2048, 0] ![256, 1024] inb_S2816x1024_S256x1024_2048_0))) (k0_pay49 (k0_pay4 v0 v2) (View.ld u (Rect.unit ![2048, 0] ![256, 1024] inb_S2816x1024_S256x1024_2048_0)))⟩,
    ⟨Rect.unit ![0, 1792] ![512, 256] inb_S512x2816_S512x256_0_1792,
      k0_pay47 (F := Ideal) (k0_pay4 v0 v2) (View.ld w (Rect.unit ![1792, 0] ![256, 1024] inb_S2816x1024_S256x1024_1792_0)) (View.ld u (Rect.unit ![1792, 0] ![256, 1024] inb_S2816x1024_S256x1024_1792_0))⟩,
    ⟨Rect.unit ![0, 1536] ![512, 256] inb_S512x2816_S512x256_0_1536,
      k0_pay42 (F := Ideal) (k0_pay4 v0 v2) (View.ld w (Rect.unit ![1536, 0] ![256, 1024] inb_S2816x1024_S256x1024_1536_0)) (View.ld u (Rect.unit ![1536, 0] ![256, 1024] inb_S2816x1024_S256x1024_1536_0))⟩,
    ⟨Rect.unit ![0, 1280] ![512, 256] inb_S512x2816_S512x256_0_1280,
      k0_pay37 (F := Ideal) (k0_pay33 (k0_pay4 v0 v2) (View.ld w (Rect.unit ![1280, 0] ![256, 1024] inb_S2816x1024_S256x1024_1280_0))) (k0_pay34 (k0_pay4 v0 v2) (View.ld u (Rect.unit ![1280, 0] ![256, 1024] inb_S2816x1024_S256x1024_1280_0)))⟩,
    ⟨Rect.unit ![0, 1024] ![512, 256] inb_S512x2816_S512x256_0_1024,
      k0_pay32 (F := Ideal) (k0_pay4 v0 v2) (View.ld w (Rect.unit ![1024, 0] ![256, 1024] inb_S2816x1024_S256x1024_1024_0)) (View.ld u (Rect.unit ![1024, 0] ![256, 1024] inb_S2816x1024_S256x1024_1024_0))⟩,
    ⟨Rect.unit ![0, 768] ![512, 256] inb_S512x2816_S512x256_0_768,
      k0_pay27 (F := Ideal) (k0_pay26 (k0_pay4 v0 v2) (View.ld w (Rect.unit ![768, 0] ![256, 1024] inb_S2816x1024_S256x1024_768_0)) (View.ld u (Rect.unit ![768, 0] ![256, 1024] inb_S2816x1024_S256x1024_768_0)))⟩,
    ⟨Rect.unit ![0, 512] ![512, 256] inb_S512x2816_S512x256_0_512,
      k0_pay21 (F := Ideal) (k0_pay17 (k0_pay4 v0 v2) (View.ld w (Rect.unit ![512, 0] ![256, 1024] inb_S2816x1024_S256x1024_512_0))) (k0_pay18 (k0_pay4 v0 v2) (View.ld u (Rect.unit ![512, 0] ![256, 1024] inb_S2816x1024_S256x1024_512_0)))⟩,
    ⟨Rect.unit ![0, 256] ![512, 256] inb_S512x2816_S512x256_0_256,
      k0_pay16 (F := Ideal) (k0_pay4 v0 v2) (View.ld w (Rect.unit ![256, 0] ![256, 1024] inb_S2816x1024_S256x1024_256_0)) (View.ld u (Rect.unit ![256, 0] ![256, 1024] inb_S2816x1024_S256x1024_256_0))⟩,
    ⟨Rect.unit ![0, 0] ![512, 256] inb_S512x2816_S512x256_0_0,
      k0_pay11 (F := Ideal) (k0_pay5 v0 v2 (View.ld w (Rect.unit ![0, 0] ![256, 1024] inb_S2816x1024_S256x1024_0_0))) (k0_pay6 v0 v2 (View.ld u (Rect.unit ![0, 0] ![256, 1024] inb_S2816x1024_S256x1024_0_0))) (k0_pay9 v0 v2 (View.ld w (Rect.unit ![0, 0] ![256, 1024] inb_S2816x1024_S256x1024_0_0))) k0_pay10⟩]

/-- Store 0 of the product at an element. -/
theorem pieceA0 (v0 : Vec Ideal S512x1024 .f32) (v2 : Vec Ideal S1x1024 .f32) (w u : Vec Ideal S2816x1024 .bf16) (i : Fin 512) (j : Fin 256) (n : Fin 2816) (h : n.val = 0 + j.val) :
    k0_pay11 (F := Ideal) (k0_pay5 v0 v2 (View.ld w (Rect.unit ![0, 0] ![256, 1024] inb_S2816x1024_S256x1024_0_0))) (k0_pay6 v0 v2 (View.ld u (Rect.unit ![0, 0] ![256, 1024] inb_S2816x1024_S256x1024_0_0))) (k0_pay9 v0 v2 (View.ld w (Rect.unit ![0, 0] ![256, 1024] inb_S2816x1024_S256x1024_0_0))) k0_pay10 (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 0 inb_S2816x1024_S256x1024_0_0 j k n h
  have e2 := fun k => ldw u 0 inb_S2816x1024_S256x1024_0_0 j k n h
  rw [a0_apply]
  simp only [e1, e2]

/-- Store 1 of the product at an element. -/
theorem pieceA1 (v0 : Vec Ideal S512x1024 .f32) (v2 : Vec Ideal S1x1024 .f32) (w u : Vec Ideal S2816x1024 .bf16) (i : Fin 512) (j : Fin 256) (n : Fin 2816) (h : n.val = 256 + j.val) :
    k0_pay16 (F := Ideal) (k0_pay4 v0 v2) (View.ld w (Rect.unit ![256, 0] ![256, 1024] inb_S2816x1024_S256x1024_256_0)) (View.ld u (Rect.unit ![256, 0] ![256, 1024] inb_S2816x1024_S256x1024_256_0)) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 256 inb_S2816x1024_S256x1024_256_0 j k n h
  have e2 := fun k => ldw u 256 inb_S2816x1024_S256x1024_256_0 j k n h
  rw [a1_apply]
  simp only [e1, e2]

/-- Store 2 of the product at an element. -/
theorem pieceA2 (v0 : Vec Ideal S512x1024 .f32) (v2 : Vec Ideal S1x1024 .f32) (w u : Vec Ideal S2816x1024 .bf16) (i : Fin 512) (j : Fin 256) (n : Fin 2816) (h : n.val = 512 + j.val) :
    k0_pay21 (F := Ideal) (k0_pay17 (k0_pay4 v0 v2) (View.ld w (Rect.unit ![512, 0] ![256, 1024] inb_S2816x1024_S256x1024_512_0))) (k0_pay18 (k0_pay4 v0 v2) (View.ld u (Rect.unit ![512, 0] ![256, 1024] inb_S2816x1024_S256x1024_512_0))) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 512 inb_S2816x1024_S256x1024_512_0 j k n h
  have e2 := fun k => ldw u 512 inb_S2816x1024_S256x1024_512_0 j k n h
  rw [a2_apply]
  simp only [e1, e2]

/-- Store 3 of the product at an element. -/
theorem pieceA3 (v0 : Vec Ideal S512x1024 .f32) (v2 : Vec Ideal S1x1024 .f32) (w u : Vec Ideal S2816x1024 .bf16) (i : Fin 512) (j : Fin 256) (n : Fin 2816) (h : n.val = 768 + j.val) :
    k0_pay27 (F := Ideal) (k0_pay26 (k0_pay4 v0 v2) (View.ld w (Rect.unit ![768, 0] ![256, 1024] inb_S2816x1024_S256x1024_768_0)) (View.ld u (Rect.unit ![768, 0] ![256, 1024] inb_S2816x1024_S256x1024_768_0))) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 768 inb_S2816x1024_S256x1024_768_0 j k n h
  have e2 := fun k => ldw u 768 inb_S2816x1024_S256x1024_768_0 j k n h
  rw [a3_apply]
  simp only [e1, e2]

/-- Store 4 of the product at an element. -/
theorem pieceA4 (v0 : Vec Ideal S512x1024 .f32) (v2 : Vec Ideal S1x1024 .f32) (w u : Vec Ideal S2816x1024 .bf16) (i : Fin 512) (j : Fin 256) (n : Fin 2816) (h : n.val = 1024 + j.val) :
    k0_pay32 (F := Ideal) (k0_pay4 v0 v2) (View.ld w (Rect.unit ![1024, 0] ![256, 1024] inb_S2816x1024_S256x1024_1024_0)) (View.ld u (Rect.unit ![1024, 0] ![256, 1024] inb_S2816x1024_S256x1024_1024_0)) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 1024 inb_S2816x1024_S256x1024_1024_0 j k n h
  have e2 := fun k => ldw u 1024 inb_S2816x1024_S256x1024_1024_0 j k n h
  rw [a4_apply]
  simp only [e1, e2]

/-- Store 5 of the product at an element. -/
theorem pieceA5 (v0 : Vec Ideal S512x1024 .f32) (v2 : Vec Ideal S1x1024 .f32) (w u : Vec Ideal S2816x1024 .bf16) (i : Fin 512) (j : Fin 256) (n : Fin 2816) (h : n.val = 1280 + j.val) :
    k0_pay37 (F := Ideal) (k0_pay33 (k0_pay4 v0 v2) (View.ld w (Rect.unit ![1280, 0] ![256, 1024] inb_S2816x1024_S256x1024_1280_0))) (k0_pay34 (k0_pay4 v0 v2) (View.ld u (Rect.unit ![1280, 0] ![256, 1024] inb_S2816x1024_S256x1024_1280_0))) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 1280 inb_S2816x1024_S256x1024_1280_0 j k n h
  have e2 := fun k => ldw u 1280 inb_S2816x1024_S256x1024_1280_0 j k n h
  rw [a5_apply]
  simp only [e1, e2]

/-- Store 6 of the product at an element. -/
theorem pieceA6 (v0 : Vec Ideal S512x1024 .f32) (v2 : Vec Ideal S1x1024 .f32) (w u : Vec Ideal S2816x1024 .bf16) (i : Fin 512) (j : Fin 256) (n : Fin 2816) (h : n.val = 1536 + j.val) :
    k0_pay42 (F := Ideal) (k0_pay4 v0 v2) (View.ld w (Rect.unit ![1536, 0] ![256, 1024] inb_S2816x1024_S256x1024_1536_0)) (View.ld u (Rect.unit ![1536, 0] ![256, 1024] inb_S2816x1024_S256x1024_1536_0)) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 1536 inb_S2816x1024_S256x1024_1536_0 j k n h
  have e2 := fun k => ldw u 1536 inb_S2816x1024_S256x1024_1536_0 j k n h
  rw [a6_apply]
  simp only [e1, e2]

/-- Store 7 of the product at an element. -/
theorem pieceA7 (v0 : Vec Ideal S512x1024 .f32) (v2 : Vec Ideal S1x1024 .f32) (w u : Vec Ideal S2816x1024 .bf16) (i : Fin 512) (j : Fin 256) (n : Fin 2816) (h : n.val = 1792 + j.val) :
    k0_pay47 (F := Ideal) (k0_pay4 v0 v2) (View.ld w (Rect.unit ![1792, 0] ![256, 1024] inb_S2816x1024_S256x1024_1792_0)) (View.ld u (Rect.unit ![1792, 0] ![256, 1024] inb_S2816x1024_S256x1024_1792_0)) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 1792 inb_S2816x1024_S256x1024_1792_0 j k n h
  have e2 := fun k => ldw u 1792 inb_S2816x1024_S256x1024_1792_0 j k n h
  rw [a7_apply]
  simp only [e1, e2]

/-- Store 8 of the product at an element. -/
theorem pieceA8 (v0 : Vec Ideal S512x1024 .f32) (v2 : Vec Ideal S1x1024 .f32) (w u : Vec Ideal S2816x1024 .bf16) (i : Fin 512) (j : Fin 256) (n : Fin 2816) (h : n.val = 2048 + j.val) :
    k0_pay52 (F := Ideal) (k0_pay48 (k0_pay4 v0 v2) (View.ld w (Rect.unit ![2048, 0] ![256, 1024] inb_S2816x1024_S256x1024_2048_0))) (k0_pay49 (k0_pay4 v0 v2) (View.ld u (Rect.unit ![2048, 0] ![256, 1024] inb_S2816x1024_S256x1024_2048_0))) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 2048 inb_S2816x1024_S256x1024_2048_0 j k n h
  have e2 := fun k => ldw u 2048 inb_S2816x1024_S256x1024_2048_0 j k n h
  rw [a8_apply]
  simp only [e1, e2]

/-- Store 9 of the product at an element. -/
theorem pieceA9 (v0 : Vec Ideal S512x1024 .f32) (v2 : Vec Ideal S1x1024 .f32) (w u : Vec Ideal S2816x1024 .bf16) (i : Fin 512) (j : Fin 256) (n : Fin 2816) (h : n.val = 2304 + j.val) :
    k0_pay57 (F := Ideal) (k0_pay4 v0 v2) (View.ld w (Rect.unit ![2304, 0] ![256, 1024] inb_S2816x1024_S256x1024_2304_0)) (View.ld u (Rect.unit ![2304, 0] ![256, 1024] inb_S2816x1024_S256x1024_2304_0)) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 2304 inb_S2816x1024_S256x1024_2304_0 j k n h
  have e2 := fun k => ldw u 2304 inb_S2816x1024_S256x1024_2304_0 j k n h
  rw [a9_apply]
  simp only [e1, e2]

/-- Store 10 of the product at an element. -/
theorem pieceA10 (v0 : Vec Ideal S512x1024 .f32) (v2 : Vec Ideal S1x1024 .f32) (w u : Vec Ideal S2816x1024 .bf16) (i : Fin 512) (j : Fin 256) (n : Fin 2816) (h : n.val = 2560 + j.val) :
    k0_pay62 (F := Ideal) (k0_pay4 v0 v2) (View.ld w (Rect.unit ![2560, 0] ![256, 1024] inb_S2816x1024_S256x1024_2560_0)) (View.ld u (Rect.unit ![2560, 0] ![256, 1024] inb_S2816x1024_S256x1024_2560_0)) (ix2 i j)
      = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  have e1 := fun k => ldw w 2560 inb_S2816x1024_S256x1024_2560_0 j k n h
  have e2 := fun k => ldw u 2560 inb_S2816x1024_S256x1024_2560_0 j k n h
  rw [a10_apply]
  simp only [e1, e2]

/-- The product as stored, at an element. -/
theorem canonA (v0 : Vec Ideal S512x1024 .f32) (v2 : Vec Ideal S1x1024 .f32) (w u : Vec Ideal S2816x1024 .bf16) (i : Fin 512) (n : Fin 2816) :
    View.canon (LA v0 v2 w u) (ix2 i n) = (∑ k : Fin 1024, k0_pay4 (F := Ideal) v0 v2 (ix2 i k) * w (ix2 n k)) * sg (∑ k : Fin 1024, k0_pay4 (F := Ideal) v0 v2 (ix2 i k) * w (ix2 n k)) * (∑ k : Fin 1024, k0_pay4 (F := Ideal) v0 v2 (ix2 i k) * u (ix2 n k)) := by
  unfold LA
  canon_tiles x h
  · have e : n.val = 2560 + (x 1).val := h1
    exact (congrArg _ (at_ix2 x i ⟨n.val - 2560, by have := (x 1).isLt; omega⟩ h0 (show n.val - 2560 = _ by omega))).trans
      (pieceA10 v0 v2 w u i _ n (show n.val = 2560 + (n.val - 2560) by omega))
  · have e : n.val = 2304 + (x 1).val := h1
    exact (congrArg _ (at_ix2 x i ⟨n.val - 2304, by have := (x 1).isLt; omega⟩ h0 (show n.val - 2304 = _ by omega))).trans
      (pieceA9 v0 v2 w u i _ n (show n.val = 2304 + (n.val - 2304) by omega))
  · have e : n.val = 2048 + (x 1).val := h1
    exact (congrArg _ (at_ix2 x i ⟨n.val - 2048, by have := (x 1).isLt; omega⟩ h0 (show n.val - 2048 = _ by omega))).trans
      (pieceA8 v0 v2 w u i _ n (show n.val = 2048 + (n.val - 2048) by omega))
  · have e : n.val = 1792 + (x 1).val := h1
    exact (congrArg _ (at_ix2 x i ⟨n.val - 1792, by have := (x 1).isLt; omega⟩ h0 (show n.val - 1792 = _ by omega))).trans
      (pieceA7 v0 v2 w u i _ n (show n.val = 1792 + (n.val - 1792) by omega))
  · have e : n.val = 1536 + (x 1).val := h1
    exact (congrArg _ (at_ix2 x i ⟨n.val - 1536, by have := (x 1).isLt; omega⟩ h0 (show n.val - 1536 = _ by omega))).trans
      (pieceA6 v0 v2 w u i _ n (show n.val = 1536 + (n.val - 1536) by omega))
  · have e : n.val = 1280 + (x 1).val := h1
    exact (congrArg _ (at_ix2 x i ⟨n.val - 1280, by have := (x 1).isLt; omega⟩ h0 (show n.val - 1280 = _ by omega))).trans
      (pieceA5 v0 v2 w u i _ n (show n.val = 1280 + (n.val - 1280) by omega))
  · have e : n.val = 1024 + (x 1).val := h1
    exact (congrArg _ (at_ix2 x i ⟨n.val - 1024, by have := (x 1).isLt; omega⟩ h0 (show n.val - 1024 = _ by omega))).trans
      (pieceA4 v0 v2 w u i _ n (show n.val = 1024 + (n.val - 1024) by omega))
  · have e : n.val = 768 + (x 1).val := h1
    exact (congrArg _ (at_ix2 x i ⟨n.val - 768, by have := (x 1).isLt; omega⟩ h0 (show n.val - 768 = _ by omega))).trans
      (pieceA3 v0 v2 w u i _ n (show n.val = 768 + (n.val - 768) by omega))
  · have e : n.val = 512 + (x 1).val := h1
    exact (congrArg _ (at_ix2 x i ⟨n.val - 512, by have := (x 1).isLt; omega⟩ h0 (show n.val - 512 = _ by omega))).trans
      (pieceA2 v0 v2 w u i _ n (show n.val = 512 + (n.val - 512) by omega))
  · have e : n.val = 256 + (x 1).val := h1
    exact (congrArg _ (at_ix2 x i ⟨n.val - 256, by have := (x 1).isLt; omega⟩ h0 (show n.val - 256 = _ by omega))).trans
      (pieceA1 v0 v2 w u i _ n (show n.val = 256 + (n.val - 256) by omega))
  · have e : n.val = 0 + (x 1).val := by simpa using h1
    exact (congrArg _ (at_ix2 x i ⟨n.val - 0, by have := (x 1).isLt; omega⟩ h0 (show n.val - 0 = _ by omega))).trans
      (pieceA0 v0 v2 w u i _ n (show n.val = 0 + (n.val - 0) by omega))

end Cert.FfnFIdeal.Point

end
-- ==== Proof.FfnF.Blocks.lean ====
/- The feed-forward kernel's input blocks at an index: each is a read of the arguments. -/
module

public import proofs.«01_k».proof.Proof.FfnF.Pieces
public import Idealize.ShloMosaic.Lib.StableHlo.RunRead

@[expose] public section

noncomputable section

namespace Cert.FfnFIdeal.Point

open Cert.FfnFIdeal Cert.FfnFIdeal.Gen Cert.FfnFIdeal.Value Cert.FfnFIdeal.Pay Idealize.ShloMosaic Idealize.ShloMosaic.TcCoe Idealize.SL.Sem
open Idealize.ShloMosaic.Pipeline
open Cert.MixSpec Cert.FfnSpec Cert.FfnFSpec

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)

/-- The number of grid points. -/
theorem NN : cfg0.N = 8 := by decide +kernel

/-- Row `i` of block `t`. -/
def row (t : Fin cfg0.N) (i : Fin 512) : Fin 4096 := ⟨t.val * 512 + i.val, by have := t.isLt.trans_eq NN; omega⟩

/-- The block index of window 0. -/
theorem i0 : ∀ t : Fin cfg0.N, win0_0.index t = ![t.val, 0] := (by decide +kernel : ∀ t : Fin grid0.N, _)

/-- Where window 0's block lies in its array. -/
theorem emb0 (t : Fin cfg0.N) (i : Fin 512) (k : Fin 1024) :
    (win0_0.blk t).view.emb (ix2 i k) = ix2 (row t i) k := by
  blk_ext [i0 t, row]

/-- The block index of window 1. -/
theorem i1 : ∀ t : Fin cfg0.N, win0_1.index t = ![0, 0] := (by decide +kernel : ∀ t : Fin grid0.N, _)

/-- Where window 1's block lies in its array. -/
theorem emb1 (t : Fin cfg0.N) (i : Fin 1) (k : Fin 1024) :
    (win0_1.blk t).view.emb (ix2 i k) = ix2 i k := by
  blk_ext [i1 t]

/-- The block index of window 2. -/
theorem i2 : ∀ t : Fin cfg0.N, win0_2.index t = ![0, 0] := (by decide +kernel : ∀ t : Fin grid0.N, _)

/-- Where window 2's block lies in its array. -/
theorem emb2 (t : Fin cfg0.N) (i : Fin 1) (k : Fin 1024) :
    (win0_2.blk t).view.emb (ix2 i k) = ix2 i k := by
  blk_ext [i2 t]

/-- The block index of window 3. -/
theorem i3 : ∀ t : Fin cfg0.N, win0_3.index t = ![t.val, 0] := (by decide +kernel : ∀ t : Fin grid0.N, _)

/-- Where window 3's block lies in its array. -/
theorem emb3 (t : Fin cfg0.N) (i : Fin 512) (k : Fin 1024) :
    (win0_3.blk t).view.emb (ix2 i k) = ix2 (row t i) k := by
  blk_ext [i3 t, row]

/-- The block index of window 4. -/
theorem i4 : ∀ t : Fin cfg0.N, win0_4.index t = ![0, 0] := (by decide +kernel : ∀ t : Fin grid0.N, _)

/-- Where window 4's block lies in its array. -/
theorem emb4 (t : Fin cfg0.N) (i : Fin 2816) (k : Fin 1024) :
    (win0_4.blk t).view.emb (ix2 i k) = ix2 i k := by
  blk_ext [i4 t]

/-- The block index of window 5. -/
theorem i5 : ∀ t : Fin cfg0.N, win0_5.index t = ![0, 0] := (by decide +kernel : ∀ t : Fin grid0.N, _)

/-- Where window 5's block lies in its array. -/
theorem emb5 (t : Fin cfg0.N) (i : Fin 2816) (k : Fin 1024) :
    (win0_5.blk t).view.emb (ix2 i k) = ix2 i k := by
  blk_ext [i5 t]

/-- The block index of window 6. -/
theorem i6 : ∀ t : Fin cfg0.N, win0_6.index t = ![0, 0] := (by decide +kernel : ∀ t : Fin grid0.N, _)

/-- Where window 6's block lies in its array. -/
theorem emb6 (t : Fin cfg0.N) (i : Fin 2816) (k : Fin 1024) :
    (win0_6.blk t).view.emb (ix2 i k) = ix2 i k := by
  blk_ext [i6 t]

/-- The block index of window 7. -/
theorem i7 : ∀ t : Fin cfg0.N, win0_7.index t = ![t.val, 0] := (by decide +kernel : ∀ t : Fin grid0.N, _)

/-- Where window 7's block lies in its array. -/
theorem emb7 (t : Fin cfg0.N) (i : Fin 512) (k : Fin 1024) :
    (win0_7.blk t).view.emb (ix2 i k) = ix2 (row t i) k := by
  blk_ext [i7 t, row]

/-- The block index of window 8. -/
theorem i8 : ∀ t : Fin cfg0.N, win0_8.index t = ![t.val, 0] := (by decide +kernel : ∀ t : Fin grid0.N, _)

/-- Where window 8's block lies in its array. -/
theorem emb8 (t : Fin cfg0.N) (i : Fin 512) (k : Fin 2816) :
    (win0_8.blk t).view.emb (ix2 i k) = ix2 (row t i) k := by
  blk_ext [i8 t, row]

/-- The block index of window 9. -/
theorem i9 : ∀ t : Fin cfg0.N, win0_9.index t = ![t.val, 0] := (by decide +kernel : ∀ t : Fin grid0.N, _)

/-- Where window 9's block lies in its array. -/
theorem emb9 (t : Fin cfg0.N) (i : Fin 512) (k : Fin 2816) :
    (win0_9.blk t).view.emb (ix2 i k) = ix2 (row t i) k := by
  blk_ext [i9 t, row]

/-- The block index of window 10. -/
theorem i10 : ∀ t : Fin cfg0.N, win0_10.index t = ![t.val, 0] := (by decide +kernel : ∀ t : Fin grid0.N, _)

/-- Where window 10's block lies in its array. -/
theorem emb10 (t : Fin cfg0.N) (i : Fin 512) (k : Fin 2816) :
    (win0_10.blk t).view.emb (ix2 i k) = ix2 (row t i) k := by
  blk_ext [i10 t, row]

/-- The block index of window 11. -/
theorem i11 : ∀ t : Fin cfg0.N, win0_11.index t = ![t.val, 0] := (by decide +kernel : ∀ t : Fin grid0.N, _)

/-- Where window 11's block lies in its array. -/
theorem emb11 (t : Fin cfg0.N) (i : Fin 512) (k : Fin 1024) :
    (win0_11.blk t).view.emb (ix2 i k) = ix2 (row t i) k := by
  blk_ext [i11 t, row]

/-- The block index of window 12. -/
theorem i12 : ∀ t : Fin cfg0.N, win0_12.index t = ![0, 0] := (by decide +kernel : ∀ t : Fin grid0.N, _)

/-- Where window 12's block lies in its array. -/
theorem emb12 (t : Fin cfg0.N) (i : Fin 8) (k : Fin 128) :
    (win0_12.blk t).view.emb (ix2 i k) = ix2 i k := by
  blk_ext [i12 t]

/-- The block index of window 13. -/
theorem i13 : ∀ t : Fin cfg0.N, win0_13.index t = ![0, 0] := (by decide +kernel : ∀ t : Fin grid0.N, _)

/-- Where window 13's block lies in its array. -/
theorem emb13 (t : Fin cfg0.N) (i : Fin 1) (k : Fin 1024) :
    (win0_13.blk t).view.emb (ix2 i k) = ix2 i k := by
  blk_ext [i13 t]

/-- Window 0's block at an element. -/
theorem blk0 (t : Fin cfg0.N) (i : Fin 512) (k : Fin 1024) : iblk m c 0 t (ix2 i k) = a0 m c (ix3 (rb (row t i)) (rs (row t i)) k) := by
  blk_simp [iblk]
  rw [emb0]
  show StableHlo.after _ _ _ _ = _
  after_reads_simp
  try simp only [StableHlo.TRef.toBuf, StableHlo.TRef.ofBuf, cast_eq]
  pointwise [rb, rs]

/-- Window 1's block at an element. -/
theorem blk1 (t : Fin cfg0.N) (i : Fin 1) (k : Fin 1024) : iblk m c 1 t (ix2 i k) = a1 m c (ix1 k) := by
  blk_simp [iblk]
  rw [emb1]
  show StableHlo.after _ _ _ _ = _
  after_reads_simp
  try simp only [StableHlo.TRef.toBuf, StableHlo.TRef.ofBuf, cast_eq]
  pointwise

/-- Window 2's block at an element. -/
theorem blk2 (t : Fin cfg0.N) (i : Fin 1) (k : Fin 1024) : iblk m c 2 t (ix2 i k) = a2 m c (ix1 k) := by
  blk_simp [iblk]
  rw [emb2]
  show StableHlo.after _ _ _ _ = _
  after_reads_simp
  try simp only [StableHlo.TRef.toBuf, StableHlo.TRef.ofBuf, cast_eq]
  pointwise

/-- Window 3's block at an element. -/
theorem blk3 (t : Fin cfg0.N) (i : Fin 512) (k : Fin 1024) : iblk m c 3 t (ix2 i k) = a3 m c (ix3 (rb (row t i)) (rs (row t i)) k) := by
  blk_simp [iblk]
  rw [emb3]
  show StableHlo.after _ _ _ _ = _
  after_reads_simp
  try simp only [StableHlo.TRef.toBuf, StableHlo.TRef.ofBuf, cast_eq]
  pointwise [rb, rs]

/-- Window 4's block at an element. -/
theorem blk4 (t : Fin cfg0.N) (i : Fin 2816) (k : Fin 1024) : iblk m c 4 t (ix2 i k) = a4 m c (ix2 k i) := by
  blk_simp [iblk]
  rw [emb4]
  show StableHlo.after _ _ _ _ = _
  after_reads_simp
  try simp only [StableHlo.TRef.toBuf, StableHlo.TRef.ofBuf, cast_eq]
  pointwise

/-- Window 5's block at an element. -/
theorem blk5 (t : Fin cfg0.N) (i : Fin 2816) (k : Fin 1024) : iblk m c 5 t (ix2 i k) = a5 m c (ix2 k i) := by
  blk_simp [iblk]
  rw [emb5]
  show StableHlo.after _ _ _ _ = _
  after_reads_simp
  try simp only [StableHlo.TRef.toBuf, StableHlo.TRef.ofBuf, cast_eq]
  pointwise

/-- Window 6's block at an element. -/
theorem blk6 (t : Fin cfg0.N) (i : Fin 2816) (k : Fin 1024) : iblk m c 6 t (ix2 i k) = a6 m c (ix2 i k) := by
  blk_simp [iblk]
  rw [emb6]
  show StableHlo.after _ _ _ _ = _
  after_reads_simp
  try simp only [StableHlo.TRef.toBuf, StableHlo.TRef.ofBuf, cast_eq]
  pointwise

end Cert.FfnFIdeal.Point

end
-- ==== Proof.FfnF.Outs.lean ====
/- What the feed-forward kernel's body leaves in each output block, at an index. -/
module

public import proofs.«01_k».proof.Proof.FfnF.Blocks

@[expose] public section

noncomputable section

namespace Cert.FfnFIdeal.Point

open Cert.FfnFIdeal Cert.FfnFIdeal.Gen Cert.FfnFIdeal.Value Cert.FfnFIdeal.Pay Idealize.ShloMosaic Idealize.ShloMosaic.TcCoe Idealize.SL.Sem
open Idealize.ShloMosaic.Pipeline
open Cert.MixSpec Cert.FfnSpec Cert.FfnFSpec

variable (m : (ℓ : Loc nD τ sig) → Buf (Elt Ideal) ℓ) (c : Dev nD)

/-- A load of the whole array of what a list of stores left. -/
theorem readCov_all {κ : Kind} {sp : Space} (vw : View sig κ sp S512x2816 .bf16) (L : List (View.Piece (Elt Ideal) S512x2816 .bf16))
    (inb : ∀ a : Fin 2, (![0, 0] : Fin 2 → ℕ) a + (![512, 2816] : Fin 2 → ℕ) a ≤ S512x2816.size a) :
    vw.readCov L (Rect.unit (s := S512x2816) ![0, 0] ![512, 2816] inb).toLoadRect = View.canon L := by
  rw [View.readCov_eq_canon']
  funext j
  refine congrArg _ ?_
  funext a
  match a with
  | ⟨0, _⟩ => exact Fin.ext (by simp [Rect.toLoadRect, LoadRect.idx, Rect.unit])
  | ⟨1, _⟩ => exact Fin.ext (by simp [Rect.toLoadRect, LoadRect.idx, Rect.unit])

/-- The gate that the body stores at point `t`. -/
abbrev GB (t : Fin cfg0.N) := View.canon (LG (iblk m c 0 t) (iblk m c 1 t) (iblk m c 4 t))
/-- The up projection that the body stores at point `t`. -/
abbrev UB (t : Fin cfg0.N) := View.canon (LU (iblk m c 0 t) (iblk m c 1 t) (iblk m c 5 t))
/-- The product that the body stores at point `t`. -/
abbrev AB (t : Fin cfg0.N) := View.canon (LA (iblk m c 0 t) (iblk m c 1 t) (iblk m c 4 t) (iblk m c 5 t))

/-- The normalised activation with its gain. -/
theorem hn_blk (t : Fin cfg0.N) (i : Fin 512) (k : Fin 1024) :
    k0_pay4 (F := Ideal) (iblk m c 0 t) (iblk m c 1 t) (ix2 i k) = hn (a0 m c) (a1 m c) (rb (row t i)) (rs (row t i)) k := by
  rw [pay4_apply]
  simp only [blk0, blk1]
  rfl

/-- The gate at an element of a block. -/
theorem GB_apply (t : Fin cfg0.N) (i : Fin 512) (n : Fin 2816) : GB m c t (ix2 i n) = pre (a0 m c) (a1 m c) (a4 m c) (rb (row t i)) (rs (row t i)) n := by
  refine (canonG _ _ _ i n).trans ?_
  simp only [hn_blk, blk4]
  rfl

/-- The up projection at an element of a block. -/
theorem UB_apply (t : Fin cfg0.N) (i : Fin 512) (n : Fin 2816) : UB m c t (ix2 i n) = pre (a0 m c) (a1 m c) (a5 m c) (rb (row t i)) (rs (row t i)) n := by
  refine (canonU _ _ _ i n).trans ?_
  simp only [hn_blk, blk5]
  rfl

/-- The product at an element of a block. -/
theorem AB_apply (t : Fin cfg0.N) (i : Fin 512) (n : Fin 2816) : AB m c t (ix2 i n) = ac (a0 m c) (a1 m c) (a4 m c) (a5 m c) (rb (row t i)) (rs (row t i)) n := by
  refine (canonA _ _ _ _ i n).trans ?_
  simp only [hn_blk, blk4, blk5]
  rfl

/-- The layer's output that the body holds at point `t`. -/
abbrev YB (t : Fin cfg0.N) := k0_pay63 (F := Ideal) (k0_pay3 (iblk m c 0 t)) (AB m c t) (iblk m c 6 t)
/-- Its mean squares. -/
abbrev MB (t : Fin cfg0.N) := k0_pay65 (F := Ideal) (k0_pay3 (iblk m c 0 t)) (AB m c t) (iblk m c 6 t)
/-- The last norm's gain. -/
abbrev NB (t : Fin cfg0.N) := k0_pay64 (F := Ideal) (iblk m c 2 t)

/-- The layer's output at an element of a block. -/
theorem YB_apply (t : Fin cfg0.N) (i : Fin 512) (k : Fin 1024) : YB m c t (ix2 i k) = yv (a0 m c) (a1 m c) (a4 m c) (a5 m c) (a6 m c) (ix3 (rb (row t i)) (rs (row t i)) k) := by
  refine (pay63_apply _ _ _ i k).trans ?_
  simp only [AB_apply, blk0, blk6]
  rfl

/-- The mean square at an element of a block. -/
theorem MB_apply (t : Fin cfg0.N) (i : Fin 512) (z : Fin 1) : MB m c t (ix2 i z) + cE = ms (yv (a0 m c) (a1 m c) (a4 m c) (a5 m c) (a6 m c)) (rb (row t i)) (rs (row t i)) := by
  refine (congrArg (· + cE) (pay65_apply _ _ _ i z)).trans ?_
  have e := fun k => YB_apply m c t i k
  simp only [e]
  rfl

/-- The last norm's gain at an element of a block. -/
theorem NB_apply (t : Fin cfg0.N) (z : Fin 1) (k : Fin 1024) : NB m c t (ix2 z k) = a2 m c (ix1 k) :=
  (pay64_apply _ z k).trans (blk2 m c t z k)

/-- The last norm's normalised input at an element of a block. -/
theorem xh_blk (t : Fin cfg0.N) (i : Fin 512) (k : Fin 1024) :
    k0_pay67 (F := Ideal) (YB m c t) (MB m c t) (ix2 i k) = xh (yv (a0 m c) (a1 m c) (a4 m c) (a5 m c) (a6 m c)) (rb (row t i)) (rs (row t i)) k := by
  rw [pay67_apply, MB_apply, YB_apply]
  rfl

/-- The error at an element of a block. -/
theorem er_blk (t : Fin cfg0.N) (i : Fin 512) (k : Fin 1024) :
    k0_pay68 (F := Ideal) (YB m c t) (NB m c t) (MB m c t) (iblk m c 3 t) (ix2 i k) = er (a0 m c) (a1 m c) (a2 m c) (a3 m c) (a4 m c) (a5 m c) (a6 m c) (rb (row t i)) (rs (row t i)) k := by
  rw [pay68_apply, xh_blk, NB_apply, blk3]
  rfl

/-- The error's gradient at an element of a block. -/
theorem dy_blk (t : Fin cfg0.N) (i : Fin 512) (k : Fin 1024) :
    k0_pay70 (F := Ideal) (YB m c t) (NB m c t) (MB m c t) (iblk m c 3 t) (ix2 i k) = dy (a0 m c) (a1 m c) (a2 m c) (a3 m c) (a4 m c) (a5 m c) (a6 m c) (rb (row t i)) (rs (row t i)) k := by
  rw [pay70_apply, er_blk]
  rfl

/-- The block's part of the loss. -/
theorem ls_blk (t : Fin cfg0.N) (z z' : Fin 1) :
    k0_pay69 (F := Ideal) (YB m c t) (NB m c t) (MB m c t) (iblk m c 3 t) (ix2 z z') = cP * ∑ i : Fin 512, ls (a0 m c) (a1 m c) (a2 m c) (a3 m c) (a4 m c) (a5 m c) (a6 m c) (rb (row t i)) (rs (row t i)) := by
  rw [pay69_apply]
  simp only [er_blk]
  rfl

/-- The gradient of the last norm's input at an element of a block. -/
theorem dx_blk (t : Fin cfg0.N) (i : Fin 512) (k : Fin 1024) :
    k0_pay71 (F := Ideal) (YB m c t) (NB m c t) (MB m c t) (iblk m c 3 t) (ix2 i k) = dxf (a0 m c) (a1 m c) (a2 m c) (a3 m c) (a4 m c) (a5 m c) (a6 m c) (rb (row t i)) (rs (row t i)) k := by
  rw [pay71_apply]
  simp only [MB_apply, dy_blk, xh_blk, NB_apply]
  exact (zero_add _).symm

/-- The block's part of the gain's gradient. -/
theorem dg_blk (t : Fin cfg0.N) (k : Fin 1024) :
    k0_pay75 (F := Ideal) (YB m c t) (NB m c t) (MB m c t) (iblk m c 3 t) (ix1 k) = ∑ i : Fin 512, dy (a0 m c) (a1 m c) (a2 m c) (a3 m c) (a4 m c) (a5 m c) (a6 m c) (rb (row t i)) (rs (row t i)) k * xh (yv (a0 m c) (a1 m c) (a4 m c) (a5 m c) (a6 m c)) (rb (row t i)) (rs (row t i)) k := by
  rw [pay75_apply]
  simp only [dy_blk, xh_blk]

/-- Window 7's block: the normalised activation. -/
theorem out7 (t : Fin cfg0.N) (i : Fin 512) (k : Fin 1024) : (outsAt0 m c t.val t.isLt).1 (ix2 i k) = hn (a0 m c) (a1 m c) (rb (row t i)) (rs (row t i)) k := by
  by_cases h : t.val % 8 = 0
  · rw [outsAt0_A m c t h]; frame_out; exact hn_blk m c t i k
  · rw [outsAt0_B m c t h]; frame_out; exact hn_blk m c t i k

/-- Window 8's block: the gate. -/
theorem out8 (t : Fin cfg0.N) (i : Fin 512) (k : Fin 2816) : (outsAt0 m c t.val t.isLt).2.1 (ix2 i k) = pre (a0 m c) (a1 m c) (a4 m c) (rb (row t i)) (rs (row t i)) k := by
  by_cases h : t.val % 8 = 0
  · rw [outsAt0_A m c t h]; frame_out; exact GB_apply m c t i k
  · rw [outsAt0_B m c t h]; frame_out; exact GB_apply m c t i k

/-- Window 9's block: the up projection. -/
theorem out9 (t : Fin cfg0.N) (i : Fin 512) (k : Fin 2816) : (outsAt0 m c t.val t.isLt).2.2.1 (ix2 i k) = pre (a0 m c) (a1 m c) (a5 m c) (rb (row t i)) (rs (row t i)) k := by
  by_cases h : t.val % 8 = 0
  · rw [outsAt0_A m c t h]; frame_out; exact UB_apply m c t i k
  · rw [outsAt0_B m c t h]; frame_out; exact UB_apply m c t i k

/-- Window 10's block: the product. -/
theorem out10 (t : Fin cfg0.N) (i : Fin 512) (k : Fin 2816) : (outsAt0 m c t.val t.isLt).2.2.2.1 (ix2 i k) = ac (a0 m c) (a1 m c) (a4 m c) (a5 m c) (rb (row t i)) (rs (row t i)) k := by
  by_cases h : t.val % 8 = 0
  · rw [outsAt0_A m c t h]; frame_out; exact AB_apply m c t i k
  · rw [outsAt0_B m c t h]; frame_out; exact AB_apply m c t i k

/-- Window 11's block: the gradient of the last norm's input. -/
theorem out11 (t : Fin cfg0.N) (i : Fin 512) (k : Fin 1024) : (outsAt0 m c t.val t.isLt).2.2.2.2.1 (ix2 i k) = dxf (a0 m c) (a1 m c) (a2 m c) (a3 m c) (a4 m c) (a5 m c) (a6 m c) (rb (row t i)) (rs (row t i)) k := by
  by_cases h : t.val % 8 = 0
  · rw [outsAt0_A m c t h]; frame_out; rw [readCov_all]; exact dx_blk m c t i k
  · rw [outsAt0_B m c t h]; frame_out; rw [readCov_all]; exact dx_blk m c t i k

/-- The loss after the first point. -/
theorem lo_first (n : ℕ) (hn : n < cfg0.N) (h : n % 8 = 0) (i : Fin 8) (j : Fin 128) :
    (outsAt0 m c n hn).2.2.2.2.2.1 (ix2 i j) = 0 + cP * ∑ r : Fin 512, ls (a0 m c) (a1 m c) (a2 m c) (a3 m c) (a4 m c) (a5 m c) (a6 m c) (rb (row ⟨n, hn⟩ r)) (rs (row ⟨n, hn⟩ r)) := by
  rw [outsAt0_A m c ⟨n, hn⟩ h]
  frame_out
  rw [readCov_all, pay2_apply, pay73_apply]
  exact congrArg _ (ls_blk m c ⟨n, hn⟩ 0 0)

/-- The loss after a later point. -/
theorem lo_step (n : ℕ) (hn : n < cfg0.N) (h : ¬ n % 8 = 0) (i : Fin 8) (j : Fin 128) :
    (outsAt0 m c n hn).2.2.2.2.2.1 (ix2 i j) = (outsAt0 m c (n - 1) (by omega)).2.2.2.2.2.1 (ix2 i j) + cP * ∑ r : Fin 512, ls (a0 m c) (a1 m c) (a2 m c) (a3 m c) (a4 m c) (a5 m c) (a6 m c) (rb (row ⟨n, hn⟩ r)) (rs (row ⟨n, hn⟩ r)) := by
  rw [outsAt0_B m c ⟨n, hn⟩ h]
  frame_out
  rw [readCov_all, pay2_apply]
  exact congrArg _ (ls_blk m c ⟨n, hn⟩ 0 0)

/-- The gain's gradient after the first point. -/
theorem dg_first (n : ℕ) (hn : n < cfg0.N) (h : n % 8 = 0) (z : Fin 1) (k : Fin 1024) :
    (outsAt0 m c n hn).2.2.2.2.2.2 (ix2 z k) = 0 + ∑ r : Fin 512, dy (a0 m c) (a1 m c) (a2 m c) (a3 m c) (a4 m c) (a5 m c) (a6 m c) (rb (row ⟨n, hn⟩ r)) (rs (row ⟨n, hn⟩ r)) k * xh (yv (a0 m c) (a1 m c) (a4 m c) (a5 m c) (a6 m c)) (rb (row ⟨n, hn⟩ r)) (rs (row ⟨n, hn⟩ r)) k := by
  rw [outsAt0_A m c ⟨n, hn⟩ h]
  frame_out
  rw [readCov_all, pay1_apply, pay72_apply]
  exact congrArg _ (dg_blk m c ⟨n, hn⟩ k)

/-- The gain's gradient after a later point. -/
theorem dg_step (n : ℕ) (hn : n < cfg0.N) (h : ¬ n % 8 = 0) (z : Fin 1) (k : Fin 1024) :
    (outsAt0 m c n hn).2.2.2.2.2.2 (ix2 z k) = (outsAt0 m c (n - 1) (by omega)).2.2.2.2.2.2 (ix2 z k) + ∑ r : Fin 512, dy (a0 m c) (a1 m c) (a2 m c) (a3 m c) (a4 m c) (a5 m c) (a6 m c) (rb (row ⟨n, hn⟩ r)) (rs (row ⟨n, hn⟩ r)) k * xh (yv (a0 m c) (a1 m c) (a4 m c) (a5 m c) (a6 m c)) (rb (row ⟨n, hn⟩ r)) (rs (row ⟨n, hn⟩ r)) k := by
  rw [outsAt0_B m c ⟨n, hn⟩ h]
  frame_out
  rw [readCov_all, pay1_apply]
  exact congrArg _ (dg_blk m c ⟨n, hn⟩ k)

end Cert.FfnFIdeal.Point

end
-- ==== Proof.FfnF.Ref.lean ====
/- The feed-forward reference's results, read at an index, are the plain sums of the specification wherever the arguments
   are real numbers. -/
module

public import proofs.«01_k».proof.Proof.FfnF.Spec
public import proofs.«01_k».proof.Proof.Com.Sums
public import proofs.«01_k».proof.Proof.Gen.FfnFRefIdeal.Read

@[expose] public section

noncomputable section

namespace Cert.FfnFRefIdeal.Point

open Cert.FfnFRefIdeal Cert.FfnFRefIdeal.Gen Cert.FfnFRefIdeal.Read Idealize.ShloMosaic Idealize.ShloMosaic.TcCoe Idealize.SL.Sem
open Cert.MixSpec Cert.FfnSpec Cert.FfnFSpec Cert.Com

variable (x0 : Vec Ideal S2x2048x1024 .f32) (x1 x2 : Vec Ideal S1024 .f32) (x3 : Vec Ideal S2x2048x1024 .f32)
  (x4 x5 : Vec Ideal S1024x2816 .f32) (x6 : Vec Ideal S2816x1024 .f32) (b : Fin 2) (s : Fin 2048)

/-- The normalised activation with its gain. -/
theorem v12 (k : Fin 1024) : val_main_v12 (F := Ideal) x0 x1 (ix3 b s k) = hn x0 x1 b s k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, hn, xh, rr, ms]

/-- The gate. -/
theorem v13 (n : Fin 2816) : val_main_v13 (F := Ideal) x0 x1 x4 (ix3 b s n) = pre x0 x1 x4 b s n := by
  pointwise [val_main_v13, dot_S2x2048x1024_S1024x2816_S2x2048x2816_2_0_01_1_n_n]
  simp only [v12]
  rfl

/-- The up projection. -/
theorem v14 (n : Fin 2816) : val_main_v14 (F := Ideal) x0 x1 x5 (ix3 b s n) = pre x0 x1 x5 b s n := by
  pointwise [val_main_v14, dot_S2x2048x1024_S1024x2816_S2x2048x2816_2_0_01_1_n_n]
  simp only [v12]
  rfl

/-- The product. -/
theorem v16 (n : Fin 2816) : val_main_v16 (F := Ideal) x0 x1 x4 x5 (ix3 b s n) = ac x0 x1 x4 x5 b s n := by
  unfold ac sg
  rw [zero_sub, ← v13, ← v14]
  pointwise [val_main_v16, val_main_v15, val_main_call0_v5, val_main_call0_v4, val_main_call0_v3, val_main_call0_v2,
    val_main_call0_v1, val_main_call0_v0, val_main_call0_cst, val_main_call0_cst_0]

/-- The layer's output with its residual. -/
theorem v18 (k : Fin 1024) : val_main_v18 (F := Ideal) x0 x1 x4 x5 x6 (ix3 b s k) = yv x0 x1 x4 x5 x6 (ix3 b s k) := by
  have e : yv x0 x1 x4 x5 x6 (ix3 b s k) = x0 (ix3 b s k) + ∑ n : Fin 2816, ac x0 x1 x4 x5 b s n * x6 (ix2 n k) := rfl
  rw [e]
  simp only [← v16]
  pointwise [val_main_v18, val_main_v17, dot_S2x2048x2816_S2816x1024_S2x2048x1024_2_0_01_1_n_n]

/-- Its mean square with the small constant. -/
theorem v25 (z : Fin 1) : val_main_v25 (F := Ideal) x0 x1 x4 x5 x6 (ix3 b s z) = ms (yv x0 x1 x4 x5 x6) b s := by
  unfold ms
  simp only [← v18]
  pointwise [val_main_v25, val_main_v24, val_main_v23, val_main_v22, val_main_v21, val_main_v20, val_main_v19, val_main_cst_2,
    val_main_cst_3, val_main_cst_4]

/-- Its reciprocal root. -/
theorem v26 (z : Fin 1) : val_main_v26 (F := Ideal) x0 x1 x4 x5 x6 (ix3 b s z) = rr (yv x0 x1 x4 x5 x6) b s := by
  unfold rr
  rw [← v25 x0 x1 x4 x5 x6 b s z]
  pointwise [val_main_v26]

/-- The factor of the norm's derivative. -/
theorem v29 (z : Fin 1) : val_main_v29 (F := Ideal) x0 x1 x4 x5 x6 (ix3 b s z) = cH * Ideal.div (rr (yv x0 x1 x4 x5 x6) b s) (ms (yv x0 x1 x4 x5 x6) b s) := by
  rw [← v26 x0 x1 x4 x5 x6 b s z, ← v25 x0 x1 x4 x5 x6 b s z]
  pointwise [val_main_v29, val_main_v28, val_main_v27, val_main_cst_5]

/-- The last norm's normalised input. -/
theorem v31 (k : Fin 1024) : val_main_v31 (F := Ideal) x0 x1 x4 x5 x6 (ix3 b s k) = xh (yv x0 x1 x4 x5 x6) b s k := by
  unfold xh
  rw [← v26 x0 x1 x4 x5 x6 b s 0, ← v18]
  pointwise [val_main_v31, val_main_v30]

/-- The error. -/
theorem v35 (k : Fin 1024) : val_main_v35 (F := Ideal) x0 x1 x2 x3 x4 x5 x6 (ix3 b s k) = er x0 x1 x2 x3 x4 x5 x6 b s k := by
  unfold er
  rw [← v31]
  pointwise [val_main_v35, val_main_v34, val_main_v33, val_main_v32]

/-- A token's mean square error. -/
theorem v41 : val_main_v41 (F := Ideal) x0 x1 x2 x3 x4 x5 x6 (ix2 b s) = ls x0 x1 x2 x3 x4 x5 x6 b s := by
  unfold ls
  simp only [← v35]
  pointwise [val_main_v41, val_main_v40, val_main_v39, val_main_v36, val_main_cst_7, val_main_cst_8]

/-- The loss, in every place of its block. -/
theorem v79 (i : Fin 8) (j : Fin 128) : val_main_v79 (F := Ideal) x0 x1 x2 x3 x4 x5 x6 (ix2 i j) = lo x0 x1 x2 x3 x4 x5 x6 := by
  have hs : ∑ r : Fin 4096, ls x0 x1 x2 x3 x4 x5 x6 (rb r) (rs r) = ∑ b : Fin 2, ∑ s : Fin 2048, ls x0 x1 x2 x3 x4 x5 x6 b s :=
    (Fin.sum_mul_add_congr (S := 2) (n := 2048) fun b s hl => by rw [rb_mk, rs_mk]).symm
  unfold lo
  rw [hs]
  simp only [← v41]
  pointwise [val_main_v79, val_main_v43, val_main_v42, val_main_cst_9, val_main_cst_10]

section Real

variable (h0 : ∀ i, IsR (x0 i)) (h1 : ∀ i, IsR (x1 i)) (h2 : ∀ i, IsR (x2 i)) (h3 : ∀ i, IsR (x3 i)) (h4 : ∀ i, IsR (x4 i))
  (h5 : ∀ i, IsR (x5 i)) (h6 : ∀ i, IsR (x6 i))

include h0 h1 h2 h3 h4 h5 h6 in
/-- The error's gradient. -/
theorem v49 (k : Fin 1024) : val_main_v49 (F := Ideal) x0 x1 x2 x3 x4 x5 x6 (ix3 b s k) = dy x0 x1 x2 x3 x4 x5 x6 b s k := by
  refine Eq.trans ?_ (dy_eq _ (isR_er x0 x1 x2 x3 x4 x5 x6 h0 h1 h2 h3 h4 h5 h6 b s k))
  rw [← v35]
  pointwise [val_main_v49, val_main_v48, val_main_v47, val_main_v46, val_main_v45, val_main_v44, val_main_v38, val_main_v37,
    val_main_cst_6, val_main_cst_11, val_main_cst_12, val_main_cst_13]

/-- The norm's derivative: the factor of the two equal terms. -/
theorem v64 (hd : ∀ k, val_main_v49 (F := Ideal) x0 x1 x2 x3 x4 x5 x6 (ix3 b s k) = dy x0 x1 x2 x3 x4 x5 x6 b s k) :
    val_main_v64 (F := Ideal) x0 x1 x2 x3 x4 x5 x6 (ix2 b s)
      = Ideal.div ((∑ j : Fin 1024, yv x0 x1 x4 x5 x6 (ix3 b s j) * (dy x0 x1 x2 x3 x4 x5 x6 b s j * x2 (ix1 j)))
          * (cH * Ideal.div (rr (yv x0 x1 x4 x5 x6) b s) (ms (yv x0 x1 x4 x5 x6) b s))) cN := by
  simp only [← hd, ← v18]
  rw [← v29 x0 x1 x4 x5 x6 b s 0]
  pointwise [val_main_v64, val_main_v63, val_main_v62, val_main_v61, val_main_v58, val_main_v57, val_main_v56, val_main_v54,
    val_main_v53, val_main_v32, val_main_cst_16, val_main_cst_17, val_main_cst_18]
  exact Fin.sum_univ_one _

include h0 h1 h2 h3 h4 h5 h6 in
/-- The gradient of the last norm's input. -/
theorem v69 (k : Fin 1024) : val_main_v69 (F := Ideal) x0 x1 x2 x3 x4 x5 x6 (ix3 b s k) = dxf x0 x1 x2 x3 x4 x5 x6 b s k := by
  have hd := fun k => v49 x0 x1 x2 x3 x4 x5 x6 b s h0 h1 h2 h3 h4 h5 h6 k
  refine Eq.trans ?_ (dx_three 0 (fun j => yv x0 x1 x4 x5 x6 (ix3 b s j)) (fun j => x2 (ix1 j)) (fun j => dy x0 x1 x2 x3 x4 x5 x6 b s j)
    (fun _ => isR_yv x0 x1 x4 x5 x6 h0 h1 h4 h5 h6 _) (fun _ => h2 _) (fun j => isR_dy x0 x1 x2 x3 x4 x5 x6 h0 h1 h2 h3 h4 h5 h6 b s j) (ms (yv x0 x1 x4 x5 x6) b s) (rr (yv x0 x1 x4 x5 x6) b s) _ rfl rfl
    (v64 x0 x1 x2 x3 x4 x5 x6 b s hd) k)
  rw [zero_add]
  simp only [← hd, ← v18]
  rw [← v26 x0 x1 x4 x5 x6 b s 0]
  pointwise [val_main_v69, val_main_v68, val_main_v67, val_main_v66, val_main_v65, val_main_v60, val_main_v59, val_main_v54,
    val_main_v53, val_main_v32]

include h0 h1 h2 h3 h4 h5 h6 in
/-- The gradient of the last norm's input, flattened. -/
theorem v78 (r : Fin 4096) (k : Fin 1024) : val_main_v78 (F := Ideal) x0 x1 x2 x3 x4 x5 x6 (ix2 r k) = dxf x0 x1 x2 x3 x4 x5 x6 (rb r) (rs r) k := by
  rw [← v69 x0 x1 x2 x3 x4 x5 x6 _ _ h0 h1 h2 h3 h4 h5 h6]
  pointwise [val_main_v78, rb, rs]

include h0 h1 h2 h3 h4 h5 h6 in
/-- The gradient of the last norm's gain, as the sum over the two leading axes. -/
theorem v51 (k : Fin 1024) : val_main_v51 (F := Ideal) x0 x1 x2 x3 x4 x5 x6 (ix1 k)
    = ∑ b : Fin 2, ∑ s : Fin 2048, dy x0 x1 x2 x3 x4 x5 x6 b s k * xh (yv x0 x1 x4 x5 x6) b s k := by
  unfold val_main_v51
  rw [ValueIdx.hostReduceAdd_apply]
  refine (Cert.Com.hostReduceAdd_r3_a01 _ _ _ k).trans ?_
  simp only [← v49 x0 x1 x2 x3 x4 x5 x6 _ _ h0 h1 h2 h3 h4 h5 h6, ← v31]
  pointwise [val_main_v50, val_main_cst_14]
  simp only [mul_comm]

include h0 h1 h2 h3 h4 h5 h6 in
/-- The gradient of the last norm's gain. -/
theorem v80 (z : Fin 1) (k : Fin 1024) : val_main_v80 (F := Ideal) x0 x1 x2 x3 x4 x5 x6 (ix2 z k) = dgf x0 x1 x2 x3 x4 x5 x6 k := by
  have h : val_main_v55 (F := Ideal) x0 x1 x2 x3 x4 x5 x6 (ix1 k) = val_main_v51 (F := Ideal) x0 x1 x2 x3 x4 x5 x6 (ix1 k) := by
    unfold val_main_v55
    rw [ValueIdx.hostReduceAdd_apply]
    refine (Cert.Com.hostReduceAdd_r3_a01 _ _ _ k).trans ?_
    pointwise [val_main_v52, val_main_cst_15]
    simp only [Fin.sum_univ_one]
  have h' : val_main_v80 (F := Ideal) x0 x1 x2 x3 x4 x5 x6 (ix2 z k) = val_main_v55 (F := Ideal) x0 x1 x2 x3 x4 x5 x6 (ix1 k) := by
    pointwise [val_main_v80]
  rw [h', h, v51 x0 x1 x2 x3 x4 x5 x6 h0 h1 h2 h3 h4 h5 h6]
  unfold dgf
  refine Fin.sum_mul_add_congr (S := 2) (n := 2048) fun a b hl => ?_
  rw [rb_mk, rs_mk]

end Real

/-- The normalised activation, flattened. -/
theorem v71 (r : Fin 4096) (k : Fin 1024) : val_main_v71 (F := Ideal) x0 x1 (ix2 r k) = hn x0 x1 (rb r) (rs r) k := by
  rw [← v12]
  pointwise [val_main_v71, val_main_v70, rb, rs]

/-- The gate, flattened. -/
theorem v73 (r : Fin 4096) (n : Fin 2816) : val_main_v73 (F := Ideal) x0 x1 x4 (ix2 r n) = pre x0 x1 x4 (rb r) (rs r) n := by
  rw [← v13]
  pointwise [val_main_v73, val_main_v72, rb, rs]

/-- The up projection, flattened. -/
theorem v75 (r : Fin 4096) (n : Fin 2816) : val_main_v75 (F := Ideal) x0 x1 x5 (ix2 r n) = pre x0 x1 x5 (rb r) (rs r) n := by
  rw [← v14]
  pointwise [val_main_v75, val_main_v74, rb, rs]

/-- The product, flattened. -/
theorem v77 (r : Fin 4096) (n : Fin 2816) : val_main_v77 (F := Ideal) x0 x1 x4 x5 (ix2 r n) = ac x0 x1 x4 x5 (rb r) (rs r) n := by
  rw [← v16]
  pointwise [val_main_v77, val_main_v76, rb, rs]

end Cert.FfnFRefIdeal.Point

end
-- ==== Proof.FfnF.Final.lean ====
/- The feed-forward kernel and its reference have equal results: the arrays the kernel leaves, and the value claim. -/
module

public import proofs.«01_k».proof.Proof.FfnF.Outs
public import proofs.«01_k».proof.Proof.FfnF.Ref
public import proofs.«01_k».proof.Proof.Gen.FfnFRefIdeal.Run
public import proofs.«01_k».proof.Defs
public import Idealize.ShloMosaic.Lib.Claim

@[expose] public section

noncomputable section

namespace Cert.FfnFIdeal.Point

open Cert.FfnFIdeal Cert.FfnFIdeal.Gen Cert.FfnFIdeal.Value Idealize.ShloMosaic Idealize.ShloMosaic.TcCoe Idealize.SL.Sem
open Idealize.ShloMosaic.Pipeline
open Cert.MixSpec Cert.FfnSpec Cert.FfnFSpec

variable (m : (ℓ : Loc nD τ sig) → Buf (Elt Ideal) ℓ) (c : Dev nD)

/-- What window 7's array holds after the run. -/
theorem final7 : (dats m 0 c).arrAt 7 cfg0.N = fun j => hn (a0 m c) (a1 m c) (rb (j 0)) (rs (j 0)) (j 1) := by
  refine (dats m 0 c).arrAt_eq_of_covers 7 _ (by decide +kernel) fun t hf y => ?_
  blk_simp
  rw [after0_7]
  obtain ⟨i, k, rfl⟩ : ∃ (i : Fin 512) (k : Fin 1024), y = ix2 i k := ⟨y 0, y 1, by funext a; match a with | ⟨0, _⟩ => rfl | ⟨1, _⟩ => rfl⟩
  rw [emb7]
  exact out7 m c t i k

/-- What window 8's array holds after the run. -/
theorem final8 : (dats m 0 c).arrAt 8 cfg0.N = fun j => pre (a0 m c) (a1 m c) (a4 m c) (rb (j 0)) (rs (j 0)) (j 1) := by
  refine (dats m 0 c).arrAt_eq_of_covers 8 _ (by decide +kernel) fun t hf y => ?_
  blk_simp
  rw [after0_8]
  obtain ⟨i, k, rfl⟩ : ∃ (i : Fin 512) (k : Fin 2816), y = ix2 i k := ⟨y 0, y 1, by funext a; match a with | ⟨0, _⟩ => rfl | ⟨1, _⟩ => rfl⟩
  rw [emb8]
  exact out8 m c t i k

/-- What window 9's array holds after the run. -/
theorem final9 : (dats m 0 c).arrAt 9 cfg0.N = fun j => pre (a0 m c) (a1 m c) (a5 m c) (rb (j 0)) (rs (j 0)) (j 1) := by
  refine (dats m 0 c).arrAt_eq_of_covers 9 _ (by decide +kernel) fun t hf y => ?_
  blk_simp
  rw [after0_9]
  obtain ⟨i, k, rfl⟩ : ∃ (i : Fin 512) (k : Fin 2816), y = ix2 i k := ⟨y 0, y 1, by funext a; match a with | ⟨0, _⟩ => rfl | ⟨1, _⟩ => rfl⟩
  rw [emb9]
  exact out9 m c t i k

/-- What window 10's array holds after the run. -/
theorem final10 : (dats m 0 c).arrAt 10 cfg0.N = fun j => ac (a0 m c) (a1 m c) (a4 m c) (a5 m c) (rb (j 0)) (rs (j 0)) (j 1) := by
  refine (dats m 0 c).arrAt_eq_of_covers 10 _ (by decide +kernel) fun t hf y => ?_
  blk_simp
  rw [after0_10]
  obtain ⟨i, k, rfl⟩ : ∃ (i : Fin 512) (k : Fin 2816), y = ix2 i k := ⟨y 0, y 1, by funext a; match a with | ⟨0, _⟩ => rfl | ⟨1, _⟩ => rfl⟩
  rw [emb10]
  exact out10 m c t i k

/-- What window 11's array holds after the run. -/
theorem final11 : (dats m 0 c).arrAt 11 cfg0.N = fun j => dxf (a0 m c) (a1 m c) (a2 m c) (a3 m c) (a4 m c) (a5 m c) (a6 m c) (rb (j 0)) (rs (j 0)) (j 1) := by
  refine (dats m 0 c).arrAt_eq_of_covers 11 _ (by decide +kernel) fun t hf y => ?_
  blk_simp
  rw [after0_11]
  obtain ⟨i, k, rfl⟩ : ∃ (i : Fin 512) (k : Fin 1024), y = ix2 i k := ⟨y 0, y 1, by funext a; match a with | ⟨0, _⟩ => rfl | ⟨1, _⟩ => rfl⟩
  rw [emb11]
  exact out11 m c t i k

/-- The last point of the grid. -/
def t_last : Fin cfg0.N := ⟨7, by decide +kernel⟩

/-- What window 12's array holds after the run: the loss in every place. -/
theorem final12 : (dats m 0 c).arrAt 12 cfg0.N = fun _ => lo (a0 m c) (a1 m c) (a2 m c) (a3 m c) (a4 m c) (a5 m c) (a6 m c) := by
  refine (dats m 0 c).arrAt_eq_of_after_last 12 t_last (by decide +kernel) _ fun j => ?_
  blk_simp
  rw [after0_12]
  obtain ⟨i, k, rfl⟩ : ∃ (i : Fin 8) (k : Fin 128), j = ix2 i k := ⟨j 0, j 1, by funext a; match a with | ⟨0, _⟩ => rfl | ⟨1, _⟩ => rfl⟩
  refine (Pipeline.eq_sum_fin_of_reset_step_apply_last (fun n h => (outsAt0 m c n h).2.2.2.2.2.1) 8 (fun _ => 0)
    (fun t j => cP * ∑ r : Fin 512, ls (a0 m c) (a1 m c) (a2 m c) (a3 m c) (a4 m c) (a5 m c) (a6 m c) (rb (row t r)) (rs (row t r)))
    (fun t h j => ?_) (fun t h j => ?_) (le_of_eq NN) t_last rfl (ix2 i k)).trans ?_
  · obtain ⟨i, k, rfl⟩ : ∃ (i : Fin 8) (k : Fin 128), j = ix2 i k := ⟨j 0, j 1, by funext a; match a with | ⟨0, _⟩ => rfl | ⟨1, _⟩ => rfl⟩
    exact lo_first m c t.val t.isLt h i k
  · obtain ⟨i, k, rfl⟩ : ∃ (i : Fin 8) (k : Fin 128), j = ix2 i k := ⟨j 0, j 1, by funext a; match a with | ⟨0, _⟩ => rfl | ⟨1, _⟩ => rfl⟩
    exact lo_step m c t.val t.isLt h i k
  · refine (zero_add _).trans ?_
    refine (cP_mul_sum _).symm.trans ?_
    exact congrArg (cP * ·) (Fin.sum_mul_add_congr (S := 8) (n := 512) fun s r hl => rfl)

/-- What window 13's array holds after the run: the sum over every token. -/
theorem final13 : (dats m 0 c).arrAt 13 cfg0.N = fun j => dgf (a0 m c) (a1 m c) (a2 m c) (a3 m c) (a4 m c) (a5 m c) (a6 m c) (j 1) := by
  refine (dats m 0 c).arrAt_eq_of_after_last 13 t_last (by decide +kernel) _ fun j => ?_
  blk_simp
  rw [after0_13]
  obtain ⟨z, k, rfl⟩ : ∃ (z : Fin 1) (k : Fin 1024), j = ix2 z k := ⟨j 0, j 1, by funext a; match a with | ⟨0, _⟩ => rfl | ⟨1, _⟩ => rfl⟩
  refine (Pipeline.eq_sum_fin_of_reset_step_apply_last (fun n h => (outsAt0 m c n h).2.2.2.2.2.2) 8 (fun _ => 0)
    (fun t j => ∑ r : Fin 512, dy (a0 m c) (a1 m c) (a2 m c) (a3 m c) (a4 m c) (a5 m c) (a6 m c) (rb (row t r)) (rs (row t r)) (j 1) * xh (yv (a0 m c) (a1 m c) (a4 m c) (a5 m c) (a6 m c)) (rb (row t r)) (rs (row t r)) (j 1))
    (fun t h j => ?_) (fun t h j => ?_) (le_of_eq NN) t_last rfl (ix2 z k)).trans ?_
  · obtain ⟨z, k, rfl⟩ : ∃ (z : Fin 1) (k : Fin 1024), j = ix2 z k := ⟨j 0, j 1, by funext a; match a with | ⟨0, _⟩ => rfl | ⟨1, _⟩ => rfl⟩
    exact dg_first m c t.val t.isLt h z k
  · obtain ⟨z, k, rfl⟩ : ∃ (z : Fin 1) (k : Fin 1024), j = ix2 z k := ⟨j 0, j 1, by funext a; match a with | ⟨0, _⟩ => rfl | ⟨1, _⟩ => rfl⟩
    exact dg_step m c t.val t.isLt h z k
  · refine (zero_add _).trans ?_
    exact Fin.sum_mul_add_congr (S := 8) (n := 512) fun s r hl => rfl

end Cert.FfnFIdeal.Point

namespace Cert.FfnFRefIdeal.Point

open Cert.FfnFRefIdeal Cert.FfnFRefIdeal.Gen Cert.FfnFRefIdeal.Read Idealize.ShloMosaic Idealize.ShloMosaic.TcCoe Idealize.SL.Sem
open Cert.MixSpec Cert.FfnSpec Cert.FfnFSpec Cert.Com

variable (x0 : Vec Ideal S2x2048x1024 .f32) (x1 x2 : Vec Ideal S1024 .f32) (x3 : Vec Ideal S2x2048x1024 .f32)
  (x4 x5 : Vec Ideal S1024x2816 .f32) (x6 : Vec Ideal S2816x1024 .f32)

/-- The reference's `v71` as one function of the index. -/
theorem v71_fn  : val_main_v71 (F := Ideal) x0 x1 = fun j => hn x0 x1 (rb (j 0)) (rs (j 0)) (j 1) := by
  funext j
  have hj : j = ix2 (j 0) (j 1) := by funext a; match a with | ⟨0, _⟩ => rfl | ⟨1, _⟩ => rfl
  exact (congrArg _ hj).trans (v71 x0 x1 (j 0) (j 1))

/-- The reference's `v73` as one function of the index. -/
theorem v73_fn  : val_main_v73 (F := Ideal) x0 x1 x4 = fun j => pre x0 x1 x4 (rb (j 0)) (rs (j 0)) (j 1) := by
  funext j
  have hj : j = ix2 (j 0) (j 1) := by funext a; match a with | ⟨0, _⟩ => rfl | ⟨1, _⟩ => rfl
  exact (congrArg _ hj).trans (v73 x0 x1 x4 (j 0) (j 1))

/-- The reference's `v75` as one function of the index. -/
theorem v75_fn  : val_main_v75 (F := Ideal) x0 x1 x5 = fun j => pre x0 x1 x5 (rb (j 0)) (rs (j 0)) (j 1) := by
  funext j
  have hj : j = ix2 (j 0) (j 1) := by funext a; match a with | ⟨0, _⟩ => rfl | ⟨1, _⟩ => rfl
  exact (congrArg _ hj).trans (v75 x0 x1 x5 (j 0) (j 1))

/-- The reference's `v77` as one function of the index. -/
theorem v77_fn  : val_main_v77 (F := Ideal) x0 x1 x4 x5 = fun j => ac x0 x1 x4 x5 (rb (j 0)) (rs (j 0)) (j 1) := by
  funext j
  have hj : j = ix2 (j 0) (j 1) := by funext a; match a with | ⟨0, _⟩ => rfl | ⟨1, _⟩ => rfl
  exact (congrArg _ hj).trans (v77 x0 x1 x4 x5 (j 0) (j 1))

/-- The reference's `v79` as one function of the index. -/
theorem v79_fn  : val_main_v79 (F := Ideal) x0 x1 x2 x3 x4 x5 x6 = fun j => lo x0 x1 x2 x3 x4 x5 x6 := by
  funext j
  have hj : j = ix2 (j 0) (j 1) := by funext a; match a with | ⟨0, _⟩ => rfl | ⟨1, _⟩ => rfl
  exact (congrArg _ hj).trans (v79 x0 x1 x2 x3 x4 x5 x6 (j 0) (j 1))

/-- The reference's `v78` as one function of the index. -/
theorem v78_fn (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) (h6 : ∀ i, IsR (x6 i)) : val_main_v78 (F := Ideal) x0 x1 x2 x3 x4 x5 x6 = fun j => dxf x0 x1 x2 x3 x4 x5 x6 (rb (j 0)) (rs (j 0)) (j 1) := by
  funext j
  have hj : j = ix2 (j 0) (j 1) := by funext a; match a with | ⟨0, _⟩ => rfl | ⟨1, _⟩ => rfl
  exact (congrArg _ hj).trans (v78 x0 x1 x2 x3 x4 x5 x6 h0 h1 h2 h3 h4 h5 h6 (j 0) (j 1))

/-- The reference's `v80` as one function of the index. -/
theorem v80_fn (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) (h6 : ∀ i, IsR (x6 i)) : val_main_v80 (F := Ideal) x0 x1 x2 x3 x4 x5 x6 = fun j => dgf x0 x1 x2 x3 x4 x5 x6 (j 1) := by
  funext j
  have hj : j = ix2 (j 0) (j 1) := by funext a; match a with | ⟨0, _⟩ => rfl | ⟨1, _⟩ => rfl
  exact (congrArg _ hj).trans (v80 x0 x1 x2 x3 x4 x5 x6 h0 h1 h2 h3 h4 h5 h6 (j 0) (j 1))

/-- The reference's `v78` at the kernel's arguments is what the kernel leaves in window 11's array. -/
theorem v78_eq (m : (ℓ : Loc Cert.FfnFIdeal.nD Cert.FfnFIdeal.τ Cert.FfnFIdeal.sig) → Buf (Elt Ideal) ℓ) (c : Dev Cert.FfnFIdeal.nD)
    (y0 : Vec Ideal S2x2048x1024 .f32) (y1 y2 : Vec Ideal S1024 .f32) (y3 : Vec Ideal S2x2048x1024 .f32)
    (y4 y5 : Vec Ideal S1024x2816 .f32) (y6 : Vec Ideal S2816x1024 .f32)
    (h0 : y0 = Cert.FfnFIdeal.Point.a0 m c) (h1 : y1 = Cert.FfnFIdeal.Point.a1 m c) (h2 : y2 = Cert.FfnFIdeal.Point.a2 m c) (h3 : y3 = Cert.FfnFIdeal.Point.a3 m c) (h4 : y4 = Cert.FfnFIdeal.Point.a4 m c) (h5 : y5 = Cert.FfnFIdeal.Point.a5 m c) (h6 : y6 = Cert.FfnFIdeal.Point.a6 m c)
    (r0 : ∀ i, IsR (Cert.FfnFIdeal.Point.a0 m c i)) (r1 : ∀ i, IsR (Cert.FfnFIdeal.Point.a1 m c i)) (r2 : ∀ i, IsR (Cert.FfnFIdeal.Point.a2 m c i)) (r3 : ∀ i, IsR (Cert.FfnFIdeal.Point.a3 m c i)) (r4 : ∀ i, IsR (Cert.FfnFIdeal.Point.a4 m c i)) (r5 : ∀ i, IsR (Cert.FfnFIdeal.Point.a5 m c i)) (r6 : ∀ i, IsR (Cert.FfnFIdeal.Point.a6 m c i)) :
    val_main_v78 (F := Ideal) y0 y1 y2 y3 y4 y5 y6 = (Cert.FfnFIdeal.Gen.dats m 0 c).arrAt 11 Cert.FfnFIdeal.cfg0.N := by
  subst h0 h1 h2 h3 h4 h5 h6
  exact (v78_fn _ _ _ _ _ _ _ r0 r1 r2 r3 r4 r5 r6).trans (Cert.FfnFIdeal.Point.final11 m c).symm

/-- The reference's `v79` at the kernel's arguments is what the kernel leaves in window 12's array. -/
theorem v79_eq (m : (ℓ : Loc Cert.FfnFIdeal.nD Cert.FfnFIdeal.τ Cert.FfnFIdeal.sig) → Buf (Elt Ideal) ℓ) (c : Dev Cert.FfnFIdeal.nD)
    (y0 : Vec Ideal S2x2048x1024 .f32) (y1 y2 : Vec Ideal S1024 .f32) (y3 : Vec Ideal S2x2048x1024 .f32)
    (y4 y5 : Vec Ideal S1024x2816 .f32) (y6 : Vec Ideal S2816x1024 .f32)
    (h0 : y0 = Cert.FfnFIdeal.Point.a0 m c) (h1 : y1 = Cert.FfnFIdeal.Point.a1 m c) (h2 : y2 = Cert.FfnFIdeal.Point.a2 m c) (h3 : y3 = Cert.FfnFIdeal.Point.a3 m c) (h4 : y4 = Cert.FfnFIdeal.Point.a4 m c) (h5 : y5 = Cert.FfnFIdeal.Point.a5 m c) (h6 : y6 = Cert.FfnFIdeal.Point.a6 m c)
     :
    val_main_v79 (F := Ideal) y0 y1 y2 y3 y4 y5 y6 = (Cert.FfnFIdeal.Gen.dats m 0 c).arrAt 12 Cert.FfnFIdeal.cfg0.N := by
  subst h0 h1 h2 h3 h4 h5 h6
  exact (v79_fn _ _ _ _ _ _ _ ).trans (Cert.FfnFIdeal.Point.final12 m c).symm

/-- The reference's `v80` at the kernel's arguments is what the kernel leaves in window 13's array. -/
theorem v80_eq (m : (ℓ : Loc Cert.FfnFIdeal.nD Cert.FfnFIdeal.τ Cert.FfnFIdeal.sig) → Buf (Elt Ideal) ℓ) (c : Dev Cert.FfnFIdeal.nD)
    (y0 : Vec Ideal S2x2048x1024 .f32) (y1 y2 : Vec Ideal S1024 .f32) (y3 : Vec Ideal S2x2048x1024 .f32)
    (y4 y5 : Vec Ideal S1024x2816 .f32) (y6 : Vec Ideal S2816x1024 .f32)
    (h0 : y0 = Cert.FfnFIdeal.Point.a0 m c) (h1 : y1 = Cert.FfnFIdeal.Point.a1 m c) (h2 : y2 = Cert.FfnFIdeal.Point.a2 m c) (h3 : y3 = Cert.FfnFIdeal.Point.a3 m c) (h4 : y4 = Cert.FfnFIdeal.Point.a4 m c) (h5 : y5 = Cert.FfnFIdeal.Point.a5 m c) (h6 : y6 = Cert.FfnFIdeal.Point.a6 m c)
    (r0 : ∀ i, IsR (Cert.FfnFIdeal.Point.a0 m c i)) (r1 : ∀ i, IsR (Cert.FfnFIdeal.Point.a1 m c i)) (r2 : ∀ i, IsR (Cert.FfnFIdeal.Point.a2 m c i)) (r3 : ∀ i, IsR (Cert.FfnFIdeal.Point.a3 m c i)) (r4 : ∀ i, IsR (Cert.FfnFIdeal.Point.a4 m c i)) (r5 : ∀ i, IsR (Cert.FfnFIdeal.Point.a5 m c i)) (r6 : ∀ i, IsR (Cert.FfnFIdeal.Point.a6 m c i)) :
    val_main_v80 (F := Ideal) y0 y1 y2 y3 y4 y5 y6 = (Cert.FfnFIdeal.Gen.dats m 0 c).arrAt 13 Cert.FfnFIdeal.cfg0.N := by
  subst h0 h1 h2 h3 h4 h5 h6
  exact (v80_fn _ _ _ _ _ _ _ r0 r1 r2 r3 r4 r5 r6).trans (Cert.FfnFIdeal.Point.final13 m c).symm

end Cert.FfnFRefIdeal.Point

namespace Cert.Proof

open Idealize.ShloMosaic Idealize.ShloMosaic.TcCoe Idealize.SL.Sem
open Cert.MixSpec Cert.FfnSpec Cert.FfnFSpec Cert.FfnFRefIdeal.Point Cert.Com

/-- What the precondition's one bit says: every element of every argument is a real number. -/
theorem finite_ffn_fwd_read [Cert.Pre_finite_ffn_fwd.Facts]
    (y0 : FVec Ideal Cert.Pre_finite_ffn_fwd.S2x2048x1024 .f32) (y1 y2 : FVec Ideal Cert.Pre_finite_ffn_fwd.S1024 .f32) (y3 : FVec Ideal Cert.Pre_finite_ffn_fwd.S2x2048x1024 .f32)
    (y4 y5 : FVec Ideal Cert.Pre_finite_ffn_fwd.S1024x2816 .f32) (y6 : FVec Ideal Cert.Pre_finite_ffn_fwd.S2816x1024 .f32) (j : Cert.Pre_finite_ffn_fwd.S_.Idx)
    (h : Cert.Pre_finite_ffn_fwd.fn (F := Ideal) y0 y1 y2 y3 y4 y5 y6 j = 1#1) :
    (∀ i, IsR (y0 i)) ∧ (∀ i, IsR (y1 i)) ∧ (∀ i, IsR (y2 i)) ∧ (∀ i, IsR (y3 i)) ∧ (∀ i, IsR (y4 i)) ∧ (∀ i, IsR (y5 i)) ∧ (∀ i, IsR (y6 i)) := by
  dsimp only [Cert.Pre_finite_ffn_fwd.fn, Cert.Pre_finite_ffn_fwd.fn_part1] at h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  have ht : Subsingleton Cert.Pre_finite_ffn_fwd.S_.Idx := ⟨fun a b => funext fun d => d.elim0⟩
  exact ⟨fun i => isR_of_all _ _ _ (fun _ => ofBits_inf) _ _ ht j e0 i,
    fun i => isR_of_all _ _ _ (fun _ => ofBits_inf) _ _ ht j e1 i,
    fun i => isR_of_all _ _ _ (fun _ => ofBits_inf) _ _ ht j e2 i,
    fun i => isR_of_all _ _ _ (fun _ => ofBits_inf) _ _ ht j e3 i,
    fun i => isR_of_all _ _ _ (fun _ => ofBits_inf) _ _ ht j e4 i,
    fun i => isR_of_all _ _ _ (fun _ => ofBits_inf) _ _ ht j e5 i,
    fun i => isR_of_all _ _ _ (fun _ => ofBits_inf) _ _ ht j e6 i⟩

/-- The feed-forward kernel and its reference leave the same seven arrays. -/
theorem algebraic_ffnf [Cert.Pre_finite_ffn_fwd.Facts] : Cert.algebraic_FfnFIdeal_FfnFRefIdeal_pre_finite_ffn_fwd := by
  pair_intro
  · run_from Cert.FfnFIdeal.Value.run_blocks m g
  · run_from Cert.FfnFRefIdeal.Value.run m' g'
    · exact (v71_fn _ _).trans (Cert.FfnFIdeal.Point.final7 m c).symm
    · exact (v73_fn _ _ _).trans (Cert.FfnFIdeal.Point.final8 m c).symm
    · exact (v75_fn _ _ _).trans (Cert.FfnFIdeal.Point.final9 m c).symm
    · exact (v77_fn _ _ _ _).trans (Cert.FfnFIdeal.Point.final10 m c).symm
    · obtain ⟨h0, h1, h2, h3, h4, h5, h6⟩ := hagree c
      obtain ⟨r0, r1, r2, r3, r4, r5, r6⟩ := finite_ffn_fwd_read _ _ _ _ _ _ _ (fun d => d.elim0) (congrFun (hpre c) (fun d => d.elim0))
      exact v78_eq m c _ _ _ _ _ _ _ h0 h1 h2 h3 h4 h5 h6 r0 r1 r2 r3 r4 r5 r6
    · obtain ⟨h0, h1, h2, h3, h4, h5, h6⟩ := hagree c
      exact v79_eq m c _ _ _ _ _ _ _ h0 h1 h2 h3 h4 h5 h6
    · obtain ⟨h0, h1, h2, h3, h4, h5, h6⟩ := hagree c
      obtain ⟨r0, r1, r2, r3, r4, r5, r6⟩ := finite_ffn_fwd_read _ _ _ _ _ _ _ (fun d => d.elim0) (congrFun (hpre c) (fun d => d.elim0))
      exact v80_eq m c _ _ _ _ _ _ _ h0 h1 h2 h3 h4 h5 h6 r0 r1 r2 r3 r4 r5 r6

end Cert.Proof

end
-- ==== Proof.Dw.Out.lean ====
/- The gradient of w_out: the tiled kernel, which adds two blocks of tokens in a scratch accumulator, and the
   reference's one contraction over the batch and the sequence leave the same array. -/
module

public import proofs.«01_k».proof.Proof.Ffn.Spec
public import Idealize.ShloMosaic.Lib.StableHlo.RunRead
public import Idealize.ShloMosaic.Lib.Pipeline.ReadBack
public import Idealize.ShloMosaic.Lib.TwoAxisContraction
public import proofs.«01_k».proof.Proof.Gen.DwOutIdeal.Value
public import proofs.«01_k».proof.Proof.Gen.DwOutRefIdeal.Run
public import proofs.«01_k».proof.Proof.Gen.DwOutRefIdeal.Read
public import proofs.«01_k».proof.Defs
public import Idealize.ShloMosaic.Lib.Claim

@[expose] public section

noncomputable section

namespace Cert.DwSpec

open Idealize.ShloMosaic Cert.MixSpec Cert.FfnSpec

/-- The left factor: the two branches, each through the logistic of its gate. -/
def lo (gp ga py ay : Sx.Idx → EReal) (b : Fin 2) (s : Fin 2048) (n : Fin 1024) : EReal :=
  sg (gp (ix3 b s n)) * py (ix3 b s n) + sg (ga (ix3 b s n)) * ay (ix3 b s n)

/-- The right factor: the output's cotangent. -/
def ro (dy : Sx.Idx → EReal) (b : Fin 2) (s : Fin 2048) (k : Fin 1024) : EReal := dy (ix3 b s k)

end Cert.DwSpec

namespace Cert.DwOutIdeal.Point

open Cert.DwOutIdeal Cert.DwOutIdeal.Gen Cert.DwOutIdeal.Value Idealize.ShloMosaic Idealize.ShloMosaic.TcCoe Idealize.SL.Sem
open Idealize.ShloMosaic.Pipeline
open Cert.MixSpec Cert.FfnSpec Cert.DwSpec

/-- The accumulator starts at zero. -/
theorem pay1 (i : Fin 1024) (k : Fin 1024) : k0_pay1 (F := Ideal) (ix2 i k) = 0 := by
  pointwise [k0_pay1]

/-- What is written out is the accumulator. -/
theorem pay3 (v : Vec Ideal S1024x1024 .f32) (i : Fin 1024) (k : Fin 1024) : k0_pay3 (F := Ideal) v (ix2 i k) = v (ix2 i k) := by
  pointwise [k0_pay3]

/-- One block's product is added to the accumulator. -/
theorem pay2 (v3 : Vec Ideal S1024x1024 .f32) (v4 : Vec Ideal S2048x1024 .bf16) (v6 : Vec Ideal S2048x1024 .f32) (i : Fin 1024) (k : Fin 1024) :
    k0_pay2 (F := Ideal) v3 v4 v6 (ix2 i k) = v3 (ix2 i k) + ∑ r : Fin 2048, v4 (ix2 r i) * v6 (ix2 r k) := by
  pointwise [k0_pay2, dot_S2048x1024_S2048x1024_S1024x1024_0_0_1_1_n_n]

/-- The same with the three operands' elements named. -/
theorem pay2_of (v3 : Vec Ideal S1024x1024 .f32) (v4 : Vec Ideal S2048x1024 .bf16) (v6 : Vec Ideal S2048x1024 .f32) (i : Fin 1024) (k : Fin 1024)
    (z : EReal) (f g : Fin 2048 → EReal) (h3 : v3 (ix2 i k) = z) (h4 : ∀ r, v4 (ix2 r i) = f r) (h6 : ∀ r, v6 (ix2 r k) = g r) :
    k0_pay2 (F := Ideal) v3 v4 v6 (ix2 i k) = z + ∑ r : Fin 2048, f r * g r := by
  rw [pay2, h3]
  exact congrArg (fun a : EReal => z + a) (Finset.sum_congr rfl fun r _ => by rw [h4, h6])

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)

/-- The number of grid points. -/
theorem N4 : cfg0.N = 2 := by decide +kernel

/-- Token `r` of point `t`'s block of tokens. -/
def tok (t : Fin cfg0.N) (r : Fin 2048) : Fin 4096 := ⟨t.val % 2 * 2048 + r.val, by omega⟩

/-- Row `i` of point `t`'s block of the output. -/
abbrev col (t : Fin cfg0.N) (i : Fin 1024) : Fin 1024 := i

/-- The block index of window 0. -/
theorem i0 : ∀ t : Fin cfg0.N, win0_0.index t = ![t.val % 2, 0] := (by decide +kernel : ∀ t : Fin grid0.N, _)
/-- The block index of window 1. -/
theorem i1 : ∀ t : Fin cfg0.N, win0_1.index t = ![t.val % 2, 0] := (by decide +kernel : ∀ t : Fin grid0.N, _)
/-- The block index of window 2. -/
theorem i2 : ∀ t : Fin cfg0.N, win0_2.index t = ![0, 0] := (by decide +kernel : ∀ t : Fin grid0.N, _)

/-- Where window 0's block lies in its array. -/
theorem emb0 (t : Fin cfg0.N) (r : Fin 2048) (i : Fin 1024) :
    (win0_0.blk t).view.emb (ix2 r i) = ix2 (tok t r) (col t i) := by
  blk_ext [i0 t, tok]

/-- Where window 1's block lies in its array. -/
theorem emb1 (t : Fin cfg0.N) (r : Fin 2048) (k : Fin 1024) :
    (win0_1.blk t).view.emb (ix2 r k) = ix2 (tok t r) k := by
  blk_ext [i1 t, tok]

/-- Where window 2's block lies in its array. -/
theorem emb2 (t : Fin cfg0.N) (i : Fin 1024) (k : Fin 1024) :
    (win0_2.blk t).view.emb (ix2 i k) = ix2 (col t i) k := by
  blk_ext [i2 t]

/-- Window 0's block at an element. -/
theorem blk0 (t : Fin cfg0.N) (r : Fin 2048) (i : Fin 1024) :
    iblk m c 0 t (ix2 r i) = lo (a0 m c) (a1 m c) (a2 m c) (a3 m c) (rb (tok t r)) (rs (tok t r)) (col t i) := by
  blk_simp [iblk]
  rw [emb0]
  show StableHlo.after _ _ _ _ = _
  after_reads_simp
  try simp only [StableHlo.TRef.toBuf, StableHlo.TRef.ofBuf, cast_eq]
  pointwise [rb, rs, lo, sg, zero_sub]

/-- Window 1's block at an element. -/
theorem blk1 (t : Fin cfg0.N) (r : Fin 2048) (k : Fin 1024) :
    iblk m c 1 t (ix2 r k) = ro (a4 m c) (rb (tok t r)) (rs (tok t r)) k := by
  blk_simp [iblk]
  rw [emb1]
  show StableHlo.after _ _ _ _ = _
  after_reads_simp
  try simp only [StableHlo.TRef.toBuf, StableHlo.TRef.ofBuf, cast_eq]
  pointwise [rb, rs, ro]

/-- One token's contribution to an element of the gradient. -/
abbrev term (p : Fin 4096) (n : Fin 1024) (k : Fin 1024) : EReal :=
  lo (a0 m c) (a1 m c) (a2 m c) (a3 m c) (rb p) (rs p) n * ro (a4 m c) (rb p) (rs p) k

/-- After the first block of tokens the accumulator holds that block's product. -/
theorem acc_first (t : Fin cfg0.N) (h0 : t.val % 2 = 0) (h1 : ¬ t.val % 2 = 1) (i : Fin 1024) (k : Fin 1024) :
    (outsAt0 m c t.val t.isLt).2 (ix2 i k) = ∑ r : Fin 2048, term m c (tok t r) (col t i) k := by
  rw [outsAt0_A m c t h0 h1]
  frame_out
  exact (pay2_of _ _ _ i k _ _ _ (pay1 i k) (fun r => blk0 m c t r i) (fun r => blk1 m c t r k)).trans (zero_add _)

/-- After the second block of tokens the output's block holds both blocks' products. -/
theorem out_last (t : Fin cfg0.N) (h0 : ¬ t.val % 2 = 0) (h1 : t.val % 2 = 1) (i : Fin 1024) (k : Fin 1024) :
    (outsAt0 m c t.val t.isLt).1 (ix2 i k) = ∑ p : Fin 4096, term m c p (col t i) k := by
  have hN := t.isLt.trans_eq N4
  have hp : t.val - 1 < cfg0.N := by have := N4; omega
  rw [outsAt0_B m c t h0 h1]
  frame_out
  rw [pay3]
  simp only [read_unread_whole]
  refine (pay2_of _ _ _ i k _ _ _
    (acc_first m c ⟨t.val - 1, hp⟩ (by show (t.val - 1) % 2 = 0; omega) (by show ¬ (t.val - 1) % 2 = 1; omega) i k)
    (fun r => blk0 m c t r i) (fun r => blk1 m c t r k)).trans ?_
  have hs : ∑ p : Fin 4096, term m c p (col t i) k = ∑ s : Fin 2, ∑ r : Fin 2048, term m c ⟨s.val * 2048 + r.val, by omega⟩ (col t i) k :=
    (Fin.sum_mul_add_congr (S := 2) (n := 2048) fun s r hl => rfl).symm
  rw [hs, Fin.sum_univ_two]
  refine congrArg₂ (fun a b : EReal => a + b) (Finset.sum_congr rfl fun r _ => ?_) (Finset.sum_congr rfl fun r _ => ?_)
  · have e : tok ⟨t.val - 1, hp⟩ r = ⟨(0 : Fin 2).val * 2048 + r.val, by omega⟩ := Fin.ext (by
      show (t.val - 1) % 2 * 2048 + r.val = 0 * 2048 + r.val; omega)
    rw [e]
  · have e : tok t r = ⟨(1 : Fin 2).val * 2048 + r.val, by omega⟩ := Fin.ext (by
      show t.val % 2 * 2048 + r.val = 1 * 2048 + r.val; omega)
    rw [e]

/-- What the kernel's array holds after the run: the sum over every token. -/
theorem final : (dats m 0 c).arrAt 2 cfg0.N = fun j => ∑ p : Fin 4096, term m c p (j 0) (j 1) := by
  refine (dats m 0 c).arrAt_eq_of_covers 2 _ (by decide +kernel) fun t hf y => ?_
  have hf : t.val % 2 = 1 := by have h := flush0_2; exact (h t).mp hf
  blk_simp
  rw [after0_2]
  obtain ⟨i, k, rfl⟩ : ∃ (i : Fin 1024) (k : Fin 1024), y = ix2 i k := ⟨y 0, y 1, by funext a; match a with | ⟨0, _⟩ => rfl | ⟨1, _⟩ => rfl⟩
  rw [emb2]
  exact out_last m c t (by omega) hf i k

end Cert.DwOutIdeal.Point

namespace Cert.DwOutRefIdeal.Point

open Cert.DwOutRefIdeal Cert.DwOutRefIdeal.Gen Cert.DwOutRefIdeal.Read Idealize.ShloMosaic Idealize.ShloMosaic.TcCoe Idealize.SL.Sem
open Cert.MixSpec Cert.FfnSpec Cert.DwSpec

variable (x0 x1 x2 x3 x4 : Vec Ideal S2x2048x1024 .f32)

/-- The merged branches. -/
theorem v15 (b : Fin 2) (s : Fin 2048) (n : Fin 1024) : val_main_v15 (F := Ideal) x0 x1 x2 x3 (ix3 b s n) = lo x0 x1 x2 x3 b s n := by
  unfold lo sg
  rw [zero_sub, zero_sub]
  pointwise [val_main_v15, val_main_v14, val_main_v13, val_main_v12, val_main_v11, val_main_v10, val_main_v9, val_main_v8, val_main_v7, val_main_v6, val_main_v5, val_main_v4, val_main_v3, val_main_v2, val_main_v1,
    val_main_cst_0, val_main_cst_1, val_main_cst_2, val_main_cst_3]

/-- The reference's result at an element: the sum over every token. -/
theorem out (n : Fin 1024) (k : Fin 1024) : val_main_v19 (F := Ideal) x0 x1 x2 x3 x4 (ix2 n k)
    = ∑ p : Fin 4096, lo x0 x1 x2 x3 (rb p) (rs p) n * ro x4 (rb p) (rs p) k := by
  have hs : ∑ p : Fin 4096, lo x0 x1 x2 x3 (rb p) (rs p) n * ro x4 (rb p) (rs p) k
      = ∑ b : Fin 2, ∑ s : Fin 2048, lo x0 x1 x2 x3 b s n * ro x4 b s k :=
    (Fin.sum_mul_add_congr (S := 2) (n := 2048) fun b s hl => by rw [rb_mk, rs_mk]).symm
  rw [hs]
  pointwise [val_main_v19, val_main_v18, val_main_v17]
  exact Finset.sum_congr rfl fun b _ => Finset.sum_congr rfl fun s _ => by rw [v15]; exact mul_comm _ _

/-- The reference's result as one function of the index. -/
theorem out_fn : val_main_v19 (F := Ideal) x0 x1 x2 x3 x4 = fun j => ∑ p : Fin 4096, lo x0 x1 x2 x3 (rb p) (rs p) (j 0) * ro x4 (rb p) (rs p) (j 1) := by
  funext j
  have hj : j = ix2 (j 0) (j 1) := by funext a; match a with | ⟨0, _⟩ => rfl | ⟨1, _⟩ => rfl
  exact (congrArg _ hj).trans (out x0 x1 x2 x3 x4 (j 0) (j 1))

end Cert.DwOutRefIdeal.Point

namespace Cert.Proof

open Idealize.ShloMosaic Idealize.ShloMosaic.TcCoe Idealize.SL.Sem

/-- The kernel and its reference leave the same gradient of w_out. -/
theorem algebraic_dwout : Cert.algebraic_DwOutIdeal_DwOutRefIdeal := by
  pair_intro
  · run_from Cert.DwOutIdeal.Value.run_blocks m g
  · run_from Cert.DwOutRefIdeal.Value.run m' g'
    exact (Cert.DwOutRefIdeal.Point.out_fn _ _ _ _ _).trans (Cert.DwOutIdeal.Point.final m c).symm

end Cert.Proof

end
-- ==== Proof.Dw.Pair.lean ====
/- The gradient of w_pool_out and of w_attn_out: the tiled kernel, which adds two blocks of tokens in a scratch accumulator, and the
   reference's one contraction over the batch and the sequence leave the same array. -/
module

public import proofs.«01_k».proof.Proof.Ffn.Spec
public import Idealize.ShloMosaic.Lib.StableHlo.RunRead
public import Idealize.ShloMosaic.Lib.Pipeline.ReadBack
public import Idealize.ShloMosaic.Lib.TwoAxisContraction
public import proofs.«01_k».proof.Proof.Gen.DwPairIdeal.Value
public import proofs.«01_k».proof.Proof.Gen.DwPairRefIdeal.Run
public import proofs.«01_k».proof.Proof.Gen.DwPairRefIdeal.Read
public import proofs.«01_k».proof.Defs
public import Idealize.ShloMosaic.Lib.Claim

@[expose] public section

noncomputable section

namespace Cert.DwSpec

open Idealize.ShloMosaic Cert.MixSpec Cert.FfnSpec

/-- The shape of the pooled and of the attended activations. -/
abbrev Sq : Shape := ⟨3, ![2, 2048, 512]⟩

/-- The shape of the pooled activations' scale. -/
abbrev Sv : Shape := ⟨1, ![512]⟩

/-- The left factor of the first product: the pooled activations, scaled. -/
def lp (p : Sq.Idx → EReal) (z : Sv.Idx → EReal) (b : Fin 2) (s : Fin 2048) (n : Fin 512) : EReal := p (ix3 b s n) * z (ix1 n)

/-- The left factor of the second product: the attended activations. -/
def lq (a : Sq.Idx → EReal) (b : Fin 2) (s : Fin 2048) (n : Fin 512) : EReal := a (ix3 b s n)

/-- The right factor: the cotangent of the product. -/
def rp (dy : Sx.Idx → EReal) (b : Fin 2) (s : Fin 2048) (k : Fin 1024) : EReal := dy (ix3 b s k)

/-- The column of a shard's column. -/
def shc (d : Fin 8) (k : Fin 128) : Fin 1024 := ⟨d.val * 128 + k.val, by omega⟩

end Cert.DwSpec

namespace Cert.DwPairIdeal.Point

open Cert.DwPairIdeal Cert.DwPairIdeal.Gen Cert.DwPairIdeal.Value Idealize.ShloMosaic Idealize.ShloMosaic.TcCoe Idealize.SL.Sem
open Idealize.ShloMosaic.Pipeline
open Cert.MixSpec Cert.FfnSpec Cert.DwSpec

/-- The first accumulator starts at zero. -/
theorem pay1 (i : Fin 512) (k : Fin 1024) : k0_pay1 (F := Ideal) (ix2 i k) = 0 := by
  pointwise [k0_pay1]

/-- The second accumulator starts at zero. -/
theorem pay2 (i : Fin 512) (k : Fin 1024) : k0_pay2 (F := Ideal) (ix2 i k) = 0 := by
  pointwise [k0_pay2]

/-- One block's product is added to the first accumulator. -/
theorem pay3 (v3 : Vec Ideal S512x1024 .f32) (v4 : Vec Ideal S2048x512 .bf16) (v6 : Vec Ideal S2048x1024 .bf16) (i : Fin 512) (k : Fin 1024) :
    k0_pay3 (F := Ideal) v3 v4 v6 (ix2 i k) = v3 (ix2 i k) + ∑ r : Fin 2048, v4 (ix2 r i) * v6 (ix2 r k) := by
  pointwise [k0_pay3, dot_S2048x512_S2048x1024_S512x1024_0_0_1_1_n_n]

/-- The same with the three operands' elements named. -/
theorem pay3_of (v3 : Vec Ideal S512x1024 .f32) (v4 : Vec Ideal S2048x512 .bf16) (v6 : Vec Ideal S2048x1024 .bf16) (i : Fin 512) (k : Fin 1024)
    (z : EReal) (f g : Fin 2048 → EReal) (h3 : v3 (ix2 i k) = z) (h4 : ∀ r, v4 (ix2 r i) = f r) (h6 : ∀ r, v6 (ix2 r k) = g r) :
    k0_pay3 (F := Ideal) v3 v4 v6 (ix2 i k) = z + ∑ r : Fin 2048, f r * g r := by
  rw [pay3, h3]
  exact congrArg (fun a : EReal => z + a) (Finset.sum_congr rfl fun r _ => by rw [h4, h6])

/-- One block's product is added to the second accumulator. -/
theorem pay4 (v13 : Vec Ideal S512x1024 .f32) (v14 : Vec Ideal S2048x512 .bf16) (v16 : Vec Ideal S2048x1024 .bf16) (i : Fin 512) (k : Fin 1024) :
    k0_pay4 (F := Ideal) v13 v14 v16 (ix2 i k) = v13 (ix2 i k) + ∑ r : Fin 2048, v14 (ix2 r i) * v16 (ix2 r k) := by
  pointwise [k0_pay4, dot_S2048x512_S2048x1024_S512x1024_0_0_1_1_n_n]

/-- The same with the three operands' elements named. -/
theorem pay4_of (v3 : Vec Ideal S512x1024 .f32) (v4 : Vec Ideal S2048x512 .bf16) (v6 : Vec Ideal S2048x1024 .bf16) (i : Fin 512) (k : Fin 1024)
    (z : EReal) (f g : Fin 2048 → EReal) (h3 : v3 (ix2 i k) = z) (h4 : ∀ r, v4 (ix2 r i) = f r) (h6 : ∀ r, v6 (ix2 r k) = g r) :
    k0_pay4 (F := Ideal) v3 v4 v6 (ix2 i k) = z + ∑ r : Fin 2048, f r * g r := by
  rw [pay4, h3]
  exact congrArg (fun a : EReal => z + a) (Finset.sum_congr rfl fun r _ => by rw [h4, h6])

/-- Shard 0 of the first output is its columns, narrowed. -/
theorem shp0 (v : Vec Ideal S512x128 .f32) (i : Fin 512) (k : Fin 128) : k0_pay10 (F := Ideal) v (ix3 0 i k) = v (ix2 i k) := by
  pointwise [k0_pay10]

/-- Shard 1 of the first output is its columns, narrowed. -/
theorem shp1 (v : Vec Ideal S512x128 .f32) (i : Fin 512) (k : Fin 128) : k0_pay12 (F := Ideal) v (ix3 0 i k) = v (ix2 i k) := by
  pointwise [k0_pay12]

/-- Shard 2 of the first output is its columns, narrowed. -/
theorem shp2 (v : Vec Ideal S512x128 .f32) (i : Fin 512) (k : Fin 128) : k0_pay14 (F := Ideal) v (ix3 0 i k) = v (ix2 i k) := by
  pointwise [k0_pay14]

/-- Shard 3 of the first output is its columns, narrowed. -/
theorem shp3 (v : Vec Ideal S512x128 .f32) (i : Fin 512) (k : Fin 128) : k0_pay17 (F := Ideal) v (ix3 0 i k) = v (ix2 i k) := by
  pointwise [k0_pay17]

/-- Shard 4 of the first output is its columns, narrowed. -/
theorem shp4 (v : Vec Ideal S512x128 .f32) (i : Fin 512) (k : Fin 128) : k0_pay19 (F := Ideal) v (ix3 0 i k) = v (ix2 i k) := by
  pointwise [k0_pay19]

/-- Shard 5 of the first output is its columns, narrowed. -/
theorem shp5 (v : Vec Ideal S512x128 .f32) (i : Fin 512) (k : Fin 128) : k0_pay21 (F := Ideal) v (ix3 0 i k) = v (ix2 i k) := by
  pointwise [k0_pay21]

/-- Shard 6 of the first output is its columns, narrowed. -/
theorem shp6 (v : Vec Ideal S512x128 .f32) (i : Fin 512) (k : Fin 128) : k0_pay6 (F := Ideal) v (ix3 0 i k) = v (ix2 i k) := by
  pointwise [k0_pay6]

/-- Shard 7 of the first output is its columns, narrowed. -/
theorem shp7 (v : Vec Ideal S512x128 .f32) (i : Fin 512) (k : Fin 128) : k0_pay8 (F := Ideal) v (ix3 0 i k) = v (ix2 i k) := by
  pointwise [k0_pay8]

/-- Shard 0 of the second output is its columns, narrowed. -/
theorem shq0 (v : Vec Ideal S512x128 .f32) (i : Fin 512) (k : Fin 128) : k0_pay11 (F := Ideal) v (ix3 0 i k) = v (ix2 i k) := by
  pointwise [k0_pay11]

/-- Shard 1 of the second output is its columns, narrowed. -/
theorem shq1 (v : Vec Ideal S512x128 .f32) (i : Fin 512) (k : Fin 128) : k0_pay13 (F := Ideal) v (ix3 0 i k) = v (ix2 i k) := by
  pointwise [k0_pay13]

/-- Shard 2 of the second output is its columns, narrowed. -/
theorem shq2 (v : Vec Ideal S512x128 .f32) (i : Fin 512) (k : Fin 128) : k0_pay16 (F := Ideal) (k0_pay15 v) (ix3 0 i k) = v (ix2 i k) := by
  pointwise [k0_pay16, k0_pay15]

/-- Shard 3 of the second output is its columns, narrowed. -/
theorem shq3 (v : Vec Ideal S512x128 .f32) (i : Fin 512) (k : Fin 128) : k0_pay18 (F := Ideal) v (ix3 0 i k) = v (ix2 i k) := by
  pointwise [k0_pay18]

/-- Shard 4 of the second output is its columns, narrowed. -/
theorem shq4 (v : Vec Ideal S512x128 .f32) (i : Fin 512) (k : Fin 128) : k0_pay20 (F := Ideal) v (ix3 0 i k) = v (ix2 i k) := by
  pointwise [k0_pay20]

/-- Shard 5 of the second output is its columns, narrowed. -/
theorem shq5 (v : Vec Ideal S512x128 .f32) (i : Fin 512) (k : Fin 128) : k0_pay5 (F := Ideal) v (ix3 0 i k) = v (ix2 i k) := by
  pointwise [k0_pay5]

/-- Shard 6 of the second output is its columns, narrowed. -/
theorem shq6 (v : Vec Ideal S512x128 .f32) (i : Fin 512) (k : Fin 128) : k0_pay7 (F := Ideal) v (ix3 0 i k) = v (ix2 i k) := by
  pointwise [k0_pay7]

/-- Shard 7 of the second output is its columns, narrowed. -/
theorem shq7 (v : Vec Ideal S512x128 .f32) (i : Fin 512) (k : Fin 128) : k0_pay9 (F := Ideal) v (ix3 0 i k) = v (ix2 i k) := by
  pointwise [k0_pay9]

variable (m : (ℓ : Loc nD τ sig) → Buf (Elt Ideal) ℓ) (c : Dev nD)

/-- The arguments. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)

/-- The number of grid points. -/
theorem N2 : cfg0.N = 2 := by decide +kernel

/-- Token `r` of point `t`'s block of tokens. -/
def tok (t : Fin cfg0.N) (r : Fin 2048) : Fin 4096 := ⟨t.val % 2 * 2048 + r.val, by omega⟩

/-- The block index of window 0. -/
theorem i0 : ∀ t : Fin cfg0.N, win0_0.index t = ![t.val % 2, 0] := (by decide +kernel : ∀ t : Fin grid0.N, _)

/-- Where window 0's block lies in its array. -/
theorem emb0 (t : Fin cfg0.N) (r : Fin 2048) (k : Fin 512) :
    (win0_0.blk t).view.emb (ix2 r k) = ix2 (tok t r) k := by
  blk_ext [i0 t, tok]

/-- Window 0's block at an element. -/
theorem blk0 (t : Fin cfg0.N) (r : Fin 2048) (k : Fin 512) :
    iblk m c 0 t (ix2 r k) = lp (a0 m c) (a1 m c) (rb (tok t r)) (rs (tok t r)) k := by
  blk_simp [iblk]
  rw [emb0]
  show StableHlo.after _ _ _ _ = _
  after_reads_simp
  try simp only [StableHlo.TRef.toBuf, StableHlo.TRef.ofBuf, cast_eq]
  pointwise [rb, rs, lp]

/-- The block index of window 1. -/
theorem i1 : ∀ t : Fin cfg0.N, win0_1.index t = ![t.val % 2, 0] := (by decide +kernel : ∀ t : Fin grid0.N, _)

/-- Where window 1's block lies in its array. -/
theorem emb1 (t : Fin cfg0.N) (r : Fin 2048) (k : Fin 1024) :
    (win0_1.blk t).view.emb (ix2 r k) = ix2 (tok t r) k := by
  blk_ext [i1 t, tok]

/-- Window 1's block at an element. -/
theorem blk1 (t : Fin cfg0.N) (r : Fin 2048) (k : Fin 1024) :
    iblk m c 1 t (ix2 r k) = rp (a2 m c) (rb (tok t r)) (rs (tok t r)) k := by
  blk_simp [iblk]
  rw [emb1]
  show StableHlo.after _ _ _ _ = _
  after_reads_simp
  try simp only [StableHlo.TRef.toBuf, StableHlo.TRef.ofBuf, cast_eq]
  pointwise [rb, rs, rp]

/-- The block index of window 2. -/
theorem i2 : ∀ t : Fin cfg0.N, win0_2.index t = ![t.val % 2, 0] := (by decide +kernel : ∀ t : Fin grid0.N, _)

/-- Where window 2's block lies in its array. -/
theorem emb2 (t : Fin cfg0.N) (r : Fin 2048) (k : Fin 512) :
    (win0_2.blk t).view.emb (ix2 r k) = ix2 (tok t r) k := by
  blk_ext [i2 t, tok]

/-- Window 2's block at an element. -/
theorem blk2 (t : Fin cfg0.N) (r : Fin 2048) (k : Fin 512) :
    iblk m c 2 t (ix2 r k) = lq (a3 m c) (rb (tok t r)) (rs (tok t r)) k := by
  blk_simp [iblk]
  rw [emb2]
  show StableHlo.after _ _ _ _ = _
  after_reads_simp
  try simp only [StableHlo.TRef.toBuf, StableHlo.TRef.ofBuf, cast_eq]
  pointwise [rb, rs, lq]

/-- The block index of window 3. -/
theorem i3 : ∀ t : Fin cfg0.N, win0_3.index t = ![t.val % 2, 0] := (by decide +kernel : ∀ t : Fin grid0.N, _)

/-- Where window 3's block lies in its array. -/
theorem emb3 (t : Fin cfg0.N) (r : Fin 2048) (k : Fin 1024) :
    (win0_3.blk t).view.emb (ix2 r k) = ix2 (tok t r) k := by
  blk_ext [i3 t, tok]

/-- Window 3's block at an element. -/
theorem blk3 (t : Fin cfg0.N) (r : Fin 2048) (k : Fin 1024) :
    iblk m c 3 t (ix2 r k) = rp (a4 m c) (rb (tok t r)) (rs (tok t r)) k := by
  blk_simp [iblk]
  rw [emb3]
  show StableHlo.after _ _ _ _ = _
  after_reads_simp
  try simp only [StableHlo.TRef.toBuf, StableHlo.TRef.ofBuf, cast_eq]
  pointwise [rb, rs, rp]

/-- The block index of window 4. -/
theorem i4 : ∀ t : Fin cfg0.N, win0_4.index t = ![0, 0, 0] := (by decide +kernel : ∀ t : Fin grid0.N, _)

/-- Where window 4's block lies in its array. -/
theorem emb4 (t : Fin cfg0.N) (d : Fin 8) (i : Fin 512) (k : Fin 128) :
    (win0_4.blk t).view.emb (ix3 d i k) = ix3 d i k := by
  blk_ext [i4 t]

/-- The block index of window 5. -/
theorem i5 : ∀ t : Fin cfg0.N, win0_5.index t = ![0, 0, 0] := (by decide +kernel : ∀ t : Fin grid0.N, _)

/-- Where window 5's block lies in its array. -/
theorem emb5 (t : Fin cfg0.N) (d : Fin 8) (i : Fin 512) (k : Fin 128) :
    (win0_5.blk t).view.emb (ix3 d i k) = ix3 d i k := by
  blk_ext [i5 t]

/-- An index of a shard by its coordinates. -/
theorem at_ix3 (x : S1x512x128.Idx) (i : Fin 512) (k : Fin 128) (h1 : i.val = (x 1).val) (h2 : k.val = (x 2).val) : x = ix3 0 i k := by
  funext a
  match a with
  | ⟨0, _⟩ => exact Fin.ext (by have := (x 0).isLt; show (x 0).val = 0; simpa using this)
  | ⟨1, _⟩ => exact Fin.ext h1.symm
  | ⟨2, _⟩ => exact Fin.ext h2.symm

/-- A load of 128 columns from column `o`, at an element. -/
theorem ldc (X : Vec Ideal S512x1024 .f32) (o : ℕ) (inb : ∀ a : Fin 2, (![0, o] : Fin 2 → ℕ) a + (![512, 128] : Fin 2 → ℕ) a ≤ S512x1024.size a)
    (i : Fin 512) (j : Fin 128) (n : Fin 1024) (h : n.val = o + j.val) :
    View.ld (Val := Elt Ideal) (e' := .f32) X (Rect.unit (s := S512x1024) ![0, o] ![512, 128] inb) (ix2 i j) = X (ix2 i n) :=
  View.ld_unit_apply_of _ _ _ _ _ (ix2 i n) (by intro a; match a with | ⟨0, _⟩ => simp | ⟨1, _⟩ => simpa using h)

/-- One token's contribution to an element of the first gradient. -/
abbrev termP (p : Fin 4096) (n : Fin 512) (k : Fin 1024) : EReal :=
  lp (a0 m c) (a1 m c) (rb p) (rs p) n * rp (a2 m c) (rb p) (rs p) k

/-- After the first block of tokens the accumulator holds that block's product. -/
theorem accP (t : Fin cfg0.N) (h0 : t.val % 2 = 0) (h1 : ¬ t.val % 2 = 1) (i : Fin 512) (k : Fin 1024) :
    (outsAt0 m c t.val t.isLt).2.2.1 (ix2 i k) = ∑ r : Fin 2048, termP m c (tok t r) i k := by
  rw [outsAt0_A m c t h0 h1]
  frame_out
  exact (pay3_of _ _ _ i k _ _ _ (pay1 i k) (fun r => blk0 m c t r i) (fun r => blk1 m c t r k)).trans (zero_add _)

/-- The accumulator after the second block of tokens. -/
abbrev finP (t : Fin cfg0.N) : Vec Ideal S512x1024 .f32 :=
  k0_pay3 (F := Ideal) (outsAt0 m c (t.val - 1) (Nat.lt_of_le_of_lt (Nat.sub_le _ _) t.isLt)).2.2.1 (iblk m c 0 t) (iblk m c 1 t)

/-- The accumulator after the second block of tokens holds the sum over every token. -/
theorem finP_apply (t : Fin cfg0.N) (h1 : t.val % 2 = 1) (i : Fin 512) (k : Fin 1024) :
    finP m c t (ix2 i k) = ∑ p : Fin 4096, termP m c p i k := by
  have hN := t.isLt.trans_eq N2
  have hp : t.val - 1 < cfg0.N := by have := N2; omega
  refine (pay3_of _ _ _ i k _ _ _
    (accP m c ⟨t.val - 1, hp⟩ (by show (t.val - 1) % 2 = 0; omega) (by show ¬ (t.val - 1) % 2 = 1; omega) i k)
    (fun r => blk0 m c t r i) (fun r => blk1 m c t r k)).trans ?_
  have hs : ∑ p : Fin 4096, termP m c p i k = ∑ s : Fin 2, ∑ r : Fin 2048, termP m c ⟨s.val * 2048 + r.val, by omega⟩ i k :=
    (Fin.sum_mul_add_congr (S := 2) (n := 2048) fun s r hl => rfl).symm
  rw [hs, Fin.sum_univ_two]
  refine congrArg₂ (fun a b : EReal => a + b) (Finset.sum_congr rfl fun r _ => ?_) (Finset.sum_congr rfl fun r _ => ?_)
  · have e : tok ⟨t.val - 1, hp⟩ r = ⟨(0 : Fin 2).val * 2048 + r.val, by omega⟩ := Fin.ext (by
      show (t.val - 1) % 2 * 2048 + r.val = 0 * 2048 + r.val; omega)
    rw [e]
  · have e : tok t r = ⟨(1 : Fin 2).val * 2048 + r.val, by omega⟩ := Fin.ext (by
      show t.val % 2 * 2048 + r.val = 1 * 2048 + r.val; omega)
    rw [e]

/-- What the second point stores in window 4's block: the shards of the accumulator. -/
theorem lastP (t : Fin cfg0.N) (h0 : ¬ t.val % 2 = 0) (h1 : t.val % 2 = 1) (d : Fin 8) (i : Fin 512) (k : Fin 128) :
    (outsAt0 m c t.val t.isLt).1 (ix3 d i k) = finP m c t (ix2 i (shc d k)) := by
  rw [outsAt0_B m c t h0 h1]
  frame_out
  simp only [read_unread_whole, View.readCov_eq_canon', View.canon_cons_unit_lit]
  have e : ∀ P : Vec Ideal S512x1024 .f32, View.canon (Val := Elt Ideal) [(⟨Rect.unit ![0, 0] ![512, 1024] inb_S512x1024_S512x1024_0_0, P⟩ : View.Piece (Elt Ideal) S512x1024 .f32)] = P :=
    fun P => View.canon_cons_unit_lit _ _ _ (by intro a; match a with | ⟨0, _⟩ => rfl | ⟨1, _⟩ => rfl)
  simp only [e]
  canon_tiles x h
  · exact (congrArg _ (at_ix3 x i k h1 h2)).trans ((shp7 _ i k).trans (ldc _ 896 _ i k _ (by
      have : d.val = 7 := by have h0' : d.val = 7 + (x 0).val := (by first | exact h0 | simpa using h0); have hx : (x 0).val < 1 := (x 0).isLt; omega
      show d.val * 128 + k.val = 896 + k.val; omega)))
  · exact (congrArg _ (at_ix3 x i k h1 h2)).trans ((shp6 _ i k).trans (ldc _ 768 _ i k _ (by
      have : d.val = 6 := by have h0' : d.val = 6 + (x 0).val := (by first | exact h0 | simpa using h0); have hx : (x 0).val < 1 := (x 0).isLt; omega
      show d.val * 128 + k.val = 768 + k.val; omega)))
  · exact (congrArg _ (at_ix3 x i k h1 h2)).trans ((shp5 _ i k).trans (ldc _ 640 _ i k _ (by
      have : d.val = 5 := by have h0' : d.val = 5 + (x 0).val := (by first | exact h0 | simpa using h0); have hx : (x 0).val < 1 := (x 0).isLt; omega
      show d.val * 128 + k.val = 640 + k.val; omega)))
  · exact (congrArg _ (at_ix3 x i k h1 h2)).trans ((shp4 _ i k).trans (ldc _ 512 _ i k _ (by
      have : d.val = 4 := by have h0' : d.val = 4 + (x 0).val := (by first | exact h0 | simpa using h0); have hx : (x 0).val < 1 := (x 0).isLt; omega
      show d.val * 128 + k.val = 512 + k.val; omega)))
  · exact (congrArg _ (at_ix3 x i k h1 h2)).trans ((shp3 _ i k).trans (ldc _ 384 _ i k _ (by
      have : d.val = 3 := by have h0' : d.val = 3 + (x 0).val := (by first | exact h0 | simpa using h0); have hx : (x 0).val < 1 := (x 0).isLt; omega
      show d.val * 128 + k.val = 384 + k.val; omega)))
  · exact (congrArg _ (at_ix3 x i k h1 h2)).trans ((shp2 _ i k).trans (ldc _ 256 _ i k _ (by
      have : d.val = 2 := by have h0' : d.val = 2 + (x 0).val := (by first | exact h0 | simpa using h0); have hx : (x 0).val < 1 := (x 0).isLt; omega
      show d.val * 128 + k.val = 256 + k.val; omega)))
  · exact (congrArg _ (at_ix3 x i k h1 h2)).trans ((shp1 _ i k).trans (ldc _ 128 _ i k _ (by
      have : d.val = 1 := by have h0' : d.val = 1 + (x 0).val := (by first | exact h0 | simpa using h0); have hx : (x 0).val < 1 := (x 0).isLt; omega
      show d.val * 128 + k.val = 128 + k.val; omega)))
  · exact (congrArg _ (at_ix3 x i k h1 h2)).trans ((shp0 _ i k).trans (ldc _ 0 _ i k _ (by
      have : d.val = 0 := by have h0' : d.val = 0 + (x 0).val := (by first | exact h0 | simpa using h0); have hx : (x 0).val < 1 := (x 0).isLt; omega
      show d.val * 128 + k.val = 0 + k.val; omega)))

/-- One token's contribution to an element of the second gradient. -/
abbrev termQ (p : Fin 4096) (n : Fin 512) (k : Fin 1024) : EReal :=
  lq (a3 m c) (rb p) (rs p) n * rp (a4 m c) (rb p) (rs p) k

/-- After the first block of tokens the accumulator holds that block's product. -/
theorem accQ (t : Fin cfg0.N) (h0 : t.val % 2 = 0) (h1 : ¬ t.val % 2 = 1) (i : Fin 512) (k : Fin 1024) :
    (outsAt0 m c t.val t.isLt).2.2.2 (ix2 i k) = ∑ r : Fin 2048, termQ m c (tok t r) i k := by
  rw [outsAt0_A m c t h0 h1]
  frame_out
  exact (pay4_of _ _ _ i k _ _ _ (pay2 i k) (fun r => blk2 m c t r i) (fun r => blk3 m c t r k)).trans (zero_add _)

/-- The accumulator after the second block of tokens. -/
abbrev finQ (t : Fin cfg0.N) : Vec Ideal S512x1024 .f32 :=
  k0_pay4 (F := Ideal) (outsAt0 m c (t.val - 1) (Nat.lt_of_le_of_lt (Nat.sub_le _ _) t.isLt)).2.2.2 (iblk m c 2 t) (iblk m c 3 t)

/-- The accumulator after the second block of tokens holds the sum over every token. -/
theorem finQ_apply (t : Fin cfg0.N) (h1 : t.val % 2 = 1) (i : Fin 512) (k : Fin 1024) :
    finQ m c t (ix2 i k) = ∑ p : Fin 4096, termQ m c p i k := by
  have hN := t.isLt.trans_eq N2
  have hp : t.val - 1 < cfg0.N := by have := N2; omega
  refine (pay4_of _ _ _ i k _ _ _
    (accQ m c ⟨t.val - 1, hp⟩ (by show (t.val - 1) % 2 = 0; omega) (by show ¬ (t.val - 1) % 2 = 1; omega) i k)
    (fun r => blk2 m c t r i) (fun r => blk3 m c t r k)).trans ?_
  have hs : ∑ p : Fin 4096, termQ m c p i k = ∑ s : Fin 2, ∑ r : Fin 2048, termQ m c ⟨s.val * 2048 + r.val, by omega⟩ i k :=
    (Fin.sum_mul_add_congr (S := 2) (n := 2048) fun s r hl => rfl).symm
  rw [hs, Fin.sum_univ_two]
  refine congrArg₂ (fun a b : EReal => a + b) (Finset.sum_congr rfl fun r _ => ?_) (Finset.sum_congr rfl fun r _ => ?_)
  · have e : tok ⟨t.val - 1, hp⟩ r = ⟨(0 : Fin 2).val * 2048 + r.val, by omega⟩ := Fin.ext (by
      show (t.val - 1) % 2 * 2048 + r.val = 0 * 2048 + r.val; omega)
    rw [e]
  · have e : tok t r = ⟨(1 : Fin 2).val * 2048 + r.val, by omega⟩ := Fin.ext (by
      show t.val % 2 * 2048 + r.val = 1 * 2048 + r.val; omega)
    rw [e]

/-- What the second point stores in window 5's block: the shards of the accumulator. -/
theorem lastQ (t : Fin cfg0.N) (h0 : ¬ t.val % 2 = 0) (h1 : t.val % 2 = 1) (d : Fin 8) (i : Fin 512) (k : Fin 128) :
    (outsAt0 m c t.val t.isLt).2.1 (ix3 d i k) = finQ m c t (ix2 i (shc d k)) := by
  rw [outsAt0_B m c t h0 h1]
  frame_out
  simp only [read_unread_whole, View.readCov_eq_canon', View.canon_cons_unit_lit]
  have e : ∀ P : Vec Ideal S512x1024 .f32, View.canon (Val := Elt Ideal) [(⟨Rect.unit ![0, 0] ![512, 1024] inb_S512x1024_S512x1024_0_0, P⟩ : View.Piece (Elt Ideal) S512x1024 .f32)] = P :=
    fun P => View.canon_cons_unit_lit _ _ _ (by intro a; match a with | ⟨0, _⟩ => rfl | ⟨1, _⟩ => rfl)
  simp only [e]
  canon_tiles x h
  · exact (congrArg _ (at_ix3 x i k h1 h2)).trans ((shq7 _ i k).trans (ldc _ 896 _ i k _ (by
      have : d.val = 7 := by have h0' : d.val = 7 + (x 0).val := (by first | exact h0 | simpa using h0); have hx : (x 0).val < 1 := (x 0).isLt; omega
      show d.val * 128 + k.val = 896 + k.val; omega)))
  · exact (congrArg _ (at_ix3 x i k h1 h2)).trans ((shq6 _ i k).trans (ldc _ 768 _ i k _ (by
      have : d.val = 6 := by have h0' : d.val = 6 + (x 0).val := (by first | exact h0 | simpa using h0); have hx : (x 0).val < 1 := (x 0).isLt; omega
      show d.val * 128 + k.val = 768 + k.val; omega)))
  · exact (congrArg _ (at_ix3 x i k h1 h2)).trans ((shq5 _ i k).trans (ldc _ 640 _ i k _ (by
      have : d.val = 5 := by have h0' : d.val = 5 + (x 0).val := (by first | exact h0 | simpa using h0); have hx : (x 0).val < 1 := (x 0).isLt; omega
      show d.val * 128 + k.val = 640 + k.val; omega)))
  · exact (congrArg _ (at_ix3 x i k h1 h2)).trans ((shq4 _ i k).trans (ldc _ 512 _ i k _ (by
      have : d.val = 4 := by have h0' : d.val = 4 + (x 0).val := (by first | exact h0 | simpa using h0); have hx : (x 0).val < 1 := (x 0).isLt; omega
      show d.val * 128 + k.val = 512 + k.val; omega)))
  · exact (congrArg _ (at_ix3 x i k h1 h2)).trans ((shq3 _ i k).trans (ldc _ 384 _ i k _ (by
      have : d.val = 3 := by have h0' : d.val = 3 + (x 0).val := (by first | exact h0 | simpa using h0); have hx : (x 0).val < 1 := (x 0).isLt; omega
      show d.val * 128 + k.val = 384 + k.val; omega)))
  · exact (congrArg _ (at_ix3 x i k h1 h2)).trans ((shq2 _ i k).trans (ldc _ 256 _ i k _ (by
      have : d.val = 2 := by have h0' : d.val = 2 + (x 0).val := (by first | exact h0 | simpa using h0); have hx : (x 0).val < 1 := (x 0).isLt; omega
      show d.val * 128 + k.val = 256 + k.val; omega)))
  · exact (congrArg _ (at_ix3 x i k h1 h2)).trans ((shq1 _ i k).trans (ldc _ 128 _ i k _ (by
      have : d.val = 1 := by have h0' : d.val = 1 + (x 0).val := (by first | exact h0 | simpa using h0); have hx : (x 0).val < 1 := (x 0).isLt; omega
      show d.val * 128 + k.val = 128 + k.val; omega)))
  · exact (congrArg _ (at_ix3 x i k h1 h2)).trans ((shq0 _ i k).trans (ldc _ 0 _ i k _ (by
      have : d.val = 0 := by have h0' : d.val = 0 + (x 0).val := (by first | exact h0 | simpa using h0); have hx : (x 0).val < 1 := (x 0).isLt; omega
      show d.val * 128 + k.val = 0 + k.val; omega)))

/-- What the kernel's first array holds after the run: the sum over every token, in shards. -/
theorem finalP : (dats m 0 c).arrAt 4 cfg0.N = fun j => ∑ p : Fin 4096, termP m c p (j 1) (shc (j 0) (j 2)) := by
  refine (dats m 0 c).arrAt_eq_of_covers 4 _ (by decide +kernel) fun t hf y => ?_
  have hf : t.val % 2 = 1 := by have h := flush0_4; exact (h t).mp hf
  blk_simp
  rw [after0_4]
  obtain ⟨d, i, k, rfl⟩ : ∃ (d : Fin 8) (i : Fin 512) (k : Fin 128), y = ix3 d i k := ⟨y 0, y 1, y 2, by funext a; match a with | ⟨0, _⟩ => rfl | ⟨1, _⟩ => rfl | ⟨2, _⟩ => rfl⟩
  rw [emb4]
  exact (lastP m c t (by omega) hf d i k).trans (finP_apply m c t hf i _)

/-- What the kernel's second array holds after the run: the sum over every token, in shards. -/
theorem finalQ : (dats m 0 c).arrAt 5 cfg0.N = fun j => ∑ p : Fin 4096, termQ m c p (j 1) (shc (j 0) (j 2)) := by
  refine (dats m 0 c).arrAt_eq_of_covers 5 _ (by decide +kernel) fun t hf y => ?_
  have hf : t.val % 2 = 1 := by have h := flush0_5; exact (h t).mp hf
  blk_simp
  rw [after0_5]
  obtain ⟨d, i, k, rfl⟩ : ∃ (d : Fin 8) (i : Fin 512) (k : Fin 128), y = ix3 d i k := ⟨y 0, y 1, y 2, by funext a; match a with | ⟨0, _⟩ => rfl | ⟨1, _⟩ => rfl | ⟨2, _⟩ => rfl⟩
  rw [emb5]
  exact (lastQ m c t (by omega) hf d i k).trans (finQ_apply m c t hf i _)

end Cert.DwPairIdeal.Point

namespace Cert.DwPairRefIdeal.Point

open Cert.DwPairRefIdeal Cert.DwPairRefIdeal.Gen Cert.DwPairRefIdeal.Read Idealize.ShloMosaic Idealize.ShloMosaic.TcCoe Idealize.SL.Sem
open Cert.MixSpec Cert.FfnSpec Cert.DwSpec

variable (x0 x3 : Vec Ideal S2x2048x512 .f32) (x1 : Vec Ideal S512 .f32) (x2 x4 : Vec Ideal S2x2048x1024 .f32)

/-- The scaled pooled activations. -/
theorem v3 (b : Fin 2) (s : Fin 2048) (n : Fin 512) : val_main_v3 (F := Ideal) x0 x1 (ix3 b s n) = lp x0 x1 b s n := by
  pointwise [val_main_v3, val_main_v2, val_main_v1, lp]

/-- A sum over every token is a sum over the sequences and their positions. -/
theorem sum_tok (f : Fin 2 → Fin 2048 → EReal) : ∑ p : Fin 4096, f (rb p) (rs p) = ∑ b : Fin 2, ∑ s : Fin 2048, f b s :=
  (Fin.sum_mul_add_congr (S := 2) (n := 2048) fun b s hl => by rw [rb_mk, rs_mk]).symm

/-- A shard's row and column in the whole gradient. -/
theorem sh_idx {α : Type} (f : Fin 512 → Fin 1024 → α) (d : Fin 8) (i : Fin 512) (k : Fin 128) (u : Fin 512) (v : Fin 1024)
    (hu : u.val = i.val) (hv : v.val = d.val * 128 + k.val) : f u v = f i (shc d k) := by
  rw [show u = i from Fin.ext hu, show v = shc d k from Fin.ext hv]

/-- The first product before it is cut into shards. -/
theorem v6 (i : Fin 512) (k : Fin 1024) : val_main_v6 (F := Ideal) x0 x1 x2 (ix2 i k) = ∑ p : Fin 4096, lp x0 x1 (rb p) (rs p) i * rp x2 (rb p) (rs p) k := by
  rw [sum_tok (fun b s => lp x0 x1 b s i * rp x2 b s k)]
  pointwise [val_main_v6, val_main_v5]
  exact Finset.sum_congr rfl fun b _ => Finset.sum_congr rfl fun s _ => by rw [v3]; exact mul_comm _ _

/-- The second product before it is cut into shards. -/
theorem v9 (i : Fin 512) (k : Fin 1024) : val_main_v9 (F := Ideal) x3 x4 (ix2 i k) = ∑ p : Fin 4096, lq x3 (rb p) (rs p) i * rp x4 (rb p) (rs p) k := by
  rw [sum_tok (fun b s => lq x3 b s i * rp x4 b s k)]
  pointwise [val_main_v9, val_main_v8]
  exact Finset.sum_congr rfl fun b _ => Finset.sum_congr rfl fun s _ => mul_comm _ _

/-- The first result at an element. -/
theorem v12 (d : Fin 8) (i : Fin 512) (k : Fin 128) : val_main_v12 (F := Ideal) x0 x1 x2 (ix3 d i k)
    = ∑ p : Fin 4096, lp x0 x1 (rb p) (rs p) i * rp x2 (rb p) (rs p) (shc d k) := by
  rw [← v6]
  pointwise [val_main_v12, val_main_v11, val_main_v10]
  exact sh_idx (fun u v => val_main_v6 (F := Ideal) x0 x1 x2 (ix2 u v)) d i k _ _ (by first | rfl | (dsimp only; omega)) (by first | rfl | (dsimp only; omega))

/-- The second result at an element. -/
theorem v15 (d : Fin 8) (i : Fin 512) (k : Fin 128) : val_main_v15 (F := Ideal) x3 x4 (ix3 d i k)
    = ∑ p : Fin 4096, lq x3 (rb p) (rs p) i * rp x4 (rb p) (rs p) (shc d k) := by
  rw [← v9]
  pointwise [val_main_v15, val_main_v14, val_main_v13]
  exact sh_idx (fun u v => val_main_v9 (F := Ideal) x3 x4 (ix2 u v)) d i k _ _ (by first | rfl | (dsimp only; omega)) (by first | rfl | (dsimp only; omega))

/-- The first result as one function of the index. -/
theorem v12_fn : val_main_v12 (F := Ideal) x0 x1 x2 = fun j => ∑ p : Fin 4096, lp x0 x1 (rb p) (rs p) (j 1) * rp x2 (rb p) (rs p) (shc (j 0) (j 2)) := by
  funext j
  have hj : j = ix3 (j 0) (j 1) (j 2) := by funext a; match a with | ⟨0, _⟩ => rfl | ⟨1, _⟩ => rfl | ⟨2, _⟩ => rfl
  exact (congrArg _ hj).trans (v12 x0 x1 x2 (j 0) (j 1) (j 2))

/-- The second result as one function of the index. -/
theorem v15_fn : val_main_v15 (F := Ideal) x3 x4 = fun j => ∑ p : Fin 4096, lq x3 (rb p) (rs p) (j 1) * rp x4 (rb p) (rs p) (shc (j 0) (j 2)) := by
  funext j
  have hj : j = ix3 (j 0) (j 1) (j 2) := by funext a; match a with | ⟨0, _⟩ => rfl | ⟨1, _⟩ => rfl | ⟨2, _⟩ => rfl
  exact (congrArg _ hj).trans (v15 x3 x4 (j 0) (j 1) (j 2))

end Cert.DwPairRefIdeal.Point

namespace Cert.Proof

open Idealize.ShloMosaic Idealize.ShloMosaic.TcCoe Idealize.SL.Sem

/-- The kernel and its reference leave the same two gradients, cut into the same shards. -/
theorem algebraic_dwpair : Cert.algebraic_DwPairIdeal_DwPairRefIdeal := by
  pair_intro
  · run_from Cert.DwPairIdeal.Value.run_blocks m g
  · run_from Cert.DwPairRefIdeal.Value.run m' g'
    · exact (Cert.DwPairRefIdeal.Point.v12_fn _ _ _).trans (Cert.DwPairIdeal.Point.finalP m c).symm
    · exact (Cert.DwPairRefIdeal.Point.v15_fn _ _).trans (Cert.DwPairIdeal.Point.finalQ m c).symm

end Cert.Proof

end
-- ==== Proof.lean ====
module

public import proofs.«01_k».proof.Defs
public import proofs.«01_k».proof.Proof.Gen.Mix.Frame
public import proofs.«01_k».proof.Proof.Gen.MixIdeal.Frame
public import proofs.«01_k».proof.Proof.Gen.MixIdeal.Value
public import proofs.«01_k».proof.Proof.Gen.MixRefIdeal.Run
public import proofs.«01_k».proof.Proof.Gen.MixRefIdeal.Read
public import proofs.«01_k».proof.Proof.Gen.Ffn.Frame
public import proofs.«01_k».proof.Proof.Gen.FfnIdeal.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.Pre_finite_ffn
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.DwGate
public import proofs.«01_k».proof.Proof.Gen.DwGate.Skeleton
public import proofs.«01_k».proof.Proof.Gen.DwGate.Launch
public import proofs.«01_k».proof.Proof.Gen.DwGate.Points
public import proofs.«01_k».proof.Proof.Gen.DwGate.Frame
public import proofs.«01_k».proof.Proof.Gen.DwGateIdeal
public import proofs.«01_k».proof.Proof.Gen.DwGateIdeal.Skeleton
public import proofs.«01_k».proof.Proof.Gen.DwGateIdeal.Launch
public import proofs.«01_k».proof.Proof.Gen.DwGateIdeal.Points
public import proofs.«01_k».proof.Proof.Gen.DwGateIdeal.Frame
public import proofs.«01_k».proof.Proof.Gen.DwGateIdeal.Value
public import proofs.«01_k».proof.Proof.Gen.DwGateRefIdeal
public import proofs.«01_k».proof.Proof.Gen.DwGateRefIdeal.Run
public import proofs.«01_k».proof.Proof.Gen.DwGateRefIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownRefIdeal
public import proofs.«01_k».proof.Proof.Gen.DwDownRefIdeal.Run
public import proofs.«01_k».proof.Proof.Gen.DwDownRefIdeal.Read
public import proofs.«01_k».proof.Proof.Gen.Pre_finite_in
public import proofs.«01_k».proof.Proof.Gen.InF
public import proofs.«01_k».proof.Proof.Gen.InF.Skeleton
public import proofs.«01_k».proof.Proof.Gen.InF.Launch
public import proofs.«01_k».proof.Proof.Gen.InF.Points
public import proofs.«01_k».proof.Proof.Gen.InF.Frame
public import proofs.«01_k».proof.Proof.Gen.InFIdeal
public import proofs.«01_k».proof.Proof.Gen.InFIdeal.Skeleton
public import proofs.«01_k».proof.Proof.Gen.InFIdeal.Launch
public import proofs.«01_k».proof.Proof.Gen.InFIdeal.Points
public import proofs.«01_k».proof.Proof.Gen.InFIdeal.Frame
public import proofs.«01_k».proof.Proof.Gen.InFIdeal.Value
public import proofs.«01_k».proof.Proof.Gen.InFRefIdeal
public import proofs.«01_k».proof.Proof.Gen.InFRefIdeal.Run
public import proofs.«01_k».proof.Proof.Gen.InFRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.FfnF
public import proofs.«01_k».proof.Proof.Gen.FfnF.Skeleton
public import proofs.«01_k».proof.Proof.Gen.FfnF.Launch
public import proofs.«01_k».proof.Proof.Gen.FfnF.Points
public import proofs.«01_k».proof.Proof.Gen.FfnF.Frame
public import proofs.«01_k».proof.Proof.Gen.FfnFIdeal
public import proofs.«01_k».proof.Proof.Gen.FfnFIdeal.Skeleton
public import proofs.«01_k».proof.Proof.Gen.FfnFIdeal.Launch
public import proofs.«01_k».proof.Proof.Gen.FfnFIdeal.Points
public import proofs.«01_k».proof.Proof.Gen.FfnFIdeal.Frame
public import proofs.«01_k».proof.Proof.Gen.FfnFIdeal.Value
public import proofs.«01_k».proof.Proof.Gen.FfnFRefIdeal
public import proofs.«01_k».proof.Proof.Gen.FfnFRefIdeal.Run
public import proofs.«01_k».proof.Proof.Gen.FfnFRefIdeal.Read
public import proofs.«01_k».proof.Proof.Gen.Pre_finite_ffn_fwd
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutRefIdeal
public import proofs.«01_k».proof.Proof.Gen.DwOutRefIdeal.Run
public import proofs.«01_k».proof.Proof.Gen.DwOutRefIdeal.Read
public import proofs.«01_k».proof.Proof.Gen.DwPair
public import proofs.«01_k».proof.Proof.Gen.DwPair.Skeleton
public import proofs.«01_k».proof.Proof.Gen.DwPair.Launch
public import proofs.«01_k».proof.Proof.Gen.DwPair.Points
public import proofs.«01_k».proof.Proof.Gen.DwPair.Frame
public import proofs.«01_k».proof.Proof.Gen.DwPairIdeal
public import proofs.«01_k».proof.Proof.Gen.DwPairIdeal.Skeleton
public import proofs.«01_k».proof.Proof.Gen.DwPairIdeal.Launch
public import proofs.«01_k».proof.Proof.Gen.DwPairIdeal.Points
public import proofs.«01_k».proof.Proof.Gen.DwPairIdeal.Frame
public import proofs.«01_k».proof.Proof.Gen.DwPairIdeal.Value
public import proofs.«01_k».proof.Proof.Gen.DwPairRefIdeal
public import proofs.«01_k».proof.Proof.Gen.DwPairRefIdeal.Run
public import proofs.«01_k».proof.Proof.Gen.DwPairRefIdeal.Read
public import proofs.«01_k».proof.Proof.Mix.Final
public import proofs.«01_k».proof.Proof.Ffn.Final
public import proofs.«01_k».proof.Proof.InProj.Final
public import proofs.«01_k».proof.Proof.Dw.Gate
public import proofs.«01_k».proof.Proof.Dw.Down
public import proofs.«01_k».proof.Proof.InF.Final
public import proofs.«01_k».proof.Proof.MixOut.Final
public import proofs.«01_k».proof.Proof.FfnF.Final
public import proofs.«01_k».proof.Proof.Dw.Out
public import proofs.«01_k».proof.Proof.Dw.Pair
public import Idealize.ShloMosaic.Adequacy
public import Idealize.ShloMosaic.Init

@[expose] public section

noncomputable section

namespace Cert.Proof

open Idealize.ShloMosaic Idealize.SL.Sem

/-- The mixer reference's frame: host operations only. -/
theorem frame_mix_ref : Cert.quiescent_MixRefIdeal := by
  intro m g _
  exact (θ_run Cert.MixRefIdeal.defs _ _).mono
    (fun r h => ⟨fun c => (h c).2.2.2.2.2.2, sem_eq_zero_of_no_sems (by decide) r.2⟩)
    (Cert.MixRefIdeal.Value.run (F := Ideal) m g)

/-- The feed-forward reference's frame: host operations only. -/
theorem frame_ffn_ref : Cert.quiescent_FfnRefIdeal := by
  intro m g _
  exact (θ_run Cert.FfnRefIdeal.defs _ _).mono
    (fun r h => ⟨fun c => (h c).2.2.2.2, sem_eq_zero_of_no_sems (by decide) r.2⟩)
    (Cert.FfnRefIdeal.Value.run (F := Ideal) m g)

/-- The input projection reference's frame: host operations only. -/
theorem frame_in_ref : Cert.quiescent_InProjRefIdeal := by
  intro m g _
  exact (θ_run Cert.InProjRefIdeal.defs _ _).mono
    (fun r h => ⟨fun c => (h c).2.2, sem_eq_zero_of_no_sems (by decide) r.2⟩)
    (Cert.InProjRefIdeal.Value.run (F := Ideal) m g)

/-- The gate weight gradient reference's frame: host operations only. -/
theorem frame_dw_gate_ref : Cert.quiescent_DwGateRefIdeal := by
  intro m g _
  exact (θ_run Cert.DwGateRefIdeal.defs _ _).mono
    (fun r h => ⟨fun c => (h c).2, sem_eq_zero_of_no_sems (by decide) r.2⟩)
    (Cert.DwGateRefIdeal.Value.run (F := Ideal) m g)

/-- The down weight gradient reference's frame: host operations only. -/
theorem frame_dw_down_ref : Cert.quiescent_DwDownRefIdeal := by
  intro m g _
  exact (θ_run Cert.DwDownRefIdeal.defs _ _).mono
    (fun r h => ⟨fun c => (h c).2, sem_eq_zero_of_no_sems (by decide) r.2⟩)
    (Cert.DwDownRefIdeal.Value.run (F := Ideal) m g)

/-- The input projection forward reference's frame: host operations only. -/
theorem frame_in_fwd_ref : Cert.quiescent_InFRefIdeal := by
  intro m g _
  exact (θ_run Cert.InFRefIdeal.defs _ _).mono
    (fun r h => ⟨fun c => (h c).2.2.2.2.2, sem_eq_zero_of_no_sems (by decide) r.2⟩)
    (Cert.InFRefIdeal.Value.run (F := Ideal) m g)

/-- The gated merge forward reference's frame: host operations only. -/
theorem frame_mix_out_ref : Cert.quiescent_MixOutRefIdeal := by
  intro m g _
  exact (θ_run Cert.MixOutRefIdeal.defs _ _).mono
    (fun r h => ⟨fun c => (h c).2.2.2.2, sem_eq_zero_of_no_sems (by decide) r.2⟩)
    (Cert.MixOutRefIdeal.Value.run (F := Ideal) m g)

/-- The feed-forward forward reference's frame: host operations only. -/
theorem frame_ffn_fwd_ref : Cert.quiescent_FfnFRefIdeal := by
  intro m g _
  exact (θ_run Cert.FfnFRefIdeal.defs _ _).mono
    (fun r h => ⟨fun c => (h c).2.2.2.2.2.2.2, sem_eq_zero_of_no_sems (by decide) r.2⟩)
    (Cert.FfnFRefIdeal.Value.run (F := Ideal) m g)

/-- The output weight gradient reference's frame: host operations only. -/
theorem frame_dw_out_ref : Cert.quiescent_DwOutRefIdeal := by
  intro m g _
  exact (θ_run Cert.DwOutRefIdeal.defs _ _).mono
    (fun r h => ⟨fun c => (h c).2, sem_eq_zero_of_no_sems (by decide) r.2⟩)
    (Cert.DwOutRefIdeal.Value.run (F := Ideal) m g)

/-- The branch weight gradients reference's frame: host operations only. -/
theorem frame_dw_pair_ref : Cert.quiescent_DwPairRefIdeal := by
  intro m g _
  exact (θ_run Cert.DwPairRefIdeal.defs _ _).mono
    (fun r h => ⟨fun c => (h c).2.2, sem_eq_zero_of_no_sems (by decide) r.2⟩)
    (Cert.DwPairRefIdeal.Value.run (F := Ideal) m g)

/-- Every claim of the certificate. -/
theorem claim : Cert.Claim := ⟨Cert.Mix.Gen.facts,
  Cert.MixIdeal.Gen.facts,
  Cert.MixRefIdeal.Gen.facts,
  Cert.Ffn.Gen.facts,
  Cert.FfnIdeal.Gen.facts,
  Cert.FfnRefIdeal.Gen.facts,
  Cert.InProj.Gen.facts,
  Cert.InProjIdeal.Gen.facts,
  Cert.InProjRefIdeal.Gen.facts,
  Cert.DwGate.Gen.facts,
  Cert.DwGateIdeal.Gen.facts,
  Cert.DwGateRefIdeal.Gen.facts,
  Cert.DwDown.Gen.facts,
  Cert.DwDownIdeal.Gen.facts,
  Cert.DwDownRefIdeal.Gen.facts,
  Cert.InF.Gen.facts,
  Cert.InFIdeal.Gen.facts,
  Cert.InFRefIdeal.Gen.facts,
  Cert.MixOut.Gen.facts,
  Cert.MixOutIdeal.Gen.facts,
  Cert.MixOutRefIdeal.Gen.facts,
  Cert.FfnF.Gen.facts,
  Cert.FfnFIdeal.Gen.facts,
  Cert.FfnFRefIdeal.Gen.facts,
  Cert.DwOut.Gen.facts,
  Cert.DwOutIdeal.Gen.facts,
  Cert.DwOutRefIdeal.Gen.facts,
  Cert.DwPair.Gen.facts,
  Cert.DwPairIdeal.Gen.facts,
  Cert.DwPairRefIdeal.Gen.facts,
  Cert.Pre_finite_ffn.Gen.facts,
  Cert.Pre_finite_in.Gen.facts,
  Cert.Pre_finite_ffn_fwd.Gen.facts,
  fun m ρ _ => Cert.Mix.Gen.frame m ρ,
  fun m ρ _ => Cert.MixIdeal.Gen.frame m ρ,
  frame_mix_ref,
  fun m ρ _ => Cert.Ffn.Gen.frame m ρ,
  fun m ρ _ => Cert.FfnIdeal.Gen.frame m ρ,
  fun m ρ _ => Cert.FfnIdeal.Gen.frame m ρ,
  frame_ffn_ref,
  fun m g _ => frame_ffn_ref m g trivial,
  fun m ρ _ => Cert.InProj.Gen.frame m ρ,
  fun m ρ _ => Cert.InProjIdeal.Gen.frame m ρ,
  fun m ρ _ => Cert.InProjIdeal.Gen.frame m ρ,
  frame_in_ref,
  fun m g _ => frame_in_ref m g trivial,
  fun m ρ _ => Cert.DwGate.Gen.frame m ρ,
  fun m ρ _ => Cert.DwGateIdeal.Gen.frame m ρ,
  frame_dw_gate_ref,
  fun m ρ _ => Cert.DwDown.Gen.frame m ρ,
  fun m ρ _ => Cert.DwDownIdeal.Gen.frame m ρ,
  frame_dw_down_ref,
  fun m ρ _ => Cert.InF.Gen.frame m ρ,
  fun m ρ _ => Cert.InFIdeal.Gen.frame m ρ,
  frame_in_fwd_ref,
  fun m ρ _ => Cert.MixOut.Gen.frame m ρ,
  fun m ρ _ => Cert.MixOutIdeal.Gen.frame m ρ,
  frame_mix_out_ref,
  fun m ρ _ => Cert.FfnF.Gen.frame m ρ,
  fun m ρ _ => Cert.FfnFIdeal.Gen.frame m ρ,
  fun m ρ _ => Cert.FfnFIdeal.Gen.frame m ρ,
  frame_ffn_fwd_ref,
  fun m g _ => frame_ffn_fwd_ref m g trivial,
  fun m ρ _ => Cert.DwOut.Gen.frame m ρ,
  fun m ρ _ => Cert.DwOutIdeal.Gen.frame m ρ,
  frame_dw_out_ref,
  fun m ρ _ => Cert.DwPair.Gen.frame m ρ,
  fun m ρ _ => Cert.DwPairIdeal.Gen.frame m ρ,
  frame_dw_pair_ref,
  trivial,
  algebraic_mix,
  trivial,
  algebraic_ffn,
  trivial,
  algebraic_in,
  trivial,
  algebraic_dw_gate,
  trivial,
  algebraic_dw_down,
  trivial,
  algebraic_inf,
  trivial,
  algebraic_mixout,
  trivial,
  algebraic_ffnf,
  trivial,
  algebraic_dwout,
  trivial,
  algebraic_dwpair⟩

end Cert.Proof

end
